-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_tame [hPre_gates_tame : Cert.Pre_gates_tame.Facts] (m : (ℓ : Loc Cert.KernelIdeal.nD Cert.KernelIdeal.τ Cert.KernelIdeal.sig) → Buf (Elt Ideal) ℓ) : Prop :=
  ∀ c : Dev Cert.KernelIdeal.nD,
    (Cert.Pre_gates_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_tame [hPre_gates_tame : Cert.Pre_gates_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_FirstMlp (m : (ℓ : Loc Cert.FirstMlp.nD Cert.FirstMlp.τ Cert.FirstMlp.sig) → Buf (Elt Bits) ℓ) : Prop :=
  True

def Pre_FirstMlpIdeal (m : (ℓ : Loc Cert.FirstMlpIdeal.nD Cert.FirstMlpIdeal.τ Cert.FirstMlpIdeal.sig) → Buf (Elt Ideal) ℓ) : Prop :=
  True

def Pre_FirstMlpReferenceIdeal (m : (ℓ : Loc Cert.FirstMlpReferenceIdeal.nD Cert.FirstMlpReferenceIdeal.τ Cert.FirstMlpReferenceIdeal.sig) → Buf (Elt Ideal) ℓ) : Prop :=
  True

def Pre_SampleQkv (m : (ℓ : Loc Cert.SampleQkv.nD Cert.SampleQkv.τ Cert.SampleQkv.sig) → Buf (Elt Bits) ℓ) : Prop :=
  True

def Pre_SampleQkvIdeal (m : (ℓ : Loc Cert.SampleQkvIdeal.nD Cert.SampleQkvIdeal.τ Cert.SampleQkvIdeal.sig) → Buf (Elt Ideal) ℓ) : Prop :=
  True

def Pre_SampleQkvReferenceIdeal (m : (ℓ : Loc Cert.SampleQkvReferenceIdeal.nD Cert.SampleQkvReferenceIdeal.τ Cert.SampleQkvReferenceIdeal.sig) → Buf (Elt Ideal) ℓ) : Prop :=
  True

def Pre_SampleMlp (m : (ℓ : Loc Cert.SampleMlp.nD Cert.SampleMlp.τ Cert.SampleMlp.sig) → Buf (Elt Bits) ℓ) : Prop :=
  True

def Pre_SampleMlpIdeal (m : (ℓ : Loc Cert.SampleMlpIdeal.nD Cert.SampleMlpIdeal.τ Cert.SampleMlpIdeal.sig) → Buf (Elt Ideal) ℓ) : Prop :=
  True

def Pre_SampleMlpReferenceIdeal (m : (ℓ : Loc Cert.SampleMlpReferenceIdeal.nD Cert.SampleMlpReferenceIdeal.τ Cert.SampleMlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_gate_inputs_finite [hPre_gate_inputs_finite : Cert.Pre_gate_inputs_finite.Facts] (m : (ℓ : Loc Cert.ProjIdeal.nD Cert.ProjIdeal.τ Cert.ProjIdeal.sig) → Buf (Elt Ideal) ℓ) : Prop :=
  ∀ c : Dev Cert.ProjIdeal.nD,
    (Cert.Pre_gate_inputs_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_gate_inputs_finite [hPre_gate_inputs_finite : Cert.Pre_gate_inputs_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_gate_inputs_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2))) = (fun _ => 1#1)

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnReferenceIdeal (m : (ℓ : Loc Cert.OutLnReferenceIdeal.nD Cert.OutLnReferenceIdeal.τ Cert.OutLnReferenceIdeal.sig) → Buf (Elt Ideal) ℓ) : Prop :=
  True

def Pre_FirstSampleMlp (m : (ℓ : Loc Cert.FirstSampleMlp.nD Cert.FirstSampleMlp.τ Cert.FirstSampleMlp.sig) → Buf (Elt Bits) ℓ) : Prop :=
  True

def Pre_FirstSampleMlpIdeal (m : (ℓ : Loc Cert.FirstSampleMlpIdeal.nD Cert.FirstSampleMlpIdeal.τ Cert.FirstSampleMlpIdeal.sig) → Buf (Elt Ideal) ℓ) : Prop :=
  True

def Pre_FirstSampleMlpReferenceIdeal (m : (ℓ : Loc Cert.FirstSampleMlpReferenceIdeal.nD Cert.FirstSampleMlpReferenceIdeal.τ Cert.FirstSampleMlpReferenceIdeal.sig) → Buf (Elt Ideal) ℓ) : Prop :=
  True

def Pre_SampleProj (m : (ℓ : Loc Cert.SampleProj.nD Cert.SampleProj.τ Cert.SampleProj.sig) → Buf (Elt Bits) ℓ) : Prop :=
  True

def Pre_SampleProjIdeal (m : (ℓ : Loc Cert.SampleProjIdeal.nD Cert.SampleProjIdeal.τ Cert.SampleProjIdeal.sig) → Buf (Elt Ideal) ℓ) : Prop :=
  True

def Pre_SampleProjIdeal_sample_gate_inputs_finite [hPre_sample_gate_inputs_finite : Cert.Pre_sample_gate_inputs_finite.Facts] (m : (ℓ : Loc Cert.SampleProjIdeal.nD Cert.SampleProjIdeal.τ Cert.SampleProjIdeal.sig) → Buf (Elt Ideal) ℓ) : Prop :=
  ∀ c : Dev Cert.SampleProjIdeal.nD,
    (Cert.Pre_sample_gate_inputs_finite.fn (F := Ideal) (m ((c.tc : Thread Cert.SampleProjIdeal.nD Cert.SampleProjIdeal.τ).loc Cert.SampleProjIdeal.main_arg0)) (m ((c.tc : Thread Cert.SampleProjIdeal.nD Cert.SampleProjIdeal.τ).loc Cert.SampleProjIdeal.main_arg1)) (m ((c.tc : Thread Cert.SampleProjIdeal.nD Cert.SampleProjIdeal.τ).loc Cert.SampleProjIdeal.main_arg2))) = (fun _ => 1#1)

def Pre_SampleProjReferenceIdeal (m : (ℓ : Loc Cert.SampleProjReferenceIdeal.nD Cert.SampleProjReferenceIdeal.τ Cert.SampleProjReferenceIdeal.sig) → Buf (Elt Ideal) ℓ) : Prop :=
  True

def Pre_SampleProjReferenceIdeal_sample_gate_inputs_finite [hPre_sample_gate_inputs_finite : Cert.Pre_sample_gate_inputs_finite.Facts] (m : (ℓ : Loc Cert.SampleProjReferenceIdeal.nD Cert.SampleProjReferenceIdeal.τ Cert.SampleProjReferenceIdeal.sig) → Buf (Elt Ideal) ℓ) : Prop :=
  ∀ c : Dev Cert.SampleProjReferenceIdeal.nD,
    (Cert.Pre_sample_gate_inputs_finite.fn (F := Ideal) (m ((c.tc : Thread Cert.SampleProjReferenceIdeal.nD Cert.SampleProjReferenceIdeal.τ).loc Cert.SampleProjReferenceIdeal.main_arg0)) (m ((c.tc : Thread Cert.SampleProjReferenceIdeal.nD Cert.SampleProjReferenceIdeal.τ).loc Cert.SampleProjReferenceIdeal.main_arg1)) (m ((c.tc : Thread Cert.SampleProjReferenceIdeal.nD Cert.SampleProjReferenceIdeal.τ).loc Cert.SampleProjReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_gates_tame [hKernelIdeal : Cert.KernelIdeal.Facts] [hPre_gates_tame : Cert.Pre_gates_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_gates_tame [hReferenceIdeal : Cert.ReferenceIdeal.Facts] [hPre_gates_tame : Cert.Pre_gates_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_FirstMlp [hFirstMlp : Cert.FirstMlp.Facts] : Prop :=
  ∀ (m : (ℓ : Loc Cert.FirstMlp.nD Cert.FirstMlp.τ Cert.FirstMlp.sig) → Buf (Elt Bits) ℓ) (g : Dev Cert.FirstMlp.nD → PrngReg), Pre_FirstMlp m →
    θ_run (Cert.FirstMlp.defs (F := Bits)) (onTc (τ := Cert.FirstMlp.τ) (Cert.FirstMlp.main (F := Bits))) ⟨m, fun _ => 0, g⟩ (fun r => (∀ c : Dev Cert.FirstMlp.nD,
      r.2.mem ((c.tc : Thread Cert.FirstMlp.nD Cert.FirstMlp.τ).loc Cert.FirstMlp.main_arg0) = m ((c.tc : Thread Cert.FirstMlp.nD Cert.FirstMlp.τ).loc Cert.FirstMlp.main_arg0)
      ∧ r.2.mem ((c.tc : Thread Cert.FirstMlp.nD Cert.FirstMlp.τ).loc Cert.FirstMlp.main_arg1) = m ((c.tc : Thread Cert.FirstMlp.nD Cert.FirstMlp.τ).loc Cert.FirstMlp.main_arg1)
      ∧ r.2.mem ((c.tc : Thread Cert.FirstMlp.nD Cert.FirstMlp.τ).loc Cert.FirstMlp.main_arg2) = m ((c.tc : Thread Cert.FirstMlp.nD Cert.FirstMlp.τ).loc Cert.FirstMlp.main_arg2)
      ∧ r.2.mem ((c.tc : Thread Cert.FirstMlp.nD Cert.FirstMlp.τ).loc Cert.FirstMlp.main_arg3) = m ((c.tc : Thread Cert.FirstMlp.nD Cert.FirstMlp.τ).loc Cert.FirstMlp.main_arg3)
      ∧ r.2.mem ((c.tc : Thread Cert.FirstMlp.nD Cert.FirstMlp.τ).loc Cert.FirstMlp.main_arg4) = m ((c.tc : Thread Cert.FirstMlp.nD Cert.FirstMlp.τ).loc Cert.FirstMlp.main_arg4))
      ∧ r.2.sem = fun _ => 0)

def quiescent_FirstMlpIdeal [hFirstMlpIdeal : Cert.FirstMlpIdeal.Facts] : Prop :=
  ∀ (m : (ℓ : Loc Cert.FirstMlpIdeal.nD Cert.FirstMlpIdeal.τ Cert.FirstMlpIdeal.sig) → Buf (Elt Ideal) ℓ) (g : Dev Cert.FirstMlpIdeal.nD → PrngReg), Pre_FirstMlpIdeal m →
    θ_run (Cert.FirstMlpIdeal.defs (F := Ideal)) (onTc (τ := Cert.FirstMlpIdeal.τ) (Cert.FirstMlpIdeal.main (F := Ideal))) ⟨m, fun _ => 0, g⟩ (fun r => (∀ c : Dev Cert.FirstMlpIdeal.nD,
      r.2.mem ((c.tc : Thread Cert.FirstMlpIdeal.nD Cert.FirstMlpIdeal.τ).loc Cert.FirstMlpIdeal.main_arg0) = m ((c.tc : Thread Cert.FirstMlpIdeal.nD Cert.FirstMlpIdeal.τ).loc Cert.FirstMlpIdeal.main_arg0)
      ∧ r.2.mem ((c.tc : Thread Cert.FirstMlpIdeal.nD Cert.FirstMlpIdeal.τ).loc Cert.FirstMlpIdeal.main_arg1) = m ((c.tc : Thread Cert.FirstMlpIdeal.nD Cert.FirstMlpIdeal.τ).loc Cert.FirstMlpIdeal.main_arg1)
      ∧ r.2.mem ((c.tc : Thread Cert.FirstMlpIdeal.nD Cert.FirstMlpIdeal.τ).loc Cert.FirstMlpIdeal.main_arg2) = m ((c.tc : Thread Cert.FirstMlpIdeal.nD Cert.FirstMlpIdeal.τ).loc Cert.FirstMlpIdeal.main_arg2)
      ∧ r.2.mem ((c.tc : Thread Cert.FirstMlpIdeal.nD Cert.FirstMlpIdeal.τ).loc Cert.FirstMlpIdeal.main_arg3) = m ((c.tc : Thread Cert.FirstMlpIdeal.nD Cert.FirstMlpIdeal.τ).loc Cert.FirstMlpIdeal.main_arg3)
      ∧ r.2.mem ((c.tc : Thread Cert.FirstMlpIdeal.nD Cert.FirstMlpIdeal.τ).loc Cert.FirstMlpIdeal.main_arg4) = m ((c.tc : Thread Cert.FirstMlpIdeal.nD Cert.FirstMlpIdeal.τ).loc Cert.FirstMlpIdeal.main_arg4))
      ∧ r.2.sem = fun _ => 0)

def quiescent_FirstMlpReferenceIdeal [hFirstMlpReferenceIdeal : Cert.FirstMlpReferenceIdeal.Facts] : Prop :=
  ∀ (m : (ℓ : Loc Cert.FirstMlpReferenceIdeal.nD Cert.FirstMlpReferenceIdeal.τ Cert.FirstMlpReferenceIdeal.sig) → Buf (Elt Ideal) ℓ) (g : Dev Cert.FirstMlpReferenceIdeal.nD → PrngReg), Pre_FirstMlpReferenceIdeal m →
    θ_run (Cert.FirstMlpReferenceIdeal.defs (F := Ideal)) (onTc (τ := Cert.FirstMlpReferenceIdeal.τ) (Cert.FirstMlpReferenceIdeal.main (F := Ideal))) ⟨m, fun _ => 0, g⟩ (fun r => (∀ c : Dev Cert.FirstMlpReferenceIdeal.nD,
      r.2.mem ((c.tc : Thread Cert.FirstMlpReferenceIdeal.nD Cert.FirstMlpReferenceIdeal.τ).loc Cert.FirstMlpReferenceIdeal.main_arg0) = m ((c.tc : Thread Cert.FirstMlpReferenceIdeal.nD Cert.FirstMlpReferenceIdeal.τ).loc Cert.FirstMlpReferenceIdeal.main_arg0)
      ∧ r.2.mem ((c.tc : Thread Cert.FirstMlpReferenceIdeal.nD Cert.FirstMlpReferenceIdeal.τ).loc Cert.FirstMlpReferenceIdeal.main_arg1) = m ((c.tc : Thread Cert.FirstMlpReferenceIdeal.nD Cert.FirstMlpReferenceIdeal.τ).loc Cert.FirstMlpReferenceIdeal.main_arg1)
      ∧ r.2.mem ((c.tc : Thread Cert.FirstMlpReferenceIdeal.nD Cert.FirstMlpReferenceIdeal.τ).loc Cert.FirstMlpReferenceIdeal.main_arg2) = m ((c.tc : Thread Cert.FirstMlpReferenceIdeal.nD Cert.FirstMlpReferenceIdeal.τ).loc Cert.FirstMlpReferenceIdeal.main_arg2)
      ∧ r.2.mem ((c.tc : Thread Cert.FirstMlpReferenceIdeal.nD Cert.FirstMlpReferenceIdeal.τ).loc Cert.FirstMlpReferenceIdeal.main_arg3) = m ((c.tc : Thread Cert.FirstMlpReferenceIdeal.nD Cert.FirstMlpReferenceIdeal.τ).loc Cert.FirstMlpReferenceIdeal.main_arg3)
      ∧ r.2.mem ((c.tc : Thread Cert.FirstMlpReferenceIdeal.nD Cert.FirstMlpReferenceIdeal.τ).loc Cert.FirstMlpReferenceIdeal.main_arg4) = m ((c.tc : Thread Cert.FirstMlpReferenceIdeal.nD Cert.FirstMlpReferenceIdeal.τ).loc Cert.FirstMlpReferenceIdeal.main_arg4))
      ∧ r.2.sem = fun _ => 0)

def quiescent_SampleQkv [hSampleQkv : Cert.SampleQkv.Facts] : Prop :=
  ∀ (m : (ℓ : Loc Cert.SampleQkv.nD Cert.SampleQkv.τ Cert.SampleQkv.sig) → Buf (Elt Bits) ℓ) (g : Dev Cert.SampleQkv.nD → PrngReg), Pre_SampleQkv m →
    θ_run (Cert.SampleQkv.defs (F := Bits)) (onTc (τ := Cert.SampleQkv.τ) (Cert.SampleQkv.main (F := Bits))) ⟨m, fun _ => 0, g⟩ (fun r => (∀ c : Dev Cert.SampleQkv.nD,
      r.2.mem ((c.tc : Thread Cert.SampleQkv.nD Cert.SampleQkv.τ).loc Cert.SampleQkv.main_arg0) = m ((c.tc : Thread Cert.SampleQkv.nD Cert.SampleQkv.τ).loc Cert.SampleQkv.main_arg0)
      ∧ r.2.mem ((c.tc : Thread Cert.SampleQkv.nD Cert.SampleQkv.τ).loc Cert.SampleQkv.main_arg1) = m ((c.tc : Thread Cert.SampleQkv.nD Cert.SampleQkv.τ).loc Cert.SampleQkv.main_arg1)
      ∧ r.2.mem ((c.tc : Thread Cert.SampleQkv.nD Cert.SampleQkv.τ).loc Cert.SampleQkv.main_arg2) = m ((c.tc : Thread Cert.SampleQkv.nD Cert.SampleQkv.τ).loc Cert.SampleQkv.main_arg2))
      ∧ r.2.sem = fun _ => 0)

def quiescent_SampleQkvIdeal [hSampleQkvIdeal : Cert.SampleQkvIdeal.Facts] : Prop :=
  ∀ (m : (ℓ : Loc Cert.SampleQkvIdeal.nD Cert.SampleQkvIdeal.τ Cert.SampleQkvIdeal.sig) → Buf (Elt Ideal) ℓ) (g : Dev Cert.SampleQkvIdeal.nD → PrngReg), Pre_SampleQkvIdeal m →
    θ_run (Cert.SampleQkvIdeal.defs (F := Ideal)) (onTc (τ := Cert.SampleQkvIdeal.τ) (Cert.SampleQkvIdeal.main (F := Ideal))) ⟨m, fun _ => 0, g⟩ (fun r => (∀ c : Dev Cert.SampleQkvIdeal.nD,
      r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
      ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1)
      ∧ r.2.mem ((c.tc : Thread Cert.SampleQkvIdeal.nD Cert.SampleQkvIdeal.τ).loc Cert.SampleQkvIdeal.main_arg2) = m ((c.tc : Thread Cert.SampleQkvIdeal.nD Cert.SampleQkvIdeal.τ).loc Cert.SampleQkvIdeal.main_arg2))
      ∧ r.2.sem = fun _ => 0)

def quiescent_SampleQkvReferenceIdeal [hSampleQkvReferenceIdeal : Cert.SampleQkvReferenceIdeal.Facts] : Prop :=
  ∀ (m : (ℓ : Loc Cert.SampleQkvReferenceIdeal.nD Cert.SampleQkvReferenceIdeal.τ Cert.SampleQkvReferenceIdeal.sig) → Buf (Elt Ideal) ℓ) (g : Dev Cert.SampleQkvReferenceIdeal.nD → PrngReg), Pre_SampleQkvReferenceIdeal m →
    θ_run (Cert.SampleQkvReferenceIdeal.defs (F := Ideal)) (onTc (τ := Cert.SampleQkvReferenceIdeal.τ) (Cert.SampleQkvReferenceIdeal.main (F := Ideal))) ⟨m, fun _ => 0, g⟩ (fun r => (∀ c : Dev Cert.SampleQkvReferenceIdeal.nD,
      r.2.mem ((c.tc : Thread Cert.SampleQkvReferenceIdeal.nD Cert.SampleQkvReferenceIdeal.τ).loc Cert.SampleQkvReferenceIdeal.main_arg0) = m ((c.tc : Thread Cert.SampleQkvReferenceIdeal.nD Cert.SampleQkvReferenceIdeal.τ).loc Cert.SampleQkvReferenceIdeal.main_arg0)
      ∧ r.2.mem ((c.tc : Thread Cert.SampleQkvReferenceIdeal.nD Cert.SampleQkvReferenceIdeal.τ).loc Cert.SampleQkvReferenceIdeal.main_arg1) = m ((c.tc : Thread Cert.SampleQkvReferenceIdeal.nD Cert.SampleQkvReferenceIdeal.τ).loc Cert.SampleQkvReferenceIdeal.main_arg1)
      ∧ r.2.mem ((c.tc : Thread Cert.SampleQkvReferenceIdeal.nD Cert.SampleQkvReferenceIdeal.τ).loc Cert.SampleQkvReferenceIdeal.main_arg2) = m ((c.tc : Thread Cert.SampleQkvReferenceIdeal.nD Cert.SampleQkvReferenceIdeal.τ).loc Cert.SampleQkvReferenceIdeal.main_arg2))
      ∧ r.2.sem = fun _ => 0)

def quiescent_SampleMlp [hSampleMlp : Cert.SampleMlp.Facts] : Prop :=
  ∀ (m : (ℓ : Loc Cert.SampleMlp.nD Cert.SampleMlp.τ Cert.SampleMlp.sig) → Buf (Elt Bits) ℓ) (g : Dev Cert.SampleMlp.nD → PrngReg), Pre_SampleMlp m →
    θ_run (Cert.SampleMlp.defs (F := Bits)) (onTc (τ := Cert.SampleMlp.τ) (Cert.SampleMlp.main (F := Bits))) ⟨m, fun _ => 0, g⟩ (fun r => (∀ c : Dev Cert.SampleMlp.nD,
      r.2.mem ((c.tc : Thread Cert.SampleMlp.nD Cert.SampleMlp.τ).loc Cert.SampleMlp.main_arg0) = m ((c.tc : Thread Cert.SampleMlp.nD Cert.SampleMlp.τ).loc Cert.SampleMlp.main_arg0)
      ∧ r.2.mem ((c.tc : Thread Cert.SampleMlp.nD Cert.SampleMlp.τ).loc Cert.SampleMlp.main_arg1) = m ((c.tc : Thread Cert.SampleMlp.nD Cert.SampleMlp.τ).loc Cert.SampleMlp.main_arg1)
      ∧ r.2.mem ((c.tc : Thread Cert.SampleMlp.nD Cert.SampleMlp.τ).loc Cert.SampleMlp.main_arg2) = m ((c.tc : Thread Cert.SampleMlp.nD Cert.SampleMlp.τ).loc Cert.SampleMlp.main_arg2)
      ∧ r.2.mem ((c.tc : Thread Cert.SampleMlp.nD Cert.SampleMlp.τ).loc Cert.SampleMlp.main_arg3) = m ((c.tc : Thread Cert.SampleMlp.nD Cert.SampleMlp.τ).loc Cert.SampleMlp.main_arg3)
      ∧ r.2.mem ((c.tc : Thread Cert.SampleMlp.nD Cert.SampleMlp.τ).loc Cert.SampleMlp.main_arg4) = m ((c.tc : Thread Cert.SampleMlp.nD Cert.SampleMlp.τ).loc Cert.SampleMlp.main_arg4))
      ∧ r.2.sem = fun _ => 0)

def quiescent_SampleMlpIdeal [hSampleMlpIdeal : Cert.SampleMlpIdeal.Facts] : Prop :=
  ∀ (m : (ℓ : Loc Cert.SampleMlpIdeal.nD Cert.SampleMlpIdeal.τ Cert.SampleMlpIdeal.sig) → Buf (Elt Ideal) ℓ) (g : Dev Cert.SampleMlpIdeal.nD → PrngReg), Pre_SampleMlpIdeal m →
    θ_run (Cert.SampleMlpIdeal.defs (F := Ideal)) (onTc (τ := Cert.SampleMlpIdeal.τ) (Cert.SampleMlpIdeal.main (F := Ideal))) ⟨m, fun _ => 0, g⟩ (fun r => (∀ c : Dev Cert.SampleMlpIdeal.nD,
      r.2.mem ((c.tc : Thread Cert.SampleMlpIdeal.nD Cert.SampleMlpIdeal.τ).loc Cert.SampleMlpIdeal.main_arg0) = m ((c.tc : Thread Cert.SampleMlpIdeal.nD Cert.SampleMlpIdeal.τ).loc Cert.SampleMlpIdeal.main_arg0)
      ∧ r.2.mem ((c.tc : Thread Cert.SampleMlpIdeal.nD Cert.SampleMlpIdeal.τ).loc Cert.SampleMlpIdeal.main_arg1) = m ((c.tc : Thread Cert.SampleMlpIdeal.nD Cert.SampleMlpIdeal.τ).loc Cert.SampleMlpIdeal.main_arg1)
      ∧ r.2.mem ((c.tc : Thread Cert.SampleMlpIdeal.nD Cert.SampleMlpIdeal.τ).loc Cert.SampleMlpIdeal.main_arg2) = m ((c.tc : Thread Cert.SampleMlpIdeal.nD Cert.SampleMlpIdeal.τ).loc Cert.SampleMlpIdeal.main_arg2)
      ∧ r.2.mem ((c.tc : Thread Cert.SampleMlpIdeal.nD Cert.SampleMlpIdeal.τ).loc Cert.SampleMlpIdeal.main_arg3) = m ((c.tc : Thread Cert.SampleMlpIdeal.nD Cert.SampleMlpIdeal.τ).loc Cert.SampleMlpIdeal.main_arg3)
      ∧ r.2.mem ((c.tc : Thread Cert.SampleMlpIdeal.nD Cert.SampleMlpIdeal.τ).loc Cert.SampleMlpIdeal.main_arg4) = m ((c.tc : Thread Cert.SampleMlpIdeal.nD Cert.SampleMlpIdeal.τ).loc Cert.SampleMlpIdeal.main_arg4))
      ∧ r.2.sem = fun _ => 0)

def quiescent_SampleMlpReferenceIdeal [hSampleMlpReferenceIdeal : Cert.SampleMlpReferenceIdeal.Facts] : Prop :=
  ∀ (m : (ℓ : Loc Cert.SampleMlpReferenceIdeal.nD Cert.SampleMlpReferenceIdeal.τ Cert.SampleMlpReferenceIdeal.sig) → Buf (Elt Ideal) ℓ) (g : Dev Cert.SampleMlpReferenceIdeal.nD → PrngReg), Pre_SampleMlpReferenceIdeal m →
    θ_run (Cert.SampleMlpReferenceIdeal.defs (F := Ideal)) (onTc (τ := Cert.SampleMlpReferenceIdeal.τ) (Cert.SampleMlpReferenceIdeal.main (F := Ideal))) ⟨m, fun _ => 0, g⟩ (fun r => (∀ c : Dev Cert.SampleMlpReferenceIdeal.nD,
      r.2.mem ((c.tc : Thread Cert.SampleMlpReferenceIdeal.nD Cert.SampleMlpReferenceIdeal.τ).loc Cert.SampleMlpReferenceIdeal.main_arg0) = m ((c.tc : Thread Cert.SampleMlpReferenceIdeal.nD Cert.SampleMlpReferenceIdeal.τ).loc Cert.SampleMlpReferenceIdeal.main_arg0)
      ∧ r.2.mem ((c.tc : Thread Cert.SampleMlpReferenceIdeal.nD Cert.SampleMlpReferenceIdeal.τ).loc Cert.SampleMlpReferenceIdeal.main_arg1) = m ((c.tc : Thread Cert.SampleMlpReferenceIdeal.nD Cert.SampleMlpReferenceIdeal.τ).loc Cert.SampleMlpReferenceIdeal.main_arg1)
      ∧ r.2.mem ((c.tc : Thread Cert.SampleMlpReferenceIdeal.nD Cert.SampleMlpReferenceIdeal.τ).loc Cert.SampleMlpReferenceIdeal.main_arg2) = m ((c.tc : Thread Cert.SampleMlpReferenceIdeal.nD Cert.SampleMlpReferenceIdeal.τ).loc Cert.SampleMlpReferenceIdeal.main_arg2)
      ∧ r.2.mem ((c.tc : Thread Cert.SampleMlpReferenceIdeal.nD Cert.SampleMlpReferenceIdeal.τ).loc Cert.SampleMlpReferenceIdeal.main_arg3) = m ((c.tc : Thread Cert.SampleMlpReferenceIdeal.nD Cert.SampleMlpReferenceIdeal.τ).loc Cert.SampleMlpReferenceIdeal.main_arg3)
      ∧ r.2.mem ((c.tc : Thread Cert.SampleMlpReferenceIdeal.nD Cert.SampleMlpReferenceIdeal.τ).loc Cert.SampleMlpReferenceIdeal.main_arg4) = m ((c.tc : Thread Cert.SampleMlpReferenceIdeal.nD Cert.SampleMlpReferenceIdeal.τ).loc Cert.SampleMlpReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjIdeal_pre_gate_inputs_finite [hProjIdeal : Cert.ProjIdeal.Facts] [hPre_gate_inputs_finite : Cert.Pre_gate_inputs_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_gate_inputs_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_ProjReferenceIdeal_pre_gate_inputs_finite [hProjReferenceIdeal : Cert.ProjReferenceIdeal.Facts] [hPre_gate_inputs_finite : Cert.Pre_gate_inputs_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_gate_inputs_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnReferenceIdeal [hOutLnReferenceIdeal : Cert.OutLnReferenceIdeal.Facts] : Prop :=
  ∀ (m : (ℓ : Loc Cert.OutLnReferenceIdeal.nD Cert.OutLnReferenceIdeal.τ Cert.OutLnReferenceIdeal.sig) → Buf (Elt Ideal) ℓ) (g : Dev Cert.OutLnReferenceIdeal.nD → PrngReg), Pre_OutLnReferenceIdeal m →
    θ_run (Cert.OutLnReferenceIdeal.defs (F := Ideal)) (onTc (τ := Cert.OutLnReferenceIdeal.τ) (Cert.OutLnReferenceIdeal.main (F := Ideal))) ⟨m, fun _ => 0, g⟩ (fun r => (∀ c : Dev Cert.OutLnReferenceIdeal.nD,
      r.2.mem ((c.tc : Thread Cert.OutLnReferenceIdeal.nD Cert.OutLnReferenceIdeal.τ).loc Cert.OutLnReferenceIdeal.main_arg0) = m ((c.tc : Thread Cert.OutLnReferenceIdeal.nD Cert.OutLnReferenceIdeal.τ).loc Cert.OutLnReferenceIdeal.main_arg0)
      ∧ r.2.mem ((c.tc : Thread Cert.OutLnReferenceIdeal.nD Cert.OutLnReferenceIdeal.τ).loc Cert.OutLnReferenceIdeal.main_arg1) = m ((c.tc : Thread Cert.OutLnReferenceIdeal.nD Cert.OutLnReferenceIdeal.τ).loc Cert.OutLnReferenceIdeal.main_arg1)
      ∧ r.2.mem ((c.tc : Thread Cert.OutLnReferenceIdeal.nD Cert.OutLnReferenceIdeal.τ).loc Cert.OutLnReferenceIdeal.main_arg2) = m ((c.tc : Thread Cert.OutLnReferenceIdeal.nD Cert.OutLnReferenceIdeal.τ).loc Cert.OutLnReferenceIdeal.main_arg2)
      ∧ r.2.mem ((c.tc : Thread Cert.OutLnReferenceIdeal.nD Cert.OutLnReferenceIdeal.τ).loc Cert.OutLnReferenceIdeal.main_arg3) = m ((c.tc : Thread Cert.OutLnReferenceIdeal.nD Cert.OutLnReferenceIdeal.τ).loc Cert.OutLnReferenceIdeal.main_arg3)
      ∧ r.2.mem ((c.tc : Thread Cert.OutLnReferenceIdeal.nD Cert.OutLnReferenceIdeal.τ).loc Cert.OutLnReferenceIdeal.main_arg4) = m ((c.tc : Thread Cert.OutLnReferenceIdeal.nD Cert.OutLnReferenceIdeal.τ).loc Cert.OutLnReferenceIdeal.main_arg4))
      ∧ r.2.sem = fun _ => 0)

def quiescent_FirstSampleMlp [hFirstSampleMlp : Cert.FirstSampleMlp.Facts] : Prop :=
  ∀ (m : (ℓ : Loc Cert.FirstSampleMlp.nD Cert.FirstSampleMlp.τ Cert.FirstSampleMlp.sig) → Buf (Elt Bits) ℓ) (g : Dev Cert.FirstSampleMlp.nD → PrngReg), Pre_FirstSampleMlp m →
    θ_run (Cert.FirstSampleMlp.defs (F := Bits)) (onTc (τ := Cert.FirstSampleMlp.τ) (Cert.FirstSampleMlp.main (F := Bits))) ⟨m, fun _ => 0, g⟩ (fun r => (∀ c : Dev Cert.FirstSampleMlp.nD,
      r.2.mem ((c.tc : Thread Cert.FirstSampleMlp.nD Cert.FirstSampleMlp.τ).loc Cert.FirstSampleMlp.main_arg0) = m ((c.tc : Thread Cert.FirstSampleMlp.nD Cert.FirstSampleMlp.τ).loc Cert.FirstSampleMlp.main_arg0)
      ∧ r.2.mem ((c.tc : Thread Cert.FirstSampleMlp.nD Cert.FirstSampleMlp.τ).loc Cert.FirstSampleMlp.main_arg1) = m ((c.tc : Thread Cert.FirstSampleMlp.nD Cert.FirstSampleMlp.τ).loc Cert.FirstSampleMlp.main_arg1)
      ∧ r.2.mem ((c.tc : Thread Cert.FirstSampleMlp.nD Cert.FirstSampleMlp.τ).loc Cert.FirstSampleMlp.main_arg2) = m ((c.tc : Thread Cert.FirstSampleMlp.nD Cert.FirstSampleMlp.τ).loc Cert.FirstSampleMlp.main_arg2)
      ∧ r.2.mem ((c.tc : Thread Cert.FirstSampleMlp.nD Cert.FirstSampleMlp.τ).loc Cert.FirstSampleMlp.main_arg3) = m ((c.tc : Thread Cert.FirstSampleMlp.nD Cert.FirstSampleMlp.τ).loc Cert.FirstSampleMlp.main_arg3)
      ∧ r.2.mem ((c.tc : Thread Cert.FirstSampleMlp.nD Cert.FirstSampleMlp.τ).loc Cert.FirstSampleMlp.main_arg4) = m ((c.tc : Thread Cert.FirstSampleMlp.nD Cert.FirstSampleMlp.τ).loc Cert.FirstSampleMlp.main_arg4))
      ∧ r.2.sem = fun _ => 0)

def quiescent_FirstSampleMlpIdeal [hFirstSampleMlpIdeal : Cert.FirstSampleMlpIdeal.Facts] : Prop :=
  ∀ (m : (ℓ : Loc Cert.FirstSampleMlpIdeal.nD Cert.FirstSampleMlpIdeal.τ Cert.FirstSampleMlpIdeal.sig) → Buf (Elt Ideal) ℓ) (g : Dev Cert.FirstSampleMlpIdeal.nD → PrngReg), Pre_FirstSampleMlpIdeal m →
    θ_run (Cert.FirstSampleMlpIdeal.defs (F := Ideal)) (onTc (τ := Cert.FirstSampleMlpIdeal.τ) (Cert.FirstSampleMlpIdeal.main (F := Ideal))) ⟨m, fun _ => 0, g⟩ (fun r => (∀ c : Dev Cert.FirstSampleMlpIdeal.nD,
      r.2.mem ((c.tc : Thread Cert.FirstSampleMlpIdeal.nD Cert.FirstSampleMlpIdeal.τ).loc Cert.FirstSampleMlpIdeal.main_arg0) = m ((c.tc : Thread Cert.FirstSampleMlpIdeal.nD Cert.FirstSampleMlpIdeal.τ).loc Cert.FirstSampleMlpIdeal.main_arg0)
      ∧ r.2.mem ((c.tc : Thread Cert.FirstSampleMlpIdeal.nD Cert.FirstSampleMlpIdeal.τ).loc Cert.FirstSampleMlpIdeal.main_arg1) = m ((c.tc : Thread Cert.FirstSampleMlpIdeal.nD Cert.FirstSampleMlpIdeal.τ).loc Cert.FirstSampleMlpIdeal.main_arg1)
      ∧ r.2.mem ((c.tc : Thread Cert.FirstSampleMlpIdeal.nD Cert.FirstSampleMlpIdeal.τ).loc Cert.FirstSampleMlpIdeal.main_arg2) = m ((c.tc : Thread Cert.FirstSampleMlpIdeal.nD Cert.FirstSampleMlpIdeal.τ).loc Cert.FirstSampleMlpIdeal.main_arg2)
      ∧ r.2.mem ((c.tc : Thread Cert.FirstSampleMlpIdeal.nD Cert.FirstSampleMlpIdeal.τ).loc Cert.FirstSampleMlpIdeal.main_arg3) = m ((c.tc : Thread Cert.FirstSampleMlpIdeal.nD Cert.FirstSampleMlpIdeal.τ).loc Cert.FirstSampleMlpIdeal.main_arg3)
      ∧ r.2.mem ((c.tc : Thread Cert.FirstSampleMlpIdeal.nD Cert.FirstSampleMlpIdeal.τ).loc Cert.FirstSampleMlpIdeal.main_arg4) = m ((c.tc : Thread Cert.FirstSampleMlpIdeal.nD Cert.FirstSampleMlpIdeal.τ).loc Cert.FirstSampleMlpIdeal.main_arg4))
      ∧ r.2.sem = fun _ => 0)

def quiescent_FirstSampleMlpReferenceIdeal [hFirstSampleMlpReferenceIdeal : Cert.FirstSampleMlpReferenceIdeal.Facts] : Prop :=
  ∀ (m : (ℓ : Loc Cert.FirstSampleMlpReferenceIdeal.nD Cert.FirstSampleMlpReferenceIdeal.τ Cert.FirstSampleMlpReferenceIdeal.sig) → Buf (Elt Ideal) ℓ) (g : Dev Cert.FirstSampleMlpReferenceIdeal.nD → PrngReg), Pre_FirstSampleMlpReferenceIdeal m →
    θ_run (Cert.FirstSampleMlpReferenceIdeal.defs (F := Ideal)) (onTc (τ := Cert.FirstSampleMlpReferenceIdeal.τ) (Cert.FirstSampleMlpReferenceIdeal.main (F := Ideal))) ⟨m, fun _ => 0, g⟩ (fun r => (∀ c : Dev Cert.FirstSampleMlpReferenceIdeal.nD,
      r.2.mem ((c.tc : Thread Cert.FirstSampleMlpReferenceIdeal.nD Cert.FirstSampleMlpReferenceIdeal.τ).loc Cert.FirstSampleMlpReferenceIdeal.main_arg0) = m ((c.tc : Thread Cert.FirstSampleMlpReferenceIdeal.nD Cert.FirstSampleMlpReferenceIdeal.τ).loc Cert.FirstSampleMlpReferenceIdeal.main_arg0)
      ∧ r.2.mem ((c.tc : Thread Cert.FirstSampleMlpReferenceIdeal.nD Cert.FirstSampleMlpReferenceIdeal.τ).loc Cert.FirstSampleMlpReferenceIdeal.main_arg1) = m ((c.tc : Thread Cert.FirstSampleMlpReferenceIdeal.nD Cert.FirstSampleMlpReferenceIdeal.τ).loc Cert.FirstSampleMlpReferenceIdeal.main_arg1)
      ∧ r.2.mem ((c.tc : Thread Cert.FirstSampleMlpReferenceIdeal.nD Cert.FirstSampleMlpReferenceIdeal.τ).loc Cert.FirstSampleMlpReferenceIdeal.main_arg2) = m ((c.tc : Thread Cert.FirstSampleMlpReferenceIdeal.nD Cert.FirstSampleMlpReferenceIdeal.τ).loc Cert.FirstSampleMlpReferenceIdeal.main_arg2)
      ∧ r.2.mem ((c.tc : Thread Cert.FirstSampleMlpReferenceIdeal.nD Cert.FirstSampleMlpReferenceIdeal.τ).loc Cert.FirstSampleMlpReferenceIdeal.main_arg3) = m ((c.tc : Thread Cert.FirstSampleMlpReferenceIdeal.nD Cert.FirstSampleMlpReferenceIdeal.τ).loc Cert.FirstSampleMlpReferenceIdeal.main_arg3)
      ∧ r.2.mem ((c.tc : Thread Cert.FirstSampleMlpReferenceIdeal.nD Cert.FirstSampleMlpReferenceIdeal.τ).loc Cert.FirstSampleMlpReferenceIdeal.main_arg4) = m ((c.tc : Thread Cert.FirstSampleMlpReferenceIdeal.nD Cert.FirstSampleMlpReferenceIdeal.τ).loc Cert.FirstSampleMlpReferenceIdeal.main_arg4))
      ∧ r.2.sem = fun _ => 0)

def quiescent_SampleProj [hSampleProj : Cert.SampleProj.Facts] : Prop :=
  ∀ (m : (ℓ : Loc Cert.SampleProj.nD Cert.SampleProj.τ Cert.SampleProj.sig) → Buf (Elt Bits) ℓ) (g : Dev Cert.SampleProj.nD → PrngReg), Pre_SampleProj m →
    θ_run (Cert.SampleProj.defs (F := Bits)) (onTc (τ := Cert.SampleProj.τ) (Cert.SampleProj.main (F := Bits))) ⟨m, fun _ => 0, g⟩ (fun r => (∀ c : Dev Cert.SampleProj.nD,
      r.2.mem ((c.tc : Thread Cert.SampleProj.nD Cert.SampleProj.τ).loc Cert.SampleProj.main_arg0) = m ((c.tc : Thread Cert.SampleProj.nD Cert.SampleProj.τ).loc Cert.SampleProj.main_arg0)
      ∧ r.2.mem ((c.tc : Thread Cert.SampleProj.nD Cert.SampleProj.τ).loc Cert.SampleProj.main_arg1) = m ((c.tc : Thread Cert.SampleProj.nD Cert.SampleProj.τ).loc Cert.SampleProj.main_arg1)
      ∧ r.2.mem ((c.tc : Thread Cert.SampleProj.nD Cert.SampleProj.τ).loc Cert.SampleProj.main_arg2) = m ((c.tc : Thread Cert.SampleProj.nD Cert.SampleProj.τ).loc Cert.SampleProj.main_arg2))
      ∧ r.2.sem = fun _ => 0)

def quiescent_SampleProjIdeal [hSampleProjIdeal : Cert.SampleProjIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg), Pre_SampleProjIdeal m →
    θ_run (Cert.SampleProjIdeal.defs (F := Ideal)) (onTc (τ := Cert.SampleProjIdeal.τ) (Cert.SampleProjIdeal.main (F := Ideal))) ⟨m, fun _ => 0, g⟩ (fun r => (∀ c : Dev Cert.SampleProjIdeal.nD,
      r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
      ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
      ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2))
      ∧ r.2.sem = fun _ => 0)

def quiescent_SampleProjIdeal_pre_sample_gate_inputs_finite [hSampleProjIdeal : Cert.SampleProjIdeal.Facts] [hPre_sample_gate_inputs_finite : Cert.Pre_sample_gate_inputs_finite.Facts] : Prop :=
  ∀ (m : (ℓ : Loc Cert.SampleProjIdeal.nD Cert.SampleProjIdeal.τ Cert.SampleProjIdeal.sig) → Buf (Elt Ideal) ℓ) (g : Dev Cert.SampleProjIdeal.nD → PrngReg), Pre_SampleProjIdeal_sample_gate_inputs_finite m →
    θ_run (Cert.SampleProjIdeal.defs (F := Ideal)) (onTc (τ := Cert.SampleProjIdeal.τ) (Cert.SampleProjIdeal.main (F := Ideal))) ⟨m, fun _ => 0, g⟩ (fun r => (∀ c : Dev Cert.SampleProjIdeal.nD,
      r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
      ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
      ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2))
      ∧ r.2.sem = fun _ => 0)

def quiescent_SampleProjReferenceIdeal [hSampleProjReferenceIdeal : Cert.SampleProjReferenceIdeal.Facts] : Prop :=
  ∀ (m : (ℓ : Loc Cert.SampleProjReferenceIdeal.nD Cert.SampleProjReferenceIdeal.τ Cert.SampleProjReferenceIdeal.sig) → Buf (Elt Ideal) ℓ) (g : Dev Cert.SampleProjReferenceIdeal.nD → PrngReg), Pre_SampleProjReferenceIdeal m →
    θ_run (Cert.SampleProjReferenceIdeal.defs (F := Ideal)) (onTc (τ := Cert.SampleProjReferenceIdeal.τ) (Cert.SampleProjReferenceIdeal.main (F := Ideal))) ⟨m, fun _ => 0, g⟩ (fun r => (∀ c : Dev Cert.SampleProjReferenceIdeal.nD,
      r.2.mem ((c.tc : Thread Cert.SampleProjReferenceIdeal.nD Cert.SampleProjReferenceIdeal.τ).loc Cert.SampleProjReferenceIdeal.main_arg0) = m ((c.tc : Thread Cert.SampleProjReferenceIdeal.nD Cert.SampleProjReferenceIdeal.τ).loc Cert.SampleProjReferenceIdeal.main_arg0)
      ∧ r.2.mem ((c.tc : Thread Cert.SampleProjReferenceIdeal.nD Cert.SampleProjReferenceIdeal.τ).loc Cert.SampleProjReferenceIdeal.main_arg1) = m ((c.tc : Thread Cert.SampleProjReferenceIdeal.nD Cert.SampleProjReferenceIdeal.τ).loc Cert.SampleProjReferenceIdeal.main_arg1)
      ∧ r.2.mem ((c.tc : Thread Cert.SampleProjReferenceIdeal.nD Cert.SampleProjReferenceIdeal.τ).loc Cert.SampleProjReferenceIdeal.main_arg2) = m ((c.tc : Thread Cert.SampleProjReferenceIdeal.nD Cert.SampleProjReferenceIdeal.τ).loc Cert.SampleProjReferenceIdeal.main_arg2))
      ∧ r.2.sem = fun _ => 0)

def quiescent_SampleProjReferenceIdeal_pre_sample_gate_inputs_finite [hSampleProjReferenceIdeal : Cert.SampleProjReferenceIdeal.Facts] [hPre_sample_gate_inputs_finite : Cert.Pre_sample_gate_inputs_finite.Facts] : Prop :=
  ∀ (m : (ℓ : Loc Cert.SampleProjReferenceIdeal.nD Cert.SampleProjReferenceIdeal.τ Cert.SampleProjReferenceIdeal.sig) → Buf (Elt Ideal) ℓ) (g : Dev Cert.SampleProjReferenceIdeal.nD → PrngReg), Pre_SampleProjReferenceIdeal_sample_gate_inputs_finite m →
    θ_run (Cert.SampleProjReferenceIdeal.defs (F := Ideal)) (onTc (τ := Cert.SampleProjReferenceIdeal.τ) (Cert.SampleProjReferenceIdeal.main (F := Ideal))) ⟨m, fun _ => 0, g⟩ (fun r => (∀ c : Dev Cert.SampleProjReferenceIdeal.nD,
      r.2.mem ((c.tc : Thread Cert.SampleProjReferenceIdeal.nD Cert.SampleProjReferenceIdeal.τ).loc Cert.SampleProjReferenceIdeal.main_arg0) = m ((c.tc : Thread Cert.SampleProjReferenceIdeal.nD Cert.SampleProjReferenceIdeal.τ).loc Cert.SampleProjReferenceIdeal.main_arg0)
      ∧ r.2.mem ((c.tc : Thread Cert.SampleProjReferenceIdeal.nD Cert.SampleProjReferenceIdeal.τ).loc Cert.SampleProjReferenceIdeal.main_arg1) = m ((c.tc : Thread Cert.SampleProjReferenceIdeal.nD Cert.SampleProjReferenceIdeal.τ).loc Cert.SampleProjReferenceIdeal.main_arg1)
      ∧ r.2.mem ((c.tc : Thread Cert.SampleProjReferenceIdeal.nD Cert.SampleProjReferenceIdeal.τ).loc Cert.SampleProjReferenceIdeal.main_arg2) = m ((c.tc : Thread Cert.SampleProjReferenceIdeal.nD Cert.SampleProjReferenceIdeal.τ).loc Cert.SampleProjReferenceIdeal.main_arg2))
      ∧ r.2.sem = fun _ => 0)

def preserves_Kernel_KernelIdeal : Prop :=
  True

def algebraic_KernelIdeal_ReferenceIdeal_pre_gates_tame [hKernelIdeal : Cert.KernelIdeal.Facts] [hReferenceIdeal : Cert.ReferenceIdeal.Facts] [hPre_gates_tame : Cert.Pre_gates_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v122) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v13)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v13) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v39) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)) (v3 : (c : Dev Cert.QkvIdeal.nD) → Buf (Elt Ideal) ((c.tc : Thread Cert.QkvIdeal.nD Cert.QkvIdeal.τ).loc Cert.QkvIdeal.main_v4_3)) (v4 : (c : Dev Cert.QkvIdeal.nD) → Buf (Elt Ideal) ((c.tc : Thread Cert.QkvIdeal.nD Cert.QkvIdeal.τ).loc Cert.QkvIdeal.main_v4_4)) (v5 : (c : Dev Cert.QkvIdeal.nD) → Buf (Elt Ideal) ((c.tc : Thread Cert.QkvIdeal.nD Cert.QkvIdeal.τ).loc Cert.QkvIdeal.main_v4_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_v4_3) = v3 c
          ∧ r.2.mem ((c.tc : Thread Cert.QkvIdeal.nD Cert.QkvIdeal.τ).loc Cert.QkvIdeal.main_v4_4) = v4 c
          ∧ r.2.mem ((c.tc : Thread Cert.QkvIdeal.nD Cert.QkvIdeal.τ).loc Cert.QkvIdeal.main_v4_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v15) = v0 c
          ∧ r.2.mem ((c.tc : Thread Cert.QkvReferenceIdeal.nD Cert.QkvReferenceIdeal.τ).loc Cert.QkvReferenceIdeal.main_v16) = v1 c
          ∧ r.2.mem ((c.tc : Thread Cert.QkvReferenceIdeal.nD Cert.QkvReferenceIdeal.τ).loc Cert.QkvReferenceIdeal.main_v17) = v2 c
          ∧ r.2.mem ((c.tc : Thread Cert.QkvReferenceIdeal.nD Cert.QkvReferenceIdeal.τ).loc Cert.QkvReferenceIdeal.main_v18) = v3 c
          ∧ r.2.mem ((c.tc : Thread Cert.QkvReferenceIdeal.nD Cert.QkvReferenceIdeal.τ).loc Cert.QkvReferenceIdeal.main_v20) = v4 c
          ∧ r.2.mem ((c.tc : Thread Cert.QkvReferenceIdeal.nD Cert.QkvReferenceIdeal.τ).loc Cert.QkvReferenceIdeal.main_v21) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_FirstMlp_FirstMlpIdeal : Prop :=
  True

def algebraic_FirstMlpIdeal_FirstMlpReferenceIdeal [hFirstMlpIdeal : Cert.FirstMlpIdeal.Facts] [hFirstMlpReferenceIdeal : Cert.FirstMlpReferenceIdeal.Facts] : Prop :=
  ∀ (m : (ℓ : Loc Cert.FirstMlpIdeal.nD Cert.FirstMlpIdeal.τ Cert.FirstMlpIdeal.sig) → Buf (Elt Ideal) ℓ) (g : Dev Cert.FirstMlpIdeal.nD → PrngReg)
    (m' : (ℓ : Loc Cert.FirstMlpReferenceIdeal.nD Cert.FirstMlpReferenceIdeal.τ Cert.FirstMlpReferenceIdeal.sig) → Buf (Elt Ideal) ℓ) (g' : Dev Cert.FirstMlpReferenceIdeal.nD → PrngReg), Pre_FirstMlpIdeal m →
    (∀ c : Dev Cert.FirstMlpIdeal.nD,
      m' ((c.tc : Thread Cert.FirstMlpReferenceIdeal.nD Cert.FirstMlpReferenceIdeal.τ).loc Cert.FirstMlpReferenceIdeal.main_arg0) = m ((c.tc : Thread Cert.FirstMlpIdeal.nD Cert.FirstMlpIdeal.τ).loc Cert.FirstMlpIdeal.main_arg0)
      ∧ m' ((c.tc : Thread Cert.FirstMlpReferenceIdeal.nD Cert.FirstMlpReferenceIdeal.τ).loc Cert.FirstMlpReferenceIdeal.main_arg1) = m ((c.tc : Thread Cert.FirstMlpIdeal.nD Cert.FirstMlpIdeal.τ).loc Cert.FirstMlpIdeal.main_arg1)
      ∧ m' ((c.tc : Thread Cert.FirstMlpReferenceIdeal.nD Cert.FirstMlpReferenceIdeal.τ).loc Cert.FirstMlpReferenceIdeal.main_arg2) = m ((c.tc : Thread Cert.FirstMlpIdeal.nD Cert.FirstMlpIdeal.τ).loc Cert.FirstMlpIdeal.main_arg2)
      ∧ m' ((c.tc : Thread Cert.FirstMlpReferenceIdeal.nD Cert.FirstMlpReferenceIdeal.τ).loc Cert.FirstMlpReferenceIdeal.main_arg3) = m ((c.tc : Thread Cert.FirstMlpIdeal.nD Cert.FirstMlpIdeal.τ).loc Cert.FirstMlpIdeal.main_arg3)
      ∧ m' ((c.tc : Thread Cert.FirstMlpReferenceIdeal.nD Cert.FirstMlpReferenceIdeal.τ).loc Cert.FirstMlpReferenceIdeal.main_arg4) = m ((c.tc : Thread Cert.FirstMlpIdeal.nD Cert.FirstMlpIdeal.τ).loc Cert.FirstMlpIdeal.main_arg4)) →
    ∃ (v0 : (c : Dev Cert.FirstMlpIdeal.nD) → Buf (Elt Ideal) ((c.tc : Thread Cert.FirstMlpIdeal.nD Cert.FirstMlpIdeal.τ).loc Cert.FirstMlpIdeal.main_v13)),
      θ_run (Cert.FirstMlpIdeal.defs (F := Ideal)) (onTc (τ := Cert.FirstMlpIdeal.τ) (Cert.FirstMlpIdeal.main (F := Ideal))) ⟨m, fun _ => 0, g⟩ (fun r => ∀ c : Dev Cert.FirstMlpIdeal.nD,
          r.2.mem ((c.tc : Thread Cert.FirstMlpIdeal.nD Cert.FirstMlpIdeal.τ).loc Cert.FirstMlpIdeal.main_v13) = v0 c
          ∧ r.2.mem ((c.tc : Thread Cert.FirstMlpIdeal.nD Cert.FirstMlpIdeal.τ).loc Cert.FirstMlpIdeal.main_arg0) = m ((c.tc : Thread Cert.FirstMlpIdeal.nD Cert.FirstMlpIdeal.τ).loc Cert.FirstMlpIdeal.main_arg0)
          ∧ r.2.mem ((c.tc : Thread Cert.FirstMlpIdeal.nD Cert.FirstMlpIdeal.τ).loc Cert.FirstMlpIdeal.main_arg1) = m ((c.tc : Thread Cert.FirstMlpIdeal.nD Cert.FirstMlpIdeal.τ).loc Cert.FirstMlpIdeal.main_arg1)
          ∧ r.2.mem ((c.tc : Thread Cert.FirstMlpIdeal.nD Cert.FirstMlpIdeal.τ).loc Cert.FirstMlpIdeal.main_arg2) = m ((c.tc : Thread Cert.FirstMlpIdeal.nD Cert.FirstMlpIdeal.τ).loc Cert.FirstMlpIdeal.main_arg2)
          ∧ r.2.mem ((c.tc : Thread Cert.FirstMlpIdeal.nD Cert.FirstMlpIdeal.τ).loc Cert.FirstMlpIdeal.main_arg3) = m ((c.tc : Thread Cert.FirstMlpIdeal.nD Cert.FirstMlpIdeal.τ).loc Cert.FirstMlpIdeal.main_arg3)
          ∧ r.2.mem ((c.tc : Thread Cert.FirstMlpIdeal.nD Cert.FirstMlpIdeal.τ).loc Cert.FirstMlpIdeal.main_arg4) = m ((c.tc : Thread Cert.FirstMlpIdeal.nD Cert.FirstMlpIdeal.τ).loc Cert.FirstMlpIdeal.main_arg4))
      ∧ θ_run (Cert.FirstMlpReferenceIdeal.defs (F := Ideal)) (onTc (τ := Cert.FirstMlpReferenceIdeal.τ) (Cert.FirstMlpReferenceIdeal.main (F := Ideal))) ⟨m', fun _ => 0, g'⟩ (fun r => ∀ c : Dev Cert.FirstMlpReferenceIdeal.nD,
          r.2.mem ((c.tc : Thread Cert.FirstMlpReferenceIdeal.nD Cert.FirstMlpReferenceIdeal.τ).loc Cert.FirstMlpReferenceIdeal.main_v39) = v0 c
          ∧ r.2.mem ((c.tc : Thread Cert.FirstMlpReferenceIdeal.nD Cert.FirstMlpReferenceIdeal.τ).loc Cert.FirstMlpReferenceIdeal.main_arg0) = m' ((c.tc : Thread Cert.FirstMlpReferenceIdeal.nD Cert.FirstMlpReferenceIdeal.τ).loc Cert.FirstMlpReferenceIdeal.main_arg0)
          ∧ r.2.mem ((c.tc : Thread Cert.FirstMlpReferenceIdeal.nD Cert.FirstMlpReferenceIdeal.τ).loc Cert.FirstMlpReferenceIdeal.main_arg1) = m' ((c.tc : Thread Cert.FirstMlpReferenceIdeal.nD Cert.FirstMlpReferenceIdeal.τ).loc Cert.FirstMlpReferenceIdeal.main_arg1)
          ∧ r.2.mem ((c.tc : Thread Cert.FirstMlpReferenceIdeal.nD Cert.FirstMlpReferenceIdeal.τ).loc Cert.FirstMlpReferenceIdeal.main_arg2) = m' ((c.tc : Thread Cert.FirstMlpReferenceIdeal.nD Cert.FirstMlpReferenceIdeal.τ).loc Cert.FirstMlpReferenceIdeal.main_arg2)
          ∧ r.2.mem ((c.tc : Thread Cert.FirstMlpReferenceIdeal.nD Cert.FirstMlpReferenceIdeal.τ).loc Cert.FirstMlpReferenceIdeal.main_arg3) = m' ((c.tc : Thread Cert.FirstMlpReferenceIdeal.nD Cert.FirstMlpReferenceIdeal.τ).loc Cert.FirstMlpReferenceIdeal.main_arg3)
          ∧ r.2.mem ((c.tc : Thread Cert.FirstMlpReferenceIdeal.nD Cert.FirstMlpReferenceIdeal.τ).loc Cert.FirstMlpReferenceIdeal.main_arg4) = m' ((c.tc : Thread Cert.FirstMlpReferenceIdeal.nD Cert.FirstMlpReferenceIdeal.τ).loc Cert.FirstMlpReferenceIdeal.main_arg4))

def preserves_SampleQkv_SampleQkvIdeal : Prop :=
  True

def algebraic_SampleQkvIdeal_SampleQkvReferenceIdeal [hSampleQkvIdeal : Cert.SampleQkvIdeal.Facts] [hSampleQkvReferenceIdeal : Cert.SampleQkvReferenceIdeal.Facts] : Prop :=
  ∀ (m : (ℓ : Loc Cert.SampleQkvIdeal.nD Cert.SampleQkvIdeal.τ Cert.SampleQkvIdeal.sig) → Buf (Elt Ideal) ℓ) (g : Dev Cert.SampleQkvIdeal.nD → PrngReg)
    (m' : (ℓ : Loc Cert.SampleQkvReferenceIdeal.nD Cert.SampleQkvReferenceIdeal.τ Cert.SampleQkvReferenceIdeal.sig) → Buf (Elt Ideal) ℓ) (g' : Dev Cert.SampleQkvReferenceIdeal.nD → PrngReg), Pre_SampleQkvIdeal m →
    (∀ c : Dev Cert.SampleQkvIdeal.nD,
      m' ((c.tc : Thread Cert.SampleQkvReferenceIdeal.nD Cert.SampleQkvReferenceIdeal.τ).loc Cert.SampleQkvReferenceIdeal.main_arg0) = m ((c.tc : Thread Cert.SampleQkvIdeal.nD Cert.SampleQkvIdeal.τ).loc Cert.SampleQkvIdeal.main_arg0)
      ∧ m' ((c.tc : Thread Cert.SampleQkvReferenceIdeal.nD Cert.SampleQkvReferenceIdeal.τ).loc Cert.SampleQkvReferenceIdeal.main_arg1) = m ((c.tc : Thread Cert.SampleQkvIdeal.nD Cert.SampleQkvIdeal.τ).loc Cert.SampleQkvIdeal.main_arg1)
      ∧ m' ((c.tc : Thread Cert.SampleQkvReferenceIdeal.nD Cert.SampleQkvReferenceIdeal.τ).loc Cert.SampleQkvReferenceIdeal.main_arg2) = m ((c.tc : Thread Cert.SampleQkvIdeal.nD Cert.SampleQkvIdeal.τ).loc Cert.SampleQkvIdeal.main_arg2)) →
    ∃ (v0 : (c : Dev Cert.SampleQkvIdeal.nD) → Buf (Elt Ideal) ((c.tc : Thread Cert.SampleQkvIdeal.nD Cert.SampleQkvIdeal.τ).loc Cert.SampleQkvIdeal.main_v4_0)) (v1 : (c : Dev Cert.SampleQkvIdeal.nD) → Buf (Elt Ideal) ((c.tc : Thread Cert.SampleQkvIdeal.nD Cert.SampleQkvIdeal.τ).loc Cert.SampleQkvIdeal.main_v4_1)) (v2 : (c : Dev Cert.SampleQkvIdeal.nD) → Buf (Elt Ideal) ((c.tc : Thread Cert.SampleQkvIdeal.nD Cert.SampleQkvIdeal.τ).loc Cert.SampleQkvIdeal.main_v4_2)),
      θ_run (Cert.SampleQkvIdeal.defs (F := Ideal)) (onTc (τ := Cert.SampleQkvIdeal.τ) (Cert.SampleQkvIdeal.main (F := Ideal))) ⟨m, fun _ => 0, g⟩ (fun r => ∀ c : Dev Cert.SampleQkvIdeal.nD,
          r.2.mem ((c.tc : Thread Cert.SampleQkvIdeal.nD Cert.SampleQkvIdeal.τ).loc Cert.SampleQkvIdeal.main_v4_0) = v0 c
          ∧ r.2.mem ((c.tc : Thread Cert.SampleQkvIdeal.nD Cert.SampleQkvIdeal.τ).loc Cert.SampleQkvIdeal.main_v4_1) = v1 c
          ∧ r.2.mem ((c.tc : Thread Cert.SampleQkvIdeal.nD Cert.SampleQkvIdeal.τ).loc Cert.SampleQkvIdeal.main_v4_2) = v2 c
          ∧ r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
          ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1)
          ∧ r.2.mem ((c.tc : Thread Cert.SampleQkvIdeal.nD Cert.SampleQkvIdeal.τ).loc Cert.SampleQkvIdeal.main_arg2) = m ((c.tc : Thread Cert.SampleQkvIdeal.nD Cert.SampleQkvIdeal.τ).loc Cert.SampleQkvIdeal.main_arg2))
      ∧ θ_run (Cert.SampleQkvReferenceIdeal.defs (F := Ideal)) (onTc (τ := Cert.SampleQkvReferenceIdeal.τ) (Cert.SampleQkvReferenceIdeal.main (F := Ideal))) ⟨m', fun _ => 0, g'⟩ (fun r => ∀ c : Dev Cert.SampleQkvReferenceIdeal.nD,
          r.2.mem ((c.tc : Thread Cert.SampleQkvReferenceIdeal.nD Cert.SampleQkvReferenceIdeal.τ).loc Cert.SampleQkvReferenceIdeal.main_v4) = v0 c
          ∧ r.2.mem ((c.tc : Thread Cert.SampleQkvReferenceIdeal.nD Cert.SampleQkvReferenceIdeal.τ).loc Cert.SampleQkvReferenceIdeal.main_v6) = v1 c
          ∧ r.2.mem ((c.tc : Thread Cert.SampleQkvReferenceIdeal.nD Cert.SampleQkvReferenceIdeal.τ).loc Cert.SampleQkvReferenceIdeal.main_v8) = v2 c
          ∧ r.2.mem ((c.tc : Thread Cert.SampleQkvReferenceIdeal.nD Cert.SampleQkvReferenceIdeal.τ).loc Cert.SampleQkvReferenceIdeal.main_arg0) = m' ((c.tc : Thread Cert.SampleQkvReferenceIdeal.nD Cert.SampleQkvReferenceIdeal.τ).loc Cert.SampleQkvReferenceIdeal.main_arg0)
          ∧ r.2.mem ((c.tc : Thread Cert.SampleQkvReferenceIdeal.nD Cert.SampleQkvReferenceIdeal.τ).loc Cert.SampleQkvReferenceIdeal.main_arg1) = m' ((c.tc : Thread Cert.SampleQkvReferenceIdeal.nD Cert.SampleQkvReferenceIdeal.τ).loc Cert.SampleQkvReferenceIdeal.main_arg1)
          ∧ r.2.mem ((c.tc : Thread Cert.SampleQkvReferenceIdeal.nD Cert.SampleQkvReferenceIdeal.τ).loc Cert.SampleQkvReferenceIdeal.main_arg2) = m' ((c.tc : Thread Cert.SampleQkvReferenceIdeal.nD Cert.SampleQkvReferenceIdeal.τ).loc Cert.SampleQkvReferenceIdeal.main_arg2))

def preserves_SampleMlp_SampleMlpIdeal : Prop :=
  True

def algebraic_SampleMlpIdeal_SampleMlpReferenceIdeal [hSampleMlpIdeal : Cert.SampleMlpIdeal.Facts] [hSampleMlpReferenceIdeal : Cert.SampleMlpReferenceIdeal.Facts] : Prop :=
  ∀ (m : (ℓ : Loc Cert.SampleMlpIdeal.nD Cert.SampleMlpIdeal.τ Cert.SampleMlpIdeal.sig) → Buf (Elt Ideal) ℓ) (g : Dev Cert.SampleMlpIdeal.nD → PrngReg)
    (m' : (ℓ : Loc Cert.SampleMlpReferenceIdeal.nD Cert.SampleMlpReferenceIdeal.τ Cert.SampleMlpReferenceIdeal.sig) → Buf (Elt Ideal) ℓ) (g' : Dev Cert.SampleMlpReferenceIdeal.nD → PrngReg), Pre_SampleMlpIdeal m →
    (∀ c : Dev Cert.SampleMlpIdeal.nD,
      m' ((c.tc : Thread Cert.SampleMlpReferenceIdeal.nD Cert.SampleMlpReferenceIdeal.τ).loc Cert.SampleMlpReferenceIdeal.main_arg0) = m ((c.tc : Thread Cert.SampleMlpIdeal.nD Cert.SampleMlpIdeal.τ).loc Cert.SampleMlpIdeal.main_arg0)
      ∧ m' ((c.tc : Thread Cert.SampleMlpReferenceIdeal.nD Cert.SampleMlpReferenceIdeal.τ).loc Cert.SampleMlpReferenceIdeal.main_arg1) = m ((c.tc : Thread Cert.SampleMlpIdeal.nD Cert.SampleMlpIdeal.τ).loc Cert.SampleMlpIdeal.main_arg1)
      ∧ m' ((c.tc : Thread Cert.SampleMlpReferenceIdeal.nD Cert.SampleMlpReferenceIdeal.τ).loc Cert.SampleMlpReferenceIdeal.main_arg2) = m ((c.tc : Thread Cert.SampleMlpIdeal.nD Cert.SampleMlpIdeal.τ).loc Cert.SampleMlpIdeal.main_arg2)
      ∧ m' ((c.tc : Thread Cert.SampleMlpReferenceIdeal.nD Cert.SampleMlpReferenceIdeal.τ).loc Cert.SampleMlpReferenceIdeal.main_arg3) = m ((c.tc : Thread Cert.SampleMlpIdeal.nD Cert.SampleMlpIdeal.τ).loc Cert.SampleMlpIdeal.main_arg3)
      ∧ m' ((c.tc : Thread Cert.SampleMlpReferenceIdeal.nD Cert.SampleMlpReferenceIdeal.τ).loc Cert.SampleMlpReferenceIdeal.main_arg4) = m ((c.tc : Thread Cert.SampleMlpIdeal.nD Cert.SampleMlpIdeal.τ).loc Cert.SampleMlpIdeal.main_arg4)) →
    ∃ (v0 : (c : Dev Cert.SampleMlpIdeal.nD) → Buf (Elt Ideal) ((c.tc : Thread Cert.SampleMlpIdeal.nD Cert.SampleMlpIdeal.τ).loc Cert.SampleMlpIdeal.main_v13)),
      θ_run (Cert.SampleMlpIdeal.defs (F := Ideal)) (onTc (τ := Cert.SampleMlpIdeal.τ) (Cert.SampleMlpIdeal.main (F := Ideal))) ⟨m, fun _ => 0, g⟩ (fun r => ∀ c : Dev Cert.SampleMlpIdeal.nD,
          r.2.mem ((c.tc : Thread Cert.SampleMlpIdeal.nD Cert.SampleMlpIdeal.τ).loc Cert.SampleMlpIdeal.main_v13) = v0 c
          ∧ r.2.mem ((c.tc : Thread Cert.SampleMlpIdeal.nD Cert.SampleMlpIdeal.τ).loc Cert.SampleMlpIdeal.main_arg0) = m ((c.tc : Thread Cert.SampleMlpIdeal.nD Cert.SampleMlpIdeal.τ).loc Cert.SampleMlpIdeal.main_arg0)
          ∧ r.2.mem ((c.tc : Thread Cert.SampleMlpIdeal.nD Cert.SampleMlpIdeal.τ).loc Cert.SampleMlpIdeal.main_arg1) = m ((c.tc : Thread Cert.SampleMlpIdeal.nD Cert.SampleMlpIdeal.τ).loc Cert.SampleMlpIdeal.main_arg1)
          ∧ r.2.mem ((c.tc : Thread Cert.SampleMlpIdeal.nD Cert.SampleMlpIdeal.τ).loc Cert.SampleMlpIdeal.main_arg2) = m ((c.tc : Thread Cert.SampleMlpIdeal.nD Cert.SampleMlpIdeal.τ).loc Cert.SampleMlpIdeal.main_arg2)
          ∧ r.2.mem ((c.tc : Thread Cert.SampleMlpIdeal.nD Cert.SampleMlpIdeal.τ).loc Cert.SampleMlpIdeal.main_arg3) = m ((c.tc : Thread Cert.SampleMlpIdeal.nD Cert.SampleMlpIdeal.τ).loc Cert.SampleMlpIdeal.main_arg3)
          ∧ r.2.mem ((c.tc : Thread Cert.SampleMlpIdeal.nD Cert.SampleMlpIdeal.τ).loc Cert.SampleMlpIdeal.main_arg4) = m ((c.tc : Thread Cert.SampleMlpIdeal.nD Cert.SampleMlpIdeal.τ).loc Cert.SampleMlpIdeal.main_arg4))
      ∧ θ_run (Cert.SampleMlpReferenceIdeal.defs (F := Ideal)) (onTc (τ := Cert.SampleMlpReferenceIdeal.τ) (Cert.SampleMlpReferenceIdeal.main (F := Ideal))) ⟨m', fun _ => 0, g'⟩ (fun r => ∀ c : Dev Cert.SampleMlpReferenceIdeal.nD,
          r.2.mem ((c.tc : Thread Cert.SampleMlpReferenceIdeal.nD Cert.SampleMlpReferenceIdeal.τ).loc Cert.SampleMlpReferenceIdeal.main_v39) = v0 c
          ∧ r.2.mem ((c.tc : Thread Cert.SampleMlpReferenceIdeal.nD Cert.SampleMlpReferenceIdeal.τ).loc Cert.SampleMlpReferenceIdeal.main_arg0) = m' ((c.tc : Thread Cert.SampleMlpReferenceIdeal.nD Cert.SampleMlpReferenceIdeal.τ).loc Cert.SampleMlpReferenceIdeal.main_arg0)
          ∧ r.2.mem ((c.tc : Thread Cert.SampleMlpReferenceIdeal.nD Cert.SampleMlpReferenceIdeal.τ).loc Cert.SampleMlpReferenceIdeal.main_arg1) = m' ((c.tc : Thread Cert.SampleMlpReferenceIdeal.nD Cert.SampleMlpReferenceIdeal.τ).loc Cert.SampleMlpReferenceIdeal.main_arg1)
          ∧ r.2.mem ((c.tc : Thread Cert.SampleMlpReferenceIdeal.nD Cert.SampleMlpReferenceIdeal.τ).loc Cert.SampleMlpReferenceIdeal.main_arg2) = m' ((c.tc : Thread Cert.SampleMlpReferenceIdeal.nD Cert.SampleMlpReferenceIdeal.τ).loc Cert.SampleMlpReferenceIdeal.main_arg2)
          ∧ r.2.mem ((c.tc : Thread Cert.SampleMlpReferenceIdeal.nD Cert.SampleMlpReferenceIdeal.τ).loc Cert.SampleMlpReferenceIdeal.main_arg3) = m' ((c.tc : Thread Cert.SampleMlpReferenceIdeal.nD Cert.SampleMlpReferenceIdeal.τ).loc Cert.SampleMlpReferenceIdeal.main_arg3)
          ∧ r.2.mem ((c.tc : Thread Cert.SampleMlpReferenceIdeal.nD Cert.SampleMlpReferenceIdeal.τ).loc Cert.SampleMlpReferenceIdeal.main_arg4) = m' ((c.tc : Thread Cert.SampleMlpReferenceIdeal.nD Cert.SampleMlpReferenceIdeal.τ).loc Cert.SampleMlpReferenceIdeal.main_arg4))

def preserves_Proj_ProjIdeal : Prop :=
  True

def algebraic_ProjIdeal_ProjReferenceIdeal_pre_gate_inputs_finite [hProjIdeal : Cert.ProjIdeal.Facts] [hProjReferenceIdeal : Cert.ProjReferenceIdeal.Facts] [hPre_gate_inputs_finite : Cert.Pre_gate_inputs_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_gate_inputs_finite m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)) (v4 : (c : Dev Cert.ProjIdeal.nD) → Buf (Elt Ideal) ((c.tc : Thread Cert.ProjIdeal.nD Cert.ProjIdeal.τ).loc Cert.ProjIdeal.main_v9_4)) (v5 : (c : Dev Cert.ProjIdeal.nD) → Buf (Elt Ideal) ((c.tc : Thread Cert.ProjIdeal.nD Cert.ProjIdeal.τ).loc Cert.ProjIdeal.main_v9_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_v9_4) = v4 c
          ∧ r.2.mem ((c.tc : Thread Cert.ProjIdeal.nD Cert.ProjIdeal.τ).loc Cert.ProjIdeal.main_v9_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v20) = v0 c
          ∧ r.2.mem ((c.tc : Thread Cert.ProjReferenceIdeal.nD Cert.ProjReferenceIdeal.τ).loc Cert.ProjReferenceIdeal.main_v22) = v1 c
          ∧ r.2.mem ((c.tc : Thread Cert.ProjReferenceIdeal.nD Cert.ProjReferenceIdeal.τ).loc Cert.ProjReferenceIdeal.main_v6) = v2 c
          ∧ r.2.mem ((c.tc : Thread Cert.ProjReferenceIdeal.nD Cert.ProjReferenceIdeal.τ).loc Cert.ProjReferenceIdeal.main_v23) = v3 c
          ∧ r.2.mem ((c.tc : Thread Cert.ProjReferenceIdeal.nD Cert.ProjReferenceIdeal.τ).loc Cert.ProjReferenceIdeal.main_v24) = v4 c
          ∧ r.2.mem ((c.tc : Thread Cert.ProjReferenceIdeal.nD Cert.ProjReferenceIdeal.τ).loc Cert.ProjReferenceIdeal.main_v25) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_OutLn_OutLnIdeal : Prop :=
  True

def algebraic_OutLnIdeal_OutLnReferenceIdeal [hOutLnIdeal : Cert.OutLnIdeal.Facts] [hOutLnReferenceIdeal : Cert.OutLnReferenceIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnReferenceIdeal.nD Cert.OutLnReferenceIdeal.τ Cert.OutLnReferenceIdeal.sig) → Buf (Elt Ideal) ℓ) (g' : Dev Cert.OutLnReferenceIdeal.nD → PrngReg), Pre_OutLnIdeal m →
    (∀ c : Dev Cert.OutLnIdeal.nD,
      m' ((c.tc : Thread Cert.OutLnReferenceIdeal.nD Cert.OutLnReferenceIdeal.τ).loc Cert.OutLnReferenceIdeal.main_arg0) = m ((c.tc : Thread Cert.OutLnIdeal.nD Cert.OutLnIdeal.τ).loc Cert.OutLnIdeal.main_arg0)
      ∧ m' ((c.tc : Thread Cert.OutLnReferenceIdeal.nD Cert.OutLnReferenceIdeal.τ).loc Cert.OutLnReferenceIdeal.main_arg1) = m ((c.tc : Thread Cert.OutLnIdeal.nD Cert.OutLnIdeal.τ).loc Cert.OutLnIdeal.main_arg1)
      ∧ m' ((c.tc : Thread Cert.OutLnReferenceIdeal.nD Cert.OutLnReferenceIdeal.τ).loc Cert.OutLnReferenceIdeal.main_arg2) = m ((c.tc : Thread Cert.OutLnIdeal.nD Cert.OutLnIdeal.τ).loc Cert.OutLnIdeal.main_arg2)
      ∧ m' ((c.tc : Thread Cert.OutLnReferenceIdeal.nD Cert.OutLnReferenceIdeal.τ).loc Cert.OutLnReferenceIdeal.main_arg3) = m ((c.tc : Thread Cert.OutLnIdeal.nD Cert.OutLnIdeal.τ).loc Cert.OutLnIdeal.main_arg3)
      ∧ m' ((c.tc : Thread Cert.OutLnReferenceIdeal.nD Cert.OutLnReferenceIdeal.τ).loc Cert.OutLnReferenceIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v9)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v9) = v0 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnReferenceIdeal.defs (F := Ideal)) (onTc (τ := Cert.OutLnReferenceIdeal.τ) (Cert.OutLnReferenceIdeal.main (F := Ideal))) ⟨m', fun _ => 0, g'⟩ (fun r => ∀ c : Dev Cert.OutLnReferenceIdeal.nD,
          r.2.mem ((c.tc : Thread Cert.OutLnReferenceIdeal.nD Cert.OutLnReferenceIdeal.τ).loc Cert.OutLnReferenceIdeal.main_v34) = v0 c
          ∧ r.2.mem ((c.tc : Thread Cert.OutLnReferenceIdeal.nD Cert.OutLnReferenceIdeal.τ).loc Cert.OutLnReferenceIdeal.main_arg0) = m' ((c.tc : Thread Cert.OutLnReferenceIdeal.nD Cert.OutLnReferenceIdeal.τ).loc Cert.OutLnReferenceIdeal.main_arg0)
          ∧ r.2.mem ((c.tc : Thread Cert.OutLnReferenceIdeal.nD Cert.OutLnReferenceIdeal.τ).loc Cert.OutLnReferenceIdeal.main_arg1) = m' ((c.tc : Thread Cert.OutLnReferenceIdeal.nD Cert.OutLnReferenceIdeal.τ).loc Cert.OutLnReferenceIdeal.main_arg1)
          ∧ r.2.mem ((c.tc : Thread Cert.OutLnReferenceIdeal.nD Cert.OutLnReferenceIdeal.τ).loc Cert.OutLnReferenceIdeal.main_arg2) = m' ((c.tc : Thread Cert.OutLnReferenceIdeal.nD Cert.OutLnReferenceIdeal.τ).loc Cert.OutLnReferenceIdeal.main_arg2)
          ∧ r.2.mem ((c.tc : Thread Cert.OutLnReferenceIdeal.nD Cert.OutLnReferenceIdeal.τ).loc Cert.OutLnReferenceIdeal.main_arg3) = m' ((c.tc : Thread Cert.OutLnReferenceIdeal.nD Cert.OutLnReferenceIdeal.τ).loc Cert.OutLnReferenceIdeal.main_arg3)
          ∧ r.2.mem ((c.tc : Thread Cert.OutLnReferenceIdeal.nD Cert.OutLnReferenceIdeal.τ).loc Cert.OutLnReferenceIdeal.main_arg4) = m' ((c.tc : Thread Cert.OutLnReferenceIdeal.nD Cert.OutLnReferenceIdeal.τ).loc Cert.OutLnReferenceIdeal.main_arg4))

def preserves_FirstSampleMlp_FirstSampleMlpIdeal : Prop :=
  True

def algebraic_FirstSampleMlpIdeal_FirstSampleMlpReferenceIdeal [hFirstSampleMlpIdeal : Cert.FirstSampleMlpIdeal.Facts] [hFirstSampleMlpReferenceIdeal : Cert.FirstSampleMlpReferenceIdeal.Facts] : Prop :=
  ∀ (m : (ℓ : Loc Cert.FirstSampleMlpIdeal.nD Cert.FirstSampleMlpIdeal.τ Cert.FirstSampleMlpIdeal.sig) → Buf (Elt Ideal) ℓ) (g : Dev Cert.FirstSampleMlpIdeal.nD → PrngReg)
    (m' : (ℓ : Loc Cert.FirstSampleMlpReferenceIdeal.nD Cert.FirstSampleMlpReferenceIdeal.τ Cert.FirstSampleMlpReferenceIdeal.sig) → Buf (Elt Ideal) ℓ) (g' : Dev Cert.FirstSampleMlpReferenceIdeal.nD → PrngReg), Pre_FirstSampleMlpIdeal m →
    (∀ c : Dev Cert.FirstSampleMlpIdeal.nD,
      m' ((c.tc : Thread Cert.FirstSampleMlpReferenceIdeal.nD Cert.FirstSampleMlpReferenceIdeal.τ).loc Cert.FirstSampleMlpReferenceIdeal.main_arg0) = m ((c.tc : Thread Cert.FirstSampleMlpIdeal.nD Cert.FirstSampleMlpIdeal.τ).loc Cert.FirstSampleMlpIdeal.main_arg0)
      ∧ m' ((c.tc : Thread Cert.FirstSampleMlpReferenceIdeal.nD Cert.FirstSampleMlpReferenceIdeal.τ).loc Cert.FirstSampleMlpReferenceIdeal.main_arg1) = m ((c.tc : Thread Cert.FirstSampleMlpIdeal.nD Cert.FirstSampleMlpIdeal.τ).loc Cert.FirstSampleMlpIdeal.main_arg1)
      ∧ m' ((c.tc : Thread Cert.FirstSampleMlpReferenceIdeal.nD Cert.FirstSampleMlpReferenceIdeal.τ).loc Cert.FirstSampleMlpReferenceIdeal.main_arg2) = m ((c.tc : Thread Cert.FirstSampleMlpIdeal.nD Cert.FirstSampleMlpIdeal.τ).loc Cert.FirstSampleMlpIdeal.main_arg2)
      ∧ m' ((c.tc : Thread Cert.FirstSampleMlpReferenceIdeal.nD Cert.FirstSampleMlpReferenceIdeal.τ).loc Cert.FirstSampleMlpReferenceIdeal.main_arg3) = m ((c.tc : Thread Cert.FirstSampleMlpIdeal.nD Cert.FirstSampleMlpIdeal.τ).loc Cert.FirstSampleMlpIdeal.main_arg3)
      ∧ m' ((c.tc : Thread Cert.FirstSampleMlpReferenceIdeal.nD Cert.FirstSampleMlpReferenceIdeal.τ).loc Cert.FirstSampleMlpReferenceIdeal.main_arg4) = m ((c.tc : Thread Cert.FirstSampleMlpIdeal.nD Cert.FirstSampleMlpIdeal.τ).loc Cert.FirstSampleMlpIdeal.main_arg4)) →
    ∃ (v0 : (c : Dev Cert.FirstSampleMlpIdeal.nD) → Buf (Elt Ideal) ((c.tc : Thread Cert.FirstSampleMlpIdeal.nD Cert.FirstSampleMlpIdeal.τ).loc Cert.FirstSampleMlpIdeal.main_v13)),
      θ_run (Cert.FirstSampleMlpIdeal.defs (F := Ideal)) (onTc (τ := Cert.FirstSampleMlpIdeal.τ) (Cert.FirstSampleMlpIdeal.main (F := Ideal))) ⟨m, fun _ => 0, g⟩ (fun r => ∀ c : Dev Cert.FirstSampleMlpIdeal.nD,
          r.2.mem ((c.tc : Thread Cert.FirstSampleMlpIdeal.nD Cert.FirstSampleMlpIdeal.τ).loc Cert.FirstSampleMlpIdeal.main_v13) = v0 c
          ∧ r.2.mem ((c.tc : Thread Cert.FirstSampleMlpIdeal.nD Cert.FirstSampleMlpIdeal.τ).loc Cert.FirstSampleMlpIdeal.main_arg0) = m ((c.tc : Thread Cert.FirstSampleMlpIdeal.nD Cert.FirstSampleMlpIdeal.τ).loc Cert.FirstSampleMlpIdeal.main_arg0)
          ∧ r.2.mem ((c.tc : Thread Cert.FirstSampleMlpIdeal.nD Cert.FirstSampleMlpIdeal.τ).loc Cert.FirstSampleMlpIdeal.main_arg1) = m ((c.tc : Thread Cert.FirstSampleMlpIdeal.nD Cert.FirstSampleMlpIdeal.τ).loc Cert.FirstSampleMlpIdeal.main_arg1)
          ∧ r.2.mem ((c.tc : Thread Cert.FirstSampleMlpIdeal.nD Cert.FirstSampleMlpIdeal.τ).loc Cert.FirstSampleMlpIdeal.main_arg2) = m ((c.tc : Thread Cert.FirstSampleMlpIdeal.nD Cert.FirstSampleMlpIdeal.τ).loc Cert.FirstSampleMlpIdeal.main_arg2)
          ∧ r.2.mem ((c.tc : Thread Cert.FirstSampleMlpIdeal.nD Cert.FirstSampleMlpIdeal.τ).loc Cert.FirstSampleMlpIdeal.main_arg3) = m ((c.tc : Thread Cert.FirstSampleMlpIdeal.nD Cert.FirstSampleMlpIdeal.τ).loc Cert.FirstSampleMlpIdeal.main_arg3)
          ∧ r.2.mem ((c.tc : Thread Cert.FirstSampleMlpIdeal.nD Cert.FirstSampleMlpIdeal.τ).loc Cert.FirstSampleMlpIdeal.main_arg4) = m ((c.tc : Thread Cert.FirstSampleMlpIdeal.nD Cert.FirstSampleMlpIdeal.τ).loc Cert.FirstSampleMlpIdeal.main_arg4))
      ∧ θ_run (Cert.FirstSampleMlpReferenceIdeal.defs (F := Ideal)) (onTc (τ := Cert.FirstSampleMlpReferenceIdeal.τ) (Cert.FirstSampleMlpReferenceIdeal.main (F := Ideal))) ⟨m', fun _ => 0, g'⟩ (fun r => ∀ c : Dev Cert.FirstSampleMlpReferenceIdeal.nD,
          r.2.mem ((c.tc : Thread Cert.FirstSampleMlpReferenceIdeal.nD Cert.FirstSampleMlpReferenceIdeal.τ).loc Cert.FirstSampleMlpReferenceIdeal.main_v39) = v0 c
          ∧ r.2.mem ((c.tc : Thread Cert.FirstSampleMlpReferenceIdeal.nD Cert.FirstSampleMlpReferenceIdeal.τ).loc Cert.FirstSampleMlpReferenceIdeal.main_arg0) = m' ((c.tc : Thread Cert.FirstSampleMlpReferenceIdeal.nD Cert.FirstSampleMlpReferenceIdeal.τ).loc Cert.FirstSampleMlpReferenceIdeal.main_arg0)
          ∧ r.2.mem ((c.tc : Thread Cert.FirstSampleMlpReferenceIdeal.nD Cert.FirstSampleMlpReferenceIdeal.τ).loc Cert.FirstSampleMlpReferenceIdeal.main_arg1) = m' ((c.tc : Thread Cert.FirstSampleMlpReferenceIdeal.nD Cert.FirstSampleMlpReferenceIdeal.τ).loc Cert.FirstSampleMlpReferenceIdeal.main_arg1)
          ∧ r.2.mem ((c.tc : Thread Cert.FirstSampleMlpReferenceIdeal.nD Cert.FirstSampleMlpReferenceIdeal.τ).loc Cert.FirstSampleMlpReferenceIdeal.main_arg2) = m' ((c.tc : Thread Cert.FirstSampleMlpReferenceIdeal.nD Cert.FirstSampleMlpReferenceIdeal.τ).loc Cert.FirstSampleMlpReferenceIdeal.main_arg2)
          ∧ r.2.mem ((c.tc : Thread Cert.FirstSampleMlpReferenceIdeal.nD Cert.FirstSampleMlpReferenceIdeal.τ).loc Cert.FirstSampleMlpReferenceIdeal.main_arg3) = m' ((c.tc : Thread Cert.FirstSampleMlpReferenceIdeal.nD Cert.FirstSampleMlpReferenceIdeal.τ).loc Cert.FirstSampleMlpReferenceIdeal.main_arg3)
          ∧ r.2.mem ((c.tc : Thread Cert.FirstSampleMlpReferenceIdeal.nD Cert.FirstSampleMlpReferenceIdeal.τ).loc Cert.FirstSampleMlpReferenceIdeal.main_arg4) = m' ((c.tc : Thread Cert.FirstSampleMlpReferenceIdeal.nD Cert.FirstSampleMlpReferenceIdeal.τ).loc Cert.FirstSampleMlpReferenceIdeal.main_arg4))

def preserves_SampleProj_SampleProjIdeal : Prop :=
  True

def algebraic_SampleProjIdeal_SampleProjReferenceIdeal_pre_sample_gate_inputs_finite [hSampleProjIdeal : Cert.SampleProjIdeal.Facts] [hSampleProjReferenceIdeal : Cert.SampleProjReferenceIdeal.Facts] [hPre_sample_gate_inputs_finite : Cert.Pre_sample_gate_inputs_finite.Facts] : Prop :=
  ∀ (m : (ℓ : Loc Cert.SampleProjIdeal.nD Cert.SampleProjIdeal.τ Cert.SampleProjIdeal.sig) → Buf (Elt Ideal) ℓ) (g : Dev Cert.SampleProjIdeal.nD → PrngReg)
    (m' : (ℓ : Loc Cert.SampleProjReferenceIdeal.nD Cert.SampleProjReferenceIdeal.τ Cert.SampleProjReferenceIdeal.sig) → Buf (Elt Ideal) ℓ) (g' : Dev Cert.SampleProjReferenceIdeal.nD → PrngReg), Pre_SampleProjIdeal_sample_gate_inputs_finite m →
    (∀ c : Dev Cert.SampleProjIdeal.nD,
      m' ((c.tc : Thread Cert.SampleProjReferenceIdeal.nD Cert.SampleProjReferenceIdeal.τ).loc Cert.SampleProjReferenceIdeal.main_arg0) = m ((c.tc : Thread Cert.SampleProjIdeal.nD Cert.SampleProjIdeal.τ).loc Cert.SampleProjIdeal.main_arg0)
      ∧ m' ((c.tc : Thread Cert.SampleProjReferenceIdeal.nD Cert.SampleProjReferenceIdeal.τ).loc Cert.SampleProjReferenceIdeal.main_arg1) = m ((c.tc : Thread Cert.SampleProjIdeal.nD Cert.SampleProjIdeal.τ).loc Cert.SampleProjIdeal.main_arg1)
      ∧ m' ((c.tc : Thread Cert.SampleProjReferenceIdeal.nD Cert.SampleProjReferenceIdeal.τ).loc Cert.SampleProjReferenceIdeal.main_arg2) = m ((c.tc : Thread Cert.SampleProjIdeal.nD Cert.SampleProjIdeal.τ).loc Cert.SampleProjIdeal.main_arg2)) →
    ∃ (v0 : (c : Dev Cert.SampleProjIdeal.nD) → Buf (Elt Ideal) ((c.tc : Thread Cert.SampleProjIdeal.nD Cert.SampleProjIdeal.τ).loc Cert.SampleProjIdeal.main_v9_0)) (v1 : (c : Dev Cert.SampleProjIdeal.nD) → Buf (Elt Ideal) ((c.tc : Thread Cert.SampleProjIdeal.nD Cert.SampleProjIdeal.τ).loc Cert.SampleProjIdeal.main_v9_1)) (v2 : (c : Dev Cert.SampleProjIdeal.nD) → Buf (Elt Ideal) ((c.tc : Thread Cert.SampleProjIdeal.nD Cert.SampleProjIdeal.τ).loc Cert.SampleProjIdeal.main_v9_2)) (v3 : (c : Dev Cert.SampleProjIdeal.nD) → Buf (Elt Ideal) ((c.tc : Thread Cert.SampleProjIdeal.nD Cert.SampleProjIdeal.τ).loc Cert.SampleProjIdeal.main_v9_3)) (v4 : (c : Dev Cert.SampleProjIdeal.nD) → Buf (Elt Ideal) ((c.tc : Thread Cert.SampleProjIdeal.nD Cert.SampleProjIdeal.τ).loc Cert.SampleProjIdeal.main_v9_4)),
      θ_run (Cert.SampleProjIdeal.defs (F := Ideal)) (onTc (τ := Cert.SampleProjIdeal.τ) (Cert.SampleProjIdeal.main (F := Ideal))) ⟨m, fun _ => 0, g⟩ (fun r => ∀ c : Dev Cert.SampleProjIdeal.nD,
          r.2.mem ((c.tc : Thread Cert.SampleProjIdeal.nD Cert.SampleProjIdeal.τ).loc Cert.SampleProjIdeal.main_v9_0) = v0 c
          ∧ r.2.mem ((c.tc : Thread Cert.SampleProjIdeal.nD Cert.SampleProjIdeal.τ).loc Cert.SampleProjIdeal.main_v9_1) = v1 c
          ∧ r.2.mem ((c.tc : Thread Cert.SampleProjIdeal.nD Cert.SampleProjIdeal.τ).loc Cert.SampleProjIdeal.main_v9_2) = v2 c
          ∧ r.2.mem ((c.tc : Thread Cert.SampleProjIdeal.nD Cert.SampleProjIdeal.τ).loc Cert.SampleProjIdeal.main_v9_3) = v3 c
          ∧ r.2.mem ((c.tc : Thread Cert.SampleProjIdeal.nD Cert.SampleProjIdeal.τ).loc Cert.SampleProjIdeal.main_v9_4) = v4 c
          ∧ r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
          ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
          ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2))
      ∧ θ_run (Cert.SampleProjReferenceIdeal.defs (F := Ideal)) (onTc (τ := Cert.SampleProjReferenceIdeal.τ) (Cert.SampleProjReferenceIdeal.main (F := Ideal))) ⟨m', fun _ => 0, g'⟩ (fun r => ∀ c : Dev Cert.SampleProjReferenceIdeal.nD,
          r.2.mem ((c.tc : Thread Cert.SampleProjReferenceIdeal.nD Cert.SampleProjReferenceIdeal.τ).loc Cert.SampleProjReferenceIdeal.main_v18) = v0 c
          ∧ r.2.mem ((c.tc : Thread Cert.SampleProjReferenceIdeal.nD Cert.SampleProjReferenceIdeal.τ).loc Cert.SampleProjReferenceIdeal.main_v20) = v1 c
          ∧ r.2.mem ((c.tc : Thread Cert.SampleProjReferenceIdeal.nD Cert.SampleProjReferenceIdeal.τ).loc Cert.SampleProjReferenceIdeal.main_v6) = v2 c
          ∧ r.2.mem ((c.tc : Thread Cert.SampleProjReferenceIdeal.nD Cert.SampleProjReferenceIdeal.τ).loc Cert.SampleProjReferenceIdeal.main_v21) = v3 c
          ∧ r.2.mem ((c.tc : Thread Cert.SampleProjReferenceIdeal.nD Cert.SampleProjReferenceIdeal.τ).loc Cert.SampleProjReferenceIdeal.main_v22) = v4 c
          ∧ r.2.mem ((c.tc : Thread Cert.SampleProjReferenceIdeal.nD Cert.SampleProjReferenceIdeal.τ).loc Cert.SampleProjReferenceIdeal.main_arg0) = m' ((c.tc : Thread Cert.SampleProjReferenceIdeal.nD Cert.SampleProjReferenceIdeal.τ).loc Cert.SampleProjReferenceIdeal.main_arg0)
          ∧ r.2.mem ((c.tc : Thread Cert.SampleProjReferenceIdeal.nD Cert.SampleProjReferenceIdeal.τ).loc Cert.SampleProjReferenceIdeal.main_arg1) = m' ((c.tc : Thread Cert.SampleProjReferenceIdeal.nD Cert.SampleProjReferenceIdeal.τ).loc Cert.SampleProjReferenceIdeal.main_arg1)
          ∧ r.2.mem ((c.tc : Thread Cert.SampleProjReferenceIdeal.nD Cert.SampleProjReferenceIdeal.τ).loc Cert.SampleProjReferenceIdeal.main_arg2) = m' ((c.tc : Thread Cert.SampleProjReferenceIdeal.nD Cert.SampleProjReferenceIdeal.τ).loc Cert.SampleProjReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hQkv : Cert.Qkv.Facts) (hQkvIdeal : Cert.QkvIdeal.Facts) (hQkvReferenceIdeal : Cert.QkvReferenceIdeal.Facts) (hFirstMlp : Cert.FirstMlp.Facts) (hFirstMlpIdeal : Cert.FirstMlpIdeal.Facts) (hFirstMlpReferenceIdeal : Cert.FirstMlpReferenceIdeal.Facts) (hSampleQkv : Cert.SampleQkv.Facts) (hSampleQkvIdeal : Cert.SampleQkvIdeal.Facts) (hSampleQkvReferenceIdeal : Cert.SampleQkvReferenceIdeal.Facts) (hSampleMlp : Cert.SampleMlp.Facts) (hSampleMlpIdeal : Cert.SampleMlpIdeal.Facts) (hSampleMlpReferenceIdeal : Cert.SampleMlpReferenceIdeal.Facts) (hProj : Cert.Proj.Facts) (hProjIdeal : Cert.ProjIdeal.Facts) (hProjReferenceIdeal : Cert.ProjReferenceIdeal.Facts) (hOutLn : Cert.OutLn.Facts) (hOutLnIdeal : Cert.OutLnIdeal.Facts) (hOutLnReferenceIdeal : Cert.OutLnReferenceIdeal.Facts) (hFirstSampleMlp : Cert.FirstSampleMlp.Facts) (hFirstSampleMlpIdeal : Cert.FirstSampleMlpIdeal.Facts) (hFirstSampleMlpReferenceIdeal : Cert.FirstSampleMlpReferenceIdeal.Facts) (hSampleProj : Cert.SampleProj.Facts) (hSampleProjIdeal : Cert.SampleProjIdeal.Facts) (hSampleProjReferenceIdeal : Cert.SampleProjReferenceIdeal.Facts) (hPre_gates_tame : Cert.Pre_gates_tame.Facts) (hPre_gate_inputs_finite : Cert.Pre_gate_inputs_finite.Facts) (hPre_sample_gate_inputs_finite : Cert.Pre_sample_gate_inputs_finite.Facts),
    quiescent_Kernel (hKernel := hKernel)
    ∧ quiescent_KernelIdeal (hKernelIdeal := hKernelIdeal)
    ∧ quiescent_KernelIdeal_pre_gates_tame (hKernelIdeal := hKernelIdeal) (hPre_gates_tame := hPre_gates_tame)
    ∧ quiescent_ReferenceIdeal (hReferenceIdeal := hReferenceIdeal)
    ∧ quiescent_ReferenceIdeal_pre_gates_tame (hReferenceIdeal := hReferenceIdeal) (hPre_gates_tame := hPre_gates_tame)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_FirstMlp (hFirstMlp := hFirstMlp)
    ∧ quiescent_FirstMlpIdeal (hFirstMlpIdeal := hFirstMlpIdeal)
    ∧ quiescent_FirstMlpReferenceIdeal (hFirstMlpReferenceIdeal := hFirstMlpReferenceIdeal)
    ∧ quiescent_SampleQkv (hSampleQkv := hSampleQkv)
    ∧ quiescent_SampleQkvIdeal (hSampleQkvIdeal := hSampleQkvIdeal)
    ∧ quiescent_SampleQkvReferenceIdeal (hSampleQkvReferenceIdeal := hSampleQkvReferenceIdeal)
    ∧ quiescent_SampleMlp (hSampleMlp := hSampleMlp)
    ∧ quiescent_SampleMlpIdeal (hSampleMlpIdeal := hSampleMlpIdeal)
    ∧ quiescent_SampleMlpReferenceIdeal (hSampleMlpReferenceIdeal := hSampleMlpReferenceIdeal)
    ∧ quiescent_Proj (hProj := hProj)
    ∧ quiescent_ProjIdeal (hProjIdeal := hProjIdeal)
    ∧ quiescent_ProjIdeal_pre_gate_inputs_finite (hProjIdeal := hProjIdeal) (hPre_gate_inputs_finite := hPre_gate_inputs_finite)
    ∧ quiescent_ProjReferenceIdeal (hProjReferenceIdeal := hProjReferenceIdeal)
    ∧ quiescent_ProjReferenceIdeal_pre_gate_inputs_finite (hProjReferenceIdeal := hProjReferenceIdeal) (hPre_gate_inputs_finite := hPre_gate_inputs_finite)
    ∧ quiescent_OutLn (hOutLn := hOutLn)
    ∧ quiescent_OutLnIdeal (hOutLnIdeal := hOutLnIdeal)
    ∧ quiescent_OutLnReferenceIdeal (hOutLnReferenceIdeal := hOutLnReferenceIdeal)
    ∧ quiescent_FirstSampleMlp (hFirstSampleMlp := hFirstSampleMlp)
    ∧ quiescent_FirstSampleMlpIdeal (hFirstSampleMlpIdeal := hFirstSampleMlpIdeal)
    ∧ quiescent_FirstSampleMlpReferenceIdeal (hFirstSampleMlpReferenceIdeal := hFirstSampleMlpReferenceIdeal)
    ∧ quiescent_SampleProj (hSampleProj := hSampleProj)
    ∧ quiescent_SampleProjIdeal (hSampleProjIdeal := hSampleProjIdeal)
    ∧ quiescent_SampleProjIdeal_pre_sample_gate_inputs_finite (hSampleProjIdeal := hSampleProjIdeal) (hPre_sample_gate_inputs_finite := hPre_sample_gate_inputs_finite)
    ∧ quiescent_SampleProjReferenceIdeal (hSampleProjReferenceIdeal := hSampleProjReferenceIdeal)
    ∧ quiescent_SampleProjReferenceIdeal_pre_sample_gate_inputs_finite (hSampleProjReferenceIdeal := hSampleProjReferenceIdeal) (hPre_sample_gate_inputs_finite := hPre_sample_gate_inputs_finite)
    ∧ preserves_Kernel_KernelIdeal
    ∧ algebraic_KernelIdeal_ReferenceIdeal_pre_gates_tame (hKernelIdeal := hKernelIdeal) (hReferenceIdeal := hReferenceIdeal) (hPre_gates_tame := hPre_gates_tame)
    ∧ preserves_Mlp_MlpIdeal
    ∧ algebraic_MlpIdeal_MlpReferenceIdeal (hMlpIdeal := hMlpIdeal) (hMlpReferenceIdeal := hMlpReferenceIdeal)
    ∧ preserves_Qkv_QkvIdeal
    ∧ algebraic_QkvIdeal_QkvReferenceIdeal (hQkvIdeal := hQkvIdeal) (hQkvReferenceIdeal := hQkvReferenceIdeal)
    ∧ preserves_FirstMlp_FirstMlpIdeal
    ∧ algebraic_FirstMlpIdeal_FirstMlpReferenceIdeal (hFirstMlpIdeal := hFirstMlpIdeal) (hFirstMlpReferenceIdeal := hFirstMlpReferenceIdeal)
    ∧ preserves_SampleQkv_SampleQkvIdeal
    ∧ algebraic_SampleQkvIdeal_SampleQkvReferenceIdeal (hSampleQkvIdeal := hSampleQkvIdeal) (hSampleQkvReferenceIdeal := hSampleQkvReferenceIdeal)
    ∧ preserves_SampleMlp_SampleMlpIdeal
    ∧ algebraic_SampleMlpIdeal_SampleMlpReferenceIdeal (hSampleMlpIdeal := hSampleMlpIdeal) (hSampleMlpReferenceIdeal := hSampleMlpReferenceIdeal)
    ∧ preserves_Proj_ProjIdeal
    ∧ algebraic_ProjIdeal_ProjReferenceIdeal_pre_gate_inputs_finite (hProjIdeal := hProjIdeal) (hProjReferenceIdeal := hProjReferenceIdeal) (hPre_gate_inputs_finite := hPre_gate_inputs_finite)
    ∧ preserves_OutLn_OutLnIdeal
    ∧ algebraic_OutLnIdeal_OutLnReferenceIdeal (hOutLnIdeal := hOutLnIdeal) (hOutLnReferenceIdeal := hOutLnReferenceIdeal)
    ∧ preserves_FirstSampleMlp_FirstSampleMlpIdeal
    ∧ algebraic_FirstSampleMlpIdeal_FirstSampleMlpReferenceIdeal (hFirstSampleMlpIdeal := hFirstSampleMlpIdeal) (hFirstSampleMlpReferenceIdeal := hFirstSampleMlpReferenceIdeal)
    ∧ preserves_SampleProj_SampleProjIdeal
    ∧ algebraic_SampleProjIdeal_SampleProjReferenceIdeal_pre_sample_gate_inputs_finite (hSampleProjIdeal := hSampleProjIdeal) (hSampleProjReferenceIdeal := hSampleProjReferenceIdeal) (hPre_sample_gate_inputs_finite := hPre_sample_gate_inputs_finite)
-- ==== Pre_gate_inputs_finite.lean ====
abbrev S8x2048x1024 : Shape := ⟨3, ![8, 2048, 1024]⟩
abbrev S1x1024x3088 : Shape := ⟨3, ![1, 1024, 3088]⟩
abbrev S1x16 : Shape := ⟨2, ![1, 16]⟩
abbrev S_ : Shape := ⟨0, ![]⟩
abbrev S8x2048x1024x1 : Shape := ⟨4, ![8, 2048, 1024, 1]⟩
abbrev S1x1024x16 : Shape := ⟨3, ![1, 1024, 16]⟩
abbrev S1024x16 : Shape := ⟨2, ![1024, 16]⟩
abbrev S1x1x1024x16 : Shape := ⟨4, ![1, 1, 1024, 16]⟩
abbrev S8x2048x1024x16 : Shape := ⟨4, ![8, 2048, 1024, 16]⟩

class Facts : Prop where
  bcast_S_S8x2048x1024 : S_.BroadcastsInDim S8x2048x1024 (![] : Fin 0 → Fin S8x2048x1024.rank)
  bcast_S8x2048x1024_S8x2048x1024x1_0_1_2 : S8x2048x1024.BroadcastsInDim S8x2048x1024x1 (![0, 1, 2] : Fin 3 → Fin S8x2048x1024x1.rank)
  slices_S1x1024x3088_S1x1024x16_0_0_3072 : S1x1024x3088.Slices ![0, 0, 3072] S1x1024x16
  shapeCasts_S1x1024x16_S1024x16 : S1x1024x16.ShapeCasts S1024x16
  bcast_S_S1024x16 : S_.BroadcastsInDim S1024x16 (![] : Fin 0 → Fin S1024x16.rank)
  bcast_S1024x16_S1x1x1024x16_2_3 : S1024x16.BroadcastsInDim S1x1x1024x16 (![2, 3] : Fin 2 → Fin S1x1x1024x16.rank)
  bcast_S8x2048x1024x1_S8x2048x1024x16_0_1_2_3 : S8x2048x1024x1.BroadcastsInDim S8x2048x1024x16 (![0, 1, 2, 3] : Fin 4 → Fin S8x2048x1024x16.rank)
  bcast_S1x1x1024x16_S8x2048x1024x16_0_1_2_3 : S1x1x1024x16.BroadcastsInDim S8x2048x1024x16 (![0, 1, 2, 3] : Fin 4 → Fin S8x2048x1024x16.rank)

variable [Facts]

def fn {F : FTy → Type} [FloatOps F] (main_arg0 : FVec F S8x2048x1024 .f32) (main_arg1 : FVec F S1x1024x3088 .f32) (main_arg2 : FVec F S1x16 .f32) : IVec S8x2048x1024x16 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : IVec S8x2048x1024x1 1 := broadcastInDim S8x2048x1024x1 ![0, 1, 2] bcast_S8x2048x1024_S8x2048x1024x1_0_1_2 main_v2
  let main_v4 : FVec F S1x1024x16 .f32 := (extractStridedSlice S1x1024x16 ![0, 0, 3072] · slices_S1x1024x3088_S1x1024x16_0_0_3072) main_arg1
  let main_v5 : FVec F S1024x16 .f32 := shapeCast S1024x16 main_v4 shapeCasts_S1x1024x16_S1024x16
  let main_v6 : FVec F S1024x16 .f32 := Host.absf main_v5
  let main_cst_0 : FVec F S_ .f32 := constant S_ .f32 0x7F800000#32
  let main_v7 : FVec F S1024x16 .f32 := broadcastInDim S1024x16 ![] bcast_S_S1024x16 main_cst_0
  let main_v8 : IVec S1024x16 1 := cmpf .olt main_v6 main_v7
  let main_v9 : IVec S1x1x1024x16 1 := broadcastInDim S1x1x1024x16 ![2, 3] bcast_S1024x16_S1x1x1024x16_2_3 main_v8
  let main_v10 : IVec S8x2048x1024x16 1 := broadcastInDim S8x2048x1024x16 ![0, 1, 2, 3] bcast_S8x2048x1024x1_S8x2048x1024x16_0_1_2_3 main_v3
  let main_v11 : IVec S8x2048x1024x16 1 := broadcastInDim S8x2048x1024x16 ![0, 1, 2, 3] bcast_S1x1x1024x16_S8x2048x1024x16_0_1_2_3 main_v9
  let main_v12 : IVec S8x2048x1024x16 1 := andi main_v10 main_v11
  main_v12
-- ==== Pre_gates_tame.lean ====
abbrev S32x8x8x64 : Shape := ⟨4, ![32, 8, 8, 64]⟩
abbrev S32x8x8x128 : Shape := ⟨4, ![32, 8, 8, 128]⟩
abbrev S32x8x1024 : Shape := ⟨3, ![32, 8, 1024]⟩
abbrev S32x8x8 : Shape := ⟨3, ![32, 8, 8]⟩
abbrev S1x32x8x64x128 : Shape := ⟨5, ![1, 32, 8, 64, 128]⟩
abbrev S1x32x8x64 : Shape := ⟨4, ![1, 32, 8, 64]⟩
abbrev S1x32x8 : Shape := ⟨3, ![1, 32, 8]⟩
abbrev S1x1024x1024 : Shape := ⟨3, ![1, 1024, 1024]⟩
abbrev S2x2x1024 : Shape := ⟨3, ![2, 2, 1024]⟩
abbrev S_ : Shape := ⟨0, ![]⟩
abbrev S32x8 : Shape := ⟨2, ![32, 8]⟩
abbrev S32x1x8 : Shape := ⟨3, ![32, 1, 8]⟩

class Facts : Prop where
  bcast_S_S32x8x8 : S_.BroadcastsInDim S32x8x8 (![] : Fin 0 → Fin S32x8x8.rank)
  shapeCasts_S1x32x8_S32x8 : S1x32x8.ShapeCasts S32x8
  bcast_S32x8_S32x1x8_0_2 : S32x8.BroadcastsInDim S32x1x8 (![0, 2] : Fin 2 → Fin S32x1x8.rank)
  bcast_S_S32x1x8 : S_.BroadcastsInDim S32x1x8 (![] : Fin 0 → Fin S32x1x8.rank)
  bcast_S32x1x8_S32x8x8_0_1_2 : S32x1x8.BroadcastsInDim S32x8x8 (![0, 1, 2] : Fin 3 → Fin S32x8x8.rank)

variable [Facts]

def fn {F : FTy → Type} [FloatOps F] (main_arg0 : FVec F S32x8x8x64 .f32) (main_arg1 : FVec F S32x8x8x64 .f32) (main_arg2 : FVec F S32x8x8x128 .f32) (main_arg3 : FVec F S32x8x1024 .f32) (main_arg4 : FVec F S32x8x8 .f32) (main_arg5 : FVec F S32x8x8 .f32) (main_arg6 : FVec F S32x8x1024 .f32) (main_arg7 : FVec F S1x32x8x64x128 .f32) (main_arg8 : FVec F S1x32x8x64 .f32) (main_arg9 : FVec F S1x32x8 .f32) (main_arg10 : FVec F S1x1024x1024 .f32) (main_arg11 : FVec F S2x2x1024 .f32) (main_arg12 : FVec F S2x2x1024 .f32) : IVec S32x8x8 1 :=
  let main_v0 : FVec F S32x8x8 .f32 := Host.absf main_arg5
  let main_cst : FVec F S_ .f32 := constant S_ .f32 0x7F800000#32
  let main_v1 : FVec F S32x8x8 .f32 := broadcastInDim S32x8x8 ![] bcast_S_S32x8x8 main_cst
  let main_v2 : IVec S32x8x8 1 := cmpf .olt main_v0 main_v1
  let main_cst_0 : FVec F S_ .f32 := constant S_ .f32 0x7F800000#32
  let main_v3 : FVec F S32x8x8 .f32 := broadcastInDim S32x8x8 ![] bcast_S_S32x8x8 main_cst_0
  let main_v4 : IVec S32x8x8 1 := cmpf .olt main_arg4 main_v3
  let main_v5 : IVec S32x8x8 1 := andi main_v2 main_v4
  let main_v6 : FVec F S32x8 .f32 := shapeCast S32x8 main_arg9 shapeCasts_S1x32x8_S32x8
  let main_v7 : FVec F S32x1x8 .f32 := broadcastInDim S32x1x8 ![0, 2] bcast_S32x8_S32x1x8_0_2 main_v6
  let main_cst_1 : FVec F S_ .f32 := constant S_ .f32 0x7F800000#32
  let main_v8 : FVec F S32x1x8 .f32 := broadcastInDim S32x1x8 ![] bcast_S_S32x1x8 main_cst_1
  let main_v9 : IVec S32x1x8 1 := cmpf .olt main_v7 main_v8
  let main_v10 : IVec S32x8x8 1 := broadcastInDim S32x8x8 ![0, 1, 2] bcast_S32x1x8_S32x8x8_0_1_2 main_v9
  let main_v11 : IVec S32x8x8 1 := andi main_v5 main_v10
  main_v11
-- ==== Pre_sample_gate_inputs_finite.lean ====
abbrev S32x8x1024 : Shape := ⟨3, ![32, 8, 1024]⟩
abbrev S1x1024x3088 : Shape := ⟨3, ![1, 1024, 3088]⟩
abbrev S1x16 : Shape := ⟨2, ![1, 16]⟩
abbrev S_ : Shape := ⟨0, ![]⟩
abbrev S32x8x1024x1 : Shape := ⟨4, ![32, 8, 1024, 1]⟩
abbrev S1x1024x16 : Shape := ⟨3, ![1, 1024, 16]⟩
abbrev S1024x16 : Shape := ⟨2, ![1024, 16]⟩
abbrev S1x1x1024x16 : Shape := ⟨4, ![1, 1, 1024, 16]⟩
abbrev S32x8x1024x16 : Shape := ⟨4, ![32, 8, 1024, 16]⟩

class Facts : Prop where
  bcast_S_S32x8x1024 : S_.BroadcastsInDim S32x8x1024 (![] : Fin 0 → Fin S32x8x1024.rank)
  bcast_S32x8x1024_S32x8x1024x1_0_1_2 : S32x8x1024.BroadcastsInDim S32x8x1024x1 (![0, 1, 2] : Fin 3 → Fin S32x8x1024x1.rank)
  slices_S1x1024x3088_S1x1024x16_0_0_3072 : S1x1024x3088.Slices ![0, 0, 3072] S1x1024x16
  shapeCasts_S1x1024x16_S1024x16 : S1x1024x16.ShapeCasts S1024x16
  bcast_S_S1024x16 : S_.BroadcastsInDim S1024x16 (![] : Fin 0 → Fin S1024x16.rank)
  bcast_S1024x16_S1x1x1024x16_2_3 : S1024x16.BroadcastsInDim S1x1x1024x16 (![2, 3] : Fin 2 → Fin S1x1x1024x16.rank)
  bcast_S32x8x1024x1_S32x8x1024x16_0_1_2_3 : S32x8x1024x1.BroadcastsInDim S32x8x1024x16 (![0, 1, 2, 3] : Fin 4 → Fin S32x8x1024x16.rank)
  bcast_S1x1x1024x16_S32x8x1024x16_0_1_2_3 : S1x1x1024x16.BroadcastsInDim S32x8x1024x16 (![0, 1, 2, 3] : Fin 4 → Fin S32x8x1024x16.rank)

variable [Facts]

def fn {F : FTy → Type} [FloatOps F] (main_arg0 : FVec F S32x8x1024 .f32) (main_arg1 : FVec F S1x1024x3088 .f32) (main_arg2 : FVec F S1x16 .f32) : IVec S32x8x1024x16 1 :=
  let main_v0 : FVec F S32x8x1024 .f32 := Host.absf main_arg0
  let main_cst : FVec F S_ .f32 := constant S_ .f32 0x7F800000#32
  let main_v1 : FVec F S32x8x1024 .f32 := broadcastInDim S32x8x1024 ![] bcast_S_S32x8x1024 main_cst
  let main_v2 : IVec S32x8x1024 1 := cmpf .olt main_v0 main_v1
  let main_v3 : IVec S32x8x1024x1 1 := broadcastInDim S32x8x1024x1 ![0, 1, 2] bcast_S32x8x1024_S32x8x1024x1_0_1_2 main_v2
  let main_v4 : FVec F S1x1024x16 .f32 := (extractStridedSlice S1x1024x16 ![0, 0, 3072] · slices_S1x1024x3088_S1x1024x16_0_0_3072) main_arg1
  let main_v5 : FVec F S1024x16 .f32 := shapeCast S1024x16 main_v4 shapeCasts_S1x1024x16_S1024x16
  let main_v6 : FVec F S1024x16 .f32 := Host.absf main_v5
  let main_cst_0 : FVec F S_ .f32 := constant S_ .f32 0x7F800000#32
  let main_v7 : FVec F S1024x16 .f32 := broadcastInDim S1024x16 ![] bcast_S_S1024x16 main_cst_0
  let main_v8 : IVec S1024x16 1 := cmpf .olt main_v6 main_v7
  let main_v9 : IVec S1x1x1024x16 1 := broadcastInDim S1x1x1024x16 ![2, 3] bcast_S1024x16_S1x1x1024x16_2_3 main_v8
  let main_v10 : IVec S32x8x1024x16 1 := broadcastInDim S32x8x1024x16 ![0, 1, 2, 3] bcast_S32x8x1024x1_S32x8x1024x16_0_1_2_3 main_v3
  let main_v11 : IVec S32x8x1024x16 1 := broadcastInDim S32x8x1024x16 ![0, 1, 2, 3] bcast_S1x1x1024x16_S32x8x1024x16_0_1_2_3 main_v9
  let main_v12 : IVec S32x8x1024x16 1 := andi main_v10 main_v11
  main_v12
-- ==== Kernel.lean ====
abbrev S32x8x8x64 : Shape := ⟨4, ![32, 8, 8, 64]⟩
abbrev S32x8x8x128 : Shape := ⟨4, ![32, 8, 8, 128]⟩
abbrev S32x8x1024 : Shape := ⟨3, ![32, 8, 1024]⟩
abbrev S32x8x8 : Shape := ⟨3, ![32, 8, 8]⟩
abbrev S1x32x8x64x128 : Shape := ⟨5, ![1, 32, 8, 64, 128]⟩
abbrev S1x32x8x64 : Shape := ⟨4, ![1, 32, 8, 64]⟩
abbrev S1x32x8 : Shape := ⟨3, ![1, 32, 8]⟩
abbrev S1x1024x1024 : Shape := ⟨3, ![1, 1024, 1024]⟩
abbrev S2x2x1024 : Shape := ⟨3, ![2, 2, 1024]⟩
abbrev S1024x1024 : Shape := ⟨2, ![1024, 1024]⟩
abbrev S2x2x1x1024 : Shape := ⟨4, ![2, 2, 1, 1024]⟩
abbrev S256x1024 : Shape := ⟨2, ![256, 1024]⟩
abbrev S256x512 : Shape := ⟨2, ![256, 512]⟩
abbrev S256x1536 : Shape := ⟨2, ![256, 1536]⟩
abbrev S512x256 : Shape := ⟨2, ![512, 256]⟩
abbrev S256x8 : Shape := ⟨2, ![256, 8]⟩
abbrev S_ : Shape := ⟨0, ![]⟩
abbrev S256x128 : Shape := ⟨2, ![256, 128]⟩
abbrev S128 : Shape := ⟨1, ![128]⟩
abbrev S1x1x128 : Shape := ⟨3, ![1, 1, 128]⟩
abbrev S32x8x128 : Shape := ⟨3, ![32, 8, 128]⟩
abbrev S32x128x128 : Shape := ⟨3, ![32, 128, 128]⟩
abbrev S32x16x128 : Shape := ⟨3, ![32, 16, 128]⟩
abbrev S32x8 : Shape := ⟨2, ![32, 8]⟩
abbrev S32x128 : Shape := ⟨2, ![32, 128]⟩
abbrev S32x1x128 : Shape := ⟨3, ![32, 1, 128]⟩
abbrev S512x32x8 : Shape := ⟨3, ![512, 32, 8]⟩
abbrev S512x32x128 : Shape := ⟨3, ![512, 32, 128]⟩
abbrev S512x4096 : Shape := ⟨2, ![512, 4096]⟩
abbrev S4096x128 : Shape := ⟨2, ![4096, 128]⟩
abbrev S32x8x64x128 : Shape := ⟨4, ![32, 8, 64, 128]⟩
abbrev S32x8x64 : Shape := ⟨3, ![32, 8, 64]⟩
abbrev S1x1x1x1024 : Shape := ⟨4, ![1, 1, 1, 1024]⟩
abbrev S1x1024 : Shape := ⟨2, ![1, 1024]⟩
abbrev S8x1536 : Shape := ⟨2, ![8, 1536]⟩
abbrev S512x128 : Shape := ⟨2, ![512, 128]⟩
abbrev S8x1024 : Shape := ⟨2, ![8, 1024]⟩
abbrev S128x128 : Shape := ⟨2, ![128, 128]⟩
abbrev S1x16x128 : Shape := ⟨3, ![1, 16, 128]⟩
abbrev S1x8x64x128 : Shape := ⟨4, ![1, 8, 64, 128]⟩
abbrev S1x8x64 : Shape := ⟨3, ![1, 8, 64]⟩
abbrev S8x64x256 : Shape := ⟨3, ![8, 64, 256]⟩
abbrev S1x128 : Shape := ⟨2, ![1, 128]⟩
abbrev S128x1024 : Shape := ⟨2, ![128, 1024]⟩
abbrev S64x64 : Shape := ⟨2, ![64, 64]⟩
abbrev S1x1x64x128 : Shape := ⟨4, ![1, 1, 64, 128]⟩
abbrev S64x128 : Shape := ⟨2, ![64, 128]⟩
abbrev S1x64x128 : Shape := ⟨3, ![1, 64, 128]⟩
abbrev S1x1x64 : Shape := ⟨3, ![1, 1, 64]⟩
abbrev S1x64 : Shape := ⟨2, ![1, 64]⟩
abbrev S64 : Shape := ⟨1, ![64]⟩
abbrev S64x1 : Shape := ⟨2, ![64, 1]⟩
abbrev S16x128 : Shape := ⟨2, ![16, 128]⟩
abbrev S8x128 : Shape := ⟨2, ![8, 128]⟩
abbrev S128x1 : Shape := ⟨2, ![128, 1]⟩
abbrev S8x64 : Shape := ⟨2, ![8, 64]⟩
abbrev S120x64 : Shape := ⟨2, ![120, 64]⟩
abbrev S128x64 : Shape := ⟨2, ![128, 64]⟩
abbrev S120x128 : Shape := ⟨2, ![120, 128]⟩
abbrev S128x256 : Shape := ⟨2, ![128, 256]⟩
abbrev S1x64x256 : Shape := ⟨3, ![1, 64, 256]⟩
abbrev S64x256 : Shape := ⟨2, ![64, 256]⟩
abbrev S1x1 : Shape := ⟨2, ![1, 1]⟩
abbrev S16x1024 : Shape := ⟨2, ![16, 1024]⟩
abbrev S8 : Shape := ⟨1, ![8]⟩
abbrev S8x1 : Shape := ⟨2, ![8, 1]⟩
abbrev S1x64x1 : Shape := ⟨3, ![1, 64, 1]⟩

abbrev nBuf : Space → Nat
  | .hbm => 80
  | .vmem => 34
  | .smem => 0
  | _ => 0

abbrev bufTy : (tb : Table) → Fin (tcTables nBuf tb) → BufTy
  | .hbm, ⟨0, _⟩ => ⟨S32x8x8x64, .f32⟩
  | .hbm, ⟨1, _⟩ => ⟨S32x8x8x64, .f32⟩
  | .hbm, ⟨2, _⟩ => ⟨S32x8x8x128, .f32⟩
  | .hbm, ⟨3, _⟩ => ⟨S32x8x1024, .f32⟩
  | .hbm, ⟨4, _⟩ => ⟨S32x8x8, .f32⟩
  | .hbm, ⟨5, _⟩ => ⟨S32x8x8, .f32⟩
  | .hbm, ⟨6, _⟩ => ⟨S32x8x1024, .f32⟩
  | .hbm, ⟨7, _⟩ => ⟨S1x32x8x64x128, .f32⟩
  | .hbm, ⟨8, _⟩ => ⟨S1x32x8x64, .f32⟩
  | .hbm, ⟨9, _⟩ => ⟨S1x32x8, .f32⟩
  | .hbm, ⟨10, _⟩ => ⟨S1x1024x1024, .f32⟩
  | .hbm, ⟨11, _⟩ => ⟨S2x2x1024, .f32⟩
  | .hbm, ⟨12, _⟩ => ⟨S2x2x1024, .f32⟩
  | .hbm, ⟨13, _⟩ => ⟨S1024x1024, .f32⟩
  | .hbm, ⟨14, _⟩ => ⟨S1024x1024, .bf16⟩
  | .hbm, ⟨15, _⟩ => ⟨S2x2x1x1024, .f32⟩
  | .hbm, ⟨16, _⟩ => ⟨S2x2x1x1024, .f32⟩
  | .hbm, ⟨17, _⟩ => ⟨S256x1024, .f32⟩
  | .hbm, ⟨18, _⟩ => ⟨S256x512, .f32⟩
  | .hbm, ⟨19, _⟩ => ⟨S256x1024, .f32⟩
  | .hbm, ⟨20, _⟩ => ⟨S256x1536, .f32⟩
  | .hbm, ⟨21, _⟩ => ⟨S256x1536, .bf16⟩
  | .hbm, ⟨22, _⟩ => ⟨S256x512, .f32⟩
  | .hbm, ⟨23, _⟩ => ⟨S512x256, .f32⟩
  | .hbm, ⟨24, _⟩ => ⟨S512x256, .bf16⟩
  | .hbm, ⟨25, _⟩ => ⟨S256x1024, .f32⟩
  | .hbm, ⟨26, _⟩ => ⟨S256x8, .f32⟩
  | .hbm, ⟨27, _⟩ => ⟨S_, .i32⟩
  | .hbm, ⟨28, _⟩ => ⟨S_, .f32⟩
  | .hbm, ⟨29, _⟩ => ⟨S256x128, .f32⟩
  | .hbm, ⟨30, _⟩ => ⟨S256x8, .f32⟩
  | .hbm, ⟨31, _⟩ => ⟨S_, .i32⟩
  | .hbm, ⟨32, _⟩ => ⟨S_, .f32⟩
  | .hbm, ⟨33, _⟩ => ⟨S256x128, .f32⟩
  | .hbm, ⟨34, _⟩ => ⟨S128, .i32⟩
  | .hbm, ⟨35, _⟩ => ⟨S1x1x128, .i32⟩
  | .hbm, ⟨36, _⟩ => ⟨S_, .i32⟩
  | .hbm, ⟨37, _⟩ => ⟨S1x1x128, .i32⟩
  | .hbm, ⟨38, _⟩ => ⟨S1x1x128, .i1⟩
  | .hbm, ⟨39, _⟩ => ⟨S32x8x128, .f32⟩
  | .hbm, ⟨40, _⟩ => ⟨S_, .f32⟩
  | .hbm, ⟨41, _⟩ => ⟨S_, .f32⟩
  | .hbm, ⟨42, _⟩ => ⟨S32x128x128, .f32⟩
  | .hbm, ⟨43, _⟩ => ⟨S_, .f32⟩
  | .hbm, ⟨44, _⟩ => ⟨S_, .f32⟩
  | .hbm, ⟨45, _⟩ => ⟨S32x128x128, .i1⟩
  | .hbm, ⟨46, _⟩ => ⟨S32x128x128, .f32⟩
  | .hbm, ⟨47, _⟩ => ⟨S32x128x128, .f32⟩
  | .hbm, ⟨48, _⟩ => ⟨S32x8x128, .f32⟩
  | .hbm, ⟨49, _⟩ => ⟨S_, .f32⟩
  | .hbm, ⟨50, _⟩ => ⟨S_, .f32⟩
  | .hbm, ⟨51, _⟩ => ⟨S32x128x128, .f32⟩
  | .hbm, ⟨52, _⟩ => ⟨S32x128x128, .f32⟩
  | .hbm, ⟨53, _⟩ => ⟨S32x8x128, .f32⟩
  | .hbm, ⟨54, _⟩ => ⟨S32x128x128, .f32⟩
  | .hbm, ⟨55, _⟩ => ⟨S32x8x128, .f32⟩
  | .hbm, ⟨56, _⟩ => ⟨S32x16x128, .f32⟩
  | .hbm, ⟨57, _⟩ => ⟨S32x8, .f32⟩
  | .hbm, ⟨58, _⟩ => ⟨S_, .i32⟩
  | .hbm, ⟨59, _⟩ => ⟨S_, .f32⟩
  | .hbm, ⟨60, _⟩ => ⟨S32x128, .f32⟩
  | .hbm, ⟨61, _⟩ => ⟨S32x1x128, .f32⟩
  | .hbm, ⟨62, _⟩ => ⟨S512x32x8, .bf16⟩
  | .hbm, ⟨63, _⟩ => ⟨S_, .i32⟩
  | .hbm, ⟨64, _⟩ => ⟨S_, .bf16⟩
  | .hbm, ⟨65, _⟩ => ⟨S512x32x128, .bf16⟩
  | .hbm, ⟨66, _⟩ => ⟨S512x4096, .bf16⟩
  | .hbm, ⟨67, _⟩ => ⟨S256x1536, .f32⟩
  | .hbm, ⟨68, _⟩ => ⟨S4096x128, .f32⟩
  | .hbm, ⟨69, _⟩ => ⟨S4096x128, .f32⟩
  | .hbm, ⟨70, _⟩ => ⟨S32x8x64x128, .f32⟩
  | .hbm, ⟨71, _⟩ => ⟨S32x8x64, .f32⟩
  | .hbm, ⟨72, _⟩ => ⟨S1x1x1x1024, .f32⟩
  | .hbm, ⟨73, _⟩ => ⟨S1x1024, .f32⟩
  | .hbm, ⟨74, _⟩ => ⟨S1x1x1x1024, .f32⟩
  | .hbm, ⟨75, _⟩ => ⟨S1x1024, .f32⟩
  | .hbm, ⟨76, _⟩ => ⟨S256x1024, .f32⟩
  | .hbm, ⟨77, _⟩ => ⟨S32x8x64x128, .f32⟩
  | .hbm, ⟨78, _⟩ => ⟨S32x8x64, .f32⟩
  | .hbm, ⟨79, _⟩ => ⟨S32x1x128, .f32⟩
  | .local _ .vmem, ⟨0, _⟩ => ⟨S8x1536, .f32⟩
  | .local _ .vmem, ⟨1, _⟩ => ⟨S8x1536, .f32⟩
  | .local _ .vmem, ⟨2, _⟩ => ⟨S512x128, .bf16⟩
  | .local _ .vmem, ⟨3, _⟩ => ⟨S512x128, .bf16⟩
  | .local _ .vmem, ⟨4, _⟩ => ⟨S8x1024, .f32⟩
  | .local _ .vmem, ⟨5, _⟩ => ⟨S8x1024, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x16x128, .f32⟩
  | .local _ .vmem, ⟨11, _⟩ => ⟨S1x16x128, .f32⟩
  | .local _ .vmem, ⟨12, _⟩ => ⟨S8x1024, .f32⟩
  | .local _ .vmem, ⟨13, _⟩ => ⟨S8x1024, .f32⟩
  | .local _ .vmem, ⟨14, _⟩ => ⟨S1x8x64x128, .f32⟩
  | .local _ .vmem, ⟨15, _⟩ => ⟨S1x8x64x128, .f32⟩
  | .local _ .vmem, ⟨16, _⟩ => ⟨S1x8x64, .f32⟩
  | .local _ .vmem, ⟨17, _⟩ => ⟨S1x8x64, .f32⟩
  | .local _ .vmem, ⟨18, _⟩ => ⟨S1x1x128, .f32⟩
  | .local _ .vmem, ⟨19, _⟩ => ⟨S1x1x128, .f32⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S8x1024, .f32⟩
  | .local _ .vmem, ⟨24, _⟩ => ⟨S8x1024, .f32⟩
  | .local _ .vmem, ⟨25, _⟩ => ⟨S1x8x64x128, .f32⟩
  | .local _ .vmem, ⟨26, _⟩ => ⟨S1x8x64x128, .f32⟩
  | .local _ .vmem, ⟨27, _⟩ => ⟨S1x8x64, .f32⟩
  | .local _ .vmem, ⟨28, _⟩ => ⟨S1x8x64, .f32⟩
  | .local _ .vmem, ⟨29, _⟩ => ⟨S1x1x128, .f32⟩
  | .local _ .vmem, ⟨30, _⟩ => ⟨S1x1x128, .f32⟩
  | .local _ .vmem, ⟨31, _⟩ => ⟨S8x64x256, .f32⟩
  | .local _ .vmem, ⟨32, _⟩ => ⟨S1x128, .f32⟩
  | .local _ .vmem, ⟨33, _⟩ => ⟨S128x1024, .bf16⟩
  | _, _ => ⟨S32x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_c_0 : Ref sig .tc := ⟨.hbm, 31, rfl⟩
abbrev main_call1_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_call2_v0 : Ref sig .tc := ⟨.hbm, 41, rfl⟩
abbrev main_v22 : Ref sig .tc := ⟨.hbm, 42, rfl⟩
abbrev main_cst_2 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_call4_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_4 : Ref sig .tc := ⟨.hbm, 58, rfl⟩
abbrev main_call5_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_5 : Ref sig .tc := ⟨.hbm, 63, rfl⟩
abbrev main_call6_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46_0 : Ref sig .tc := ⟨.hbm, 76, rfl⟩
abbrev main_v46_1 : Ref sig .tc := ⟨.hbm, 77, rfl⟩
abbrev main_v46_2 : Ref sig .tc := ⟨.hbm, 78, rfl⟩
abbrev main_v46_3 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_283 : BitVec 32 := 0#32
  let v793 : BitVec 1 := Scalar.cmpi .eq arg1 c0_i32_283
  let v794 : BitVec 32 := Scalar.extui v793
  let c0_i32_284 : BitVec 32 := 0#32
  let v795 : BitVec 1 := Scalar.cmpi .ne v794 c0_i32_284
  v795

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S32x8x8x64 : Shape := ⟨4, ![32, 8, 8, 64]⟩
abbrev S32x8x8x128 : Shape := ⟨4, ![32, 8, 8, 128]⟩
abbrev S32x8x1024 : Shape := ⟨3, ![32, 8, 1024]⟩
abbrev S32x8x8 : Shape := ⟨3, ![32, 8, 8]⟩
abbrev S1x32x8x64x128 : Shape := ⟨5, ![1, 32, 8, 64, 128]⟩
abbrev S1x32x8x64 : Shape := ⟨4, ![1, 32, 8, 64]⟩
abbrev S1x32x8 : Shape := ⟨3, ![1, 32, 8]⟩
abbrev S1x1024x1024 : Shape := ⟨3, ![1, 1024, 1024]⟩
abbrev S2x2x1024 : Shape := ⟨3, ![2, 2, 1024]⟩
abbrev S32x8x64x128 : Shape := ⟨4, ![32, 8, 64, 128]⟩
abbrev S32x8x64 : Shape := ⟨3, ![32, 8, 64]⟩
abbrev S32x8 : Shape := ⟨2, ![32, 8]⟩
abbrev S_ : Shape := ⟨0, ![]⟩
abbrev S8x8 : Shape := ⟨2, ![8, 8]⟩
abbrev S32x8x8x1 : Shape := ⟨4, ![32, 8, 8, 1]⟩
abbrev S32x8x1x8 : Shape := ⟨4, ![32, 8, 1, 8]⟩
abbrev S32x8x8x8 : Shape := ⟨4, ![32, 8, 8, 8]⟩
abbrev S32x8x1 : Shape := ⟨3, ![32, 8, 1]⟩
abbrev S32x8x1x1 : Shape := ⟨4, ![32, 8, 1, 1]⟩
abbrev S1024x1024 : Shape := ⟨2, ![1024, 1024]⟩
abbrev S1x1x1024 : Shape := ⟨3, ![1, 1, 1024]⟩
abbrev S1024 : Shape := ⟨1, ![1024]⟩
abbrev S256x1024 : Shape := ⟨2, ![256, 1024]⟩
abbrev S32x128 : Shape := ⟨2, ![32, 128]⟩
abbrev S32x1x128 : Shape := ⟨3, ![32, 1, 128]⟩

abbrev nBuf : Space → Nat
  | .hbm => 164
  | .vmem => 0
  | .smem => 0
  | _ => 0

abbrev hbmTy0_0 (i : Nat) : BufTy := match i % 128 with
  | 0 => ⟨S32x8x8x64, .f32⟩
  | 1 => ⟨S32x8x8x64, .f32⟩
  | 2 => ⟨S32x8x8x128, .f32⟩
  | 3 => ⟨S32x8x1024, .f32⟩
  | 4 => ⟨S32x8x8, .f32⟩
  | 5 => ⟨S32x8x8, .f32⟩
  | 6 => ⟨S32x8x1024, .f32⟩
  | 7 => ⟨S1x32x8x64x128, .f32⟩
  | 8 => ⟨S1x32x8x64, .f32⟩
  | 9 => ⟨S1x32x8, .f32⟩
  | 10 => ⟨S1x1024x1024, .f32⟩
  | 11 => ⟨S2x2x1024, .f32⟩
  | 12 => ⟨S2x2x1024, .f32⟩
  | 13 => ⟨S32x8x64x128, .f32⟩
  | 14 => ⟨S32x8x64, .f32⟩
  | 15 => ⟨S32x8, .f32⟩
  | 16 => ⟨S32x8x8x64, .f32⟩
  | 17 => ⟨S32x8x8x64, .f32⟩
  | 18 => ⟨S32x8x8x128, .f32⟩
  | 19 => ⟨S32x8x8, .f32⟩
  | 20 => ⟨S32x8x8, .f32⟩
  | 21 => ⟨S_, .i1⟩
  | 22 => ⟨S8x8, .i1⟩
  | 23 => ⟨S8x8, .i32⟩
  | 24 => ⟨S_, .i32⟩
  | 25 => ⟨S8x8, .i32⟩
  | 26 => ⟨S8x8, .i32⟩
  | 27 => ⟨S8x8, .i32⟩
  | 28 => ⟨S8x8, .i1⟩
  | 29 => ⟨S_, .i1⟩
  | 30 => ⟨S8x8, .i1⟩
  | 31 => ⟨S8x8, .i1⟩
  | 32 => ⟨S_, .f32⟩
  | 33 => ⟨S_, .f32⟩
  | 34 => ⟨S32x8x8, .f32⟩
  | 35 => ⟨S32x8x8x1, .f32⟩
  | 36 => ⟨S32x8x1x8, .f32⟩
  | 37 => ⟨S32x8x8x8, .f32⟩
  | 38 => ⟨S32x8x8x8, .f32⟩
  | 39 => ⟨S32x8x8x8, .f32⟩
  | 40 => ⟨S32x8x1x8, .f32⟩
  | 41 => ⟨S32x8x8x8, .f32⟩
  | 42 => ⟨S32x8x8x8, .f32⟩
  | 43 => ⟨S_, .f32⟩
  | 44 => ⟨S_, .f32⟩
  | 45 => ⟨S32x8x8x8, .i1⟩
  | 46 => ⟨S32x8x8x8, .f32⟩
  | 47 => ⟨S32x8x8x8, .f32⟩
  | 48 => ⟨S32x8x1, .f32⟩
  | 49 => ⟨S32x8x8, .f32⟩
  | 50 => ⟨S32x8x8, .f32⟩
  | 51 => ⟨S_, .f32⟩
  | 52 => ⟨S32x8x8, .f32⟩
  | 53 => ⟨S32x8x8, .f32⟩
  | 54 => ⟨S32x8x8x1, .f32⟩
  | 55 => ⟨S32x8x8x8, .f32⟩
  | 56 => ⟨S32x8x8x8, .f32⟩
  | 57 => ⟨S32x8x8x8, .f32⟩
  | 58 => ⟨S32x8x8, .f32⟩
  | 59 => ⟨S32x8x8, .f32⟩
  | 60 => ⟨S32x8x8x8, .f32⟩
  | 61 => ⟨S32x8x8x8, .f32⟩
  | 62 => ⟨S32x8x8x128, .f32⟩
  | 63 => ⟨S32x8x8x1, .f32⟩
  | 64 => ⟨S32x8x8x128, .f32⟩
  | 65 => ⟨S32x8x8x128, .f32⟩
  | 66 => ⟨S32x8x8x128, .f32⟩
  | 67 => ⟨S32x8x8x128, .f32⟩
  | 68 => ⟨S_, .f32⟩
  | 69 => ⟨S32x8x8, .f32⟩
  | 70 => ⟨S32x8x8, .f32⟩
  | 71 => ⟨S32x8x8, .f32⟩
  | 72 => ⟨S32x8x8, .f32⟩
  | 73 => ⟨S32x8x8, .f32⟩
  | 74 => ⟨S32x8x8, .f32⟩
  | 75 => ⟨S32x8x8, .f32⟩
  | 76 => ⟨S32x8x8, .f32⟩
  | 77 => ⟨S32x8x8x1, .f32⟩
  | 78 => ⟨S32x8x8x128, .f32⟩
  | 79 => ⟨S32x8x8x128, .f32⟩
  | 80 => ⟨S32x8x1, .f32⟩
  | 81 => ⟨S32x8x8, .f32⟩
  | 82 => ⟨S32x8x8, .f32⟩
  | 83 => ⟨S32x8x8, .f32⟩
  | 84 => ⟨S32x8x1, .f32⟩
  | 85 => ⟨S32x8, .f32⟩
  | 86 => ⟨S32x8, .f32⟩
  | 87 => ⟨S_, .f32⟩
  | 88 => ⟨S32x8, .f32⟩
  | 89 => ⟨S32x8, .f32⟩
  | 90 => ⟨S32x8x1, .f32⟩
  | 91 => ⟨S32x8x8, .f32⟩
  | 92 => ⟨S32x8x8, .f32⟩
  | 93 => ⟨S32x8x8, .f32⟩
  | 94 => ⟨S32x8, .f32⟩
  | 95 => ⟨S32x8, .f32⟩
  | 96 => ⟨S32x8x1x1, .f32⟩
  | 97 => ⟨S32x8x64x128, .f32⟩
  | 98 => ⟨S32x8x64x128, .f32⟩
  | 99 => ⟨S32x8x8x1, .f32⟩
  | 100 => ⟨S32x8x8x64, .f32⟩
  | 101 => ⟨S32x8x8x64, .f32⟩
  | 102 => ⟨S32x8x64x128, .f32⟩
  | 103 => ⟨S32x8x64x128, .f32⟩
  | 104 => ⟨S32x8x1, .f32⟩
  | 105 => ⟨S32x8x64, .f32⟩
  | 106 => ⟨S32x8x64, .f32⟩
  | 107 => ⟨S32x8x64, .f32⟩
  | 108 => ⟨S32x8x64, .f32⟩
  | 109 => ⟨S32x8x1024, .f32⟩
  | 110 => ⟨S32x8x1024, .f32⟩
  | 111 => ⟨S_, .f32⟩
  | 112 => ⟨S32x8x1024, .f32⟩
  | 113 => ⟨S32x8x1024, .f32⟩
  | 114 => ⟨S_, .f32⟩
  | 115 => ⟨S32x8x1024, .f32⟩
  | 116 => ⟨S32x8x1024, .f32⟩
  | 117 => ⟨S32x8x8x128, .f32⟩
  | 118 => ⟨S32x8x1024, .f32⟩
  | 119 => ⟨S32x8x1024, .f32⟩
  | 120 => ⟨S_, .f32⟩
  | 121 => ⟨S32x8x1024, .f32⟩
  | 122 => ⟨S32x8x1024, .f32⟩
  | 123 => ⟨S1024x1024, .f32⟩
  | 124 => ⟨S32x8x1024, .f32⟩
  | 125 => ⟨S32x8x1024, .f32⟩
  | 126 => ⟨S1x1x1024, .f32⟩
  | 127 => ⟨S1024, .f32⟩
  | _ => ⟨S32x8x8x64, .f32⟩

abbrev hbmTy0_1 (i : Nat) : BufTy := match i % 128 with
  | 0 => ⟨S1x1x1024, .f32⟩
  | 1 => ⟨S1024, .f32⟩
  | 2 => ⟨S_, .f32⟩
  | 3 => ⟨S32x8, .f32⟩
  | 4 => ⟨S32x8x1, .f32⟩
  | 5 => ⟨S_, .f32⟩
  | 6 => ⟨S32x8x1, .f32⟩
  | 7 => ⟨S32x8x1, .f32⟩
  | 8 => ⟨S32x8x1024, .f32⟩
  | 9 => ⟨S32x8x1024, .f32⟩
  | 10 => ⟨S32x8x1024, .f32⟩
  | 11 => ⟨S_, .f32⟩
  | 12 => ⟨S32x8, .f32⟩
  | 13 => ⟨S32x8x1, .f32⟩
  | 14 => ⟨S_, .f32⟩
  | 15 => ⟨S32x8x1, .f32⟩
  | 16 => ⟨S32x8x1, .f32⟩
  | 17 => ⟨S32x8x1024, .f32⟩
  | 18 => ⟨S32x8x1024, .f32⟩
  | 19 => ⟨S_, .f32⟩
  | 20 => ⟨S32x8x1, .f32⟩
  | 21 => ⟨S32x8x1, .f32⟩
  | 22 => ⟨S32x8x1, .f32⟩
  | 23 => ⟨S32x8x1024, .f32⟩
  | 24 => ⟨S32x8x1024, .f32⟩
  | 25 => ⟨S1x1x1024, .f32⟩
  | 26 => ⟨S32x8x1024, .f32⟩
  | 27 => ⟨S32x8x1024, .f32⟩
  | 28 => ⟨S1x1x1024, .f32⟩
  | 29 => ⟨S32x8x1024, .f32⟩
  | 30 => ⟨S32x8x1024, .f32⟩
  | 31 => ⟨S256x1024, .f32⟩
  | 32 => ⟨S_, .i32⟩
  | 33 => ⟨S_, .f32⟩
  | 34 => ⟨S32x128, .f32⟩
  | 35 => ⟨S32x1x128, .f32⟩
  | _ => ⟨S32x8x8x64, .f32⟩

abbrev hbmTy (i : Nat) : BufTy := match i / 128 with
  | 0 => hbmTy0_0 i
  | 1 => hbmTy0_1 i
  | _ => ⟨S32x8x8x64, .f32⟩

abbrev bufTy : (tb : Table) → Fin (tcTables nBuf tb) → BufTy
  | .hbm, ⟨i, _⟩ => hbmTy i
  | _, _ => ⟨S32x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v9 : Ref sig .tc := ⟨.hbm, 31, rfl⟩
abbrev main_call1_call0_cst : Ref sig .tc := ⟨.hbm, 32, rfl⟩
abbrev main_call1_call0_v0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_3 : Ref sig .tc := ⟨.hbm, 111, rfl⟩
abbrev main_v80 : Ref sig .tc := ⟨.hbm, 112, rfl⟩
abbrev main_v81 : Ref sig .tc := ⟨.hbm, 113, rfl⟩
abbrev main_cst_4 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_5 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_6 : Ref sig .tc := ⟨.hbm, 130, rfl⟩
abbrev main_v96 : Ref sig .tc := ⟨.hbm, 131, rfl⟩
abbrev main_v97 : Ref sig .tc := ⟨.hbm, 132, rfl⟩
abbrev main_cst_7 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_8 : Ref sig .tc := ⟨.hbm, 139, rfl⟩
abbrev main_v103 : Ref sig .tc := ⟨.hbm, 140, rfl⟩
abbrev main_v104 : Ref sig .tc := ⟨.hbm, 141, rfl⟩
abbrev main_cst_9 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_10 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_11 : Ref sig .tc := ⟨.hbm, 160, rfl⟩
abbrev main_call3_v0 : Ref sig .tc := ⟨.hbm, 161, rfl⟩
abbrev main_v121 : Ref sig .tc := ⟨.hbm, 162, rfl⟩
abbrev main_v122 : Ref sig .tc := ⟨.hbm, 163, rfl⟩

abbrev nD : Nat := 1
abbrev τ : Topo := Topo.v7x

variable {F : FTy → Type} [FloatOps F]
-- ==== Mlp.lean ====
abbrev S8x2048x1024 : Shape := ⟨3, ![8, 2048, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S2x2x1x1024 : Shape := ⟨4, ![2, 2, 1, 1024]⟩
abbrev S16384x1024 : Shape := ⟨2, ![16384, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1x1x1024 : Shape := ⟨4, ![1, 1, 1, 1024]⟩
abbrev S1x1024 : Shape := ⟨2, ![1, 1024]⟩
abbrev S1024x1024 : Shape := ⟨2, ![1024, 1024]⟩
abbrev S1024x2048 : Shape := ⟨2, ![1024, 2048]⟩
abbrev S2048x1024 : Shape := ⟨2, ![2048, 1024]⟩
abbrev S1024 : Shape := ⟨1, ![1024]⟩
abbrev S1024x1 : Shape := ⟨2, ![1024, 1]⟩

abbrev nBuf : Space → Nat
  | .hbm => 19
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S2x1024x4096, .f32⟩
  | .hbm, ⟨2, _⟩ => ⟨S2x4096x1024, .f32⟩
  | .hbm, ⟨3, _⟩ => ⟨S2x2x1024, .f32⟩
  | .hbm, ⟨4, _⟩ => ⟨S2x2x1024, .f32⟩
  | .hbm, ⟨5, _⟩ => ⟨S2x1024x4096, .bf16⟩
  | .hbm, ⟨6, _⟩ => ⟨S2x4096x1024, .bf16⟩
  | .hbm, ⟨7, _⟩ => ⟨S2x2x1x1024, .f32⟩
  | .hbm, ⟨8, _⟩ => ⟨S2x2x1x1024, .f32⟩
  | .hbm, ⟨9, _⟩ => ⟨S16384x1024, .f32⟩
  | .hbm, ⟨10, _⟩ => ⟨S1x1024x4096, .bf16⟩
  | .hbm, ⟨11, _⟩ => ⟨S1024x4096, .bf16⟩
  | .hbm, ⟨12, _⟩ => ⟨S1x4096x1024, .bf16⟩
  | .hbm, ⟨13, _⟩ => ⟨S4096x1024, .bf16⟩
  | .hbm, ⟨14, _⟩ => ⟨S1x1x1x1024, .f32⟩
  | .hbm, ⟨15, _⟩ => ⟨S1x1024, .f32⟩
  | .hbm, ⟨16, _⟩ => ⟨S1x1x1x1024, .f32⟩
  | .hbm, ⟨17, _⟩ => ⟨S1x1024, .f32⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S8x2048x1024 : Shape := ⟨3, ![8, 2048, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S_ : Shape := ⟨0, ![]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024x4096, .f32⟩
  | .hbm, ⟨2, _⟩ => ⟨S2x4096x1024, .f32⟩
  | .hbm, ⟨3, _⟩ => ⟨S2x2x1024, .f32⟩
  | .hbm, ⟨4, _⟩ => ⟨S2x2x1024, .f32⟩
  | .hbm, ⟨5, _⟩ => ⟨S_, .f32⟩
  | .hbm, ⟨6, _⟩ => ⟨S8x2048x1024, .f32⟩
  | .hbm, ⟨7, _⟩ => ⟨S8x2048x1024, .f32⟩
  | .hbm, ⟨8, _⟩ => ⟨S1x1024x4096, .f32⟩
  | .hbm, ⟨9, _⟩ => ⟨S1024x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S1x4096x1024, .f32⟩
  | .hbm, ⟨16, _⟩ => ⟨S4096x1024, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Qkv.lean ====
abbrev S8x2048x1024 : Shape := ⟨3, ![8, 2048, 1024]⟩
abbrev S1x1024x1024 : Shape := ⟨3, ![1, 1024, 1024]⟩
abbrev S1024x2048 : Shape := ⟨2, ![1024, 2048]⟩
abbrev S1024x1024 : Shape := ⟨2, ![1024, 1024]⟩
abbrev S16384x1024 : Shape := ⟨2, ![16384, 1024]⟩
abbrev S8x64x128x256 : Shape := ⟨4, ![8, 64, 128, 256]⟩
abbrev S64x1x1024 : Shape := ⟨3, ![64, 1, 1024]⟩
abbrev S512x1024 : Shape := ⟨2, ![512, 1024]⟩
abbrev S8x2x128x256 : Shape := ⟨4, ![8, 2, 128, 256]⟩
abbrev S2x1x1024 : Shape := ⟨3, ![2, 1, 1024]⟩
abbrev S1024x512 : Shape := ⟨2, ![1024, 512]⟩
abbrev S512x512 : Shape := ⟨2, ![512, 512]⟩
abbrev S256x128 : Shape := ⟨2, ![256, 128]⟩
abbrev S128x256 : Shape := ⟨2, ![128, 256]⟩
abbrev S1x1x128x256 : Shape := ⟨4, ![1, 1, 128, 256]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 13
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1x1024x1024, .f32⟩
  | .hbm, ⟨2, _⟩ => ⟨S1024x2048, .f32⟩
  | .hbm, ⟨3, _⟩ => ⟨S1024x1024, .f32⟩
  | .hbm, ⟨4, _⟩ => ⟨S1024x1024, .bf16⟩
  | .hbm, ⟨5, _⟩ => ⟨S1024x2048, .bf16⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S8x64x128x256, .bf16⟩
  | .hbm, ⟨11, _⟩ => ⟨S16384x1024, .bf16⟩
  | .hbm, ⟨12, _⟩ => ⟨S64x1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x2x128x256, .bf16⟩
  | .local _ .vmem, ⟨11, _⟩ => ⟨S8x2x128x256, .bf16⟩
  | .local _ .vmem, ⟨12, _⟩ => ⟨S512x1024, .bf16⟩
  | .local _ .vmem, ⟨13, _⟩ => ⟨S512x1024, .bf16⟩
  | .local _ .vmem, ⟨14, _⟩ => ⟨S2x1x1024, .f32⟩
  | .local _ .vmem, ⟨15, _⟩ => ⟨S2x1x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvReferenceIdeal.lean ====
abbrev S8x2048x1024 : Shape := ⟨3, ![8, 2048, 1024]⟩
abbrev S1x1024x1024 : Shape := ⟨3, ![1, 1024, 1024]⟩
abbrev S1024x2048 : Shape := ⟨2, ![1024, 2048]⟩
abbrev S8x2048x2048 : Shape := ⟨3, ![8, 2048, 2048]⟩
abbrev S8x2048x8x128 : Shape := ⟨4, ![8, 2048, 8, 128]⟩
abbrev S1024x1024 : Shape := ⟨2, ![1024, 1024]⟩
abbrev S8x8x256x8x128 : Shape := ⟨5, ![8, 8, 256, 8, 128]⟩
abbrev S_ : Shape := ⟨0, ![]⟩
abbrev S8x8x8x128 : Shape := ⟨4, ![8, 8, 8, 128]⟩
abbrev S8x8x8x128x256 : Shape := ⟨5, ![8, 8, 8, 128, 256]⟩
abbrev S8x64x128x256 : Shape := ⟨4, ![8, 64, 128, 256]⟩
abbrev S16384x1024 : Shape := ⟨2, ![16384, 1024]⟩
abbrev S64x1x1024 : Shape := ⟨3, ![64, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x1024, .f32⟩
  | .hbm, ⟨2, _⟩ => ⟨S1024x2048, .f32⟩
  | .hbm, ⟨3, _⟩ => ⟨S8x2048x2048, .f32⟩
  | .hbm, ⟨4, _⟩ => ⟨S8x2048x1024, .f32⟩
  | .hbm, ⟨5, _⟩ => ⟨S8x2048x8x128, .f32⟩
  | .hbm, ⟨6, _⟩ => ⟨S8x2048x1024, .f32⟩
  | .hbm, ⟨7, _⟩ => ⟨S8x2048x8x128, .f32⟩
  | .hbm, ⟨8, _⟩ => ⟨S1024x1024, .f32⟩
  | .hbm, ⟨9, _⟩ => ⟨S8x2048x1024, .f32⟩
  | .hbm, ⟨10, _⟩ => ⟨S8x2048x8x128, .f32⟩
  | .hbm, ⟨11, _⟩ => ⟨S8x8x256x8x128, .f32⟩
  | .hbm, ⟨12, _⟩ => ⟨S_, .f32⟩
  | .hbm, ⟨13, _⟩ => ⟨S8x8x8x128, .f32⟩
  | .hbm, ⟨14, _⟩ => ⟨S_, .f32⟩
  | .hbm, ⟨15, _⟩ => ⟨S8x8x8x128, .f32⟩
  | .hbm, ⟨16, _⟩ => ⟨S8x8x8x128, .f32⟩
  | .hbm, ⟨17, _⟩ => ⟨S8x8x8x128x256, .f32⟩
  | .hbm, ⟨18, _⟩ => ⟨S8x64x128x256, .f32⟩
  | .hbm, ⟨19, _⟩ => ⟨S16384x1024, .f32⟩
  | .hbm, ⟨20, _⟩ => ⟨S16384x1024, .bf16⟩
  | .hbm, ⟨21, _⟩ => ⟨S16384x1024, .f32⟩
  | .hbm, ⟨22, _⟩ => ⟨S16384x1024, .f32⟩
  | .hbm, ⟨23, _⟩ => ⟨S8x64x128x256, .bf16⟩
  | .hbm, ⟨24, _⟩ => ⟨S16384x1024, .f32⟩
  | .hbm, ⟨25, _⟩ => ⟨S16384x1024, .bf16⟩
  | .hbm, ⟨26, _⟩ => ⟨S64x1x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== FirstMlp.lean ====
abbrev S8x2048x1024 : Shape := ⟨3, ![8, 2048, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S2x2x1x1024 : Shape := ⟨4, ![2, 2, 1, 1024]⟩
abbrev S16384x1024 : Shape := ⟨2, ![16384, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1x1x1024 : Shape := ⟨4, ![1, 1, 1, 1024]⟩
abbrev S1x1024 : Shape := ⟨2, ![1, 1024]⟩
abbrev S1024x1024 : Shape := ⟨2, ![1024, 1024]⟩
abbrev S1024x2048 : Shape := ⟨2, ![1024, 2048]⟩
abbrev S2048x1024 : Shape := ⟨2, ![2048, 1024]⟩
abbrev S1024 : Shape := ⟨1, ![1024]⟩
abbrev S1024x1 : Shape := ⟨2, ![1024, 1]⟩

abbrev nBuf : Space → Nat
  | .hbm => 19
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S2x1024x4096, .f32⟩
  | .hbm, ⟨2, _⟩ => ⟨S2x4096x1024, .f32⟩
  | .hbm, ⟨3, _⟩ => ⟨S2x2x1024, .f32⟩
  | .hbm, ⟨4, _⟩ => ⟨S2x2x1024, .f32⟩
  | .hbm, ⟨5, _⟩ => ⟨S2x1024x4096, .bf16⟩
  | .hbm, ⟨6, _⟩ => ⟨S2x4096x1024, .bf16⟩
  | .hbm, ⟨7, _⟩ => ⟨S2x2x1x1024, .f32⟩
  | .hbm, ⟨8, _⟩ => ⟨S2x2x1x1024, .f32⟩
  | .hbm, ⟨9, _⟩ => ⟨S16384x1024, .f32⟩
  | .hbm, ⟨10, _⟩ => ⟨S1x1024x4096, .bf16⟩
  | .hbm, ⟨11, _⟩ => ⟨S1024x4096, .bf16⟩
  | .hbm, ⟨12, _⟩ => ⟨S1x4096x1024, .bf16⟩
  | .hbm, ⟨13, _⟩ => ⟨S4096x1024, .bf16⟩
  | .hbm, ⟨14, _⟩ => ⟨S1x1x1x1024, .f32⟩
  | .hbm, ⟨15, _⟩ => ⟨S1x1024, .f32⟩
  | .hbm, ⟨16, _⟩ => ⟨S1x1x1x1024, .f32⟩
  | .hbm, ⟨17, _⟩ => ⟨S1x1024, .f32⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FirstMlpReferenceIdeal.lean ====
abbrev S8x2048x1024 : Shape := ⟨3, ![8, 2048, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S_ : Shape := ⟨0, ![]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024x4096, .f32⟩
  | .hbm, ⟨2, _⟩ => ⟨S2x4096x1024, .f32⟩
  | .hbm, ⟨3, _⟩ => ⟨S2x2x1024, .f32⟩
  | .hbm, ⟨4, _⟩ => ⟨S2x2x1024, .f32⟩
  | .hbm, ⟨5, _⟩ => ⟨S_, .f32⟩
  | .hbm, ⟨6, _⟩ => ⟨S8x2048x1024, .f32⟩
  | .hbm, ⟨7, _⟩ => ⟨S8x2048x1024, .f32⟩
  | .hbm, ⟨8, _⟩ => ⟨S1x1024x4096, .f32⟩
  | .hbm, ⟨9, _⟩ => ⟨S1024x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S1x4096x1024, .f32⟩
  | .hbm, ⟨16, _⟩ => ⟨S4096x1024, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== SampleQkv.lean ====
abbrev S32x8x1024 : Shape := ⟨3, ![32, 8, 1024]⟩
abbrev S1x1024x1024 : Shape := ⟨3, ![1, 1024, 1024]⟩
abbrev S1024x2048 : Shape := ⟨2, ![1024, 2048]⟩
abbrev S1024x1024 : Shape := ⟨2, ![1024, 1024]⟩
abbrev S256x1024 : Shape := ⟨2, ![256, 1024]⟩
abbrev S8x1x128x256 : Shape := ⟨4, ![8, 1, 128, 256]⟩
abbrev S1x1x1024 : Shape := ⟨3, ![1, 1, 1024]⟩
abbrev S1024x512 : Shape := ⟨2, ![1024, 512]⟩
abbrev S256x512 : Shape := ⟨2, ![256, 512]⟩
abbrev S256x128 : Shape := ⟨2, ![256, 128]⟩
abbrev S128x256 : Shape := ⟨2, ![128, 256]⟩
abbrev S1x1x128x256 : Shape := ⟨4, ![1, 1, 128, 256]⟩
abbrev S512 : Shape := ⟨1, ![512]⟩
abbrev S1x512 : Shape := ⟨2, ![1, 512]⟩
abbrev S1x1x512 : Shape := ⟨3, ![1, 1, 512]⟩

abbrev nBuf : Space → Nat
  | .hbm => 13
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S1x1024x1024, .f32⟩
  | .hbm, ⟨2, _⟩ => ⟨S1024x2048, .f32⟩
  | .hbm, ⟨3, _⟩ => ⟨S1024x1024, .f32⟩
  | .hbm, ⟨4, _⟩ => ⟨S1024x1024, .bf16⟩
  | .hbm, ⟨5, _⟩ => ⟨S1024x2048, .bf16⟩
  | .hbm, ⟨6, _⟩ => ⟨S256x1024, .f32⟩
  | .hbm, ⟨7, _⟩ => ⟨S256x1024, .bf16⟩
  | .hbm, ⟨8, _⟩ => ⟨S256x1024, .f32⟩
  | .hbm, ⟨9, _⟩ => ⟨S256x1024, .f32⟩
  | .hbm, ⟨10, _⟩ => ⟨S8x1x128x256, .bf16⟩
  | .hbm, ⟨11, _⟩ => ⟨S256x1024, .bf16⟩
  | .hbm, ⟨12, _⟩ => ⟨S1x1x1024, .f32⟩
  | .local _ .vmem, ⟨0, _⟩ => ⟨S256x1024, .f32⟩
  | .local _ .vmem, ⟨1, _⟩ => ⟨S1024x1024, .bf16⟩
  | .local _ .vmem, ⟨2, _⟩ => ⟨S1024x2048, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S8x1x128x256, .bf16⟩
  | .local _ .vmem, ⟨7, _⟩ => ⟨S256x1024, .bf16⟩
  | .local _ .vmem, ⟨8, _⟩ => ⟨S1x1x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SampleQkvReferenceIdeal.lean ====
abbrev S32x8x1024 : Shape := ⟨3, ![32, 8, 1024]⟩
abbrev S1x1024x1024 : Shape := ⟨3, ![1, 1024, 1024]⟩
abbrev S1024x2048 : Shape := ⟨2, ![1024, 2048]⟩
abbrev S32x8x2048 : Shape := ⟨3, ![32, 8, 2048]⟩
abbrev S1024x1024 : Shape := ⟨2, ![1024, 1024]⟩
abbrev S256x1024 : Shape := ⟨2, ![256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024x1024, .f32⟩
  | .hbm, ⟨2, _⟩ => ⟨S1024x2048, .f32⟩
  | .hbm, ⟨3, _⟩ => ⟨S32x8x2048, .f32⟩
  | .hbm, ⟨4, _⟩ => ⟨S1024x1024, .f32⟩
  | .hbm, ⟨5, _⟩ => ⟨S32x8x1024, .f32⟩
  | .hbm, ⟨6, _⟩ => ⟨S256x1024, .f32⟩
  | .hbm, ⟨7, _⟩ => ⟨S256x1024, .bf16⟩
  | .hbm, ⟨8, _⟩ => ⟨S32x8x1024, .f32⟩
  | .hbm, ⟨9, _⟩ => ⟨S256x1024, .f32⟩
  | .hbm, ⟨10, _⟩ => ⟨S32x8x1024, .f32⟩
  | .hbm, ⟨11, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SampleMlp.lean ====
abbrev S32x8x1024 : Shape := ⟨3, ![32, 8, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S2x2x1x1024 : Shape := ⟨4, ![2, 2, 1, 1024]⟩
abbrev S256x1024 : Shape := ⟨2, ![256, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1x1x1024 : Shape := ⟨4, ![1, 1, 1, 1024]⟩
abbrev S1x1024 : Shape := ⟨2, ![1, 1024]⟩
abbrev S1024x512 : Shape := ⟨2, ![1024, 512]⟩
abbrev S512x1024 : Shape := ⟨2, ![512, 1024]⟩
abbrev S256x512 : Shape := ⟨2, ![256, 512]⟩
abbrev S256 : Shape := ⟨1, ![256]⟩
abbrev S256x1 : Shape := ⟨2, ![256, 1]⟩

abbrev nBuf : Space → Nat
  | .hbm => 19
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S2x1024x4096, .f32⟩
  | .hbm, ⟨2, _⟩ => ⟨S2x4096x1024, .f32⟩
  | .hbm, ⟨3, _⟩ => ⟨S2x2x1024, .f32⟩
  | .hbm, ⟨4, _⟩ => ⟨S2x2x1024, .f32⟩
  | .hbm, ⟨5, _⟩ => ⟨S2x1024x4096, .bf16⟩
  | .hbm, ⟨6, _⟩ => ⟨S2x4096x1024, .bf16⟩
  | .hbm, ⟨7, _⟩ => ⟨S2x2x1x1024, .f32⟩
  | .hbm, ⟨8, _⟩ => ⟨S2x2x1x1024, .f32⟩
  | .hbm, ⟨9, _⟩ => ⟨S256x1024, .f32⟩
  | .hbm, ⟨10, _⟩ => ⟨S1x1024x4096, .bf16⟩
  | .hbm, ⟨11, _⟩ => ⟨S1024x4096, .bf16⟩
  | .hbm, ⟨12, _⟩ => ⟨S1x4096x1024, .bf16⟩
  | .hbm, ⟨13, _⟩ => ⟨S4096x1024, .bf16⟩
  | .hbm, ⟨14, _⟩ => ⟨S1x1x1x1024, .f32⟩
  | .hbm, ⟨15, _⟩ => ⟨S1x1024, .f32⟩
  | .hbm, ⟨16, _⟩ => ⟨S1x1x1x1024, .f32⟩
  | .hbm, ⟨17, _⟩ => ⟨S1x1024, .f32⟩
  | .hbm, ⟨18, _⟩ => ⟨S256x1024, .f32⟩
  | .local _ .vmem, ⟨0, _⟩ => ⟨S256x1024, .f32⟩
  | .local _ .vmem, ⟨1, _⟩ => ⟨S1024x512, .bf16⟩
  | .local _ .vmem, ⟨2, _⟩ => ⟨S1024x512, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== SampleMlpReferenceIdeal.lean ====
abbrev S32x8x1024 : Shape := ⟨3, ![32, 8, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S_ : Shape := ⟨0, ![]⟩
abbrev S1x1024x4096 : Shape := ⟨3, ![1, 1024, 4096]⟩
abbrev S1024x4096 : Shape := ⟨2, ![1024, 4096]⟩
abbrev S32x8x4096 : Shape := ⟨3, ![32, 8, 4096]⟩
abbrev S1x4096x1024 : Shape := ⟨3, ![1, 4096, 1024]⟩
abbrev S4096x1024 : Shape := ⟨2, ![4096, 1024]⟩
abbrev S1x1x1024 : Shape := ⟨3, ![1, 1, 1024]⟩
abbrev S1024 : Shape := ⟨1, ![1024]⟩
abbrev S32x8 : Shape := ⟨2, ![32, 8]⟩
abbrev S32x8x1 : Shape := ⟨3, ![32, 8, 1]⟩
abbrev S256x1024 : Shape := ⟨2, ![256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S2x1024x4096, .f32⟩
  | .hbm, ⟨2, _⟩ => ⟨S2x4096x1024, .f32⟩
  | .hbm, ⟨3, _⟩ => ⟨S2x2x1024, .f32⟩
  | .hbm, ⟨4, _⟩ => ⟨S2x2x1024, .f32⟩
  | .hbm, ⟨5, _⟩ => ⟨S_, .f32⟩
  | .hbm, ⟨6, _⟩ => ⟨S32x8x1024, .f32⟩
  | .hbm, ⟨7, _⟩ => ⟨S32x8x1024, .f32⟩
  | .hbm, ⟨8, _⟩ => ⟨S1x1024x4096, .f32⟩
  | .hbm, ⟨9, _⟩ => ⟨S1024x4096, .f32⟩
  | .hbm, ⟨10, _⟩ => ⟨S32x8x4096, .f32⟩
  | .hbm, ⟨11, _⟩ => ⟨S_, .f32⟩
  | .hbm, ⟨12, _⟩ => ⟨S32x8x4096, .f32⟩
  | .hbm, ⟨13, _⟩ => ⟨S32x8x4096, .f32⟩
  | .hbm, ⟨14, _⟩ => ⟨S32x8x4096, .f32⟩
  | .hbm, ⟨15, _⟩ => ⟨S1x4096x1024, .f32⟩
  | .hbm, ⟨16, _⟩ => ⟨S4096x1024, .f32⟩
  | .hbm, ⟨17, _⟩ => ⟨S32x8x1024, .f32⟩
  | .hbm, ⟨18, _⟩ => ⟨S32x8x1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S1024, .f32⟩
  | .hbm, ⟨23, _⟩ => ⟨S_, .f32⟩
  | .hbm, ⟨24, _⟩ => ⟨S32x8, .f32⟩
  | .hbm, ⟨25, _⟩ => ⟨S32x8x1, .f32⟩
  | .hbm, ⟨26, _⟩ => ⟨S_, .f32⟩
  | .hbm, ⟨27, _⟩ => ⟨S32x8x1, .f32⟩
  | .hbm, ⟨28, _⟩ => ⟨S32x8x1, .f32⟩
  | .hbm, ⟨29, _⟩ => ⟨S32x8x1024, .f32⟩
  | .hbm, ⟨30, _⟩ => ⟨S32x8x1024, .f32⟩
  | .hbm, ⟨31, _⟩ => ⟨S32x8x1024, .f32⟩
  | .hbm, ⟨32, _⟩ => ⟨S_, .f32⟩
  | .hbm, ⟨33, _⟩ => ⟨S32x8, .f32⟩
  | .hbm, ⟨34, _⟩ => ⟨S32x8x1, .f32⟩
  | .hbm, ⟨35, _⟩ => ⟨S_, .f32⟩
  | .hbm, ⟨36, _⟩ => ⟨S32x8x1, .f32⟩
  | .hbm, ⟨37, _⟩ => ⟨S32x8x1, .f32⟩
  | .hbm, ⟨38, _⟩ => ⟨S32x8x1024, .f32⟩
  | .hbm, ⟨39, _⟩ => ⟨S32x8x1024, .f32⟩
  | .hbm, ⟨40, _⟩ => ⟨S_, .f32⟩
  | .hbm, ⟨41, _⟩ => ⟨S32x8x1, .f32⟩
  | .hbm, ⟨42, _⟩ => ⟨S32x8x1, .f32⟩
  | .hbm, ⟨43, _⟩ => ⟨S32x8x1, .f32⟩
  | .hbm, ⟨44, _⟩ => ⟨S32x8x1024, .f32⟩
  | .hbm, ⟨45, _⟩ => ⟨S32x8x1024, .f32⟩
  | .hbm, ⟨46, _⟩ => ⟨S1x1x1024, .f32⟩
  | .hbm, ⟨47, _⟩ => ⟨S32x8x1024, .f32⟩
  | .hbm, ⟨48, _⟩ => ⟨S32x8x1024, .f32⟩
  | .hbm, ⟨49, _⟩ => ⟨S1x1x1024, .f32⟩
  | .hbm, ⟨50, _⟩ => ⟨S32x8x1024, .f32⟩
  | .hbm, ⟨51, _⟩ => ⟨S32x8x1024, .f32⟩
  | .hbm, ⟨52, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proj.lean ====
abbrev S8x2048x1024 : Shape := ⟨3, ![8, 2048, 1024]⟩
abbrev S1x1024x3088 : Shape := ⟨3, ![1, 1024, 3088]⟩
abbrev S1x16 : Shape := ⟨2, ![1, 16]⟩
abbrev S1024x3088 : Shape := ⟨2, ![1024, 3088]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S16384x1024 : Shape := ⟨2, ![16384, 1024]⟩
abbrev S16384x1536 : Shape := ⟨2, ![16384, 1536]⟩
abbrev S512x16384 : Shape := ⟨2, ![512, 16384]⟩
abbrev S16384x128 : Shape := ⟨2, ![16384, 128]⟩
abbrev S128x16x128 : Shape := ⟨3, ![128, 16, 128]⟩
abbrev S1024x1024 : Shape := ⟨2, ![1024, 1024]⟩
abbrev S1024x1536 : Shape := ⟨2, ![1024, 1536]⟩
abbrev S512x1024 : Shape := ⟨2, ![512, 1024]⟩
abbrev S8x16x128 : Shape := ⟨3, ![8, 16, 128]⟩
abbrev S1024x512 : Shape := ⟨2, ![1024, 512]⟩
abbrev S128x1024 : Shape := ⟨2, ![128, 1024]⟩
abbrev S16x128 : Shape := ⟨2, ![16, 128]⟩
abbrev S1x16x128 : Shape := ⟨3, ![1, 16, 128]⟩

abbrev nBuf : Space → Nat
  | .hbm => 22
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S1x1024x3088, .f32⟩
  | .hbm, ⟨2, _⟩ => ⟨S1x16, .f32⟩
  | .hbm, ⟨3, _⟩ => ⟨S1024x3088, .f32⟩
  | .hbm, ⟨4, _⟩ => ⟨S1024x3088, .bf16⟩
  | .hbm, ⟨5, _⟩ => ⟨S1x1024x16, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S16, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S16384x1024, .f32⟩
  | .hbm, ⟨16, _⟩ => ⟨S16384x1536, .bf16⟩
  | .hbm, ⟨17, _⟩ => ⟨S512x16384, .bf16⟩
  | .hbm, ⟨18, _⟩ => ⟨S16384x1024, .f32⟩
  | .hbm, ⟨19, _⟩ => ⟨S16384x128, .f32⟩
  | .hbm, ⟨20, _⟩ => ⟨S16384x128, .f32⟩
  | .hbm, ⟨21, _⟩ => ⟨S128x16x128, .f32⟩
  | .local _ .vmem, ⟨0, _⟩ => ⟨S1024x1024, .f32⟩
  | .local _ .vmem, ⟨1, _⟩ => ⟨S1024x1024, .f32⟩
  | .local _ .vmem, ⟨2, _⟩ => ⟨S1024x3088, .bf16⟩
  | .local _ .vmem, ⟨3, _⟩ => ⟨S1024x128, .f32⟩
  | .local _ .vmem, ⟨4, _⟩ => ⟨S1x128, .f32⟩
  | .local _ .vmem, ⟨5, _⟩ => ⟨S1024x1536, .bf16⟩
  | .local _ .vmem, ⟨6, _⟩ => ⟨S1024x1536, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S8x16x128, .f32⟩
  | .local _ .vmem, ⟨16, _⟩ => ⟨S8x16x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3088 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjReferenceIdeal.lean ====
abbrev S8x2048x1024 : Shape := ⟨3, ![8, 2048, 1024]⟩
abbrev S1x1024x3088 : Shape := ⟨3, ![1, 1024, 3088]⟩
abbrev S1x16 : Shape := ⟨2, ![1, 16]⟩
abbrev S16384x1024 : Shape := ⟨2, ![16384, 1024]⟩
abbrev S1024x3088 : Shape := ⟨2, ![1024, 3088]⟩
abbrev S16384x3088 : Shape := ⟨2, ![16384, 3088]⟩
abbrev S16384x512 : Shape := ⟨2, ![16384, 512]⟩
abbrev S16384x16 : Shape := ⟨2, ![16384, 16]⟩
abbrev S_ : Shape := ⟨0, ![]⟩
abbrev S16 : Shape := ⟨1, ![16]⟩
abbrev S16384x8 : Shape := ⟨2, ![16384, 8]⟩
abbrev S128x128x16 : Shape := ⟨3, ![128, 128, 16]⟩
abbrev S16384x1536 : Shape := ⟨2, ![16384, 1536]⟩
abbrev S512x16384 : Shape := ⟨2, ![512, 16384]⟩
abbrev S16384x128 : Shape := ⟨2, ![16384, 128]⟩
abbrev S128x16x128 : Shape := ⟨3, ![128, 16, 128]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x3088, .f32⟩
  | .hbm, ⟨2, _⟩ => ⟨S1x16, .f32⟩
  | .hbm, ⟨3, _⟩ => ⟨S16384x1024, .f32⟩
  | .hbm, ⟨4, _⟩ => ⟨S1024x3088, .f32⟩
  | .hbm, ⟨5, _⟩ => ⟨S16384x3088, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S16384x1024, .f32⟩
  | .hbm, ⟨10, _⟩ => ⟨S16384x16, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16, .f32⟩
  | .hbm, ⟨15, _⟩ => ⟨S1x16, .f32⟩
  | .hbm, ⟨16, _⟩ => ⟨S16384x16, .f32⟩
  | .hbm, ⟨17, _⟩ => ⟨S16384x16, .f32⟩
  | .hbm, ⟨18, _⟩ => ⟨S16384x8, .f32⟩
  | .hbm, ⟨19, _⟩ => ⟨S16384x8, .f32⟩
  | .hbm, ⟨20, _⟩ => ⟨S16384x8, .f32⟩
  | .hbm, ⟨21, _⟩ => ⟨S_, .f32⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S16384x8, .f32⟩
  | .hbm, ⟨26, _⟩ => ⟨S16384x8, .i1⟩
  | .hbm, ⟨27, _⟩ => ⟨S16384x8, .f32⟩
  | .hbm, ⟨28, _⟩ => ⟨S16384x8, .f32⟩
  | .hbm, ⟨29, _⟩ => ⟨S16384x8, .f32⟩
  | .hbm, ⟨30, _⟩ => ⟨S16384x8, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S16384x8, .f32⟩
  | .hbm, ⟨36, _⟩ => ⟨S16384x16, .f32⟩
  | .hbm, ⟨37, _⟩ => ⟨S128x128x16, .f32⟩
  | .hbm, ⟨38, _⟩ => ⟨S16384x1536, .f32⟩
  | .hbm, ⟨39, _⟩ => ⟨S16384x1536, .bf16⟩
  | .hbm, ⟨40, _⟩ => ⟨S512x16384, .f32⟩
  | .hbm, ⟨41, _⟩ => ⟨S512x16384, .bf16⟩
  | .hbm, ⟨42, _⟩ => ⟨S_, .i32⟩
  | .hbm, ⟨43, _⟩ => ⟨S_, .f32⟩
  | .hbm, ⟨44, _⟩ => ⟨S16384x128, .f32⟩
  | .hbm, ⟨45, _⟩ => ⟨S_, .i32⟩
  | .hbm, ⟨46, _⟩ => ⟨S_, .f32⟩
  | .hbm, ⟨47, _⟩ => ⟨S16384x128, .f32⟩
  | .hbm, ⟨48, _⟩ => ⟨S128x16x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c : Ref sig .tc := ⟨.hbm, 42, rfl⟩
abbrev main_call1_v0 : Ref sig .tc := ⟨.hbm, 43, rfl⟩
abbrev main_v23 : Ref sig .tc := ⟨.hbm, 44, rfl⟩
abbrev main_c_0 : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== OutLn.lean ====
abbrev S256x1024 : Shape := ⟨2, ![256, 1024]⟩
abbrev S32x8x1024 : Shape := ⟨3, ![32, 8, 1024]⟩
abbrev S1x1024x1024 : Shape := ⟨3, ![1, 1024, 1024]⟩
abbrev S2x2x1024 : Shape := ⟨3, ![2, 2, 1024]⟩
abbrev S1024x1024 : Shape := ⟨2, ![1024, 1024]⟩
abbrev S2x2x1x1024 : Shape := ⟨4, ![2, 2, 1, 1024]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 15
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S32x8x1024, .f32⟩
  | .hbm, ⟨2, _⟩ => ⟨S1x1024x1024, .f32⟩
  | .hbm, ⟨3, _⟩ => ⟨S2x2x1024, .f32⟩
  | .hbm, ⟨4, _⟩ => ⟨S2x2x1024, .f32⟩
  | .hbm, ⟨5, _⟩ => ⟨S1024x1024, .f32⟩
  | .hbm, ⟨6, _⟩ => ⟨S1024x1024, .bf16⟩
  | .hbm, ⟨7, _⟩ => ⟨S2x2x1x1024, .f32⟩
  | .hbm, ⟨8, _⟩ => ⟨S2x2x1x1024, .f32⟩
  | .hbm, ⟨9, _⟩ => ⟨S256x1024, .f32⟩
  | .hbm, ⟨10, _⟩ => ⟨S1x1x1x1024, .f32⟩
  | .hbm, ⟨11, _⟩ => ⟨S1x1024, .f32⟩
  | .hbm, ⟨12, _⟩ => ⟨S1x1x1x1024, .f32⟩
  | .hbm, ⟨13, _⟩ => ⟨S1x1024, .f32⟩
  | .hbm, ⟨14, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== OutLnReferenceIdeal.lean ====
abbrev S256x1024 : Shape := ⟨2, ![256, 1024]⟩
abbrev S32x8x1024 : Shape := ⟨3, ![32, 8, 1024]⟩
abbrev S1x1024x1024 : Shape := ⟨3, ![1, 1024, 1024]⟩
abbrev S2x2x1024 : Shape := ⟨3, ![2, 2, 1024]⟩
abbrev S_ : Shape := ⟨0, ![]⟩
abbrev S1024x1024 : Shape := ⟨2, ![1024, 1024]⟩
abbrev S1x1x1024 : Shape := ⟨3, ![1, 1, 1024]⟩
abbrev S1024 : Shape := ⟨1, ![1024]⟩
abbrev S32x8 : Shape := ⟨2, ![32, 8]⟩
abbrev S32x8x1 : Shape := ⟨3, ![32, 8, 1]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S32x8x1024, .f32⟩
  | .hbm, ⟨2, _⟩ => ⟨S1x1024x1024, .f32⟩
  | .hbm, ⟨3, _⟩ => ⟨S2x2x1024, .f32⟩
  | .hbm, ⟨4, _⟩ => ⟨S2x2x1024, .f32⟩
  | .hbm, ⟨5, _⟩ => ⟨S_, .f32⟩
  | .hbm, ⟨6, _⟩ => ⟨S32x8x1024, .f32⟩
  | .hbm, ⟨7, _⟩ => ⟨S32x8x1024, .f32⟩
  | .hbm, ⟨8, _⟩ => ⟨S32x8x1024, .f32⟩
  | .hbm, ⟨9, _⟩ => ⟨S1024x1024, .f32⟩
  | .hbm, ⟨10, _⟩ => ⟨S32x8x1024, .f32⟩
  | .hbm, ⟨11, _⟩ => ⟨S32x8x1024, .f32⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S_, .f32⟩
  | .hbm, ⟨17, _⟩ => ⟨S32x8, .f32⟩
  | .hbm, ⟨18, _⟩ => ⟨S32x8x1, .f32⟩
  | .hbm, ⟨19, _⟩ => ⟨S_, .f32⟩
  | .hbm, ⟨20, _⟩ => ⟨S32x8x1, .f32⟩
  | .hbm, ⟨21, _⟩ => ⟨S32x8x1, .f32⟩
  | .hbm, ⟨22, _⟩ => ⟨S32x8x1024, .f32⟩
  | .hbm, ⟨23, _⟩ => ⟨S32x8x1024, .f32⟩
  | .hbm, ⟨24, _⟩ => ⟨S32x8x1024, .f32⟩
  | .hbm, ⟨25, _⟩ => ⟨S_, .f32⟩
  | .hbm, ⟨26, _⟩ => ⟨S32x8, .f32⟩
  | .hbm, ⟨27, _⟩ => ⟨S32x8x1, .f32⟩
  | .hbm, ⟨28, _⟩ => ⟨S_, .f32⟩
  | .hbm, ⟨29, _⟩ => ⟨S32x8x1, .f32⟩
  | .hbm, ⟨30, _⟩ => ⟨S32x8x1, .f32⟩
  | .hbm, ⟨31, _⟩ => ⟨S32x8x1024, .f32⟩
  | .hbm, ⟨32, _⟩ => ⟨S32x8x1024, .f32⟩
  | .hbm, ⟨33, _⟩ => ⟨S_, .f32⟩
  | .hbm, ⟨34, _⟩ => ⟨S32x8x1, .f32⟩
  | .hbm, ⟨35, _⟩ => ⟨S32x8x1, .f32⟩
  | .hbm, ⟨36, _⟩ => ⟨S32x8x1, .f32⟩
  | .hbm, ⟨37, _⟩ => ⟨S32x8x1024, .f32⟩
  | .hbm, ⟨38, _⟩ => ⟨S32x8x1024, .f32⟩
  | .hbm, ⟨39, _⟩ => ⟨S1x1x1024, .f32⟩
  | .hbm, ⟨40, _⟩ => ⟨S32x8x1024, .f32⟩
  | .hbm, ⟨41, _⟩ => ⟨S32x8x1024, .f32⟩
  | .hbm, ⟨42, _⟩ => ⟨S1x1x1024, .f32⟩
  | .hbm, ⟨43, _⟩ => ⟨S32x8x1024, .f32⟩
  | .hbm, ⟨44, _⟩ => ⟨S32x8x1024, .f32⟩
  | .hbm, ⟨45, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== FirstSampleMlp.lean ====
abbrev S32x8x1024 : Shape := ⟨3, ![32, 8, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S2x2x1x1024 : Shape := ⟨4, ![2, 2, 1, 1024]⟩
abbrev S256x1024 : Shape := ⟨2, ![256, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1x1x1024 : Shape := ⟨4, ![1, 1, 1, 1024]⟩
abbrev S1x1024 : Shape := ⟨2, ![1, 1024]⟩
abbrev S1024x512 : Shape := ⟨2, ![1024, 512]⟩
abbrev S512x1024 : Shape := ⟨2, ![512, 1024]⟩
abbrev S256x512 : Shape := ⟨2, ![256, 512]⟩
abbrev S256 : Shape := ⟨1, ![256]⟩
abbrev S256x1 : Shape := ⟨2, ![256, 1]⟩

abbrev nBuf : Space → Nat
  | .hbm => 19
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S2x1024x4096, .f32⟩
  | .hbm, ⟨2, _⟩ => ⟨S2x4096x1024, .f32⟩
  | .hbm, ⟨3, _⟩ => ⟨S2x2x1024, .f32⟩
  | .hbm, ⟨4, _⟩ => ⟨S2x2x1024, .f32⟩
  | .hbm, ⟨5, _⟩ => ⟨S2x1024x4096, .bf16⟩
  | .hbm, ⟨6, _⟩ => ⟨S2x4096x1024, .bf16⟩
  | .hbm, ⟨7, _⟩ => ⟨S2x2x1x1024, .f32⟩
  | .hbm, ⟨8, _⟩ => ⟨S2x2x1x1024, .f32⟩
  | .hbm, ⟨9, _⟩ => ⟨S256x1024, .f32⟩
  | .hbm, ⟨10, _⟩ => ⟨S1x1024x4096, .bf16⟩
  | .hbm, ⟨11, _⟩ => ⟨S1024x4096, .bf16⟩
  | .hbm, ⟨12, _⟩ => ⟨S1x4096x1024, .bf16⟩
  | .hbm, ⟨13, _⟩ => ⟨S4096x1024, .bf16⟩
  | .hbm, ⟨14, _⟩ => ⟨S1x1x1x1024, .f32⟩
  | .hbm, ⟨15, _⟩ => ⟨S1x1024, .f32⟩
  | .hbm, ⟨16, _⟩ => ⟨S1x1x1x1024, .f32⟩
  | .hbm, ⟨17, _⟩ => ⟨S1x1024, .f32⟩
  | .hbm, ⟨18, _⟩ => ⟨S256x1024, .f32⟩
  | .local _ .vmem, ⟨0, _⟩ => ⟨S256x1024, .f32⟩
  | .local _ .vmem, ⟨1, _⟩ => ⟨S1024x512, .bf16⟩
  | .local _ .vmem, ⟨2, _⟩ => ⟨S1024x512, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FirstSampleMlpReferenceIdeal.lean ====
abbrev S32x8x1024 : Shape := ⟨3, ![32, 8, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S_ : Shape := ⟨0, ![]⟩
abbrev S1x1024x4096 : Shape := ⟨3, ![1, 1024, 4096]⟩
abbrev S1024x4096 : Shape := ⟨2, ![1024, 4096]⟩
abbrev S32x8x4096 : Shape := ⟨3, ![32, 8, 4096]⟩
abbrev S1x4096x1024 : Shape := ⟨3, ![1, 4096, 1024]⟩
abbrev S4096x1024 : Shape := ⟨2, ![4096, 1024]⟩
abbrev S1x1x1024 : Shape := ⟨3, ![1, 1, 1024]⟩
abbrev S1024 : Shape := ⟨1, ![1024]⟩
abbrev S32x8 : Shape := ⟨2, ![32, 8]⟩
abbrev S32x8x1 : Shape := ⟨3, ![32, 8, 1]⟩
abbrev S256x1024 : Shape := ⟨2, ![256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S2x1024x4096, .f32⟩
  | .hbm, ⟨2, _⟩ => ⟨S2x4096x1024, .f32⟩
  | .hbm, ⟨3, _⟩ => ⟨S2x2x1024, .f32⟩
  | .hbm, ⟨4, _⟩ => ⟨S2x2x1024, .f32⟩
  | .hbm, ⟨5, _⟩ => ⟨S_, .f32⟩
  | .hbm, ⟨6, _⟩ => ⟨S32x8x1024, .f32⟩
  | .hbm, ⟨7, _⟩ => ⟨S32x8x1024, .f32⟩
  | .hbm, ⟨8, _⟩ => ⟨S1x1024x4096, .f32⟩
  | .hbm, ⟨9, _⟩ => ⟨S1024x4096, .f32⟩
  | .hbm, ⟨10, _⟩ => ⟨S32x8x4096, .f32⟩
  | .hbm, ⟨11, _⟩ => ⟨S_, .f32⟩
  | .hbm, ⟨12, _⟩ => ⟨S32x8x4096, .f32⟩
  | .hbm, ⟨13, _⟩ => ⟨S32x8x4096, .f32⟩
  | .hbm, ⟨14, _⟩ => ⟨S32x8x4096, .f32⟩
  | .hbm, ⟨15, _⟩ => ⟨S1x4096x1024, .f32⟩
  | .hbm, ⟨16, _⟩ => ⟨S4096x1024, .f32⟩
  | .hbm, ⟨17, _⟩ => ⟨S32x8x1024, .f32⟩
  | .hbm, ⟨18, _⟩ => ⟨S32x8x1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S1024, .f32⟩
  | .hbm, ⟨23, _⟩ => ⟨S_, .f32⟩
  | .hbm, ⟨24, _⟩ => ⟨S32x8, .f32⟩
  | .hbm, ⟨25, _⟩ => ⟨S32x8x1, .f32⟩
  | .hbm, ⟨26, _⟩ => ⟨S_, .f32⟩
  | .hbm, ⟨27, _⟩ => ⟨S32x8x1, .f32⟩
  | .hbm, ⟨28, _⟩ => ⟨S32x8x1, .f32⟩
  | .hbm, ⟨29, _⟩ => ⟨S32x8x1024, .f32⟩
  | .hbm, ⟨30, _⟩ => ⟨S32x8x1024, .f32⟩
  | .hbm, ⟨31, _⟩ => ⟨S32x8x1024, .f32⟩
  | .hbm, ⟨32, _⟩ => ⟨S_, .f32⟩
  | .hbm, ⟨33, _⟩ => ⟨S32x8, .f32⟩
  | .hbm, ⟨34, _⟩ => ⟨S32x8x1, .f32⟩
  | .hbm, ⟨35, _⟩ => ⟨S_, .f32⟩
  | .hbm, ⟨36, _⟩ => ⟨S32x8x1, .f32⟩
  | .hbm, ⟨37, _⟩ => ⟨S32x8x1, .f32⟩
  | .hbm, ⟨38, _⟩ => ⟨S32x8x1024, .f32⟩
  | .hbm, ⟨39, _⟩ => ⟨S32x8x1024, .f32⟩
  | .hbm, ⟨40, _⟩ => ⟨S_, .f32⟩
  | .hbm, ⟨41, _⟩ => ⟨S32x8x1, .f32⟩
  | .hbm, ⟨42, _⟩ => ⟨S32x8x1, .f32⟩
  | .hbm, ⟨43, _⟩ => ⟨S32x8x1, .f32⟩
  | .hbm, ⟨44, _⟩ => ⟨S32x8x1024, .f32⟩
  | .hbm, ⟨45, _⟩ => ⟨S32x8x1024, .f32⟩
  | .hbm, ⟨46, _⟩ => ⟨S1x1x1024, .f32⟩
  | .hbm, ⟨47, _⟩ => ⟨S32x8x1024, .f32⟩
  | .hbm, ⟨48, _⟩ => ⟨S32x8x1024, .f32⟩
  | .hbm, ⟨49, _⟩ => ⟨S1x1x1024, .f32⟩
  | .hbm, ⟨50, _⟩ => ⟨S32x8x1024, .f32⟩
  | .hbm, ⟨51, _⟩ => ⟨S32x8x1024, .f32⟩
  | .hbm, ⟨52, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== SampleProj.lean ====
abbrev S32x8x1024 : Shape := ⟨3, ![32, 8, 1024]⟩
abbrev S1x1024x3088 : Shape := ⟨3, ![1, 1024, 3088]⟩
abbrev S1x16 : Shape := ⟨2, ![1, 16]⟩
abbrev S1024x3088 : Shape := ⟨2, ![1024, 3088]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S256x1024 : Shape := ⟨2, ![256, 1024]⟩
abbrev S256x1536 : Shape := ⟨2, ![256, 1536]⟩
abbrev S512x256 : Shape := ⟨2, ![512, 256]⟩
abbrev S256x128 : Shape := ⟨2, ![256, 128]⟩
abbrev S2x16x128 : Shape := ⟨3, ![2, 16, 128]⟩
abbrev S1024x512 : Shape := ⟨2, ![1024, 512]⟩
abbrev S256x512 : Shape := ⟨2, ![256, 512]⟩
abbrev S128x256 : Shape := ⟨2, ![128, 256]⟩
abbrev S16x128 : Shape := ⟨2, ![16, 128]⟩
abbrev S1x16x128 : Shape := ⟨3, ![1, 16, 128]⟩

abbrev nBuf : Space → Nat
  | .hbm => 22
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S1x1024x3088, .f32⟩
  | .hbm, ⟨2, _⟩ => ⟨S1x16, .f32⟩
  | .hbm, ⟨3, _⟩ => ⟨S1024x3088, .f32⟩
  | .hbm, ⟨4, _⟩ => ⟨S1024x3088, .bf16⟩
  | .hbm, ⟨5, _⟩ => ⟨S1x1024x16, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S16, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S256x1024, .f32⟩
  | .hbm, ⟨16, _⟩ => ⟨S256x1536, .bf16⟩
  | .hbm, ⟨17, _⟩ => ⟨S512x256, .bf16⟩
  | .hbm, ⟨18, _⟩ => ⟨S256x1024, .f32⟩
  | .hbm, ⟨19, _⟩ => ⟨S256x128, .f32⟩
  | .hbm, ⟨20, _⟩ => ⟨S256x128, .f32⟩
  | .hbm, ⟨21, _⟩ => ⟨S2x16x128, .f32⟩
  | .local _ .vmem, ⟨0, _⟩ => ⟨S256x1024, .f32⟩
  | .local _ .vmem, ⟨1, _⟩ => ⟨S1024x3088, .bf16⟩
  | .local _ .vmem, ⟨2, _⟩ => ⟨S1024x128, .f32⟩
  | .local _ .vmem, ⟨3, _⟩ => ⟨S1x128, .f32⟩
  | .local _ .vmem, ⟨4, _⟩ => ⟨S256x1536, .bf16⟩
  | .local _ .vmem, ⟨5, _⟩ => ⟨S512x256, .bf16⟩
  | .local _ .vmem, ⟨6, _⟩ => ⟨S256x1024, .f32⟩
  | .local _ .vmem, ⟨7, _⟩ => ⟨S256x128, .f32⟩
  | .local _ .vmem, ⟨8, _⟩ => ⟨S256x128, .f32⟩
  | .local _ .vmem, ⟨9, _⟩ => ⟨S2x16x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3088 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== SampleProjReferenceIdeal.lean ====
abbrev S32x8x1024 : Shape := ⟨3, ![32, 8, 1024]⟩
abbrev S1x1024x3088 : Shape := ⟨3, ![1, 1024, 3088]⟩
abbrev S1x16 : Shape := ⟨2, ![1, 16]⟩
abbrev S256x1024 : Shape := ⟨2, ![256, 1024]⟩
abbrev S1024x3088 : Shape := ⟨2, ![1024, 3088]⟩
abbrev S256x3088 : Shape := ⟨2, ![256, 3088]⟩
abbrev S256x512 : Shape := ⟨2, ![256, 512]⟩
abbrev S256x16 : Shape := ⟨2, ![256, 16]⟩
abbrev S_ : Shape := ⟨0, ![]⟩
abbrev S16 : Shape := ⟨1, ![16]⟩
abbrev S256x8 : Shape := ⟨2, ![256, 8]⟩
abbrev S256x1536 : Shape := ⟨2, ![256, 1536]⟩
abbrev S512x256 : Shape := ⟨2, ![512, 256]⟩
abbrev S256x128 : Shape := ⟨2, ![256, 128]⟩

abbrev nBuf : Space → Nat
  | .hbm => 46
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024x3088, .f32⟩
  | .hbm, ⟨2, _⟩ => ⟨S1x16, .f32⟩
  | .hbm, ⟨3, _⟩ => ⟨S256x1024, .f32⟩
  | .hbm, ⟨4, _⟩ => ⟨S1024x3088, .f32⟩
  | .hbm, ⟨5, _⟩ => ⟨S256x3088, .f32⟩
  | .hbm, ⟨6, _⟩ => ⟨S256x512, .f32⟩
  | .hbm, ⟨7, _⟩ => ⟨S256x512, .f32⟩
  | .hbm, ⟨8, _⟩ => ⟨S256x1024, .f32⟩
  | .hbm, ⟨9, _⟩ => ⟨S256x1024, .f32⟩
  | .hbm, ⟨10, _⟩ => ⟨S256x16, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S16, .f32⟩
  | .hbm, ⟨15, _⟩ => ⟨S1x16, .f32⟩
  | .hbm, ⟨16, _⟩ => ⟨S256x16, .f32⟩
  | .hbm, ⟨17, _⟩ => ⟨S256x16, .f32⟩
  | .hbm, ⟨18, _⟩ => ⟨S256x8, .f32⟩
  | .hbm, ⟨19, _⟩ => ⟨S256x8, .f32⟩
  | .hbm, ⟨20, _⟩ => ⟨S256x8, .f32⟩
  | .hbm, ⟨21, _⟩ => ⟨S_, .f32⟩
  | .hbm, ⟨22, _⟩ => ⟨S256x8, .f32⟩
  | .hbm, ⟨23, _⟩ => ⟨S256x8, .f32⟩
  | .hbm, ⟨24, _⟩ => ⟨S256x8, .f32⟩
  | .hbm, ⟨25, _⟩ => ⟨S256x8, .f32⟩
  | .hbm, ⟨26, _⟩ => ⟨S256x8, .i1⟩
  | .hbm, ⟨27, _⟩ => ⟨S256x8, .f32⟩
  | .hbm, ⟨28, _⟩ => ⟨S256x8, .f32⟩
  | .hbm, ⟨29, _⟩ => ⟨S256x8, .f32⟩
  | .hbm, ⟨30, _⟩ => ⟨S256x8, .f32⟩
  | .hbm, ⟨31, _⟩ => ⟨S256x8, .f32⟩
  | .hbm, ⟨32, _⟩ => ⟨S256x8, .f32⟩
  | .hbm, ⟨33, _⟩ => ⟨S256x8, .f32⟩
  | .hbm, ⟨34, _⟩ => ⟨S256x8, .f32⟩
  | .hbm, ⟨35, _⟩ => ⟨S256x8, .f32⟩
  | .hbm, ⟨36, _⟩ => ⟨S256x1536, .f32⟩
  | .hbm, ⟨37, _⟩ => ⟨S256x1536, .bf16⟩
  | .hbm, ⟨38, _⟩ => ⟨S512x256, .f32⟩
  | .hbm, ⟨39, _⟩ => ⟨S512x256, .bf16⟩
  | .hbm, ⟨40, _⟩ => ⟨S_, .i32⟩
  | .hbm, ⟨41, _⟩ => ⟨S_, .f32⟩
  | .hbm, ⟨42, _⟩ => ⟨S256x128, .f32⟩
  | .hbm, ⟨43, _⟩ => ⟨S_, .i32⟩
  | .hbm, ⟨44, _⟩ => ⟨S_, .f32⟩
  | .hbm, ⟨45, _⟩ => ⟨S256x128, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_call1_v0 : Ref sig .tc := ⟨.hbm, 41, rfl⟩
abbrev main_v21 : Ref sig .tc := ⟨.hbm, 42, rfl⟩
abbrev main_c_0 : Ref sig .tc := ⟨.hbm, 43, rfl⟩
abbrev main_call2_v0 : Ref sig .tc := ⟨.hbm, 44, rfl⟩
abbrev main_v22 : Ref sig .tc := ⟨.hbm, 45, rfl⟩

abbrev nD : Nat := 1
abbrev τ : Topo := Topo.v7x

variable {F : FTy → Type} [FloatOps F]
-- ==== Proof.Host.lean ====
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.Host

open Cert.KernelIdeal Cert.KernelIdeal.Gen Idealize.ShloMosaic Idealize.ShloMosaic.TcCoe Idealize.SL.Sem

variable (m : (ℓ : Loc nD τ sig) → Buf (Elt Ideal) ℓ) (c : Dev nD)

/-! The arrays that the host code prepares for the kernel's windows, as functions of the program's arguments. -/

/-- A gate (batch, position, head) as rows (batch and position), its heads padded to 128 lanes by zeros. -/
def lanes (x : (⟨S32x8x8, .f32⟩ : BufTy).Contents (Elt Ideal)) : (⟨S32x8x128, .f32⟩ : BufTy).Contents (Elt Ideal) :=
  shapeCast S32x8x128 (pad S256x128 ![0, 0] ![0, 120] ![0, 0] (shapeCast S256x8 x shapeCasts_S32x8x8_S256x8)
    (sitofp (F := Ideal) .f32 (constantI S_ 32 0#32)) pads_S256x8_S256x128_000_01200 h_S_) shapeCasts_S256x128_S32x8x128

/-- The input gate, its positions padded to 128 by minus infinity on the heads' lanes and by zero on the others. -/
def inputGate (x : (⟨S32x8x8, .f32⟩ : BufTy).Contents (Elt Ideal)) : (⟨S32x128x128, .f32⟩ : BufTy).Contents (Elt Ideal) :=
  select (broadcastInDim S32x128x128 ![0, 1, 2] bcast_S1x1x128_S32x128x128_0_1_2
      (cmpi .slt (broadcastInDim S1x1x128 ![2] bcast_S128_S1x1x128_2 (iotaInDim S128 32 0))
        (broadcastInDim S1x1x128 ![] bcast_S_S1x1x128 (constantI S_ 32 8#32))))
    (pad S32x128x128 ![0, 0, 0] ![0, 120, 0] ![0, 0, 0] (lanes x) (constant (F := Ideal) S_ .f32 0xFF800000#32)
      pads_S32x8x128_S32x128x128_000_01200_000 h_S_)
    (broadcastInDim S32x128x128 ![] bcast_S_S32x128x128 (constant (F := Ideal) S_ .f32 0x00000000#32))

/-- The logarithm of the forget gate, its positions padded to 128 by zeros. -/
def forgetGate (x : (⟨S32x8x8, .f32⟩ : BufTy).Contents (Elt Ideal)) : (⟨S32x128x128, .f32⟩ : BufTy).Contents (Elt Ideal) :=
  pad S32x128x128 ![0, 0, 0] ![0, 120, 0] ![0, 0, 0] (lanes x) (constant (F := Ideal) S_ .f32 0x00000000#32)
    pads_S32x8x128_S32x128x128_000_01200_000 h_S_

/-- Heads in rows and positions in columns: the first eight lanes of a padded gate, transposed. -/
def turned (x : (⟨S32x128x128, .f32⟩ : BufTy).Contents (Elt Ideal)) : (⟨S32x8x128, .f32⟩ : BufTy).Contents (Elt Ideal) :=
  extractStridedSlice S32x8x128 ![0, 0, 0] (transpose S32x128x128 [0, 2, 1] x transposes_S32x128x128_S32x128x128_0_2_1)
    slices_S32x128x128_S32x8x128_0_0_0

/-- Both gates with heads in rows: eight rows of the input gate, then eight of the forget gate. -/
def gateRows (x y : (⟨S32x8x8, .f32⟩ : BufTy).Contents (Elt Ideal)) : (⟨S32x16x128, .f32⟩ : BufTy).Contents (Elt Ideal) :=
  concatenate S32x16x128 1 [⟨S32x8x128, turned (inputGate x)⟩, ⟨S32x8x128, turned (forgetGate y)⟩]
    concatenates_S32x8x128_S32x8x128_S32x16x128_d1

/-- The queries of all heads beside the values of all heads. -/
def queryValue (q : (⟨S32x8x8x64, .f32⟩ : BufTy).Contents (Elt Ideal)) (v : (⟨S32x8x8x128, .f32⟩ : BufTy).Contents (Elt Ideal)) : (⟨S256x1536, .f32⟩ : BufTy).Contents (Elt Ideal) :=
  concatenate S256x1536 1 [⟨S256x512, shapeCast S256x512 q shapeCasts_S32x8x8x64_S256x512⟩,
    ⟨S256x1024, shapeCast S256x1024 v shapeCasts_S32x8x8x128_S256x1024⟩] concatenates_S256x512_S256x1024_S256x1536_d1

/-- The keys with head and channel in rows and positions in columns, padded to 128 positions for each batch by zeros. -/
def keys (k : (⟨S32x8x8x64, .f32⟩ : BufTy).Contents (Elt Ideal)) : (⟨S512x4096, .bf16⟩ : BufTy).Contents (Elt Ideal) :=
  shapeCast S512x4096 (pad S512x32x128 ![0, 0, 0] ![0, 0, 120] ![0, 0, 0]
    (shapeCast S512x32x8 (truncf (F := Ideal) .bf16 (transpose S512x256 [1, 0] (shapeCast S256x512 k shapeCasts_S32x8x8x64_S256x512)
      transposes_S256x512_S512x256_1_0) bitsLt_bf16_f32) shapeCasts_S512x256_S512x32x8)
    (sitofp (F := Ideal) .bf16 (constantI S_ 32 0#32)) pads_S512x32x8_S512x32x128_000_000_01200 h_S_) shapeCasts_S512x32x128_S512x4096

/-- The incoming stabilisers, their heads padded to 128 lanes by zeros. -/
def stabilisers (x : (⟨S1x32x8, .f32⟩ : BufTy).Contents (Elt Ideal)) : (⟨S32x1x128, .f32⟩ : BufTy).Contents (Elt Ideal) :=
  shapeCast S32x1x128 (pad S32x128 ![0, 0] ![0, 120] ![0, 0] (shapeCast S32x8 x shapeCasts_S1x32x8_S32x8)
    (sitofp (F := Ideal) .f32 (constantI S_ 32 0#32)) pads_S32x8_S32x128_000_01200 h_S_) shapeCasts_S32x128_S32x1x128

/-- The first layer's row of a normalisation parameter. -/
def firstRow (x : (⟨S2x2x1024, .f32⟩ : BufTy).Contents (Elt Ideal)) : (⟨S1x1024, .f32⟩ : BufTy).Contents (Elt Ideal) :=
  shapeCast S1x1024 (extractStridedSlice S1x1x1x1024 ![0, 0, 0, 0] (shapeCast S2x2x1x1024 x shapeCasts_S2x2x1024_S2x2x1x1024)
    slices_S2x2x1x1024_S1x1x1x1024_0_0_0_0) shapeCasts_S1x1x1x1024_S1x1024

set_option maxHeartbeats 1600000 in
/-- What the kernel finds in the array of the queries and values. -/
theorem entry_v37 : V m c main_v37 = queryValue (m ((c : Thread nD τ).loc main_arg0)) (m ((c : Thread nD τ).loc main_arg2)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the keys. -/
theorem entry_v36 : V m c main_v36 = keys (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the output gate's rows. -/
theorem entry_v12 : V m c main_v12 = shapeCast S256x1024 (m ((c : Thread nD τ).loc main_arg3)) shapeCasts_S32x8x1024_S256x1024 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the input gate's rows. -/
theorem entry_v38 : V m c main_v38 = shapeCast S4096x128 (inputGate (m ((c : Thread nD τ).loc main_arg4))) shapeCasts_S32x128x128_S4096x128 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the forget gate's rows. -/
theorem entry_v39 : V m c main_v39 = shapeCast S4096x128 (forgetGate (m ((c : Thread nD τ).loc main_arg5))) shapeCasts_S32x128x128_S4096x128 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of both gates with heads in rows. -/
theorem entry_v30 : V m c main_v30 = gateRows (m ((c : Thread nD τ).loc main_arg4)) (m ((c : Thread nD τ).loc main_arg5)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the layer's input, by rows. -/
theorem entry_v4 : V m c main_v4 = shapeCast S256x1024 (m ((c : Thread nD τ).loc main_arg6)) shapeCasts_S32x8x1024_S256x1024 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the incoming matrix states. -/
theorem entry_v40 : V m c main_v40 = shapeCast S32x8x64x128 (m ((c : Thread nD τ).loc main_arg7)) shapeCasts_S1x32x8x64x128_S32x8x64x128 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the incoming normaliser states. -/
theorem entry_v41 : V m c main_v41 = shapeCast S32x8x64 (m ((c : Thread nD τ).loc main_arg8)) shapeCasts_S1x32x8x64_S32x8x64 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the incoming stabilisers. -/
theorem entry_v33 : V m c main_v33 = stabilisers (m ((c : Thread nD τ).loc main_arg9)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the output projection's weights. -/
theorem entry_v1 : V m c main_v1 = shapeCast S1024x1024 (m ((c : Thread nD τ).loc main_arg10)) shapeCasts_S1x1024x1024_S1024x1024 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the normalisation's scale. -/
theorem entry_v43 : V m c main_v43 = firstRow (m ((c : Thread nD τ).loc main_arg11)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

set_option maxHeartbeats 1600000 in
/-- What the kernel finds in the array of the normalisation's shift. -/
theorem entry_v45 : V m c main_v45 = firstRow (m ((c : Thread nD τ).loc main_arg12)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.cons_append, List.nil_append]
  after_results_simp
  rfl

end Cert.Host
-- ==== Proof.Gates.lean ====
/- The arithmetic of the gates, for one head of one sequence and one chunk of 8 tokens, over the extended reals. No program appears here.
   `i` and `f` are the input gates and the logarithms of the forget gates of the 8 tokens, `m` is the running maximum that the chunk starts
   from. The reference measures every logarithmic weight against `b t + …` with `b` the running sum of `f`; the kernel takes `b t` out of the
   maximum. With `f` finite the two agree. -/
module

public import Idealize.ShloMosaic.PureOps.Ideal
public import Idealize.ShloMosaic.PureOps.Ideal.Laws

@[expose] public section

noncomputable section

namespace Cert.Gates

open Idealize.ShloMosaic

/-- An extended real that is a real number. -/
def Real? (x : EReal) : Prop := ∃ r : ℝ, x = (r : EReal)

theorem Real?.zero : Real? 0 := ⟨0, rfl⟩

theorem Real?.add {x y : EReal} : Real? x → Real? y → Real? (x + y) := by
  rintro ⟨r, rfl⟩ ⟨s, rfl⟩; exact ⟨r + s, (EReal.coe_add r s).symm⟩

theorem Real?.of_abs_lt {x : EReal} (h : max x (-x) < ⊤) : Real? x := by
  induction x with
  | bot => simp at h
  | coe r => exact ⟨r, rfl⟩
  | top => simp at h

theorem Real?.sub_self {x : EReal} : Real? x → x - x = 0 := by
  rintro ⟨r, rfl⟩; rw [← EReal.coe_sub, _root_.sub_self]; rfl

theorem Real?.sum {ι : Type} (s : Finset ι) (g : ι → EReal) (h : ∀ k ∈ s, Real? (g k)) : Real? (∑ k ∈ s, g k) :=
  Finset.sum_induction g Real? (fun _ _ => Real?.add) Real?.zero h

/-- The difference of two sums with the same real first part is the difference of the rest. -/
theorem Real?.add_sub_add {b : EReal} (hb : Real? b) (x y : EReal) : (b + x) - (b + y) = x - y := by
  obtain ⟨r, rfl⟩ := hb
  rw [sub_eq_add_neg, sub_eq_add_neg, EReal.neg_add (by simp) (by simp), sub_eq_add_neg]
  rw [show ((r : EReal) + x) + (-(r : EReal) + -y) = ((r : EReal) + -(r : EReal)) + (x + -y) by
    rw [add_assoc, add_assoc, add_left_comm x]]
  rw [← EReal.coe_neg, ← EReal.coe_add, add_neg_cancel, EReal.coe_zero, zero_add]

/-- Adding a constant commutes with a maximum over finitely many indices. -/
theorem add_sup {ι : Type} (s : Finset ι) (b : EReal) (g : ι → EReal) : b + s.sup g = s.sup fun k => b + g k := by
  refine Finset.comp_sup_eq_sup_comp (b + ·) (fun x y => ?_) (by simp)
  exact (add_right_mono (a := b)).map_max

/-- A maximum folded from the bottom element is the supremum. -/
theorem fold_max_eq_sup {ι : Type} (s : Finset ι) (g : ι → EReal) : s.fold max ⊥ g = s.sup g := rfl

/-! ## The running maximum by doubling -/

/-- The maximum of `u` over the last `k` rows up to row `t`. -/
def win (u : ℕ → EReal) (k t : ℕ) : EReal := (Finset.Icc (t + 1 - k) t).sup u

theorem win_one (u : ℕ → EReal) (t : ℕ) : win u 1 t = u t := by simp [win]

/-- Two windows of `k` rows side by side make the window of `2 * k` rows; where there are no `k` rows before, the one window is all. -/
theorem win_double (u : ℕ → EReal) (k j t : ℕ) (hj : j = 2 * k) : max (win u k t) (if k ≤ t then win u k (t - k) else ⊥) = win u j t := by
  subst hj
  unfold win
  split_ifs with h
  · rw [show max ((Finset.Icc (t + 1 - k) t).sup u) ((Finset.Icc (t - k + 1 - k) (t - k)).sup u)
        = ((Finset.Icc (t + 1 - k) t) ∪ (Finset.Icc (t - k + 1 - k) (t - k))).sup u from Finset.sup_union.symm]
    congr 1
    ext x
    simp only [Finset.mem_union, Finset.mem_Icc]
    omega
  · rw [max_eq_left bot_le, show t + 1 - 2 * k = t + 1 - k by omega]

/-! ## One chunk -/

section Chunk

variable (i f : Fin 8 → EReal) (m : EReal)

/-- The running sum of the forget gates' logarithms. -/
def cum (t : Fin 8) : EReal := ∑ s : Fin 8, if s ≤ t then f s else 0

/-- A token's input weight less the running sum at its place. -/
def level (s : Fin 8) : EReal := i s - cum f s

/-- The largest level up to token `t`, and the carried maximum. -/
def top (t : Fin 8) : EReal := max (Finset.univ.sup fun s => if s ≤ t then level i f s else ⊥) m

/-- The reference's masked logarithmic weight of token `s` at token `t`. -/
def dmat (t s : Fin 8) : EReal := if s ≤ t then cum f t - cum f s + i s else ⊥

/-- The reference's stabiliser of token `t`. -/
def stab (t : Fin 8) : EReal := max (cum f t + m) (Finset.univ.sup fun s => dmat i f t s)

/-- The reference's maximum that the chunk ends with. -/
def stabEnd : EReal := max (cum f 7 + m) (Finset.univ.sup fun s => cum f 7 - cum f s + i s)

variable {f}

theorem cum_real (hf : ∀ s, Real? (f s)) (t : Fin 8) : Real? (cum f t) :=
  Real?.sum _ _ fun s _ => by split_ifs; exacts [hf s, Real?.zero]

theorem dmat_eq (t s : Fin 8) : dmat i f t s = cum f t + (if s ≤ t then level i f s else ⊥) := by
  unfold dmat level
  split_ifs
  · rw [sub_eq_add_neg, sub_eq_add_neg, add_assoc, add_comm (-cum f s)]
  · simp

/-- The reference's stabiliser is the running sum plus the kernel's maximum. -/
theorem stab_eq (t : Fin 8) : stab i f m t = cum f t + top i f m t := by
  unfold stab top
  simp only [dmat_eq]
  rw [← add_sup, max_comm]
  exact ((add_right_mono (a := cum f t)).map_max).symm

theorem stabEnd_eq : stabEnd i f m = cum f 7 + top i f m 7 := by
  unfold stabEnd top
  rw [(add_right_mono (a := cum f 7)).map_max, add_sup, max_comm]
  congr 2
  funext s
  rw [if_pos (by omega), level, sub_eq_add_neg, sub_eq_add_neg, add_assoc, add_comm (-cum f s)]

theorem exp_bot : Ideal.exp ⊥ = 0 := rfl

/-- The weight of token `s` at token `t`. -/
theorem weight_eq (hf : ∀ s, Real? (f s)) (t s : Fin 8) :
    Ideal.exp (dmat i f t s - stab i f m t) = if s ≤ t then Ideal.exp (level i f s - top i f m t) else 0 := by
  rw [dmat_eq, stab_eq, (cum_real hf t).add_sub_add]
  split_ifs
  · rfl
  · rw [EReal.bot_sub, exp_bot]

/-- The weight of the carried state at token `t`. -/
theorem carry_eq (hf : ∀ s, Real? (f s)) (t : Fin 8) : Ideal.exp (cum f t + m - stab i f m t) = Ideal.exp (m - top i f m t) := by
  rw [stab_eq, (cum_real hf t).add_sub_add]

/-- The weight of token `s` in the state that the chunk ends with. -/
theorem weightEnd_eq (hf : ∀ s, Real? (f s)) (s : Fin 8) :
    Ideal.exp (cum f 7 - cum f s + i s - stabEnd i f m) = Ideal.exp (level i f s - top i f m 7) := by
  rw [stabEnd_eq, level, ← (cum_real hf 7).add_sub_add (i s - cum f s), sub_eq_add_neg (cum f 7) (cum f s), sub_eq_add_neg (i s), add_assoc,
    add_comm (-cum f s)]

theorem carryEnd_eq (hf : ∀ s, Real? (f s)) : Ideal.exp (cum f 7 + m - stabEnd i f m) = Ideal.exp (m - top i f m 7) := by
  rw [stabEnd_eq, (cum_real hf 7).add_sub_add]

/-- With input gates and carried maximum below infinity the stabiliser is below infinity. -/
theorem stab_lt_top (hf : ∀ s, Real? (f s)) (hi : ∀ s, i s < ⊤) (hm : m < ⊤) (t : Fin 8) : stab i f m t < ⊤ := by
  obtain ⟨r, hr⟩ := cum_real hf t
  refine max_lt (by rw [hr]; exact EReal.add_lt_top (by simp) hm.ne) ?_
  refine (Finset.sup_lt_iff (by simp)).mpr fun s _ => ?_
  unfold dmat
  split_ifs
  · obtain ⟨r', hr'⟩ := cum_real hf s
    rw [hr, hr', ← EReal.coe_sub]
    exact EReal.add_lt_top (EReal.coe_ne_top _) (hi s).ne
  · simp

theorem exp_neg_ne_zero {x : EReal} (hx : x < ⊤) : 0 < Ideal.exp (-x) := by
  induction x with
  | bot => rw [EReal.neg_bot]; exact (EReal.zero_lt_top : (0 : EReal) < ⊤)
  | coe r => rw [← EReal.coe_neg]; exact EReal.coe_pos.mpr (Real.exp_pos _)
  | top => simp at hx

/-- Dividing by a floor above zero is multiplying by its reciprocal. -/
theorem div_floor (x d e : EReal) (he : 0 < e) : x * Ideal.div 1 (max d e) = Ideal.div x (max d e) := by
  have h : max d e ≠ 0 := (lt_of_lt_of_le he (le_max_right _ _)).ne'
  simp only [Ideal.div, if_neg h, one_mul]

end Chunk

/-! ## One head's outputs and states as the reference has them -/

section Head

variable (q k : Fin 8 → Fin 64 → EReal) (v : Fin 8 → Fin 128 → EReal) (C : Fin 64 → Fin 128 → EReal) (n : Fin 64 → EReal)
  (i f : Fin 8 → EReal) (m : EReal)

/-- The score of token `s` at token `t`, weighted. -/
def score (t s : Fin 8) : EReal := (∑ d : Fin 64, q t d * k s d) * Ideal.exp (dmat i f t s - stab i f m t)

/-- The weight of the carried state at token `t`. -/
def carry (t : Fin 8) : EReal := Ideal.exp (cum f t + m - stab i f m t)

def num (t : Fin 8) (e : Fin 128) : EReal :=
  (∑ s : Fin 8, score q k i f m t s * v s e) + carry i f m t * ∑ d : Fin 64, q t d * C d e

def den (t : Fin 8) : EReal := (∑ s : Fin 8, score q k i f m t s) + carry i f m t * ∑ d : Fin 64, q t d * n d

/-- The head's output before its gate. -/
def hid (t : Fin 8) (e : Fin 128) : EReal :=
  Ideal.div (num q k v C i f m t e) (max (max (den q k n i f m t) (-den q k n i f m t)) (Ideal.exp (-stab i f m t)))

/-- The logistic function. -/
def gate (x : EReal) : EReal := Ideal.div 1 (1 + Ideal.exp (-x))

/-- The weight of token `s` in the state after the chunk, and of the state before it. -/
def keep (s : Fin 8) : EReal := Ideal.exp (cum f 7 - cum f s + i s - stabEnd i f m)

def keepState : EReal := Ideal.exp (cum f 7 + m - stabEnd i f m)

/-- The matrix state after the chunk, and the normaliser. -/
def stateC (d : Fin 64) (e : Fin 128) : EReal := keepState i f m * C d e + ∑ s : Fin 8, keep i f m s * k s d * v s e

def stateN (d : Fin 64) : EReal := keepState i f m * n d + ∑ s : Fin 8, keep i f m s * k s d

end Head

/-- The layer norm of a row, at a place. -/
def layerNorm (x : Fin 1024 → EReal) (g b : Fin 1024 → EReal) (j : Fin 1024) : EReal :=
  have c : EReal := Ideal.ofBits .f32 0x44800000#32
  have mu : EReal := Ideal.div (∑ k, x k) c
  (x j - mu) * Ideal.rsqrt (Ideal.div (∑ k, (x k - mu) * (x k - mu)) c + Ideal.ofBits .f32 0x3727C5AC#32) * g j + b j

/-! ## Sums over 128 rows of which only 8 count -/

/-- A sum over 128 rows whose terms past the eighth are zero. -/
theorem sum_first8 (g : Fin 128 → EReal) (h : ∀ s : Fin 128, 8 ≤ (s : ℕ) → g s = 0) :
    ∑ s : Fin 128, g s = ∑ s : Fin 8, g ⟨s, by omega⟩ := by
  rw [← Finset.sum_subset (Finset.subset_univ (Finset.univ.map (Fin.castLEEmb (show 8 ≤ 128 by norm_num))))]
  · rw [Finset.sum_map]; rfl
  · intro s _ hs
    refine h s (not_lt.mp fun hlt => hs ?_)
    simp only [Finset.mem_map, Finset.mem_univ, true_and]
    exact ⟨⟨s, hlt⟩, rfl⟩

end Cert.Gates

end
-- ==== Proof.Heads.lean ====
/- One head of one chunk, read at an index. The kernel's eight heads run the same operations at eight offsets; each operation sequence is
   stated once here, at a head `h`, and `Pieces` identifies the eight printed sequences with it. -/
module

public import proofs.«01_k».proof.Proof.Gen.KernelIdeal.Skeleton
public import proofs.«01_k».proof.Proof.Gates
public import Idealize.ShloMosaic.Lib.Pointwise

@[expose] public section

set_option maxRecDepth 16384

noncomputable section

namespace Cert.Heads

open Cert.KernelIdeal Cert.KernelIdeal.Gen Idealize.ShloMosaic

/-- The weights of the chunk's tokens at its tokens: the exponential of a token's level less the running maximum, zero for later tokens. -/
def weights (h : ℕ) (s1 : S8x128.Slices ![h, 0] S1x128) (s2 : S128x128.Slices ![0, h] S128x1) (M : FVec Ideal S128x128 .f32)
    (ut : FVec Ideal S8x128 .f32) : FVec Ideal S128x128 .f32 :=
  exp (select k0_pay42
    (subf (broadcastTo S128x128 (extractStridedSlice S1x128 ![h, 0] ut s1) broadcasts_S1x128_S128x128)
      (broadcastTo S128x128 (extractStridedSlice S128x1 ![0, h] M s2) broadcasts_S128x1_S128x128))
    (broadcast S128x128 (Scalar.ofBits (F := Ideal) .f32 0xFF800000#32)))

/-- Numerator and denominator of a head's output, side by side: the weighted scores on the chunk's own values, and the carried state. -/
def mixed (h : ℕ) (s2 : S128x128.Slices ![0, h] S128x1) (A W : FVec Ideal S128x128 .f32) (q : FVec Ideal S128x64 .bf16)
    (k : FVec Ideal S64x128 .bf16) (vo : FVec Ideal S128x256 .bf16) (cp : FVec Ideal S1x64x256 .f32) : FVec Ideal S128x256 .f32 :=
  have a : FVec Ideal S128x128 .f32 :=
    broadcastTo S128x128 (shapeCast S128x1 (extractStridedSlice S128x1 ![0, h] A s2) shapeCasts_S128x1_S128x1) broadcasts_S128x1_S128x128
  addf
    (matmul dot_S128x128_S128x256_S128x256_1_0_0_1_n_n none
      (truncf .bf16 (mulf (matmul dot_S128x64_S64x128_S128x128_1_0_0_1_n_n none q k (constant S128x128 .f32 0x00000000#32)) W) bitsLt_bf16_f32)
      vo (constant S128x256 .f32 0x00000000#32))
    (mulf (concatenate S128x256 1 [⟨S128x128, a⟩, ⟨S128x128, a⟩] concatenates_S128x128_S128x128_S128x256_d1)
      (matmul dot_S128x64_S64x256_S128x256_1_0_0_1_n_n none q
        (truncf .bf16 (shapeCast S64x256 cp shapeCasts_S1x64x256_S64x256) bitsLt_bf16_f32) (constant S128x256 .f32 0x00000000#32)))

/-- A head's output: the numerator over the floored denominator, gated. -/
def headOut (h : ℕ) (s2 : S128x128.Slices ![0, h] S128x1) (E : FVec Ideal S128x128 .f32) (nd : FVec Ideal S128x256 .f32)
    (o : FVec Ideal S128x128 .f32) : FVec Ideal S128x128 .bf16 :=
  have one : FVec Ideal S128x128 .f32 := broadcast S128x128 (Scalar.ofBits (F := Ideal) .f32 0x3F800000#32)
  shapeCast S128x128 (truncf .bf16
    (mulf
      (mulf (extractStridedSlice S128x128 ![0, 0] nd slices_S128x256_o0_0_S128x128)
        (divf one (maximumf (absf (extractStridedSlice S128x128 ![0, 128] nd slices_S128x256_o0_128_S128x128))
          (broadcastTo S128x128 (shapeCast S128x1 (extractStridedSlice S128x1 ![0, h] E s2) shapeCasts_S128x1_S128x1)
            broadcasts_S128x1_S128x128))))
      (divf one (addf one (exp (subf (broadcast S128x128 (Scalar.ofBits (F := Ideal) .f32 0x00000000#32)) o)))))
    bitsLt_bf16_f32) shapeCasts_S128x128_S128x128

/-- The state a head ends the chunk with: the carried state scaled, and the chunk's keys, weighted, against its values. -/
def stateNew (h : ℕ) (s1 : S8x128.Slices ![h, 0] S1x128) (s2 : S1x128.Slices ![0, h] S1x1) (ME AE : FVec Ideal S1x128 .f32)
    (ut : FVec Ideal S8x128 .f32) (k : FVec Ideal S64x128 .bf16) (vo : FVec Ideal S128x256 .bf16) (cp : FVec Ideal S1x64x256 .f32) :
    FVec Ideal S1x64x256 .f32 :=
  shapeCast S1x64x256
    (addf
      (mulf (broadcastTo S64x256 (extractStridedSlice S1x1 ![0, h] AE s2) broadcasts_S1x1_S64x256)
        (shapeCast S64x256 cp shapeCasts_S1x64x256_S64x256))
      (matmul dot_S64x128_S128x256_S64x256_1_0_0_1_n_n none
        (truncf .bf16 (mulf (extf .f32 k bitsLt_bf16_f32)
          (broadcastTo S64x128
            (exp (subf (extractStridedSlice S1x128 ![h, 0] ut s1)
              (broadcastTo S1x128 (extractStridedSlice S1x1 ![0, h] ME s2) broadcasts_S1x1_S1x128)))
            broadcasts_S1x128_S64x128)) bitsLt_bf16_f32)
        vo (constant S64x256 .f32 0x00000000#32)))
    shapeCasts_S64x256_S1x64x256

/-- Comparing two row numbers. -/
theorem cmp_sge : ∀ a b : Fin 128, IntOp.cmpi .sge (BitVec.ofNat 32 a.val) (BitVec.ofNat 32 b.val) = BitVec.ofBool (decide (b ≤ a)) := by
  decide +kernel

theorem cmp_sle : ∀ a b : Fin 128, IntOp.cmpi .sle (BitVec.ofNat 32 a.val) (BitVec.ofNat 32 b.val) = BitVec.ofBool (decide (a ≤ b)) := by
  decide +kernel

theorem cmp_eq : ∀ a b : Fin 64, IntOp.cmpi .eq (BitVec.ofNat 32 a.val) (BitVec.ofNat 32 b.val) = BitVec.ofBool (decide (a = b)) := by
  decide +kernel

theorem cmp_ge8 : ∀ a : Fin 16, IntOp.cmpi .sge (BitVec.ofNat 32 a.val) 8#32 = BitVec.ofBool (decide (8 ≤ a.val)) := by
  decide +kernel

/-- The single-precision pattern of minus infinity. -/
theorem bits_bot : Ideal.ofBits .f32 0xFF800000#32 = ⊥ := by
  simp [Ideal.ofBits, Ideal.ieee]

theorem weights_apply (h : Fin 8) (s1 s2) (M ut) (t s : Fin 128) :
    weights h s1 s2 M ut (ix2 t s) = if s ≤ t then Ideal.exp (ut (ix2 h s) - M (ix2 t ⟨h, by omega⟩)) else 0 := by
  pointwise [weights, k0_pay42, cmp_sge]
  rw [bits_bot]
  split_ifs <;> rfl

theorem mixed_left (h : Fin 8) (s2) (A W q k vo cp) (t e : Fin 128) :
    mixed h s2 A W q k vo cp (ix2 t (⟨e, by omega⟩ : Fin 256))
      = (∑ s : Fin 128, (∑ d : Fin 64, q (ix2 t d) * k (ix2 d s)) * W (ix2 t s) * vo (ix2 s (⟨e, by omega⟩ : Fin 256)))
        + A (ix2 t ⟨h, by omega⟩) * ∑ d : Fin 64, q (ix2 t d) * cp (ix3 0 d (⟨e, by omega⟩ : Fin 256)) := by
  pointwise [mixed]

theorem mixed_right (h : Fin 8) (s2) (A W q k vo cp) (t e : Fin 128) :
    mixed h s2 A W q k vo cp (ix2 t (⟨128 + e, by omega⟩ : Fin 256))
      = (∑ s : Fin 128, (∑ d : Fin 64, q (ix2 t d) * k (ix2 d s)) * W (ix2 t s) * vo (ix2 s (⟨128 + e, by omega⟩ : Fin 256)))
        + A (ix2 t ⟨h, by omega⟩) * ∑ d : Fin 64, q (ix2 t d) * cp (ix3 0 d (⟨128 + e, by omega⟩ : Fin 256)) := by
  pointwise [mixed]

theorem headOut_apply (h : Fin 8) (s2) (E nd o) (t e : Fin 128) :
    headOut h s2 E nd o (ix2 t e)
      = nd (ix2 t (⟨e, by omega⟩ : Fin 256))
          * Ideal.div 1 (max (max (nd (ix2 t (⟨128 + e, by omega⟩ : Fin 256))) (-nd (ix2 t (⟨128 + e, by omega⟩ : Fin 256)))) (E (ix2 t ⟨h, by omega⟩)))
        * Ideal.div 1 (1 + Ideal.exp (0 - o (ix2 t e))) := by
  pointwise [headOut]
  rfl

theorem stateNew_apply (h : Fin 8) (s1 s2) (ME AE ut k vo cp) (d : Fin 64) (j : Fin 256) :
    stateNew h s1 s2 ME AE ut k vo cp (ix3 0 d j)
      = AE (ix2 0 ⟨h, by omega⟩) * cp (ix3 0 d j)
        + ∑ s : Fin 128, k (ix2 d s) * Ideal.exp (ut (ix2 h s) - ME (ix2 0 ⟨h, by omega⟩)) * vo (ix2 s j) := by
  pointwise [stateNew]

/-! ## The gates of one chunk -/

theorem pay43_apply (s t : Fin 128) : k0_pay43 (F := Ideal) (ix2 s t) = if s ≤ t then 1 else 0 := by
  pointwise [k0_pay43, cmp_sle]

/-- The running sum of the forget gates down the columns, of a finite column. -/
theorem pay45_apply (g : FVec Ideal S128x128 .f32) (hg : ∀ i, g i - g i = 0) (t l : Fin 128) :
    k0_pay45 g (ix2 t l) = ∑ s : Fin 128, (if s ≤ t then 1 else 0) * g (ix2 s l) := by
  pointwise [k0_pay45, k0_pay42, cmp_sge, hg]
  simp

theorem pay46_apply (g f : FVec Ideal S128x128 .f32) (t l : Fin 128) :
    k0_pay46 g f (ix2 t l) = g (ix2 t l) - k0_pay45 f (ix2 t l) := by
  pointwise [k0_pay46]

theorem pay50_apply (m : FVec Ideal S1x128 .f32) (a b : FVec Ideal S128x128 .f32) (t l : Fin 128) :
    k0_pay50 m a b (ix2 t l) = max (max (a (ix2 t l)) (b (ix2 t l))) (m (ix2 0 l)) := by
  pointwise [k0_pay50]

theorem pay51_apply (m : FVec Ideal S1x128 .f32) (a b : FVec Ideal S128x128 .f32) (t l : Fin 128) :
    k0_pay51 m a b (ix2 t l) = Ideal.exp (m (ix2 0 l) - k0_pay50 m a b (ix2 t l)) := by
  pointwise [k0_pay51]

theorem pay52_apply (c : FVec Ideal S128x128 .f32) (m : FVec Ideal S1x128 .f32) (a b : FVec Ideal S128x128 .f32) (t l : Fin 128) :
    k0_pay52 c m a b (ix2 t l) = Ideal.exp (0 - (c (ix2 t l) + k0_pay50 m a b (ix2 t l))) := by
  pointwise [k0_pay52]

theorem pay53_apply (m : FVec Ideal S1x128 .f32) (a b : FVec Ideal S128x128 .f32) (l : Fin 128) :
    k0_pay53 m a b (ix2 0 l) = k0_pay50 m a b (ix2 127 l) := by
  pointwise [k0_pay53]

theorem pay54_apply (m : FVec Ideal S1x128 .f32) (a b : FVec Ideal S128x128 .f32) (l : Fin 128) :
    k0_pay54 m a b (ix2 0 l) = k0_pay51 m a b (ix2 127 l) := by
  pointwise [k0_pay54]

theorem pay55_apply (g : FVec Ideal S1x16x128 .f32) (hg : ∀ (r : Fin 8) (s : Fin 128), g (ix3 0 ⟨8 + r, by omega⟩ s) - g (ix3 0 ⟨8 + r, by omega⟩ s) = 0)
    (h : Fin 8) (s : Fin 128) :
    k0_pay55 k0_pay43 (iota .tc S16x128 32 [0] iota_S16x128_d0_w32) g (ix2 h s)
      = g (ix3 0 ⟨h, by omega⟩ s) - ∑ j : Fin 128, g (ix3 0 ⟨8 + h, by omega⟩ j) * (if j ≤ s then 1 else 0) := by
  have hc : IntOp.cmpi .sge (BitVec.ofNat 32 (8 + h.val)) 8#32 = 1#1 := (by decide +kernel : ∀ h : Fin 8, IntOp.cmpi .sge (BitVec.ofNat 32 (8 + h.val)) 8#32 = 1#1) h
  pointwise [k0_pay55, pay43_apply, hc, Scalar.select]
  simp [hg]

/-- One doubling of the running maximum down the columns: the rows `n` above, where there are any. -/
def rotMax (n : BitVec 32) (u : FVec Ideal S128x128 .f32) : FVec Ideal S128x128 .f32 :=
  maximumf u (select (cmpi .sge (iota .tc S128x128 32 [0] iota_S128x128_d0_w32) (broadcast S128x128 n))
    (dynamicRotate 0 n none u rotates_S128x128_d0) (broadcast S128x128 (Scalar.ofBits (F := Ideal) .f32 0xFF800000#32)))

theorem pay48_eq (u : FVec Ideal S128x128 .f32) :
    k0_pay48 u (iota .tc S128x128 32 [0] iota_S128x128_d0_w32) k0_pay47
      = rotMax 32#32 (rotMax 16#32 (rotMax 8#32 (rotMax 4#32 (rotMax 2#32 (rotMax 1#32 u))))) := rfl

theorem pay50_eq (m : FVec Ideal S1x128 .f32) (u : FVec Ideal S128x128 .f32) :
    k0_pay50 m (k0_pay48 u (iota .tc S128x128 32 [0] iota_S128x128_d0_w32) k0_pay47)
        (k0_pay49 u (iota .tc S128x128 32 [0] iota_S128x128_d0_w32) k0_pay47)
      = maximumf (rotMax 64#32 (rotMax 32#32 (rotMax 16#32 (rotMax 8#32 (rotMax 4#32 (rotMax 2#32 (rotMax 1#32 u)))))))
          (broadcastTo S128x128 m broadcasts_S1x128_S128x128) := rfl

/-- A column as a sequence. -/
def col (u : FVec Ideal S128x128 .f32) (l : Fin 128) (t : ℕ) : EReal := if h : t < 128 then u (ix2 ⟨t, h⟩ l) else ⊥

theorem rotMax_win (n : BitVec 32) (k j : ℕ) (hn : n.toNat = k) (hk : k < 128) (hj : j = 2 * k)
    (hc : ∀ a : Fin 128, IntOp.cmpi .sge (BitVec.ofNat 32 a.val) n = BitVec.ofBool (decide (k ≤ a.val)))
    (c : ℕ → EReal) (x : FVec Ideal S128x128 .f32) (l : Fin 128) (hx : ∀ t : Fin 128, x (ix2 t l) = Gates.win c k t) (t : Fin 128) :
    rotMax n x (ix2 t l) = Gates.win c j t := by
  rw [← Gates.win_double c k j t hj]
  pointwise [rotMax, hc]
  rw [bits_bot, hx]
  congr 1
  split_ifs with h
  · rw [show (⟨(t.val + 128 - n.toNat % 128) % 128, Nat.mod_lt _ (by decide)⟩ : Fin 128) = ⟨t.val - k, by omega⟩ from
      Fin.ext (by simp only [hn]; omega), hx]
  · rfl

/-- The running maximum down a column, and the carried maximum. -/
theorem pay50_win (m : FVec Ideal S1x128 .f32) (u : FVec Ideal S128x128 .f32) (t l : Fin 128) :
    k0_pay50 m (k0_pay48 u (iota .tc S128x128 32 [0] iota_S128x128_d0_w32) k0_pay47)
        (k0_pay49 u (iota .tc S128x128 32 [0] iota_S128x128_d0_w32) k0_pay47) (ix2 t l)
      = max (Gates.win (col u l) 128 t) (m (ix2 0 l)) := by
  rw [pay50_eq]
  have h1 : ∀ t : Fin 128, u (ix2 t l) = Gates.win (col u l) 1 t := fun t => by rw [Gates.win_one, col, dif_pos t.isLt]
  have h2 := rotMax_win 1#32 1 2 rfl (by omega) rfl (by decide +kernel) _ _ _ h1
  have h3 := rotMax_win 2#32 2 4 rfl (by omega) rfl (by decide +kernel) _ _ _ h2
  have h4 := rotMax_win 4#32 4 8 rfl (by omega) rfl (by decide +kernel) _ _ _ h3
  have h5 := rotMax_win 8#32 8 16 rfl (by omega) rfl (by decide +kernel) _ _ _ h4
  have h6 := rotMax_win 16#32 16 32 rfl (by omega) rfl (by decide +kernel) _ _ _ h5
  have h7 := rotMax_win 32#32 32 64 rfl (by omega) rfl (by decide +kernel) _ _ _ h6
  have h8 := rotMax_win 64#32 64 128 rfl (by omega) rfl (by decide +kernel) _ _ _ h7
  pointwise [h8]

/-! ## The gates of a chunk of 8 tokens, padded to 128 rows -/

/-- What the padded gate windows hold: `gi` and `gf` are the gates down the columns, `gt` both across the rows. Past the chunk's 8 tokens the
    input gates are minus infinity and the forget gates' logarithms zero. -/
structure Padded (gi gf : FVec Ideal S128x128 .f32) (gt : FVec Ideal S1x16x128 .f32) (i f : Fin 8 → Fin 8 → EReal) : Prop where
  gi_eq : ∀ (s : Fin 128) (h : Fin 8), gi (ix2 s ⟨h, by omega⟩) = if hs : s.val < 8 then i h ⟨s, hs⟩ else ⊥
  gf_eq : ∀ (s : Fin 128) (h : Fin 8), gf (ix2 s ⟨h, by omega⟩) = if hs : s.val < 8 then f h ⟨s, hs⟩ else 0
  gf_real : ∀ s, Gates.Real? (gf s)
  gt_i : ∀ (h : Fin 8) (s : Fin 128), gt (ix3 0 ⟨h, by omega⟩ s) = gi (ix2 s ⟨h, by omega⟩)
  gt_f : ∀ (h : Fin 8) (s : Fin 128), gt (ix3 0 ⟨8 + h, by omega⟩ s) = gf (ix2 s ⟨h, by omega⟩)

namespace Padded

variable {gi gf : FVec Ideal S128x128 .f32} {gt : FVec Ideal S1x16x128 .f32} {i f : Fin 8 → Fin 8 → EReal} (P : Padded gi gf gt i f)
variable (m : FVec Ideal S1x128 .f32)
include P

theorem f_real (h s : Fin 8) : Gates.Real? (f h s) := by
  have := P.gf_eq ⟨s, by omega⟩ h
  rw [dif_pos s.isLt] at this
  exact this ▸ P.gf_real _

/-- The running sum, at any row. -/
theorem b_eq (t : Fin 128) (h : Fin 8) : k0_pay45 (F := Ideal) gf (ix2 t ⟨h, by omega⟩) = ∑ s : Fin 8, if s.val ≤ t.val then f h s else 0 := by
  rw [pay45_apply gf (fun j => (P.gf_real j).sub_self), Gates.sum_first8]
  · refine Finset.sum_congr rfl fun s _ => ?_
    rw [P.gf_eq, dif_pos s.isLt]
    simp only [Fin.le_def, ite_mul, one_mul, zero_mul]
  · intro s hs
    rw [P.gf_eq, dif_neg (by omega), mul_zero]

theorem b_row (t h : Fin 8) : k0_pay45 (F := Ideal) gf (ix2 ⟨t, by omega⟩ ⟨h, by omega⟩) = Gates.cum (f h) t := by
  rw [P.b_eq]; rfl

theorem b_last (h : Fin 8) : k0_pay45 (F := Ideal) gf (ix2 127 ⟨h, by omega⟩) = Gates.cum (f h) 7 := by
  rw [P.b_eq]
  refine Finset.sum_congr rfl fun s _ => ?_
  rw [if_pos (by have := s.isLt; simp; omega), if_pos (by omega)]

theorem b_real (t : Fin 128) (h : Fin 8) : Gates.Real? (k0_pay45 (F := Ideal) gf (ix2 t ⟨h, by omega⟩)) := by
  rw [P.b_eq]
  exact Gates.Real?.sum _ _ fun s _ => by split_ifs; exacts [P.f_real h s, Gates.Real?.zero]

theorem bot_sub_real {x : EReal} : Gates.Real? x → (⊥ : EReal) - x = ⊥ := by
  rintro ⟨r, rfl⟩; rfl

/-- The levels down the columns. -/
theorem u_eq (s : Fin 128) (h : Fin 8) :
    k0_pay46 (F := Ideal) gi gf (ix2 s ⟨h, by omega⟩) = if hs : s.val < 8 then Gates.level (i h) (f h) ⟨s, hs⟩ else ⊥ := by
  rw [pay46_apply, P.gi_eq]
  split_ifs with hs
  · rw [Gates.level, ← P.b_row]
  · exact P.bot_sub_real (P.b_real s h)

/-- The levels across the rows. -/
theorem ut_eq (h : Fin 8) (s : Fin 128) :
    k0_pay55 (F := Ideal) k0_pay43 (iota .tc S16x128 32 [0] iota_S16x128_d0_w32) gt (ix2 h s)
      = if hs : s.val < 8 then Gates.level (i h) (f h) ⟨s, hs⟩ else ⊥ := by
  rw [← P.u_eq, pay46_apply, pay45_apply gf (fun j => (P.gf_real j).sub_self), pay55_apply, P.gt_i]
  · congr 1
    refine Finset.sum_congr rfl fun j _ => ?_
    rw [P.gt_f, mul_comm]
  · intro r s
    rw [P.gt_f]
    exact (P.gf_real _).sub_self

/-- The running maximum of the levels. -/
theorem win_eq (t : Fin 128) (h : Fin 8) :
    Gates.win (col (k0_pay46 (F := Ideal) gi gf) ⟨h, by omega⟩) 128 t
      = Finset.univ.sup fun s : Fin 8 => if s.val ≤ t.val then Gates.level (i h) (f h) s else ⊥ := by
  have hu : ∀ s : ℕ, s < 128 → col (k0_pay46 (F := Ideal) gi gf) ⟨h, by omega⟩ s = if hs : s < 8 then Gates.level (i h) (f h) ⟨s, hs⟩ else ⊥ := fun s hs => by
    rw [col, dif_pos hs, P.u_eq]
  apply le_antisymm
  · refine Finset.sup_le fun s hs => ?_
    rw [Finset.mem_Icc] at hs
    rw [hu s (by omega)]
    split_ifs with h8
    · refine le_trans ?_ (Finset.le_sup (f := fun s : Fin 8 => if s.val ≤ t.val then Gates.level (i h) (f h) s else ⊥) (Finset.mem_univ ⟨s, h8⟩))
      rw [if_pos hs.2]
    · exact bot_le
  · refine Finset.sup_le fun s _ => ?_
    split_ifs with hst
    · refine le_trans ?_ (Finset.le_sup (f := col (k0_pay46 (F := Ideal) gi gf) ⟨h, by omega⟩) (Finset.mem_Icc.mpr ⟨by omega, hst⟩ : s.val ∈ _))
      rw [hu s (by omega), dif_pos s.isLt]
    · exact bot_le

/-- The kernel's array of running maxima, and what it takes from it. -/
theorem M_row (t h : Fin 8) :
    k0_pay50 (F := Ideal) m (k0_pay48 (F := Ideal) (k0_pay46 gi gf) (iota .tc S128x128 32 [0] iota_S128x128_d0_w32) k0_pay47)
        (k0_pay49 (k0_pay46 (F := Ideal) gi gf) (iota .tc S128x128 32 [0] iota_S128x128_d0_w32) k0_pay47) (ix2 ⟨t, by omega⟩ ⟨h, by omega⟩)
      = Gates.top (i h) (f h) (m (ix2 0 ⟨h, by omega⟩)) t := by
  rw [pay50_win, P.win_eq]; rfl

theorem M_last (h : Fin 8) :
    k0_pay50 (F := Ideal) m (k0_pay48 (F := Ideal) (k0_pay46 gi gf) (iota .tc S128x128 32 [0] iota_S128x128_d0_w32) k0_pay47)
        (k0_pay49 (k0_pay46 (F := Ideal) gi gf) (iota .tc S128x128 32 [0] iota_S128x128_d0_w32) k0_pay47) (ix2 127 ⟨h, by omega⟩)
      = Gates.top (i h) (f h) (m (ix2 0 ⟨h, by omega⟩)) 7 := by
  rw [pay50_win, P.win_eq, Gates.top]
  congr 2
  funext s
  rw [if_pos (by have := s.isLt; simp; omega), if_pos (by omega)]

end Padded

/-! ## One head from its blocks -/

theorem padQ_apply (q : FVec Ideal S8x64 .f32) (t : Fin 8) (d : Fin 64) : k0_pay57 (F := Ideal) q (ix2 ⟨t, by omega⟩ d) = q (ix2 t d) := by
  pointwise [k0_pay57]

theorem padO_apply (o : FVec Ideal S8x128 .f32) (t : Fin 8) (e : Fin 128) : k0_pay116 (F := Ideal) o (ix2 ⟨t, by omega⟩ e) = o (ix2 t e) := by
  pointwise [k0_pay116]

theorem padV_left (v : FVec Ideal S8x128 .f32) (s : Fin 8) (e : Fin 128) :
    k0_pay59 (F := Ideal) k0_pay44 v (ix2 ⟨s, by omega⟩ (⟨e, by omega⟩ : Fin 256)) = v (ix2 s e) := by
  pointwise [k0_pay59]

theorem padV_right (v : FVec Ideal S8x128 .f32) (s : Fin 128) (e : Fin 128) :
    k0_pay59 (F := Ideal) k0_pay44 v (ix2 s (⟨128 + e, by omega⟩ : Fin 256)) = 1 := by
  pointwise [k0_pay59, k0_pay44]

section Head

variable (gi gf : FVec Ideal S128x128 .f32) (gt : FVec Ideal S1x16x128 .f32) (m : FVec Ideal S1x128 .f32)

/-- The kernel's arrays of gates: the running maxima, the carried state's weights, the denominators' floors, the last row of the first two, and
    the levels across the rows. -/
def maxima : FVec Ideal S128x128 .f32 :=
  k0_pay50 m (k0_pay48 (k0_pay46 gi gf) (iota .tc S128x128 32 [0] iota_S128x128_d0_w32) k0_pay47)
    (k0_pay49 (k0_pay46 gi gf) (iota .tc S128x128 32 [0] iota_S128x128_d0_w32) k0_pay47)

def carries : FVec Ideal S128x128 .f32 :=
  k0_pay51 m (k0_pay48 (k0_pay46 gi gf) (iota .tc S128x128 32 [0] iota_S128x128_d0_w32) k0_pay47)
    (k0_pay49 (k0_pay46 gi gf) (iota .tc S128x128 32 [0] iota_S128x128_d0_w32) k0_pay47)

def floors : FVec Ideal S128x128 .f32 :=
  k0_pay52 (k0_pay45 gf) m (k0_pay48 (k0_pay46 gi gf) (iota .tc S128x128 32 [0] iota_S128x128_d0_w32) k0_pay47)
    (k0_pay49 (k0_pay46 gi gf) (iota .tc S128x128 32 [0] iota_S128x128_d0_w32) k0_pay47)

def maximaEnd : FVec Ideal S1x128 .f32 :=
  k0_pay53 m (k0_pay48 (k0_pay46 gi gf) (iota .tc S128x128 32 [0] iota_S128x128_d0_w32) k0_pay47)
    (k0_pay49 (k0_pay46 gi gf) (iota .tc S128x128 32 [0] iota_S128x128_d0_w32) k0_pay47)

def carriesEnd : FVec Ideal S1x128 .f32 :=
  k0_pay54 m (k0_pay48 (k0_pay46 gi gf) (iota .tc S128x128 32 [0] iota_S128x128_d0_w32) k0_pay47)
    (k0_pay49 (k0_pay46 gi gf) (iota .tc S128x128 32 [0] iota_S128x128_d0_w32) k0_pay47)

def levelRows : FVec Ideal S8x128 .f32 := k0_pay55 k0_pay43 (iota .tc S16x128 32 [0] iota_S16x128_d0_w32) gt

/-- The block of the mixer's output that head `h` writes. -/
def headTerm (h : ℕ) (s1 : S8x128.Slices ![h, 0] S1x128) (s2 : S128x128.Slices ![0, h] S128x1) (q : FVec Ideal S8x64 .f32)
    (k : FVec Ideal S64x128 .bf16) (v : FVec Ideal S8x128 .f32) (cp : FVec Ideal S1x64x256 .f32) (o : FVec Ideal S8x128 .f32) :
    FVec Ideal S128x128 .bf16 :=
  headOut h s2 (floors gi gf m)
    (mixed h s2 (carries gi gf m) (weights h s1 s2 (maxima gi gf m) (levelRows gt)) (k0_pay57 q) (k0_pay58 k) (k0_pay59 k0_pay44 v) cp)
    (k0_pay116 o)

/-- The state block that head `h` writes. -/
def stateTerm (h : ℕ) (s1 : S8x128.Slices ![h, 0] S1x128) (s2 : S1x128.Slices ![0, h] S1x1) (k : FVec Ideal S64x128 .bf16)
    (v : FVec Ideal S8x128 .f32) (cp : FVec Ideal S1x64x256 .f32) : FVec Ideal S1x64x256 .f32 :=
  stateNew h s1 s2 (maximaEnd gi gf m) (carriesEnd gi gf m) (levelRows gt) (k0_pay58 k) (k0_pay59 k0_pay44 v) cp

theorem pay58_apply (k : FVec Ideal S64x128 .bf16) (d : Fin 64) (s : Fin 128) : k0_pay58 (F := Ideal) k (ix2 d s) = k (ix2 d s) := by
  pointwise [k0_pay58]

variable {gi gf gt} {i f : Fin 8 → Fin 8 → EReal} (P : Padded gi gf gt i f)
include P

/-- The weights of the chunk's tokens at one of its tokens, as the reference has them; rows past the chunk count nothing. -/
theorem weights_eq (h t : Fin 8) (s1 s2) (s : Fin 128) :
    weights h s1 s2 (maxima gi gf m) (levelRows gt) (ix2 ⟨t, by omega⟩ s)
      = if hs : s.val < 8 then Ideal.exp (Gates.dmat (i h) (f h) t ⟨s, hs⟩ - Gates.stab (i h) (f h) (m (ix2 0 ⟨h, by omega⟩)) t) else 0 := by
  rw [weights_apply, levelRows, P.ut_eq, maxima, P.M_row]
  split_ifs with h1 h2 h2
  · rw [Gates.weight_eq _ _ (P.f_real h), if_pos (by simpa [Fin.le_def] using h1)]
  · have : s.val ≤ t.val := by simpa [Fin.le_def] using h1
    omega
  · rw [Gates.weight_eq _ _ (P.f_real h), if_neg (by simpa [Fin.le_def] using h1)]
  · rfl

theorem carries_eq (h t : Fin 8) :
    carries gi gf m (ix2 ⟨t, by omega⟩ ⟨h, by omega⟩) = Gates.carry (i h) (f h) (m (ix2 0 ⟨h, by omega⟩)) t := by
  rw [carries, pay51_apply, P.M_row, Gates.carry, Gates.carry_eq _ _ (P.f_real h)]

theorem floors_eq (h t : Fin 8) :
    floors gi gf m (ix2 ⟨t, by omega⟩ ⟨h, by omega⟩) = Ideal.exp (-Gates.stab (i h) (f h) (m (ix2 0 ⟨h, by omega⟩)) t) := by
  rw [floors, pay52_apply, P.M_row, P.b_row, Gates.stab_eq, zero_sub]

theorem stabEnd_eq' (h : Fin 8) :
    k0_pay120 (F := Ideal) (k0_pay45 gf) (maximaEnd gi gf m) (ix2 0 ⟨h, by omega⟩) = Gates.stabEnd (i h) (f h) (m (ix2 0 ⟨h, by omega⟩)) := by
  have e : ∀ (a : FVec Ideal S128x128 .f32) (b : FVec Ideal S1x128 .f32) (l : Fin 128),
      k0_pay120 (F := Ideal) a b (ix2 0 l) = a (ix2 127 l) + b (ix2 0 l) := fun a b l => by
    pointwise [k0_pay120]
  rw [e, maximaEnd, pay53_apply, P.M_last, P.b_last, Gates.stabEnd_eq]

/-- A head's block of the mixer's output is the reference's, at the chunk's tokens. -/
theorem headTerm_apply (h t : Fin 8) (e : Fin 128) (s1 s2 q k v cp o) (N : Fin 64 → EReal)
    (hi : ∀ s, i h s < ⊤) (hm : m (ix2 0 ⟨h, by omega⟩) < ⊤) (hN : ∀ d (e : Fin 128), cp (ix3 0 d (⟨128 + e, by omega⟩ : Fin 256)) = N d) :
    headTerm gi gf gt m h s1 s2 q k v cp o (ix2 ⟨t, by omega⟩ e)
      = Gates.gate (o (ix2 t e))
        * Gates.hid (fun t d => q (ix2 t d)) (fun s d => k (ix2 d ⟨s, by omega⟩)) (fun s e => v (ix2 s e))
          (fun d e => cp (ix3 0 d (⟨e, by omega⟩ : Fin 256))) N (i h) (f h) (m (ix2 0 ⟨h, by omega⟩)) t e := by
  have hn : ∀ (w : Fin 128 → EReal) (r : Fin 8 → EReal) (hw : ∀ s : Fin 8, w ⟨s, by omega⟩ = r s),
      (∑ s : Fin 128, (∑ d : Fin 64, q (ix2 t d) * k (ix2 d s))
          * (if hs : s.val < 8 then Ideal.exp (Gates.dmat (i h) (f h) t ⟨s, hs⟩ - Gates.stab (i h) (f h) (m (ix2 0 ⟨h, by omega⟩)) t) else 0) * w s)
        = ∑ s : Fin 8, Gates.score (fun t d => q (ix2 t d)) (fun s d => k (ix2 d ⟨s, by omega⟩)) (i h) (f h) (m (ix2 0 ⟨h, by omega⟩)) t s * r s := by
    intro w r hw
    rw [Gates.sum_first8]
    · refine Finset.sum_congr rfl fun s _ => ?_
      rw [dif_pos s.isLt, hw]
      rfl
    · intro s hs
      rw [dif_neg (by omega), mul_zero, zero_mul]
  rw [headTerm, headOut_apply, mixed_left, mixed_right]
  simp only [weights_eq m P, carries_eq m P, floors_eq m P, padQ_apply, padO_apply, pay58_apply, padV_right, hN, zero_sub]
  rw [hn _ (fun s => v (ix2 s e)) (fun s => padV_left v s e), hn _ (fun _ => 1) (fun _ => rfl)]
  simp only [mul_one]
  rw [mul_comm]
  congr 1
  exact Gates.div_floor _ _ _ (Gates.exp_neg_ne_zero (Gates.stab_lt_top _ _ (P.f_real h) hi hm t))

/-- The weight of a row in the state after the chunk; rows past the chunk count nothing. -/
theorem keep_eq (h : Fin 8) (s : Fin 128) :
    Ideal.exp (levelRows gt (ix2 h s) - maximaEnd gi gf m (ix2 0 ⟨h, by omega⟩))
      = if hs : s.val < 8 then Gates.keep (i h) (f h) (m (ix2 0 ⟨h, by omega⟩)) ⟨s, hs⟩ else 0 := by
  rw [levelRows, P.ut_eq, maximaEnd, pay53_apply, P.M_last]
  split_ifs with hs
  · rw [Gates.keep, Gates.weightEnd_eq _ _ (P.f_real h)]
  · rw [EReal.bot_sub, Gates.exp_bot]

theorem carriesEnd_eq (h : Fin 8) :
    carriesEnd gi gf m (ix2 0 ⟨h, by omega⟩) = Gates.keepState (i h) (f h) (m (ix2 0 ⟨h, by omega⟩)) := by
  rw [carriesEnd, pay54_apply, pay51_apply, P.M_last, Gates.keepState, Gates.carryEnd_eq _ _ (P.f_real h)]

/-- A head's state block holds the reference's matrix state on the left and its normaliser, repeated, on the right. -/
theorem stateTerm_left (h : Fin 8) (d : Fin 64) (e : Fin 128) (s1 s2 k v cp) :
    stateTerm gi gf gt m h s1 s2 k v cp (ix3 0 d (⟨e, by omega⟩ : Fin 256))
      = Gates.stateC (fun s d => k (ix2 d ⟨s, by omega⟩)) (fun s e => v (ix2 s e)) (fun d e => cp (ix3 0 d (⟨e, by omega⟩ : Fin 256))) (i h) (f h)
          (m (ix2 0 ⟨h, by omega⟩)) d e := by
  rw [stateTerm, stateNew_apply, carriesEnd_eq m P, Gates.stateC]
  simp only [keep_eq m P, pay58_apply]
  congr 1
  rw [Gates.sum_first8]
  · refine Finset.sum_congr rfl fun s _ => ?_
    rw [dif_pos s.isLt, padV_left, mul_comm (k _)]
  · intro s hs
    rw [dif_neg (by omega), mul_zero, zero_mul]

theorem stateTerm_right (h : Fin 8) (d : Fin 64) (e : Fin 128) (s1 s2 k v cp) :
    stateTerm gi gf gt m h s1 s2 k v cp (ix3 0 d (⟨128 + e, by omega⟩ : Fin 256))
      = Gates.stateN (fun s d => k (ix2 d ⟨s, by omega⟩)) (fun d => cp (ix3 0 d (⟨128 + e, by omega⟩ : Fin 256))) (i h) (f h)
          (m (ix2 0 ⟨h, by omega⟩)) d := by
  rw [stateTerm, stateNew_apply, carriesEnd_eq m P, Gates.stateN]
  simp only [keep_eq m P, pay58_apply, padV_right, mul_one]
  congr 1
  rw [Gates.sum_first8]
  · refine Finset.sum_congr rfl fun s _ => ?_
    rw [dif_pos s.isLt, mul_comm (k _)]
  · intro s hs
    rw [dif_neg (by omega), mul_zero]

end Head

end Cert.Heads

end
-- ==== Proof.Pieces.lean ====
/- What one grid point of the sample recurrence stores, read at an index: the eight heads' blocks are identified with `Heads`' one head, and the
   loads back from the scratch with what was stored there. -/
module

public import proofs.«01_k».proof.Proof.Gen.KernelIdeal.Frame.RunA
public import proofs.«01_k».proof.Proof.Heads
public import Idealize.ShloMosaic.Lib.Pipeline.ValueKit
public import Idealize.ShloMosaic.Lib.Pipeline.ReadBack
@[expose] public section
set_option maxRecDepth 16384
noncomputable section
namespace Cert.Pieces
open Cert.KernelIdeal Cert.KernelIdeal.Gen Idealize.ShloMosaic Idealize.ShloMosaic.TcCoe Idealize.SL.Sem

/-- Two blocks side by side, the second argument on the left. -/
def halves (A B : Vec Ideal S1x64x128 .f32) : Vec Ideal S1x64x256 .f32 := fun j =>
  if h : (j 2).val < 128 then B (ix3 0 (j 1) ⟨(j 2).val, h⟩)
  else A (ix3 0 (j 1) ⟨(j 2).val - 128, by have h2 : (j 2).val < 256 := (j 2).isLt; omega⟩)

theorem halves_left (A B) (d : Fin 64) (e : Fin 128) : halves A B (ix3 0 d (⟨e, by omega⟩ : Fin 256)) = B (ix3 0 d e) := by
  exact dif_pos e.isLt

theorem halves_right (A B) (d : Fin 64) (e : Fin 128) : halves A B (ix3 0 d (⟨128 + e, by omega⟩ : Fin 256)) = A (ix3 0 d e) := by
  refine (dif_neg (show ¬ 128 + e.val < 128 by omega)).trans ?_
  congr 1
  exact congrArg (ix3 0 d) (Fin.ext (show 128 + e.val - 128 = e.val by omega))

/-- The last store's payload at an index it covers. -/
theorem canon_at {S : Shape} {e : EltTy} {off size : Fin S.rank → ℕ} (inb : ∀ a, off a + size a ≤ S.size a) (w : (Rect.unit off size inb).shape.Idx → Elt Ideal e)
    (L : List (View.Piece (Elt Ideal) S e)) (y : S.Idx) (x : (⟨S.rank, size⟩ : Shape).Idx) (h : ∀ a, (y a : ℕ) = off a + x a) :
    View.canon (⟨Rect.unit off size inb, w⟩ :: L) y = w x := by
  rw [show y = (Rect.unit off size inb).emb x from funext fun a => Fin.ext ((h a).trans (Rect.idx_unit_val off size inb x a).symm), View.canon_cons_emb]

/-- A store is passed over at an index that lies before it on some axis. -/
theorem canon_before {S : Shape} {e : EltTy} {off size : Fin S.rank → ℕ} (inb : ∀ a, off a + size a ≤ S.size a) (w : (Rect.unit off size inb).shape.Idx → Elt Ideal e)
    (L : List (View.Piece (Elt Ideal) S e)) (y : S.Idx) (a : Fin S.rank) (h : (y a : ℕ) < off a) :
    View.canon (⟨Rect.unit off size inb, w⟩ :: L) y = View.canon L y :=
  View.canon_cons_of_not_mem _ L fun hm => by
    have h1 : y ∈ (Rect.unit off size inb).set := hm
    rw [Rect.mem_set_unit] at h1
    have := (h1 a).1
    omega

section
variable {sp : Space} (v : View sig .tc sp S8x64x256 .f32)

/-- Loading a head's two halves back gives them side by side. -/
theorem readCov_halves (h : ℕ) (inbA : ∀ a, (![h, 0, 128] : Fin 3 → ℕ) a + (![1, 64, 128] : Fin 3 → ℕ) a ≤ S8x64x256.size a)
    (inbB : ∀ a, (![h, 0, 0] : Fin 3 → ℕ) a + (![1, 64, 128] : Fin 3 → ℕ) a ≤ S8x64x256.size a)
    (inb : ∀ a, (![h, 0, 0] : Fin 3 → ℕ) a + (![1, 64, 256] : Fin 3 → ℕ) a ≤ S8x64x256.size a) (A B : Vec Ideal S1x64x128 .f32)
    (L : List (View.Piece (Elt Ideal) S8x64x256 .f32)) :
    v.readCov (⟨Rect.unit ![h, 0, 128] ![1, 64, 128] inbA, A⟩ :: ⟨Rect.unit ![h, 0, 0] ![1, 64, 128] inbB, B⟩ :: L)
      (Rect.unit ![h, 0, 0] ![1, 64, 256] inb).toLoadRect = halves A B := by
  rw [View.readCov_eq_canon']
  funext (j : S1x64x256.Idx)
  have h2 : (j 2).val < 256 := (j 2).isLt
  have h0 : (j 0).val < 1 := (j 0).isLt
  have hb : (j 2).val - 128 < 128 := by omega
  by_cases hj : (j 2).val < 128
  · refine Eq.trans ?_ (dif_pos hj).symm
    refine (canon_before inbA A _ _ 2 ?_).trans (canon_at (S := S8x64x256) (size := ![1, 64, 128]) inbB B L _ (ix3 (0 : Fin 1) (j 1 : Fin 64) (⟨(j 2).val, hj⟩ : Fin 128)) fun a => ?_)
    · show 0 + 1 * (j 2).val < 128; omega
    · fin_cases a
      · show h + 1 * (j 0).val = h + 0; omega
      · show 0 + 1 * (j 1).val = 0 + (j 1).val; omega
      · show 0 + 1 * (j 2).val = 0 + (j 2).val; omega
  · refine Eq.trans ?_ (dif_neg hj).symm
    refine canon_at (S := S8x64x256) (size := ![1, 64, 128]) inbA A _ _ (ix3 (0 : Fin 1) (j 1 : Fin 64) (⟨(j 2).val - 128, hb⟩ : Fin 128)) fun a => ?_
    fin_cases a
    · show h + 1 * (j 0).val = h + 0; omega
    · show 0 + 1 * (j 1).val = 0 + (j 1).val; omega
    · show 0 + 1 * (j 2).val = 128 + ((j 2).val - 128); omega

/-- Loading the left half of a head's state block. -/
theorem readCov_left (h : ℕ) (inbA : ∀ a, (![h, 0, 0] : Fin 3 → ℕ) a + (![1, 64, 256] : Fin 3 → ℕ) a ≤ S8x64x256.size a)
    (inb : ∀ a, (![h, 0, 0] : Fin 3 → ℕ) a + (![1, 64, 128] : Fin 3 → ℕ) a ≤ S8x64x256.size a) (A : Vec Ideal S1x64x256 .f32)
    (L : List (View.Piece (Elt Ideal) S8x64x256 .f32)) :
    v.readCov (⟨Rect.unit ![h, 0, 0] ![1, 64, 256] inbA, A⟩ :: L) (Rect.unit ![h, 0, 0] ![1, 64, 128] inb).toLoadRect
      = fun j : S1x64x128.Idx => A (ix3 0 (j 1) ⟨(j 2).val, lt_trans (j 2).isLt (by decide : 128 < 256)⟩) := by
  rw [View.readCov_eq_canon']
  funext (j : S1x64x128.Idx)
  have h0 : (j 0).val < 1 := (j 0).isLt
  refine Eq.trans (congrArg _ ?_) (View.canon_cons_emb (Rect.unit ![h, 0, 0] ![1, 64, 256] inbA) A L _)
  funext a
  apply Fin.ext
  fin_cases a
  · show h + 1 * (j 0).val = h + 1 * 0; omega
  · rfl
  · rfl

/-- Loading the first column of the right half of a head's state block. -/
theorem readCov_right (h : ℕ) (inbA : ∀ a, (![h, 0, 0] : Fin 3 → ℕ) a + (![1, 64, 256] : Fin 3 → ℕ) a ≤ S8x64x256.size a)
    (inb : ∀ a, (![h, 0, 128] : Fin 3 → ℕ) a + (![1, 64, 1] : Fin 3 → ℕ) a ≤ S8x64x256.size a) (A : Vec Ideal S1x64x256 .f32)
    (L : List (View.Piece (Elt Ideal) S8x64x256 .f32)) :
    v.readCov (⟨Rect.unit ![h, 0, 0] ![1, 64, 256] inbA, A⟩ :: L) (Rect.unit ![h, 0, 128] ![1, 64, 1] inb).toLoadRect
      = fun j : S1x64x1.Idx => A (ix3 0 (j 1) (⟨128, by decide⟩ : Fin 256)) := by
  rw [View.readCov_eq_canon']
  funext (j : S1x64x1.Idx)
  have h0 : (j 0).val < 1 := (j 0).isLt
  have h2 : (j 2).val < 1 := (j 2).isLt
  refine Eq.trans (congrArg _ ?_) (View.canon_cons_emb (Rect.unit ![h, 0, 0] ![1, 64, 256] inbA) A L _)
  funext a
  apply Fin.ext
  fin_cases a
  · show h + 1 * (j 0).val = h + 1 * 0; omega
  · rfl
  · show 128 + 1 * (j 2).val = 0 + 1 * 128; omega

end

theorem pay37_apply (a b : Fin 64) : k0_pay37 (ix2 a b) = BitVec.ofBool (decide (a = b)) := by
  pointwise [k0_pay37]
  rw [Heads.cmp_eq]

theorem startN0 (x : Vec Ideal S1x1x64 .f32) (d : Fin 64) (e : Fin 128) : (k0_pay6 (F := Ideal) k0_pay37 x) (ix3 0 d e) = x (ix3 0 0 d) := by
  pointwise [k0_pay6, pay37_apply]
  simp

theorem startC0 (x : Vec Ideal S1x1x64x128 .f32) (d : Fin 64) (e : Fin 128) : k0_pay5 (F := Ideal) x (ix3 0 d e) = x (ix4 0 0 d e) := by
  pointwise [k0_pay5]

theorem startN1 (x : Vec Ideal S1x1x64 .f32) (d : Fin 64) (e : Fin 128) : (k0_pay9 (F := Ideal) (k0_pay8 (F := Ideal) k0_pay37 x)) (ix3 0 d e) = x (ix3 0 0 d) := by
  pointwise [k0_pay8, k0_pay9, pay37_apply]
  simp

theorem startC1 (x : Vec Ideal S1x1x64x128 .f32) (d : Fin 64) (e : Fin 128) : k0_pay7 (F := Ideal) x (ix3 0 d e) = x (ix4 0 0 d e) := by
  pointwise [k0_pay7]

theorem startN2 (x : Vec Ideal S1x1x64 .f32) (d : Fin 64) (e : Fin 128) : (k0_pay11 (F := Ideal) k0_pay37 x) (ix3 0 d e) = x (ix3 0 0 d) := by
  pointwise [k0_pay11, pay37_apply]
  simp

theorem startC2 (x : Vec Ideal S1x1x64x128 .f32) (d : Fin 64) (e : Fin 128) : k0_pay10 (F := Ideal) x (ix3 0 d e) = x (ix4 0 0 d e) := by
  pointwise [k0_pay10]

theorem startN3 (x : Vec Ideal S1x1x64 .f32) (d : Fin 64) (e : Fin 128) : (k0_pay13 (F := Ideal) k0_pay37 x) (ix3 0 d e) = x (ix3 0 0 d) := by
  pointwise [k0_pay13, pay37_apply]
  simp

theorem startC3 (x : Vec Ideal S1x1x64x128 .f32) (d : Fin 64) (e : Fin 128) : k0_pay12 (F := Ideal) x (ix3 0 d e) = x (ix4 0 0 d e) := by
  pointwise [k0_pay12]

theorem startN4 (x : Vec Ideal S1x1x64 .f32) (d : Fin 64) (e : Fin 128) : (k0_pay15 (F := Ideal) k0_pay37 x) (ix3 0 d e) = x (ix3 0 0 d) := by
  pointwise [k0_pay15, pay37_apply]
  simp

theorem startC4 (x : Vec Ideal S1x1x64x128 .f32) (d : Fin 64) (e : Fin 128) : k0_pay14 (F := Ideal) x (ix3 0 d e) = x (ix4 0 0 d e) := by
  pointwise [k0_pay14]

theorem startN5 (x : Vec Ideal S1x1x64 .f32) (d : Fin 64) (e : Fin 128) : (k0_pay17 (F := Ideal) k0_pay37 x) (ix3 0 d e) = x (ix3 0 0 d) := by
  pointwise [k0_pay17, pay37_apply]
  simp

theorem startC5 (x : Vec Ideal S1x1x64x128 .f32) (d : Fin 64) (e : Fin 128) : k0_pay16 (F := Ideal) x (ix3 0 d e) = x (ix4 0 0 d e) := by
  pointwise [k0_pay16]

theorem startN6 (x : Vec Ideal S1x1x64 .f32) (d : Fin 64) (e : Fin 128) : (k0_pay38 (F := Ideal) (k0_pay19 (F := Ideal) k0_pay37 x)) (ix3 0 d e) = x (ix3 0 0 d) := by
  pointwise [k0_pay19, k0_pay38, pay37_apply]
  simp

theorem startC6 (x : Vec Ideal S1x1x64x128 .f32) (d : Fin 64) (e : Fin 128) : k0_pay18 (F := Ideal) x (ix3 0 d e) = x (ix4 0 0 d e) := by
  pointwise [k0_pay18]

theorem startN7 (x : Vec Ideal S1x1x64 .f32) (d : Fin 64) (e : Fin 128) : (k0_pay40 (F := Ideal) x) (ix3 0 d e) = x (ix3 0 0 d) := by
  pointwise [k0_pay40, pay37_apply]
  simp

theorem startC7 (x : Vec Ideal S1x1x64x128 .f32) (d : Fin 64) (e : Fin 128) : k0_pay39 (F := Ideal) x (ix3 0 d e) = x (ix4 0 0 d e) := by
  pointwise [k0_pay39]

theorem pay36_apply (x : Vec Ideal S1x64x128 .f32) (d : Fin 64) (e : Fin 128) : k0_pay36 (F := Ideal) x (ix2 d e) = x (ix3 0 d e) := by
  pointwise [k0_pay36]

theorem pay4_apply (x : Vec Ideal S1x128 .f32) (l : Fin 128) : k0_pay4 (F := Ideal) x (ix3 0 0 l) = x (ix2 0 l) := by
  pointwise [k0_pay4]

theorem pay120_apply (a : Vec Ideal S128x128 .f32) (b : Vec Ideal S1x128 .f32) (l : Fin 128) :
    k0_pay120 (F := Ideal) a b (ix2 0 l) = a (ix2 127 l) + b (ix2 0 l) := by
  pointwise [k0_pay120]

/-- The mixer's rows times the output weights, added to the scaled input: what the layer norm sees. -/
def pre (a : Vec Ideal S16x1024 .bf16) (w : Vec Ideal S1024x1024 .bf16) (x : Vec Ideal S8x1024 .f32) (t : Fin 8) (j : Fin 1024) : EReal :=
  Ideal.ofBits .f32 0x3FB504F3#32 * x (ix2 t j) + ∑ k : Fin 1024, a (ix2 ⟨t, by omega⟩ k) * w (ix2 k j)

theorem rows_apply (a : Vec Ideal S16x1024 .bf16) (w : Vec Ideal S1024x1024 .bf16) (x : Vec Ideal S8x1024 .f32) (g b : Vec Ideal S1x1024 .f32)
    (t : Fin 8) (j : Fin 1024) :
    k0_pay1 (F := Ideal) (k0_pay121 b) (k0_pay122 a w x) (k0_pay123 g) (ix2 t j)
      = Gates.layerNorm (pre a w x t) (fun k => g (ix2 0 k)) (fun k => b (ix2 0 k)) j := by
  unfold Gates.layerNorm pre
  pointwise [k0_pay1, k0_pay121, k0_pay122, k0_pay123]

section
variable (gi gf : Vec Ideal S128x128 .f32) (gt : Vec Ideal S1x16x128 .f32) (m : Vec Ideal S1x128 .f32) (q : Vec Ideal S8x64 .f32)
  (k : Vec Ideal S64x128 .bf16) (v o : Vec Ideal S8x128 .f32) (cp : Vec Ideal S1x64x256 .f32)

theorem head0 : k0_pay62 (k0_pay60 k0_pay44 (k0_pay51 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay52 (k0_pay45 gf) m (k0_pay48 (k0_pay46 gi gf) (iota .tc S128x128 32 [0] iota_S128x128_d0_w32) k0_pay47) (k0_pay49 (k0_pay46 gi gf) (iota .tc S128x128 32 [0] iota_S128x128_d0_w32) k0_pay47)) (k0_pay56 k0_pay42 k0_pay43 (iota .tc S16x128 32 [0] iota_S16x128_d0_w32) m (k0_pay48 (k0_pay46 gi gf) (iota .tc S128x128 32 [0] iota_S128x128_d0_w32) k0_pay47) (k0_pay49 (k0_pay46 gi gf) (iota .tc S128x128 32 [0] iota_S128x128_d0_w32) k0_pay47) gt) (k0_pay57 q) k v cp) (k0_pay61 o)
    = Heads.headTerm gi gf gt m 0 slices_S8x128_o0_0_S1x128 slices_S128x128_o0_0_S128x1 q k v cp o := rfl

theorem state0 : k0_pay63 (k0_pay53 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay54 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) (k0_pay58 k) (k0_pay59 k0_pay44 v) cp
    = Heads.stateTerm gi gf gt m 0 slices_S8x128_o0_0_S1x128 slices_S1x128_o0_0_S1x1 k v cp := rfl

theorem head1 : k0_pay69 k0_pay44 (k0_pay51 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay52 (k0_pay45 gf) m (k0_pay48 (k0_pay46 gi gf) (iota .tc S128x128 32 [0] iota_S128x128_d0_w32) k0_pay47) (k0_pay49 (k0_pay46 gi gf) (iota .tc S128x128 32 [0] iota_S128x128_d0_w32) k0_pay47)) (k0_pay64 k0_pay42 (k0_pay50 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt)) (k0_pay65 q) (k0_pay66 k) (k0_pay67 v) cp o
    = Heads.headTerm gi gf gt m 1 slices_S8x128_o1_0_S1x128 slices_S128x128_o0_1_S128x1 q k v cp o := rfl

theorem state1 : k0_pay70 (k0_pay53 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay54 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) (k0_pay66 k) (k0_pay68 k0_pay44 (k0_pay67 v)) cp
    = Heads.stateTerm gi gf gt m 1 slices_S8x128_o1_0_S1x128 slices_S1x128_o0_1_S1x1 k v cp := rfl

theorem head2 : k0_pay76 (k0_pay51 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay52 (k0_pay45 gf) m (k0_pay48 (k0_pay46 gi gf) (iota .tc S128x128 32 [0] iota_S128x128_d0_w32) k0_pay47) (k0_pay49 (k0_pay46 gi gf) (iota .tc S128x128 32 [0] iota_S128x128_d0_w32) k0_pay47)) (k0_pay71 k0_pay42 (k0_pay50 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt)) (k0_pay72 q) (k0_pay74 k0_pay44 v) (k0_pay75 q k) cp o
    = Heads.headTerm gi gf gt m 2 slices_S8x128_o2_0_S1x128 slices_S128x128_o0_2_S128x1 q k v cp o := rfl

theorem state2 : k0_pay79 (k0_pay54 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay74 k0_pay44 v) (k0_pay77 (k0_pay53 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt)) (k0_pay78 (k0_pay73 k)) cp
    = Heads.stateTerm gi gf gt m 2 slices_S8x128_o2_0_S1x128 slices_S1x128_o0_2_S1x1 k v cp := rfl

theorem head3 : k0_pay85 (k0_pay51 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay52 (k0_pay45 gf) m (k0_pay48 (k0_pay46 gi gf) (iota .tc S128x128 32 [0] iota_S128x128_d0_w32) k0_pay47) (k0_pay49 (k0_pay46 gi gf) (iota .tc S128x128 32 [0] iota_S128x128_d0_w32) k0_pay47)) (k0_pay80 q) (k0_pay82 k0_pay44 v) (k0_pay83 k0_pay42 (k0_pay50 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) q k) (k0_pay84 cp) o
    = Heads.headTerm gi gf gt m 3 slices_S8x128_o3_0_S1x128 slices_S128x128_o0_3_S128x1 q k v cp o := rfl

theorem state3 : k0_pay88 (k0_pay82 k0_pay44 v) (k0_pay86 (k0_pay53 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) (k0_pay81 k)) (k0_pay87 (k0_pay54 m (k0_pay48 (k0_pay46 gi gf) (iota .tc S128x128 32 [0] iota_S128x128_d0_w32) k0_pay47) (k0_pay49 (k0_pay46 gi gf) (iota .tc S128x128 32 [0] iota_S128x128_d0_w32) k0_pay47))) cp
    = Heads.stateTerm gi gf gt m 3 slices_S8x128_o3_0_S1x128 slices_S1x128_o0_3_S1x1 k v cp := rfl

theorem head4 : k0_pay95 (k0_pay52 (k0_pay45 gf) m (k0_pay48 (k0_pay46 gi gf) (iota .tc S128x128 32 [0] iota_S128x128_d0_w32) k0_pay47) (k0_pay49 (k0_pay46 gi gf) (iota .tc S128x128 32 [0] iota_S128x128_d0_w32) k0_pay47)) (k0_pay91 k0_pay44 v) (k0_pay92 q cp) (k0_pay93 (k0_pay51 m (k0_pay48 (k0_pay46 gi gf) (iota .tc S128x128 32 [0] iota_S128x128_d0_w32) k0_pay47) (k0_pay49 (k0_pay46 gi gf) (iota .tc S128x128 32 [0] iota_S128x128_d0_w32) k0_pay47))) (k0_pay94 k0_pay42 (k0_pay50 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) q k) (constant S128x256 .f32 0x00000000#32) o
    = Heads.headTerm gi gf gt m 4 slices_S8x128_o4_0_S1x128 slices_S128x128_o0_4_S128x1 q k v cp o := rfl

theorem state4 : k0_pay97 (k0_pay96 (k0_pay53 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay54 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) (k0_pay90 k) (k0_pay91 k0_pay44 v) cp)
    = Heads.stateTerm gi gf gt m 4 slices_S8x128_o4_0_S1x128 slices_S1x128_o0_4_S1x1 k v cp := rfl

theorem head5 : k0_pay102 (k0_pay100 k0_pay42 k0_pay44 (k0_pay50 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay51 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) q k v cp) (k0_pay101 (k0_pay52 (k0_pay45 gf) m (k0_pay48 (k0_pay46 gi gf) (iota .tc S128x128 32 [0] iota_S128x128_d0_w32) k0_pay47) (k0_pay49 (k0_pay46 gi gf) (iota .tc S128x128 32 [0] iota_S128x128_d0_w32) k0_pay47))) o
    = Heads.headTerm gi gf gt m 5 slices_S8x128_o5_0_S1x128 slices_S128x128_o0_5_S128x1 q k v cp o := rfl

theorem state5 : k0_pay103 (k0_pay53 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay54 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) (k0_pay98 k) (k0_pay99 k0_pay44 v) cp
    = Heads.stateTerm gi gf gt m 5 slices_S8x128_o5_0_S1x128 slices_S1x128_o0_5_S1x1 k v cp := rfl

theorem head6 : k0_pay108 (k0_pay106 k0_pay42 k0_pay44 (k0_pay50 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay51 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) q k v cp) (k0_pay107 k0_pay42 k0_pay44 (k0_pay50 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay51 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay52 (k0_pay45 gf) m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) q k v cp) o
    = Heads.headTerm gi gf gt m 6 slices_S8x128_o6_0_S1x128 slices_S128x128_o0_6_S128x1 q k v cp o := rfl

theorem state6 : k0_pay109 (k0_pay53 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay54 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) (k0_pay104 k) (k0_pay105 k0_pay44 v) cp
    = Heads.stateTerm gi gf gt m 6 slices_S8x128_o6_0_S1x128 slices_S1x128_o0_6_S1x1 k v cp := rfl

theorem head7 : k0_pay118 (k0_pay115 k0_pay42 k0_pay44 (k0_pay51 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay52 (k0_pay45 gf) m (k0_pay48 (k0_pay46 gi gf) (iota .tc S128x128 32 [0] iota_S128x128_d0_w32) k0_pay47) (k0_pay49 (k0_pay46 gi gf) (iota .tc S128x128 32 [0] iota_S128x128_d0_w32) k0_pay47)) (k0_pay110 (k0_pay50 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt)) k0_pay111 q k v cp) (k0_pay116 o) (k0_pay117 k0_pay42 k0_pay44 (k0_pay51 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay110 (k0_pay50 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt)) k0_pay111 q k v cp)
    = Heads.headTerm gi gf gt m 7 slices_S8x128_o7_0_S1x128 slices_S128x128_o0_7_S128x1 q k v cp o := rfl

theorem state7 : k0_pay119 (k0_pay53 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay54 m (k0_pay48 (k0_pay46 gi gf) (iota .tc S128x128 32 [0] iota_S128x128_d0_w32) k0_pay47) (k0_pay49 (k0_pay46 gi gf) (iota .tc S128x128 32 [0] iota_S128x128_d0_w32) k0_pay47)) (k0_pay55 k0_pay43 (iota .tc S16x128 32 [0] iota_S16x128_d0_w32) gt) (k0_pay112 k) (k0_pay113 k0_pay44 v) cp
    = Heads.stateTerm gi gf gt m 7 slices_S8x128_o7_0_S1x128 slices_S1x128_o0_7_S1x1 k v cp := rfl

end

section
variable (x : Vec Ideal S1x64x256 .f32) (d : Fin 64) (e : Fin 128)

theorem endC0 : k0_pay20 (F := Ideal) (fun j : S1x64x128.Idx => x (ix3 0 (j 1) ⟨(j 2).val, lt_trans (j 2).isLt (by decide : 128 < 256)⟩)) (ix4 0 0 d e) = x (ix3 0 d (⟨e, by omega⟩ : Fin 256)) := by
  pointwise [k0_pay20]

theorem endN0 : k0_pay21 (F := Ideal) k0_pay37 (fun j : S1x64x1.Idx => x (ix3 0 (j 1) (⟨128, by decide⟩ : Fin 256))) (ix3 0 0 d) = x (ix3 0 d (⟨128, by decide⟩ : Fin 256)) := by
  pointwise [k0_pay21, pay37_apply]
  simp

theorem endC1 : k0_pay22 (F := Ideal) (fun j : S1x64x128.Idx => x (ix3 0 (j 1) ⟨(j 2).val, lt_trans (j 2).isLt (by decide : 128 < 256)⟩)) (ix4 0 0 d e) = x (ix3 0 d (⟨e, by omega⟩ : Fin 256)) := by
  pointwise [k0_pay22]

theorem endN1 : k0_pay24 (F := Ideal) (k0_pay23 (F := Ideal) k0_pay37 (fun j : S1x64x1.Idx => x (ix3 0 (j 1) (⟨128, by decide⟩ : Fin 256)))) (ix3 0 0 d) = x (ix3 0 d (⟨128, by decide⟩ : Fin 256)) := by
  pointwise [k0_pay23, k0_pay24, pay37_apply]
  simp

theorem endC2 : k0_pay25 (F := Ideal) (fun j : S1x64x128.Idx => x (ix3 0 (j 1) ⟨(j 2).val, lt_trans (j 2).isLt (by decide : 128 < 256)⟩)) (ix4 0 0 d e) = x (ix3 0 d (⟨e, by omega⟩ : Fin 256)) := by
  pointwise [k0_pay25]

theorem endN2 : k0_pay26 (F := Ideal) k0_pay37 (fun j : S1x64x1.Idx => x (ix3 0 (j 1) (⟨128, by decide⟩ : Fin 256))) (ix3 0 0 d) = x (ix3 0 d (⟨128, by decide⟩ : Fin 256)) := by
  pointwise [k0_pay26, pay37_apply]
  simp

theorem endC3 : k0_pay27 (F := Ideal) (fun j : S1x64x128.Idx => x (ix3 0 (j 1) ⟨(j 2).val, lt_trans (j 2).isLt (by decide : 128 < 256)⟩)) (ix4 0 0 d e) = x (ix3 0 d (⟨e, by omega⟩ : Fin 256)) := by
  pointwise [k0_pay27]

theorem endN3 : k0_pay29 (F := Ideal) k0_pay37 (k0_pay28 (F := Ideal) (fun j : S1x64x1.Idx => x (ix3 0 (j 1) (⟨128, by decide⟩ : Fin 256)))) (FloatOps.ofBits .f32 0x00000000#32) (ix3 0 0 d) = x (ix3 0 d (⟨128, by decide⟩ : Fin 256)) := by
  pointwise [k0_pay28, k0_pay29, pay37_apply]
  simp

theorem endC4 : k0_pay30 (F := Ideal) (fun j : S1x64x128.Idx => x (ix3 0 (j 1) ⟨(j 2).val, lt_trans (j 2).isLt (by decide : 128 < 256)⟩)) (ix4 0 0 d e) = x (ix3 0 d (⟨e, by omega⟩ : Fin 256)) := by
  pointwise [k0_pay30]

theorem endN4 : k0_pay31 (F := Ideal) k0_pay37 (fun j : S1x64x1.Idx => x (ix3 0 (j 1) (⟨128, by decide⟩ : Fin 256))) (ix3 0 0 d) = x (ix3 0 d (⟨128, by decide⟩ : Fin 256)) := by
  pointwise [k0_pay31, pay37_apply]
  simp

theorem endC5 : k0_pay32 (F := Ideal) (fun j : S1x64x128.Idx => x (ix3 0 (j 1) ⟨(j 2).val, lt_trans (j 2).isLt (by decide : 128 < 256)⟩)) (ix4 0 0 d e) = x (ix3 0 d (⟨e, by omega⟩ : Fin 256)) := by
  pointwise [k0_pay32]

theorem endN5 : k0_pay33 (F := Ideal) k0_pay37 (fun j : S1x64x1.Idx => x (ix3 0 (j 1) (⟨128, by decide⟩ : Fin 256))) (ix3 0 0 d) = x (ix3 0 d (⟨128, by decide⟩ : Fin 256)) := by
  pointwise [k0_pay33, pay37_apply]
  simp

theorem endC6 : k0_pay34 (F := Ideal) (fun j : S1x64x128.Idx => x (ix3 0 (j 1) ⟨(j 2).val, lt_trans (j 2).isLt (by decide : 128 < 256)⟩)) (ix4 0 0 d e) = x (ix3 0 d (⟨e, by omega⟩ : Fin 256)) := by
  pointwise [k0_pay34]

theorem endN6 : k0_pay35 (F := Ideal) k0_pay37 (fun j : S1x64x1.Idx => x (ix3 0 (j 1) (⟨128, by decide⟩ : Fin 256))) (ix3 0 0 d) = x (ix3 0 d (⟨128, by decide⟩ : Fin 256)) := by
  pointwise [k0_pay35, pay37_apply]
  simp

theorem endC7 : k0_pay2 (F := Ideal) (k0_pay36 (fun j : S1x64x128.Idx => x (ix3 0 (j 1) ⟨(j 2).val, lt_trans (j 2).isLt (by decide : 128 < 256)⟩))) (ix4 0 0 d e) = x (ix3 0 d (⟨e, by omega⟩ : Fin 256)) := by
  pointwise [k0_pay2, k0_pay36]

theorem endN7 : k0_pay3 (F := Ideal) k0_pay37 (fun j : S1x64x1.Idx => x (ix3 0 (j 1) (⟨128, by decide⟩ : Fin 256))) (ix3 0 0 d) = x (ix3 0 d (⟨128, by decide⟩ : Fin 256)) := by
  pointwise [k0_pay3, pay37_apply]
  simp

end

/-- A load of a block of a matrix, at an index. -/
theorem ld2 {R C n k a b : ℕ} {e : EltTy} (X : Vec Ideal ⟨2, ![R, C]⟩ e) (inb) (i : Fin n) (j : Fin k) (i' : Fin R) (j' : Fin C)
    (hi : i'.val = a + i.val) (hj : j'.val = b + j.val) : View.ld X (Rect.unit ![a, b] ![n, k] inb) (ix2 i j) = X (ix2 i' j') :=
  View.ld_unit_apply_of X _ _ inb _ _ fun ax => by
    fin_cases ax
    · exact hi
    · exact hj

/-- A load of one head's normaliser, at an index. -/
theorem ld3 {h : ℕ} (X : Vec Ideal S1x8x64 .f32) (inb) (hd : Fin 8) (d : Fin 64) (hh : hd.val = h) :
    View.ld X (Rect.unit ![0, h, 0] ![1, 1, 64] inb) (ix3 0 0 d) = X (ix3 0 hd d) :=
  View.ld_unit_apply_of X _ _ inb _ _ fun ax => by
    fin_cases ax
    · rfl
    · exact hh
    · exact (Nat.zero_add _).symm

/-- A load of one head's matrix state, at an index. -/
theorem ld4 {h : ℕ} (X : Vec Ideal S1x8x64x128 .f32) (inb) (hd : Fin 8) (d : Fin 64) (e : Fin 128) (hh : hd.val = h) :
    View.ld X (Rect.unit ![0, h, 0, 0] ![1, 1, 64, 128] inb) (ix4 0 0 d e) = X (ix4 0 hd d e) :=
  View.ld_unit_apply_of X _ _ inb _ _ fun ax => by
    fin_cases ax
    · rfl
    · exact hh
    · exact (Nat.zero_add _).symm
    · exact (Nat.zero_add _).symm

section
variable (x0 : Vec Ideal S8x1536 .f32) (x1 : Vec Ideal S512x128 .bf16) (x2 : Vec Ideal S8x1024 .f32) (x7 : Vec Ideal S1x8x64x128 .f32)
  (x8 : Vec Ideal S1x8x64 .f32)

/-- One head's queries, keys, values, matrix state and normaliser in the blocks of a grid point. -/
def qAt (h t : Fin 8) (d : Fin 64) : EReal := x0 (ix2 t ⟨64 * h.val + d.val, by omega⟩)
def kAt (h s : Fin 8) (d : Fin 64) : EReal := x1 (ix2 ⟨64 * h.val + d.val, by omega⟩ ⟨s.val, by omega⟩)
def vAt (h s : Fin 8) (e : Fin 128) : EReal := x0 (ix2 s ⟨512 + (128 * h.val + e.val), by omega⟩)
def cAt (h : Fin 8) (d : Fin 64) (e : Fin 128) : EReal := x7 (ix4 0 h d e)
def nAt (h : Fin 8) (d : Fin 64) : EReal := x8 (ix3 0 h d)

variable (gi gf : Vec Ideal S128x128 .f32) (gt : Vec Ideal S1x16x128 .f32) (m : Vec Ideal S1x128 .f32) (i f : Fin 8 → Fin 8 → EReal)

/-- The mixer's output of head `h` at one of the chunk's tokens, gated. -/
def mixAt (h t : Fin 8) (e : Fin 128) : EReal :=
  Gates.gate (x2 (ix2 t ⟨128 * h.val + e.val, by omega⟩))
    * Gates.hid (qAt x0 h) (kAt x1 h) (vAt x0 h) (cAt x7 h) (nAt x8 h) (i h) (f h) (m (ix2 0 ⟨h.val, by omega⟩)) t e

variable {gi gf gt i f} (P : Heads.Padded gi gf gt i f)
include P

theorem head_value (h t : Fin 8) (e : Fin 128) (s1 s2) (q : Vec Ideal S8x64 .f32) (k : Vec Ideal S64x128 .bf16) (v o : Vec Ideal S8x128 .f32)
    (A B : Vec Ideal S1x64x128 .f32) (hi : ∀ s, i h s < ⊤) (hm : m (ix2 0 ⟨h.val, by omega⟩) < ⊤) (hq : ∀ t d, q (ix2 t d) = qAt x0 h t d)
    (hk : ∀ (s : Fin 8) d, k (ix2 d ⟨s.val, by omega⟩) = kAt x1 h s d) (hv : ∀ s e, v (ix2 s e) = vAt x0 h s e)
    (ho : ∀ t e, o (ix2 t e) = x2 (ix2 t ⟨128 * h.val + e.val, by omega⟩)) (hA : ∀ d e, A (ix3 0 d e) = nAt x8 h d)
    (hB : ∀ d e, B (ix3 0 d e) = cAt x7 h d e) :
    Heads.headTerm gi gf gt m h s1 s2 q k v (halves A B) o (ix2 ⟨t.val, by omega⟩ e) = mixAt x0 x1 x2 x7 x8 m i f h t e := by
  rw [Heads.headTerm_apply m P h t e s1 s2 q k v (halves A B) o (nAt x8 h) hi hm fun d e => (halves_right A B d e).trans (hA d e), ho]
  unfold mixAt
  simp only [hq, hk, hv, halves_left, hB]

theorem stateC_value (h : Fin 8) (d : Fin 64) (e : Fin 128) (s1 s2) (k : Vec Ideal S64x128 .bf16) (v : Vec Ideal S8x128 .f32)
    (A B : Vec Ideal S1x64x128 .f32) (hk : ∀ (s : Fin 8) d, k (ix2 d ⟨s.val, by omega⟩) = kAt x1 h s d) (hv : ∀ s e, v (ix2 s e) = vAt x0 h s e)
    (hB : ∀ d e, B (ix3 0 d e) = cAt x7 h d e) :
    Heads.stateTerm gi gf gt m h s1 s2 k v (halves A B) (ix3 0 d (⟨e.val, by omega⟩ : Fin 256))
      = Gates.stateC (kAt x1 h) (vAt x0 h) (cAt x7 h) (i h) (f h) (m (ix2 0 ⟨h.val, by omega⟩)) d e := by
  rw [Heads.stateTerm_left m P h d e s1 s2 k v (halves A B)]
  simp only [hk, hv, halves_left, hB]

theorem stateN_value (h : Fin 8) (d : Fin 64) (s1 s2) (k : Vec Ideal S64x128 .bf16) (v : Vec Ideal S8x128 .f32)
    (A B : Vec Ideal S1x64x128 .f32) (hk : ∀ (s : Fin 8) d, k (ix2 d ⟨s.val, by omega⟩) = kAt x1 h s d)
    (hA : ∀ d e, A (ix3 0 d e) = nAt x8 h d) :
    Heads.stateTerm gi gf gt m h s1 s2 k v (halves A B) (ix3 0 d (⟨128, by decide⟩ : Fin 256))
      = Gates.stateN (kAt x1 h) (nAt x8 h) (i h) (f h) (m (ix2 0 ⟨h.val, by omega⟩)) d := by
  refine (Heads.stateTerm_right m P h d 0 s1 s2 k v (halves A B)).trans ?_
  simp only [hk, halves_right, hA]

end

/-- Past the heads' lanes the padded gates are zero, and so is the state's maximum. -/
theorem stabEnd_pad (gi gf : Vec Ideal S128x128 .f32) (m : Vec Ideal S1x128 .f32) (l : Fin 128) (hr : ∀ s, Gates.Real? (gf s))
    (hi : ∀ s, gi (ix2 s l) = 0) (hf : ∀ s, gf (ix2 s l) = 0) (hm : m (ix2 0 l) = 0) :
    k0_pay120 (F := Ideal) (k0_pay45 gf) (Heads.maximaEnd gi gf m) (ix2 0 l) = 0 := by
  have hb : ∀ t, k0_pay45 (F := Ideal) gf (ix2 t l) = 0 := fun t => by
    rw [Heads.pay45_apply gf (fun j => (hr j).sub_self)]
    simp [hf]
  rw [pay120_apply, hb, Heads.maximaEnd, Heads.pay53_apply, Heads.pay50_win, hm, zero_add]
  refine max_eq_right ?_
  refine Finset.sup_le fun t ht => ?_
  have : t < 128 := by have := (Finset.mem_Icc.1 ht).2; simp at this; omega
  rw [Heads.col, dif_pos this, Heads.pay46_apply, hi, hb]
  simp

end Cert.Pieces
end
-- ==== Proof.Stores.lean ====
/- One grid point's stores, and the arrays they leave, as the reference's quantities over that grid point's blocks. -/
module

public import proofs.«01_k».proof.Proof.Gen.KernelIdeal.Frame
public import proofs.«01_k».proof.Proof.Pieces

@[expose] public section

set_option maxRecDepth 16384
set_option maxHeartbeats 1000000

noncomputable section

namespace Cert.Stores

open Cert.KernelIdeal Cert.KernelIdeal.Gen Cert.Pieces Idealize.ShloMosaic Idealize.ShloMosaic.TcCoe Idealize.SL.Sem

section
variable (x0 : Vec Ideal S8x1536 .f32) (x1 : Vec Ideal S512x128 .bf16) (x2 : Vec Ideal S8x1024 .f32) (x3 x4 : Vec Ideal S128x128 .f32)
  (x5 : Vec Ideal S1x16x128 .f32) (x7 : Vec Ideal S1x8x64x128 .f32) (x8 : Vec Ideal S1x8x64 .f32) (x9 : Vec Ideal S1x1x128 .f32)

/-- Head 0: the state block it leaves, and its block of the mixer's output. -/
def upd0 : Vec Ideal S1x64x256 .f32 :=
  Heads.stateTerm x3 x4 x5 (k0_pay41 x9) 0 slices_S8x128_o0_0_S1x128 slices_S1x128_o0_0_S1x1
    (View.ld x1 (Rect.unit ![0, 0] ![64, 128] inb_S512x128_S64x128_0_0)) (View.ld x0 (Rect.unit ![0, 512] ![8, 128] inb_S8x1536_S8x128_0_512))
    (halves (k0_pay6 k0_pay37 (View.ld x8 (Rect.unit ![0, 0, 0] ![1, 1, 64] inb_S1x8x64_S1x1x64_0_0_0)))
      (k0_pay5 (View.ld x7 (Rect.unit ![0, 0, 0, 0] ![1, 1, 64, 128] inb_S1x8x64x128_S1x1x64x128_0_0_0_0))))

def mix0 : Vec Ideal S128x128 .bf16 :=
  Heads.headTerm x3 x4 x5 (k0_pay41 x9) 0 slices_S8x128_o0_0_S1x128 slices_S128x128_o0_0_S128x1
    (View.ld x0 (Rect.unit ![0, 0] ![8, 64] inb_S8x1536_S8x64_0_0)) (View.ld x1 (Rect.unit ![0, 0] ![64, 128] inb_S512x128_S64x128_0_0))
    (View.ld x0 (Rect.unit ![0, 512] ![8, 128] inb_S8x1536_S8x128_0_512))
    (halves (k0_pay6 k0_pay37 (View.ld x8 (Rect.unit ![0, 0, 0] ![1, 1, 64] inb_S1x8x64_S1x1x64_0_0_0)))
      (k0_pay5 (View.ld x7 (Rect.unit ![0, 0, 0, 0] ![1, 1, 64, 128] inb_S1x8x64x128_S1x1x64x128_0_0_0_0))))
    (View.ld x2 (Rect.unit ![0, 0] ![8, 128] inb_S8x1024_S8x128_0_0))

/-- Head 1: the state block it leaves, and its block of the mixer's output. -/
def upd1 : Vec Ideal S1x64x256 .f32 :=
  Heads.stateTerm x3 x4 x5 (k0_pay41 x9) 1 slices_S8x128_o1_0_S1x128 slices_S1x128_o0_1_S1x1
    (View.ld x1 (Rect.unit ![64, 0] ![64, 128] inb_S512x128_S64x128_64_0)) (View.ld x0 (Rect.unit ![0, 640] ![8, 128] inb_S8x1536_S8x128_0_640))
    (halves (k0_pay9 (k0_pay8 k0_pay37 (View.ld x8 (Rect.unit ![0, 1, 0] ![1, 1, 64] inb_S1x8x64_S1x1x64_0_1_0))))
      (k0_pay7 (View.ld x7 (Rect.unit ![0, 1, 0, 0] ![1, 1, 64, 128] inb_S1x8x64x128_S1x1x64x128_0_1_0_0))))

def mix1 : Vec Ideal S128x128 .bf16 :=
  Heads.headTerm x3 x4 x5 (k0_pay41 x9) 1 slices_S8x128_o1_0_S1x128 slices_S128x128_o0_1_S128x1
    (View.ld x0 (Rect.unit ![0, 64] ![8, 64] inb_S8x1536_S8x64_0_64)) (View.ld x1 (Rect.unit ![64, 0] ![64, 128] inb_S512x128_S64x128_64_0))
    (View.ld x0 (Rect.unit ![0, 640] ![8, 128] inb_S8x1536_S8x128_0_640))
    (halves (k0_pay9 (k0_pay8 k0_pay37 (View.ld x8 (Rect.unit ![0, 1, 0] ![1, 1, 64] inb_S1x8x64_S1x1x64_0_1_0))))
      (k0_pay7 (View.ld x7 (Rect.unit ![0, 1, 0, 0] ![1, 1, 64, 128] inb_S1x8x64x128_S1x1x64x128_0_1_0_0))))
    (View.ld x2 (Rect.unit ![0, 128] ![8, 128] inb_S8x1024_S8x128_0_128))

/-- Head 2: the state block it leaves, and its block of the mixer's output. -/
def upd2 : Vec Ideal S1x64x256 .f32 :=
  Heads.stateTerm x3 x4 x5 (k0_pay41 x9) 2 slices_S8x128_o2_0_S1x128 slices_S1x128_o0_2_S1x1
    (View.ld x1 (Rect.unit ![128, 0] ![64, 128] inb_S512x128_S64x128_128_0)) (View.ld x0 (Rect.unit ![0, 768] ![8, 128] inb_S8x1536_S8x128_0_768))
    (halves (k0_pay11 k0_pay37 (View.ld x8 (Rect.unit ![0, 2, 0] ![1, 1, 64] inb_S1x8x64_S1x1x64_0_2_0)))
      (k0_pay10 (View.ld x7 (Rect.unit ![0, 2, 0, 0] ![1, 1, 64, 128] inb_S1x8x64x128_S1x1x64x128_0_2_0_0))))

def mix2 : Vec Ideal S128x128 .bf16 :=
  Heads.headTerm x3 x4 x5 (k0_pay41 x9) 2 slices_S8x128_o2_0_S1x128 slices_S128x128_o0_2_S128x1
    (View.ld x0 (Rect.unit ![0, 128] ![8, 64] inb_S8x1536_S8x64_0_128)) (View.ld x1 (Rect.unit ![128, 0] ![64, 128] inb_S512x128_S64x128_128_0))
    (View.ld x0 (Rect.unit ![0, 768] ![8, 128] inb_S8x1536_S8x128_0_768))
    (halves (k0_pay11 k0_pay37 (View.ld x8 (Rect.unit ![0, 2, 0] ![1, 1, 64] inb_S1x8x64_S1x1x64_0_2_0)))
      (k0_pay10 (View.ld x7 (Rect.unit ![0, 2, 0, 0] ![1, 1, 64, 128] inb_S1x8x64x128_S1x1x64x128_0_2_0_0))))
    (View.ld x2 (Rect.unit ![0, 256] ![8, 128] inb_S8x1024_S8x128_0_256))

/-- Head 3: the state block it leaves, and its block of the mixer's output. -/
def upd3 : Vec Ideal S1x64x256 .f32 :=
  Heads.stateTerm x3 x4 x5 (k0_pay41 x9) 3 slices_S8x128_o3_0_S1x128 slices_S1x128_o0_3_S1x1
    (View.ld x1 (Rect.unit ![192, 0] ![64, 128] inb_S512x128_S64x128_192_0)) (View.ld x0 (Rect.unit ![0, 896] ![8, 128] inb_S8x1536_S8x128_0_896))
    (halves (k0_pay13 k0_pay37 (View.ld x8 (Rect.unit ![0, 3, 0] ![1, 1, 64] inb_S1x8x64_S1x1x64_0_3_0)))
      (k0_pay12 (View.ld x7 (Rect.unit ![0, 3, 0, 0] ![1, 1, 64, 128] inb_S1x8x64x128_S1x1x64x128_0_3_0_0))))

def mix3 : Vec Ideal S128x128 .bf16 :=
  Heads.headTerm x3 x4 x5 (k0_pay41 x9) 3 slices_S8x128_o3_0_S1x128 slices_S128x128_o0_3_S128x1
    (View.ld x0 (Rect.unit ![0, 192] ![8, 64] inb_S8x1536_S8x64_0_192)) (View.ld x1 (Rect.unit ![192, 0] ![64, 128] inb_S512x128_S64x128_192_0))
    (View.ld x0 (Rect.unit ![0, 896] ![8, 128] inb_S8x1536_S8x128_0_896))
    (halves (k0_pay13 k0_pay37 (View.ld x8 (Rect.unit ![0, 3, 0] ![1, 1, 64] inb_S1x8x64_S1x1x64_0_3_0)))
      (k0_pay12 (View.ld x7 (Rect.unit ![0, 3, 0, 0] ![1, 1, 64, 128] inb_S1x8x64x128_S1x1x64x128_0_3_0_0))))
    (View.ld x2 (Rect.unit ![0, 384] ![8, 128] inb_S8x1024_S8x128_0_384))

/-- Head 4: the state block it leaves, and its block of the mixer's output. -/
def upd4 : Vec Ideal S1x64x256 .f32 :=
  Heads.stateTerm x3 x4 x5 (k0_pay41 x9) 4 slices_S8x128_o4_0_S1x128 slices_S1x128_o0_4_S1x1
    (View.ld x1 (Rect.unit ![256, 0] ![64, 128] inb_S512x128_S64x128_256_0)) (View.ld x0 (Rect.unit ![0, 1024] ![8, 128] inb_S8x1536_S8x128_0_1024))
    (halves (k0_pay15 k0_pay37 (View.ld x8 (Rect.unit ![0, 4, 0] ![1, 1, 64] inb_S1x8x64_S1x1x64_0_4_0)))
      (k0_pay14 (View.ld x7 (Rect.unit ![0, 4, 0, 0] ![1, 1, 64, 128] inb_S1x8x64x128_S1x1x64x128_0_4_0_0))))

def mix4 : Vec Ideal S128x128 .bf16 :=
  Heads.headTerm x3 x4 x5 (k0_pay41 x9) 4 slices_S8x128_o4_0_S1x128 slices_S128x128_o0_4_S128x1
    (View.ld x0 (Rect.unit ![0, 256] ![8, 64] inb_S8x1536_S8x64_0_256)) (View.ld x1 (Rect.unit ![256, 0] ![64, 128] inb_S512x128_S64x128_256_0))
    (View.ld x0 (Rect.unit ![0, 1024] ![8, 128] inb_S8x1536_S8x128_0_1024))
    (halves (k0_pay15 k0_pay37 (View.ld x8 (Rect.unit ![0, 4, 0] ![1, 1, 64] inb_S1x8x64_S1x1x64_0_4_0)))
      (k0_pay14 (View.ld x7 (Rect.unit ![0, 4, 0, 0] ![1, 1, 64, 128] inb_S1x8x64x128_S1x1x64x128_0_4_0_0))))
    (View.ld x2 (Rect.unit ![0, 512] ![8, 128] inb_S8x1024_S8x128_0_512))

/-- Head 5: the state block it leaves, and its block of the mixer's output. -/
def upd5 : Vec Ideal S1x64x256 .f32 :=
  Heads.stateTerm x3 x4 x5 (k0_pay41 x9) 5 slices_S8x128_o5_0_S1x128 slices_S1x128_o0_5_S1x1
    (View.ld x1 (Rect.unit ![320, 0] ![64, 128] inb_S512x128_S64x128_320_0)) (View.ld x0 (Rect.unit ![0, 1152] ![8, 128] inb_S8x1536_S8x128_0_1152))
    (halves (k0_pay17 k0_pay37 (View.ld x8 (Rect.unit ![0, 5, 0] ![1, 1, 64] inb_S1x8x64_S1x1x64_0_5_0)))
      (k0_pay16 (View.ld x7 (Rect.unit ![0, 5, 0, 0] ![1, 1, 64, 128] inb_S1x8x64x128_S1x1x64x128_0_5_0_0))))

def mix5 : Vec Ideal S128x128 .bf16 :=
  Heads.headTerm x3 x4 x5 (k0_pay41 x9) 5 slices_S8x128_o5_0_S1x128 slices_S128x128_o0_5_S128x1
    (View.ld x0 (Rect.unit ![0, 320] ![8, 64] inb_S8x1536_S8x64_0_320)) (View.ld x1 (Rect.unit ![320, 0] ![64, 128] inb_S512x128_S64x128_320_0))
    (View.ld x0 (Rect.unit ![0, 1152] ![8, 128] inb_S8x1536_S8x128_0_1152))
    (halves (k0_pay17 k0_pay37 (View.ld x8 (Rect.unit ![0, 5, 0] ![1, 1, 64] inb_S1x8x64_S1x1x64_0_5_0)))
      (k0_pay16 (View.ld x7 (Rect.unit ![0, 5, 0, 0] ![1, 1, 64, 128] inb_S1x8x64x128_S1x1x64x128_0_5_0_0))))
    (View.ld x2 (Rect.unit ![0, 640] ![8, 128] inb_S8x1024_S8x128_0_640))

/-- Head 6: the state block it leaves, and its block of the mixer's output. -/
def upd6 : Vec Ideal S1x64x256 .f32 :=
  Heads.stateTerm x3 x4 x5 (k0_pay41 x9) 6 slices_S8x128_o6_0_S1x128 slices_S1x128_o0_6_S1x1
    (View.ld x1 (Rect.unit ![384, 0] ![64, 128] inb_S512x128_S64x128_384_0)) (View.ld x0 (Rect.unit ![0, 1280] ![8, 128] inb_S8x1536_S8x128_0_1280))
    (halves (k0_pay38 (k0_pay19 k0_pay37 (View.ld x8 (Rect.unit ![0, 6, 0] ![1, 1, 64] inb_S1x8x64_S1x1x64_0_6_0))))
      (k0_pay18 (View.ld x7 (Rect.unit ![0, 6, 0, 0] ![1, 1, 64, 128] inb_S1x8x64x128_S1x1x64x128_0_6_0_0))))

def mix6 : Vec Ideal S128x128 .bf16 :=
  Heads.headTerm x3 x4 x5 (k0_pay41 x9) 6 slices_S8x128_o6_0_S1x128 slices_S128x128_o0_6_S128x1
    (View.ld x0 (Rect.unit ![0, 384] ![8, 64] inb_S8x1536_S8x64_0_384)) (View.ld x1 (Rect.unit ![384, 0] ![64, 128] inb_S512x128_S64x128_384_0))
    (View.ld x0 (Rect.unit ![0, 1280] ![8, 128] inb_S8x1536_S8x128_0_1280))
    (halves (k0_pay38 (k0_pay19 k0_pay37 (View.ld x8 (Rect.unit ![0, 6, 0] ![1, 1, 64] inb_S1x8x64_S1x1x64_0_6_0))))
      (k0_pay18 (View.ld x7 (Rect.unit ![0, 6, 0, 0] ![1, 1, 64, 128] inb_S1x8x64x128_S1x1x64x128_0_6_0_0))))
    (View.ld x2 (Rect.unit ![0, 768] ![8, 128] inb_S8x1024_S8x128_0_768))

/-- Head 7: the state block it leaves, and its block of the mixer's output. -/
def upd7 : Vec Ideal S1x64x256 .f32 :=
  Heads.stateTerm x3 x4 x5 (k0_pay41 x9) 7 slices_S8x128_o7_0_S1x128 slices_S1x128_o0_7_S1x1
    (View.ld x1 (Rect.unit ![448, 0] ![64, 128] inb_S512x128_S64x128_448_0)) (View.ld x0 (Rect.unit ![0, 1408] ![8, 128] inb_S8x1536_S8x128_0_1408))
    (halves (k0_pay40 (View.ld x8 (Rect.unit ![0, 7, 0] ![1, 1, 64] inb_S1x8x64_S1x1x64_0_7_0)))
      (k0_pay39 (View.ld x7 (Rect.unit ![0, 7, 0, 0] ![1, 1, 64, 128] inb_S1x8x64x128_S1x1x64x128_0_7_0_0))))

def mix7 : Vec Ideal S128x128 .bf16 :=
  Heads.headTerm x3 x4 x5 (k0_pay41 x9) 7 slices_S8x128_o7_0_S1x128 slices_S128x128_o0_7_S128x1
    (View.ld x0 (Rect.unit ![0, 448] ![8, 64] inb_S8x1536_S8x64_0_448)) (View.ld x1 (Rect.unit ![448, 0] ![64, 128] inb_S512x128_S64x128_448_0))
    (View.ld x0 (Rect.unit ![0, 1408] ![8, 128] inb_S8x1536_S8x128_0_1408))
    (halves (k0_pay40 (View.ld x8 (Rect.unit ![0, 7, 0] ![1, 1, 64] inb_S1x8x64_S1x1x64_0_7_0)))
      (k0_pay39 (View.ld x7 (Rect.unit ![0, 7, 0, 0] ![1, 1, 64, 128] inb_S1x8x64x128_S1x1x64x128_0_7_0_0))))
    (View.ld x2 (Rect.unit ![0, 896] ![8, 128] inb_S8x1024_S8x128_0_896))

/-- The stores of the matrix states, of the normalisers, and of the mixer's columns: the last first. -/
def stores14 : List (View.Piece (Elt Ideal) S1x8x64x128 .f32) :=
  [⟨Rect.unit ![0, 7, 0, 0] ![1, 1, 64, 128] inb_S1x8x64x128_S1x1x64x128_0_7_0_0, k0_pay2 (k0_pay36 (fun j : S1x64x128.Idx => upd7 x0 x1 x3 x4 x5 x7 x8 x9 (ix3 0 (j 1) ⟨(j 2).val, lt_trans (j 2).isLt (by decide : 128 < 256)⟩)))⟩,
   ⟨Rect.unit ![0, 6, 0, 0] ![1, 1, 64, 128] inb_S1x8x64x128_S1x1x64x128_0_6_0_0, k0_pay34 (fun j : S1x64x128.Idx => upd6 x0 x1 x3 x4 x5 x7 x8 x9 (ix3 0 (j 1) ⟨(j 2).val, lt_trans (j 2).isLt (by decide : 128 < 256)⟩))⟩,
   ⟨Rect.unit ![0, 5, 0, 0] ![1, 1, 64, 128] inb_S1x8x64x128_S1x1x64x128_0_5_0_0, k0_pay32 (fun j : S1x64x128.Idx => upd5 x0 x1 x3 x4 x5 x7 x8 x9 (ix3 0 (j 1) ⟨(j 2).val, lt_trans (j 2).isLt (by decide : 128 < 256)⟩))⟩,
   ⟨Rect.unit ![0, 4, 0, 0] ![1, 1, 64, 128] inb_S1x8x64x128_S1x1x64x128_0_4_0_0, k0_pay30 (fun j : S1x64x128.Idx => upd4 x0 x1 x3 x4 x5 x7 x8 x9 (ix3 0 (j 1) ⟨(j 2).val, lt_trans (j 2).isLt (by decide : 128 < 256)⟩))⟩,
   ⟨Rect.unit ![0, 3, 0, 0] ![1, 1, 64, 128] inb_S1x8x64x128_S1x1x64x128_0_3_0_0, k0_pay27 (fun j : S1x64x128.Idx => upd3 x0 x1 x3 x4 x5 x7 x8 x9 (ix3 0 (j 1) ⟨(j 2).val, lt_trans (j 2).isLt (by decide : 128 < 256)⟩))⟩,
   ⟨Rect.unit ![0, 2, 0, 0] ![1, 1, 64, 128] inb_S1x8x64x128_S1x1x64x128_0_2_0_0, k0_pay25 (fun j : S1x64x128.Idx => upd2 x0 x1 x3 x4 x5 x7 x8 x9 (ix3 0 (j 1) ⟨(j 2).val, lt_trans (j 2).isLt (by decide : 128 < 256)⟩))⟩,
   ⟨Rect.unit ![0, 1, 0, 0] ![1, 1, 64, 128] inb_S1x8x64x128_S1x1x64x128_0_1_0_0, k0_pay22 (fun j : S1x64x128.Idx => upd1 x0 x1 x3 x4 x5 x7 x8 x9 (ix3 0 (j 1) ⟨(j 2).val, lt_trans (j 2).isLt (by decide : 128 < 256)⟩))⟩,
   ⟨Rect.unit ![0, 0, 0, 0] ![1, 1, 64, 128] inb_S1x8x64x128_S1x1x64x128_0_0_0_0, k0_pay20 (fun j : S1x64x128.Idx => upd0 x0 x1 x3 x4 x5 x7 x8 x9 (ix3 0 (j 1) ⟨(j 2).val, lt_trans (j 2).isLt (by decide : 128 < 256)⟩))⟩]

def stores15 : List (View.Piece (Elt Ideal) S1x8x64 .f32) :=
  [⟨Rect.unit ![0, 7, 0] ![1, 1, 64] inb_S1x8x64_S1x1x64_0_7_0, k0_pay3 k0_pay37 (fun j : S1x64x1.Idx => upd7 x0 x1 x3 x4 x5 x7 x8 x9 (ix3 0 (j 1) (⟨128, by decide⟩ : Fin 256)))⟩,
   ⟨Rect.unit ![0, 6, 0] ![1, 1, 64] inb_S1x8x64_S1x1x64_0_6_0, k0_pay35 k0_pay37 (fun j : S1x64x1.Idx => upd6 x0 x1 x3 x4 x5 x7 x8 x9 (ix3 0 (j 1) (⟨128, by decide⟩ : Fin 256)))⟩,
   ⟨Rect.unit ![0, 5, 0] ![1, 1, 64] inb_S1x8x64_S1x1x64_0_5_0, k0_pay33 k0_pay37 (fun j : S1x64x1.Idx => upd5 x0 x1 x3 x4 x5 x7 x8 x9 (ix3 0 (j 1) (⟨128, by decide⟩ : Fin 256)))⟩,
   ⟨Rect.unit ![0, 4, 0] ![1, 1, 64] inb_S1x8x64_S1x1x64_0_4_0, k0_pay31 k0_pay37 (fun j : S1x64x1.Idx => upd4 x0 x1 x3 x4 x5 x7 x8 x9 (ix3 0 (j 1) (⟨128, by decide⟩ : Fin 256)))⟩,
   ⟨Rect.unit ![0, 3, 0] ![1, 1, 64] inb_S1x8x64_S1x1x64_0_3_0, k0_pay29 k0_pay37 (k0_pay28 (fun j : S1x64x1.Idx => upd3 x0 x1 x3 x4 x5 x7 x8 x9 (ix3 0 (j 1) (⟨128, by decide⟩ : Fin 256)))) (FloatOps.ofBits .f32 0x00000000#32)⟩,
   ⟨Rect.unit ![0, 2, 0] ![1, 1, 64] inb_S1x8x64_S1x1x64_0_2_0, k0_pay26 k0_pay37 (fun j : S1x64x1.Idx => upd2 x0 x1 x3 x4 x5 x7 x8 x9 (ix3 0 (j 1) (⟨128, by decide⟩ : Fin 256)))⟩,
   ⟨Rect.unit ![0, 1, 0] ![1, 1, 64] inb_S1x8x64_S1x1x64_0_1_0, k0_pay24 (k0_pay23 k0_pay37 (fun j : S1x64x1.Idx => upd1 x0 x1 x3 x4 x5 x7 x8 x9 (ix3 0 (j 1) (⟨128, by decide⟩ : Fin 256))))⟩,
   ⟨Rect.unit ![0, 0, 0] ![1, 1, 64] inb_S1x8x64_S1x1x64_0_0_0, k0_pay21 k0_pay37 (fun j : S1x64x1.Idx => upd0 x0 x1 x3 x4 x5 x7 x8 x9 (ix3 0 (j 1) (⟨128, by decide⟩ : Fin 256)))⟩]

def mixed : List (View.Piece (Elt Ideal) S128x1024 .bf16) :=
  [⟨Rect.unit ![0, 896] ![128, 128] inb_S128x1024_S128x128_0_896, mix7 x0 x1 x2 x3 x4 x5 x7 x8 x9⟩,
   ⟨Rect.unit ![0, 768] ![128, 128] inb_S128x1024_S128x128_0_768, mix6 x0 x1 x2 x3 x4 x5 x7 x8 x9⟩,
   ⟨Rect.unit ![0, 640] ![128, 128] inb_S128x1024_S128x128_0_640, mix5 x0 x1 x2 x3 x4 x5 x7 x8 x9⟩,
   ⟨Rect.unit ![0, 512] ![128, 128] inb_S128x1024_S128x128_0_512, mix4 x0 x1 x2 x3 x4 x5 x7 x8 x9⟩,
   ⟨Rect.unit ![0, 384] ![128, 128] inb_S128x1024_S128x128_0_384, mix3 x0 x1 x2 x3 x4 x5 x7 x8 x9⟩,
   ⟨Rect.unit ![0, 256] ![128, 128] inb_S128x1024_S128x128_0_256, mix2 x0 x1 x2 x3 x4 x5 x7 x8 x9⟩,
   ⟨Rect.unit ![0, 128] ![128, 128] inb_S128x1024_S128x128_0_128, mix1 x0 x1 x2 x3 x4 x5 x7 x8 x9⟩,
   ⟨Rect.unit ![0, 0] ![128, 128] inb_S128x1024_S128x128_0_0, mix0 x0 x1 x2 x3 x4 x5 x7 x8 x9⟩]

/-- The first sixteen rows of the mixer's output, loaded back. -/
def rows (w : View sig .tc .vmem S128x1024 .bf16) : Vec Ideal S16x1024 .bf16 :=
  w.readCov (mixed x0 x1 x2 x3 x4 x5 x7 x8 x9) (Rect.unit (s := S128x1024) ![0, 0] ![16, 1024] inb_S128x1024_S16x1024_0_0).toLoadRect

end

section
variable (c : Dev nD) (i : grid0.Coords) (arg2 : Memref sig .tc .vmem S8x1536 .f32) (harg2 : arg2.IsWhole) (arg3 : Memref sig .tc .vmem S512x128 .bf16) (harg3 : arg3.IsWhole) (arg4 : Memref sig .tc .vmem S8x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x16x128 .f32) (harg7 : arg7.IsWhole) (arg8 : Memref sig .tc .vmem S8x1024 .f32) (harg8 : arg8.IsWhole) (arg9 : Memref sig .tc .vmem S1x8x64x128 .f32) (harg9 : arg9.IsWhole) (arg10 : Memref sig .tc .vmem S1x8x64 .f32) (harg10 : arg10.IsWhole) (arg11 : Memref sig .tc .vmem S1x1x128 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S8x1024 .f32) (harg15 : arg15.IsWhole) (arg16 : Memref sig .tc .vmem S1x8x64x128 .f32) (harg16 : arg16.IsWhole) (arg17 : Memref sig .tc .vmem S1x8x64 .f32) (harg17 : arg17.IsWhole) (arg18 : Memref sig .tc .vmem S1x1x128 .f32) (harg18 : arg18.IsWhole) (arg19 : Memref sig .tc .vmem S8x64x256 .f32) (harg19 : arg19.IsWhole) (arg20 : Memref sig .tc .vmem S1x128 .f32) (harg20 : arg20.IsWhole) (arg21 : Memref sig .tc .vmem S128x1024 .bf16) (harg21 : arg21.IsWhole) (hc0 : cond0_0 i) (hc1 : cond0_1 i)
    (x0 : Vec Ideal S8x1536 .f32) (x1 : Vec Ideal S512x128 .bf16) (x2 : Vec Ideal S8x1024 .f32) (x3 : Vec Ideal S128x128 .f32) (x4 : Vec Ideal S128x128 .f32) (x5 : Vec Ideal S1x16x128 .f32) (x6 : Vec Ideal S8x1024 .f32) (x7 : Vec Ideal S1x8x64x128 .f32) (x8 : Vec Ideal S1x8x64 .f32) (x9 : Vec Ideal S1x1x128 .f32) (x10 : Vec Ideal S1024x1024 .bf16) (x11 : Vec Ideal S1x1024 .f32) (x12 : Vec Ideal S1x1024 .f32)

theorem run13 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12).1
    = [⟨Rect.unit ![0, 0] ![8, 1024] inb_S8x1024_S8x1024_0_0,
        k0_pay1 (k0_pay121 x12)
          (k0_pay122 (rows x0 x1 x2 x3 x4 x5 x7 x8 x9 arg21.view) x10 x6)
          (k0_pay123 x11)⟩] := by
  frame_open
  simp (disch := decide) only [↓ readCov_halves, ↓ readCov_left, ↓ readCov_right, ↓ View.readCov_skip, ↓ View.readCov_cons_toLoadRect, ↓ View.readCov_fill]
  frame_out
  rfl

theorem run14 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12).2.1 = stores14 x0 x1 x3 x4 x5 x7 x8 x9 := by
  frame_open
  simp (disch := decide) only [↓ readCov_halves, ↓ readCov_left, ↓ readCov_right, ↓ View.readCov_skip, ↓ View.readCov_cons_toLoadRect, ↓ View.readCov_fill]
  frame_out
  rfl

theorem run15 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12).2.2.1 = stores15 x0 x1 x3 x4 x5 x7 x8 x9 := by
  frame_open
  simp (disch := decide) only [↓ readCov_halves, ↓ readCov_left, ↓ readCov_right, ↓ View.readCov_skip, ↓ View.readCov_cons_toLoadRect, ↓ View.readCov_fill]
  frame_out
  rfl

theorem run16 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12).2.2.2.1
    = [⟨Rect.unit ![0, 0, 0] ![1, 1, 128] inb_S1x1x128_S1x1x128_0_0_0, k0_pay4 (k0_pay120 (k0_pay45 x4) (Heads.maximaEnd x3 x4 (k0_pay41 x9)))⟩] := by
  frame_open
  simp (disch := decide) only [↓ readCov_halves, ↓ readCov_left, ↓ readCov_right, ↓ View.readCov_skip, ↓ View.readCov_cons_toLoadRect, ↓ View.readCov_fill]
  frame_out
  rfl

end

section
variable (x0 : Vec Ideal S8x1536 .f32) (x1 : Vec Ideal S512x128 .bf16) (x2 : Vec Ideal S8x1024 .f32) {x3 x4 : Vec Ideal S128x128 .f32}
  {x5 : Vec Ideal S1x16x128 .f32} (x7 : Vec Ideal S1x8x64x128 .f32) (x8 : Vec Ideal S1x8x64 .f32) (x9 : Vec Ideal S1x1x128 .f32)
  {i f : Fin 8 → Fin 8 → EReal} (P : Heads.Padded x3 x4 x5 i f) (hi : ∀ h s, i h s < ⊤) (hm : ∀ h : Fin 8, k0_pay41 x9 (ix2 0 ⟨h.val, Nat.lt_of_lt_of_le h.isLt (Nat.le_of_ble_eq_true rfl)⟩) < ⊤)
include P

theorem updC0 (d : Fin 64) (e : Fin 128) : upd0 x0 x1 x3 x4 x5 x7 x8 x9 (ix3 0 d (⟨e.val, by omega⟩ : Fin 256))
    = Gates.stateC (kAt x1 0) (vAt x0 0) (cAt x7 0) (i 0) (f 0) (k0_pay41 x9 (ix2 0 ⟨(0 : Fin 8).val, by omega⟩)) d e :=
  stateC_value x0 x1 x7 _ P 0 d e _ _ _ _ _ _ (fun s d => ld2 x1 _ d ⟨s.val, by omega⟩ _ _ rfl (Nat.zero_add _).symm)
    (fun s e => ld2 x0 _ s e _ _ (Nat.zero_add _).symm (by show 512 + (128 * 0 + e.val) = 512 + e.val; omega)) (fun d e => (startC0 _ d e).trans (ld4 x7 _ 0 d e rfl))

theorem updN0 (d : Fin 64) : upd0 x0 x1 x3 x4 x5 x7 x8 x9 (ix3 0 d (⟨128, by decide⟩ : Fin 256))
    = Gates.stateN (kAt x1 0) (nAt x8 0) (i 0) (f 0) (k0_pay41 x9 (ix2 0 ⟨(0 : Fin 8).val, by omega⟩)) d :=
  stateN_value x1 x8 _ P 0 d _ _ _ _ _ _ (fun s d => ld2 x1 _ d ⟨s.val, by omega⟩ _ _ rfl (Nat.zero_add _).symm)
    (fun d e => (startN0 _ d e).trans (ld3 x8 _ 0 d rfl))

include hi hm in
theorem mix0_at (t : Fin 8) (e : Fin 128) : mix0 x0 x1 x2 x3 x4 x5 x7 x8 x9 (ix2 ⟨t.val, by omega⟩ e) = mixAt x0 x1 x2 x7 x8 (k0_pay41 x9) i f 0 t e :=
  head_value x0 x1 x2 x7 x8 _ P 0 t e _ _ _ _ _ _ _ _ (hi 0) (hm 0) (fun t d => ld2 x0 _ t d _ _ (Nat.zero_add _).symm rfl)
    (fun s d => ld2 x1 _ d ⟨s.val, by omega⟩ _ _ rfl (Nat.zero_add _).symm) (fun s e => ld2 x0 _ s e _ _ (Nat.zero_add _).symm (by show 512 + (128 * 0 + e.val) = 512 + e.val; omega))
    (fun t e => ld2 x2 _ t e _ _ (Nat.zero_add _).symm rfl) (fun d e => (startN0 _ d e).trans (ld3 x8 _ 0 d rfl)) (fun d e => (startC0 _ d e).trans (ld4 x7 _ 0 d e rfl))

theorem updC1 (d : Fin 64) (e : Fin 128) : upd1 x0 x1 x3 x4 x5 x7 x8 x9 (ix3 0 d (⟨e.val, by omega⟩ : Fin 256))
    = Gates.stateC (kAt x1 1) (vAt x0 1) (cAt x7 1) (i 1) (f 1) (k0_pay41 x9 (ix2 0 ⟨(1 : Fin 8).val, by omega⟩)) d e :=
  stateC_value x0 x1 x7 _ P 1 d e _ _ _ _ _ _ (fun s d => ld2 x1 _ d ⟨s.val, by omega⟩ _ _ rfl (Nat.zero_add _).symm)
    (fun s e => ld2 x0 _ s e _ _ (Nat.zero_add _).symm (by show 512 + (128 * 1 + e.val) = 640 + e.val; omega)) (fun d e => (startC1 _ d e).trans (ld4 x7 _ 1 d e rfl))

theorem updN1 (d : Fin 64) : upd1 x0 x1 x3 x4 x5 x7 x8 x9 (ix3 0 d (⟨128, by decide⟩ : Fin 256))
    = Gates.stateN (kAt x1 1) (nAt x8 1) (i 1) (f 1) (k0_pay41 x9 (ix2 0 ⟨(1 : Fin 8).val, by omega⟩)) d :=
  stateN_value x1 x8 _ P 1 d _ _ _ _ _ _ (fun s d => ld2 x1 _ d ⟨s.val, by omega⟩ _ _ rfl (Nat.zero_add _).symm)
    (fun d e => (startN1 _ d e).trans (ld3 x8 _ 1 d rfl))

include hi hm in
theorem mix1_at (t : Fin 8) (e : Fin 128) : mix1 x0 x1 x2 x3 x4 x5 x7 x8 x9 (ix2 ⟨t.val, by omega⟩ e) = mixAt x0 x1 x2 x7 x8 (k0_pay41 x9) i f 1 t e :=
  head_value x0 x1 x2 x7 x8 _ P 1 t e _ _ _ _ _ _ _ _ (hi 1) (hm 1) (fun t d => ld2 x0 _ t d _ _ (Nat.zero_add _).symm rfl)
    (fun s d => ld2 x1 _ d ⟨s.val, by omega⟩ _ _ rfl (Nat.zero_add _).symm) (fun s e => ld2 x0 _ s e _ _ (Nat.zero_add _).symm (by show 512 + (128 * 1 + e.val) = 640 + e.val; omega))
    (fun t e => ld2 x2 _ t e _ _ (Nat.zero_add _).symm rfl) (fun d e => (startN1 _ d e).trans (ld3 x8 _ 1 d rfl)) (fun d e => (startC1 _ d e).trans (ld4 x7 _ 1 d e rfl))

theorem updC2 (d : Fin 64) (e : Fin 128) : upd2 x0 x1 x3 x4 x5 x7 x8 x9 (ix3 0 d (⟨e.val, by omega⟩ : Fin 256))
    = Gates.stateC (kAt x1 2) (vAt x0 2) (cAt x7 2) (i 2) (f 2) (k0_pay41 x9 (ix2 0 ⟨(2 : Fin 8).val, by omega⟩)) d e :=
  stateC_value x0 x1 x7 _ P 2 d e _ _ _ _ _ _ (fun s d => ld2 x1 _ d ⟨s.val, by omega⟩ _ _ rfl (Nat.zero_add _).symm)
    (fun s e => ld2 x0 _ s e _ _ (Nat.zero_add _).symm (by show 512 + (128 * 2 + e.val) = 768 + e.val; omega)) (fun d e => (startC2 _ d e).trans (ld4 x7 _ 2 d e rfl))

theorem updN2 (d : Fin 64) : upd2 x0 x1 x3 x4 x5 x7 x8 x9 (ix3 0 d (⟨128, by decide⟩ : Fin 256))
    = Gates.stateN (kAt x1 2) (nAt x8 2) (i 2) (f 2) (k0_pay41 x9 (ix2 0 ⟨(2 : Fin 8).val, by omega⟩)) d :=
  stateN_value x1 x8 _ P 2 d _ _ _ _ _ _ (fun s d => ld2 x1 _ d ⟨s.val, by omega⟩ _ _ rfl (Nat.zero_add _).symm)
    (fun d e => (startN2 _ d e).trans (ld3 x8 _ 2 d rfl))

include hi hm in
theorem mix2_at (t : Fin 8) (e : Fin 128) : mix2 x0 x1 x2 x3 x4 x5 x7 x8 x9 (ix2 ⟨t.val, by omega⟩ e) = mixAt x0 x1 x2 x7 x8 (k0_pay41 x9) i f 2 t e :=
  head_value x0 x1 x2 x7 x8 _ P 2 t e _ _ _ _ _ _ _ _ (hi 2) (hm 2) (fun t d => ld2 x0 _ t d _ _ (Nat.zero_add _).symm rfl)
    (fun s d => ld2 x1 _ d ⟨s.val, by omega⟩ _ _ rfl (Nat.zero_add _).symm) (fun s e => ld2 x0 _ s e _ _ (Nat.zero_add _).symm (by show 512 + (128 * 2 + e.val) = 768 + e.val; omega))
    (fun t e => ld2 x2 _ t e _ _ (Nat.zero_add _).symm rfl) (fun d e => (startN2 _ d e).trans (ld3 x8 _ 2 d rfl)) (fun d e => (startC2 _ d e).trans (ld4 x7 _ 2 d e rfl))

theorem updC3 (d : Fin 64) (e : Fin 128) : upd3 x0 x1 x3 x4 x5 x7 x8 x9 (ix3 0 d (⟨e.val, by omega⟩ : Fin 256))
    = Gates.stateC (kAt x1 3) (vAt x0 3) (cAt x7 3) (i 3) (f 3) (k0_pay41 x9 (ix2 0 ⟨(3 : Fin 8).val, by omega⟩)) d e :=
  stateC_value x0 x1 x7 _ P 3 d e _ _ _ _ _ _ (fun s d => ld2 x1 _ d ⟨s.val, by omega⟩ _ _ rfl (Nat.zero_add _).symm)
    (fun s e => ld2 x0 _ s e _ _ (Nat.zero_add _).symm (by show 512 + (128 * 3 + e.val) = 896 + e.val; omega)) (fun d e => (startC3 _ d e).trans (ld4 x7 _ 3 d e rfl))

theorem updN3 (d : Fin 64) : upd3 x0 x1 x3 x4 x5 x7 x8 x9 (ix3 0 d (⟨128, by decide⟩ : Fin 256))
    = Gates.stateN (kAt x1 3) (nAt x8 3) (i 3) (f 3) (k0_pay41 x9 (ix2 0 ⟨(3 : Fin 8).val, by omega⟩)) d :=
  stateN_value x1 x8 _ P 3 d _ _ _ _ _ _ (fun s d => ld2 x1 _ d ⟨s.val, by omega⟩ _ _ rfl (Nat.zero_add _).symm)
    (fun d e => (startN3 _ d e).trans (ld3 x8 _ 3 d rfl))

include hi hm in
theorem mix3_at (t : Fin 8) (e : Fin 128) : mix3 x0 x1 x2 x3 x4 x5 x7 x8 x9 (ix2 ⟨t.val, by omega⟩ e) = mixAt x0 x1 x2 x7 x8 (k0_pay41 x9) i f 3 t e :=
  head_value x0 x1 x2 x7 x8 _ P 3 t e _ _ _ _ _ _ _ _ (hi 3) (hm 3) (fun t d => ld2 x0 _ t d _ _ (Nat.zero_add _).symm rfl)
    (fun s d => ld2 x1 _ d ⟨s.val, by omega⟩ _ _ rfl (Nat.zero_add _).symm) (fun s e => ld2 x0 _ s e _ _ (Nat.zero_add _).symm (by show 512 + (128 * 3 + e.val) = 896 + e.val; omega))
    (fun t e => ld2 x2 _ t e _ _ (Nat.zero_add _).symm rfl) (fun d e => (startN3 _ d e).trans (ld3 x8 _ 3 d rfl)) (fun d e => (startC3 _ d e).trans (ld4 x7 _ 3 d e rfl))

theorem updC4 (d : Fin 64) (e : Fin 128) : upd4 x0 x1 x3 x4 x5 x7 x8 x9 (ix3 0 d (⟨e.val, by omega⟩ : Fin 256))
    = Gates.stateC (kAt x1 4) (vAt x0 4) (cAt x7 4) (i 4) (f 4) (k0_pay41 x9 (ix2 0 ⟨(4 : Fin 8).val, by omega⟩)) d e :=
  stateC_value x0 x1 x7 _ P 4 d e _ _ _ _ _ _ (fun s d => ld2 x1 _ d ⟨s.val, by omega⟩ _ _ rfl (Nat.zero_add _).symm)
    (fun s e => ld2 x0 _ s e _ _ (Nat.zero_add _).symm (by show 512 + (128 * 4 + e.val) = 1024 + e.val; omega)) (fun d e => (startC4 _ d e).trans (ld4 x7 _ 4 d e rfl))

theorem updN4 (d : Fin 64) : upd4 x0 x1 x3 x4 x5 x7 x8 x9 (ix3 0 d (⟨128, by decide⟩ : Fin 256))
    = Gates.stateN (kAt x1 4) (nAt x8 4) (i 4) (f 4) (k0_pay41 x9 (ix2 0 ⟨(4 : Fin 8).val, by omega⟩)) d :=
  stateN_value x1 x8 _ P 4 d _ _ _ _ _ _ (fun s d => ld2 x1 _ d ⟨s.val, by omega⟩ _ _ rfl (Nat.zero_add _).symm)
    (fun d e => (startN4 _ d e).trans (ld3 x8 _ 4 d rfl))

include hi hm in
theorem mix4_at (t : Fin 8) (e : Fin 128) : mix4 x0 x1 x2 x3 x4 x5 x7 x8 x9 (ix2 ⟨t.val, by omega⟩ e) = mixAt x0 x1 x2 x7 x8 (k0_pay41 x9) i f 4 t e :=
  head_value x0 x1 x2 x7 x8 _ P 4 t e _ _ _ _ _ _ _ _ (hi 4) (hm 4) (fun t d => ld2 x0 _ t d _ _ (Nat.zero_add _).symm rfl)
    (fun s d => ld2 x1 _ d ⟨s.val, by omega⟩ _ _ rfl (Nat.zero_add _).symm) (fun s e => ld2 x0 _ s e _ _ (Nat.zero_add _).symm (by show 512 + (128 * 4 + e.val) = 1024 + e.val; omega))
    (fun t e => ld2 x2 _ t e _ _ (Nat.zero_add _).symm rfl) (fun d e => (startN4 _ d e).trans (ld3 x8 _ 4 d rfl)) (fun d e => (startC4 _ d e).trans (ld4 x7 _ 4 d e rfl))

theorem updC5 (d : Fin 64) (e : Fin 128) : upd5 x0 x1 x3 x4 x5 x7 x8 x9 (ix3 0 d (⟨e.val, by omega⟩ : Fin 256))
    = Gates.stateC (kAt x1 5) (vAt x0 5) (cAt x7 5) (i 5) (f 5) (k0_pay41 x9 (ix2 0 ⟨(5 : Fin 8).val, by omega⟩)) d e :=
  stateC_value x0 x1 x7 _ P 5 d e _ _ _ _ _ _ (fun s d => ld2 x1 _ d ⟨s.val, by omega⟩ _ _ rfl (Nat.zero_add _).symm)
    (fun s e => ld2 x0 _ s e _ _ (Nat.zero_add _).symm (by show 512 + (128 * 5 + e.val) = 1152 + e.val; omega)) (fun d e => (startC5 _ d e).trans (ld4 x7 _ 5 d e rfl))

theorem updN5 (d : Fin 64) : upd5 x0 x1 x3 x4 x5 x7 x8 x9 (ix3 0 d (⟨128, by decide⟩ : Fin 256))
    = Gates.stateN (kAt x1 5) (nAt x8 5) (i 5) (f 5) (k0_pay41 x9 (ix2 0 ⟨(5 : Fin 8).val, by omega⟩)) d :=
  stateN_value x1 x8 _ P 5 d _ _ _ _ _ _ (fun s d => ld2 x1 _ d ⟨s.val, by omega⟩ _ _ rfl (Nat.zero_add _).symm)
    (fun d e => (startN5 _ d e).trans (ld3 x8 _ 5 d rfl))

include hi hm in
theorem mix5_at (t : Fin 8) (e : Fin 128) : mix5 x0 x1 x2 x3 x4 x5 x7 x8 x9 (ix2 ⟨t.val, by omega⟩ e) = mixAt x0 x1 x2 x7 x8 (k0_pay41 x9) i f 5 t e :=
  head_value x0 x1 x2 x7 x8 _ P 5 t e _ _ _ _ _ _ _ _ (hi 5) (hm 5) (fun t d => ld2 x0 _ t d _ _ (Nat.zero_add _).symm rfl)
    (fun s d => ld2 x1 _ d ⟨s.val, by omega⟩ _ _ rfl (Nat.zero_add _).symm) (fun s e => ld2 x0 _ s e _ _ (Nat.zero_add _).symm (by show 512 + (128 * 5 + e.val) = 1152 + e.val; omega))
    (fun t e => ld2 x2 _ t e _ _ (Nat.zero_add _).symm rfl) (fun d e => (startN5 _ d e).trans (ld3 x8 _ 5 d rfl)) (fun d e => (startC5 _ d e).trans (ld4 x7 _ 5 d e rfl))

theorem updC6 (d : Fin 64) (e : Fin 128) : upd6 x0 x1 x3 x4 x5 x7 x8 x9 (ix3 0 d (⟨e.val, by omega⟩ : Fin 256))
    = Gates.stateC (kAt x1 6) (vAt x0 6) (cAt x7 6) (i 6) (f 6) (k0_pay41 x9 (ix2 0 ⟨(6 : Fin 8).val, by omega⟩)) d e :=
  stateC_value x0 x1 x7 _ P 6 d e _ _ _ _ _ _ (fun s d => ld2 x1 _ d ⟨s.val, by omega⟩ _ _ rfl (Nat.zero_add _).symm)
    (fun s e => ld2 x0 _ s e _ _ (Nat.zero_add _).symm (by show 512 + (128 * 6 + e.val) = 1280 + e.val; omega)) (fun d e => (startC6 _ d e).trans (ld4 x7 _ 6 d e rfl))

theorem updN6 (d : Fin 64) : upd6 x0 x1 x3 x4 x5 x7 x8 x9 (ix3 0 d (⟨128, by decide⟩ : Fin 256))
    = Gates.stateN (kAt x1 6) (nAt x8 6) (i 6) (f 6) (k0_pay41 x9 (ix2 0 ⟨(6 : Fin 8).val, by omega⟩)) d :=
  stateN_value x1 x8 _ P 6 d _ _ _ _ _ _ (fun s d => ld2 x1 _ d ⟨s.val, by omega⟩ _ _ rfl (Nat.zero_add _).symm)
    (fun d e => (startN6 _ d e).trans (ld3 x8 _ 6 d rfl))

include hi hm in
theorem mix6_at (t : Fin 8) (e : Fin 128) : mix6 x0 x1 x2 x3 x4 x5 x7 x8 x9 (ix2 ⟨t.val, by omega⟩ e) = mixAt x0 x1 x2 x7 x8 (k0_pay41 x9) i f 6 t e :=
  head_value x0 x1 x2 x7 x8 _ P 6 t e _ _ _ _ _ _ _ _ (hi 6) (hm 6) (fun t d => ld2 x0 _ t d _ _ (Nat.zero_add _).symm rfl)
    (fun s d => ld2 x1 _ d ⟨s.val, by omega⟩ _ _ rfl (Nat.zero_add _).symm) (fun s e => ld2 x0 _ s e _ _ (Nat.zero_add _).symm (by show 512 + (128 * 6 + e.val) = 1280 + e.val; omega))
    (fun t e => ld2 x2 _ t e _ _ (Nat.zero_add _).symm rfl) (fun d e => (startN6 _ d e).trans (ld3 x8 _ 6 d rfl)) (fun d e => (startC6 _ d e).trans (ld4 x7 _ 6 d e rfl))

theorem updC7 (d : Fin 64) (e : Fin 128) : upd7 x0 x1 x3 x4 x5 x7 x8 x9 (ix3 0 d (⟨e.val, by omega⟩ : Fin 256))
    = Gates.stateC (kAt x1 7) (vAt x0 7) (cAt x7 7) (i 7) (f 7) (k0_pay41 x9 (ix2 0 ⟨(7 : Fin 8).val, by omega⟩)) d e :=
  stateC_value x0 x1 x7 _ P 7 d e _ _ _ _ _ _ (fun s d => ld2 x1 _ d ⟨s.val, by omega⟩ _ _ rfl (Nat.zero_add _).symm)
    (fun s e => ld2 x0 _ s e _ _ (Nat.zero_add _).symm (by show 512 + (128 * 7 + e.val) = 1408 + e.val; omega)) (fun d e => (startC7 _ d e).trans (ld4 x7 _ 7 d e rfl))

theorem updN7 (d : Fin 64) : upd7 x0 x1 x3 x4 x5 x7 x8 x9 (ix3 0 d (⟨128, by decide⟩ : Fin 256))
    = Gates.stateN (kAt x1 7) (nAt x8 7) (i 7) (f 7) (k0_pay41 x9 (ix2 0 ⟨(7 : Fin 8).val, by omega⟩)) d :=
  stateN_value x1 x8 _ P 7 d _ _ _ _ _ _ (fun s d => ld2 x1 _ d ⟨s.val, by omega⟩ _ _ rfl (Nat.zero_add _).symm)
    (fun d e => (startN7 _ d e).trans (ld3 x8 _ 7 d rfl))

include hi hm in
theorem mix7_at (t : Fin 8) (e : Fin 128) : mix7 x0 x1 x2 x3 x4 x5 x7 x8 x9 (ix2 ⟨t.val, by omega⟩ e) = mixAt x0 x1 x2 x7 x8 (k0_pay41 x9) i f 7 t e :=
  head_value x0 x1 x2 x7 x8 _ P 7 t e _ _ _ _ _ _ _ _ (hi 7) (hm 7) (fun t d => ld2 x0 _ t d _ _ (Nat.zero_add _).symm rfl)
    (fun s d => ld2 x1 _ d ⟨s.val, by omega⟩ _ _ rfl (Nat.zero_add _).symm) (fun s e => ld2 x0 _ s e _ _ (Nat.zero_add _).symm (by show 512 + (128 * 7 + e.val) = 1408 + e.val; omega))
    (fun t e => ld2 x2 _ t e _ _ (Nat.zero_add _).symm rfl) (fun d e => (startN7 _ d e).trans (ld3 x8 _ 7 d rfl)) (fun d e => (startC7 _ d e).trans (ld4 x7 _ 7 d e rfl))

theorem stores14_0 (d : Fin 64) (e : Fin 128) : View.canon (stores14 x0 x1 x3 x4 x5 x7 x8 x9) (ix4 0 0 d e)
    = Gates.stateC (kAt x1 0) (vAt x0 0) (cAt x7 0) (i 0) (f 0) (k0_pay41 x9 (ix2 0 ⟨(0 : Fin 8).val, by omega⟩)) d e :=
  (canon_before _ _ _ _ 1 (show (0 : ℕ) < 7 by omega)).trans <| (canon_before _ _ _ _ 1 (show (0 : ℕ) < 6 by omega)).trans <| (canon_before _ _ _ _ 1 (show (0 : ℕ) < 5 by omega)).trans <| (canon_before _ _ _ _ 1 (show (0 : ℕ) < 4 by omega)).trans <| (canon_before _ _ _ _ 1 (show (0 : ℕ) < 3 by omega)).trans <| (canon_before _ _ _ _ 1 (show (0 : ℕ) < 2 by omega)).trans <| (canon_before _ _ _ _ 1 (show (0 : ℕ) < 1 by omega)).trans <|
  (canon_at (S := S1x8x64x128) (size := ![1, 1, 64, 128]) _ _ _ _ (ix4 0 0 d e) fun b => by
    fin_cases b
    · rfl
    · rfl
    · exact (Nat.zero_add _).symm
    · exact (Nat.zero_add _).symm).trans ((endC0 _ d e).trans (updC0 x0 x1 x7 x8 x9 P d e))

theorem stores15_0 (d : Fin 64) : View.canon (stores15 x0 x1 x3 x4 x5 x7 x8 x9) (ix3 0 0 d)
    = Gates.stateN (kAt x1 0) (nAt x8 0) (i 0) (f 0) (k0_pay41 x9 (ix2 0 ⟨(0 : Fin 8).val, by omega⟩)) d :=
  (canon_before _ _ _ _ 1 (show (0 : ℕ) < 7 by omega)).trans <| (canon_before _ _ _ _ 1 (show (0 : ℕ) < 6 by omega)).trans <| (canon_before _ _ _ _ 1 (show (0 : ℕ) < 5 by omega)).trans <| (canon_before _ _ _ _ 1 (show (0 : ℕ) < 4 by omega)).trans <| (canon_before _ _ _ _ 1 (show (0 : ℕ) < 3 by omega)).trans <| (canon_before _ _ _ _ 1 (show (0 : ℕ) < 2 by omega)).trans <| (canon_before _ _ _ _ 1 (show (0 : ℕ) < 1 by omega)).trans <|
  (canon_at (S := S1x8x64) (size := ![1, 1, 64]) _ _ _ _ (ix3 0 0 d) fun b => by
    fin_cases b
    · rfl
    · rfl
    · exact (Nat.zero_add _).symm).trans ((endN0 _ d).trans (updN0 x0 x1 x7 x8 x9 P d))

include hi hm in
theorem mixed_0 (t : Fin 8) (e : Fin 128) : View.canon (mixed x0 x1 x2 x3 x4 x5 x7 x8 x9) (ix2 ⟨t.val, by omega⟩ ⟨128 * 0 + e.val, by omega⟩)
    = mixAt x0 x1 x2 x7 x8 (k0_pay41 x9) i f 0 t e :=
  (canon_before _ _ _ _ 1 (show 128 * 0 + e.val < 896 by omega)).trans <| (canon_before _ _ _ _ 1 (show 128 * 0 + e.val < 768 by omega)).trans <| (canon_before _ _ _ _ 1 (show 128 * 0 + e.val < 640 by omega)).trans <| (canon_before _ _ _ _ 1 (show 128 * 0 + e.val < 512 by omega)).trans <| (canon_before _ _ _ _ 1 (show 128 * 0 + e.val < 384 by omega)).trans <| (canon_before _ _ _ _ 1 (show 128 * 0 + e.val < 256 by omega)).trans <| (canon_before _ _ _ _ 1 (show 128 * 0 + e.val < 128 by omega)).trans <|
  (canon_at (S := S128x1024) (size := ![128, 128]) _ _ _ _ (ix2 ⟨t.val, by omega⟩ e) fun b => by
    fin_cases b
    · exact (Nat.zero_add _).symm
    · rfl).trans (mix0_at x0 x1 x2 x7 x8 x9 P hi hm t e)

theorem stores14_1 (d : Fin 64) (e : Fin 128) : View.canon (stores14 x0 x1 x3 x4 x5 x7 x8 x9) (ix4 0 1 d e)
    = Gates.stateC (kAt x1 1) (vAt x0 1) (cAt x7 1) (i 1) (f 1) (k0_pay41 x9 (ix2 0 ⟨(1 : Fin 8).val, by omega⟩)) d e :=
  (canon_before _ _ _ _ 1 (show (1 : ℕ) < 7 by omega)).trans <| (canon_before _ _ _ _ 1 (show (1 : ℕ) < 6 by omega)).trans <| (canon_before _ _ _ _ 1 (show (1 : ℕ) < 5 by omega)).trans <| (canon_before _ _ _ _ 1 (show (1 : ℕ) < 4 by omega)).trans <| (canon_before _ _ _ _ 1 (show (1 : ℕ) < 3 by omega)).trans <| (canon_before _ _ _ _ 1 (show (1 : ℕ) < 2 by omega)).trans <|
  (canon_at (S := S1x8x64x128) (size := ![1, 1, 64, 128]) _ _ _ _ (ix4 0 0 d e) fun b => by
    fin_cases b
    · rfl
    · rfl
    · exact (Nat.zero_add _).symm
    · exact (Nat.zero_add _).symm).trans ((endC1 _ d e).trans (updC1 x0 x1 x7 x8 x9 P d e))

theorem stores15_1 (d : Fin 64) : View.canon (stores15 x0 x1 x3 x4 x5 x7 x8 x9) (ix3 0 1 d)
    = Gates.stateN (kAt x1 1) (nAt x8 1) (i 1) (f 1) (k0_pay41 x9 (ix2 0 ⟨(1 : Fin 8).val, by omega⟩)) d :=
  (canon_before _ _ _ _ 1 (show (1 : ℕ) < 7 by omega)).trans <| (canon_before _ _ _ _ 1 (show (1 : ℕ) < 6 by omega)).trans <| (canon_before _ _ _ _ 1 (show (1 : ℕ) < 5 by omega)).trans <| (canon_before _ _ _ _ 1 (show (1 : ℕ) < 4 by omega)).trans <| (canon_before _ _ _ _ 1 (show (1 : ℕ) < 3 by omega)).trans <| (canon_before _ _ _ _ 1 (show (1 : ℕ) < 2 by omega)).trans <|
  (canon_at (S := S1x8x64) (size := ![1, 1, 64]) _ _ _ _ (ix3 0 0 d) fun b => by
    fin_cases b
    · rfl
    · rfl
    · exact (Nat.zero_add _).symm).trans ((endN1 _ d).trans (updN1 x0 x1 x7 x8 x9 P d))

include hi hm in
theorem mixed_1 (t : Fin 8) (e : Fin 128) : View.canon (mixed x0 x1 x2 x3 x4 x5 x7 x8 x9) (ix2 ⟨t.val, by omega⟩ ⟨128 * 1 + e.val, by omega⟩)
    = mixAt x0 x1 x2 x7 x8 (k0_pay41 x9) i f 1 t e :=
  (canon_before _ _ _ _ 1 (show 128 * 1 + e.val < 896 by omega)).trans <| (canon_before _ _ _ _ 1 (show 128 * 1 + e.val < 768 by omega)).trans <| (canon_before _ _ _ _ 1 (show 128 * 1 + e.val < 640 by omega)).trans <| (canon_before _ _ _ _ 1 (show 128 * 1 + e.val < 512 by omega)).trans <| (canon_before _ _ _ _ 1 (show 128 * 1 + e.val < 384 by omega)).trans <| (canon_before _ _ _ _ 1 (show 128 * 1 + e.val < 256 by omega)).trans <|
  (canon_at (S := S128x1024) (size := ![128, 128]) _ _ _ _ (ix2 ⟨t.val, by omega⟩ e) fun b => by
    fin_cases b
    · exact (Nat.zero_add _).symm
    · rfl).trans (mix1_at x0 x1 x2 x7 x8 x9 P hi hm t e)

theorem stores14_2 (d : Fin 64) (e : Fin 128) : View.canon (stores14 x0 x1 x3 x4 x5 x7 x8 x9) (ix4 0 2 d e)
    = Gates.stateC (kAt x1 2) (vAt x0 2) (cAt x7 2) (i 2) (f 2) (k0_pay41 x9 (ix2 0 ⟨(2 : Fin 8).val, by omega⟩)) d e :=
  (canon_before _ _ _ _ 1 (show (2 : ℕ) < 7 by omega)).trans <| (canon_before _ _ _ _ 1 (show (2 : ℕ) < 6 by omega)).trans <| (canon_before _ _ _ _ 1 (show (2 : ℕ) < 5 by omega)).trans <| (canon_before _ _ _ _ 1 (show (2 : ℕ) < 4 by omega)).trans <| (canon_before _ _ _ _ 1 (show (2 : ℕ) < 3 by omega)).trans <|
  (canon_at (S := S1x8x64x128) (size := ![1, 1, 64, 128]) _ _ _ _ (ix4 0 0 d e) fun b => by
    fin_cases b
    · rfl
    · rfl
    · exact (Nat.zero_add _).symm
    · exact (Nat.zero_add _).symm).trans ((endC2 _ d e).trans (updC2 x0 x1 x7 x8 x9 P d e))

theorem stores15_2 (d : Fin 64) : View.canon (stores15 x0 x1 x3 x4 x5 x7 x8 x9) (ix3 0 2 d)
    = Gates.stateN (kAt x1 2) (nAt x8 2) (i 2) (f 2) (k0_pay41 x9 (ix2 0 ⟨(2 : Fin 8).val, by omega⟩)) d :=
  (canon_before _ _ _ _ 1 (show (2 : ℕ) < 7 by omega)).trans <| (canon_before _ _ _ _ 1 (show (2 : ℕ) < 6 by omega)).trans <| (canon_before _ _ _ _ 1 (show (2 : ℕ) < 5 by omega)).trans <| (canon_before _ _ _ _ 1 (show (2 : ℕ) < 4 by omega)).trans <| (canon_before _ _ _ _ 1 (show (2 : ℕ) < 3 by omega)).trans <|
  (canon_at (S := S1x8x64) (size := ![1, 1, 64]) _ _ _ _ (ix3 0 0 d) fun b => by
    fin_cases b
    · rfl
    · rfl
    · exact (Nat.zero_add _).symm).trans ((endN2 _ d).trans (updN2 x0 x1 x7 x8 x9 P d))

include hi hm in
theorem mixed_2 (t : Fin 8) (e : Fin 128) : View.canon (mixed x0 x1 x2 x3 x4 x5 x7 x8 x9) (ix2 ⟨t.val, by omega⟩ ⟨128 * 2 + e.val, by omega⟩)
    = mixAt x0 x1 x2 x7 x8 (k0_pay41 x9) i f 2 t e :=
  (canon_before _ _ _ _ 1 (show 128 * 2 + e.val < 896 by omega)).trans <| (canon_before _ _ _ _ 1 (show 128 * 2 + e.val < 768 by omega)).trans <| (canon_before _ _ _ _ 1 (show 128 * 2 + e.val < 640 by omega)).trans <| (canon_before _ _ _ _ 1 (show 128 * 2 + e.val < 512 by omega)).trans <| (canon_before _ _ _ _ 1 (show 128 * 2 + e.val < 384 by omega)).trans <|
  (canon_at (S := S128x1024) (size := ![128, 128]) _ _ _ _ (ix2 ⟨t.val, by omega⟩ e) fun b => by
    fin_cases b
    · exact (Nat.zero_add _).symm
    · rfl).trans (mix2_at x0 x1 x2 x7 x8 x9 P hi hm t e)

theorem stores14_3 (d : Fin 64) (e : Fin 128) : View.canon (stores14 x0 x1 x3 x4 x5 x7 x8 x9) (ix4 0 3 d e)
    = Gates.stateC (kAt x1 3) (vAt x0 3) (cAt x7 3) (i 3) (f 3) (k0_pay41 x9 (ix2 0 ⟨(3 : Fin 8).val, by omega⟩)) d e :=
  (canon_before _ _ _ _ 1 (show (3 : ℕ) < 7 by omega)).trans <| (canon_before _ _ _ _ 1 (show (3 : ℕ) < 6 by omega)).trans <| (canon_before _ _ _ _ 1 (show (3 : ℕ) < 5 by omega)).trans <| (canon_before _ _ _ _ 1 (show (3 : ℕ) < 4 by omega)).trans <|
  (canon_at (S := S1x8x64x128) (size := ![1, 1, 64, 128]) _ _ _ _ (ix4 0 0 d e) fun b => by
    fin_cases b
    · rfl
    · rfl
    · exact (Nat.zero_add _).symm
    · exact (Nat.zero_add _).symm).trans ((endC3 _ d e).trans (updC3 x0 x1 x7 x8 x9 P d e))

theorem stores15_3 (d : Fin 64) : View.canon (stores15 x0 x1 x3 x4 x5 x7 x8 x9) (ix3 0 3 d)
    = Gates.stateN (kAt x1 3) (nAt x8 3) (i 3) (f 3) (k0_pay41 x9 (ix2 0 ⟨(3 : Fin 8).val, by omega⟩)) d :=
  (canon_before _ _ _ _ 1 (show (3 : ℕ) < 7 by omega)).trans <| (canon_before _ _ _ _ 1 (show (3 : ℕ) < 6 by omega)).trans <| (canon_before _ _ _ _ 1 (show (3 : ℕ) < 5 by omega)).trans <| (canon_before _ _ _ _ 1 (show (3 : ℕ) < 4 by omega)).trans <|
  (canon_at (S := S1x8x64) (size := ![1, 1, 64]) _ _ _ _ (ix3 0 0 d) fun b => by
    fin_cases b
    · rfl
    · rfl
    · exact (Nat.zero_add _).symm).trans ((endN3 _ d).trans (updN3 x0 x1 x7 x8 x9 P d))

include hi hm in
theorem mixed_3 (t : Fin 8) (e : Fin 128) : View.canon (mixed x0 x1 x2 x3 x4 x5 x7 x8 x9) (ix2 ⟨t.val, by omega⟩ ⟨128 * 3 + e.val, by omega⟩)
    = mixAt x0 x1 x2 x7 x8 (k0_pay41 x9) i f 3 t e :=
  (canon_before _ _ _ _ 1 (show 128 * 3 + e.val < 896 by omega)).trans <| (canon_before _ _ _ _ 1 (show 128 * 3 + e.val < 768 by omega)).trans <| (canon_before _ _ _ _ 1 (show 128 * 3 + e.val < 640 by omega)).trans <| (canon_before _ _ _ _ 1 (show 128 * 3 + e.val < 512 by omega)).trans <|
  (canon_at (S := S128x1024) (size := ![128, 128]) _ _ _ _ (ix2 ⟨t.val, by omega⟩ e) fun b => by
    fin_cases b
    · exact (Nat.zero_add _).symm
    · rfl).trans (mix3_at x0 x1 x2 x7 x8 x9 P hi hm t e)

theorem stores14_4 (d : Fin 64) (e : Fin 128) : View.canon (stores14 x0 x1 x3 x4 x5 x7 x8 x9) (ix4 0 4 d e)
    = Gates.stateC (kAt x1 4) (vAt x0 4) (cAt x7 4) (i 4) (f 4) (k0_pay41 x9 (ix2 0 ⟨(4 : Fin 8).val, by omega⟩)) d e :=
  (canon_before _ _ _ _ 1 (show (4 : ℕ) < 7 by omega)).trans <| (canon_before _ _ _ _ 1 (show (4 : ℕ) < 6 by omega)).trans <| (canon_before _ _ _ _ 1 (show (4 : ℕ) < 5 by omega)).trans <|
  (canon_at (S := S1x8x64x128) (size := ![1, 1, 64, 128]) _ _ _ _ (ix4 0 0 d e) fun b => by
    fin_cases b
    · rfl
    · rfl
    · exact (Nat.zero_add _).symm
    · exact (Nat.zero_add _).symm).trans ((endC4 _ d e).trans (updC4 x0 x1 x7 x8 x9 P d e))

theorem stores15_4 (d : Fin 64) : View.canon (stores15 x0 x1 x3 x4 x5 x7 x8 x9) (ix3 0 4 d)
    = Gates.stateN (kAt x1 4) (nAt x8 4) (i 4) (f 4) (k0_pay41 x9 (ix2 0 ⟨(4 : Fin 8).val, by omega⟩)) d :=
  (canon_before _ _ _ _ 1 (show (4 : ℕ) < 7 by omega)).trans <| (canon_before _ _ _ _ 1 (show (4 : ℕ) < 6 by omega)).trans <| (canon_before _ _ _ _ 1 (show (4 : ℕ) < 5 by omega)).trans <|
  (canon_at (S := S1x8x64) (size := ![1, 1, 64]) _ _ _ _ (ix3 0 0 d) fun b => by
    fin_cases b
    · rfl
    · rfl
    · exact (Nat.zero_add _).symm).trans ((endN4 _ d).trans (updN4 x0 x1 x7 x8 x9 P d))

include hi hm in
theorem mixed_4 (t : Fin 8) (e : Fin 128) : View.canon (mixed x0 x1 x2 x3 x4 x5 x7 x8 x9) (ix2 ⟨t.val, by omega⟩ ⟨128 * 4 + e.val, by omega⟩)
    = mixAt x0 x1 x2 x7 x8 (k0_pay41 x9) i f 4 t e :=
  (canon_before _ _ _ _ 1 (show 128 * 4 + e.val < 896 by omega)).trans <| (canon_before _ _ _ _ 1 (show 128 * 4 + e.val < 768 by omega)).trans <| (canon_before _ _ _ _ 1 (show 128 * 4 + e.val < 640 by omega)).trans <|
  (canon_at (S := S128x1024) (size := ![128, 128]) _ _ _ _ (ix2 ⟨t.val, by omega⟩ e) fun b => by
    fin_cases b
    · exact (Nat.zero_add _).symm
    · rfl).trans (mix4_at x0 x1 x2 x7 x8 x9 P hi hm t e)

theorem stores14_5 (d : Fin 64) (e : Fin 128) : View.canon (stores14 x0 x1 x3 x4 x5 x7 x8 x9) (ix4 0 5 d e)
    = Gates.stateC (kAt x1 5) (vAt x0 5) (cAt x7 5) (i 5) (f 5) (k0_pay41 x9 (ix2 0 ⟨(5 : Fin 8).val, by omega⟩)) d e :=
  (canon_before _ _ _ _ 1 (show (5 : ℕ) < 7 by omega)).trans <| (canon_before _ _ _ _ 1 (show (5 : ℕ) < 6 by omega)).trans <|
  (canon_at (S := S1x8x64x128) (size := ![1, 1, 64, 128]) _ _ _ _ (ix4 0 0 d e) fun b => by
    fin_cases b
    · rfl
    · rfl
    · exact (Nat.zero_add _).symm
    · exact (Nat.zero_add _).symm).trans ((endC5 _ d e).trans (updC5 x0 x1 x7 x8 x9 P d e))

theorem stores15_5 (d : Fin 64) : View.canon (stores15 x0 x1 x3 x4 x5 x7 x8 x9) (ix3 0 5 d)
    = Gates.stateN (kAt x1 5) (nAt x8 5) (i 5) (f 5) (k0_pay41 x9 (ix2 0 ⟨(5 : Fin 8).val, by omega⟩)) d :=
  (canon_before _ _ _ _ 1 (show (5 : ℕ) < 7 by omega)).trans <| (canon_before _ _ _ _ 1 (show (5 : ℕ) < 6 by omega)).trans <|
  (canon_at (S := S1x8x64) (size := ![1, 1, 64]) _ _ _ _ (ix3 0 0 d) fun b => by
    fin_cases b
    · rfl
    · rfl
    · exact (Nat.zero_add _).symm).trans ((endN5 _ d).trans (updN5 x0 x1 x7 x8 x9 P d))

include hi hm in
theorem mixed_5 (t : Fin 8) (e : Fin 128) : View.canon (mixed x0 x1 x2 x3 x4 x5 x7 x8 x9) (ix2 ⟨t.val, by omega⟩ ⟨128 * 5 + e.val, by omega⟩)
    = mixAt x0 x1 x2 x7 x8 (k0_pay41 x9) i f 5 t e :=
  (canon_before _ _ _ _ 1 (show 128 * 5 + e.val < 896 by omega)).trans <| (canon_before _ _ _ _ 1 (show 128 * 5 + e.val < 768 by omega)).trans <|
  (canon_at (S := S128x1024) (size := ![128, 128]) _ _ _ _ (ix2 ⟨t.val, by omega⟩ e) fun b => by
    fin_cases b
    · exact (Nat.zero_add _).symm
    · rfl).trans (mix5_at x0 x1 x2 x7 x8 x9 P hi hm t e)

theorem stores14_6 (d : Fin 64) (e : Fin 128) : View.canon (stores14 x0 x1 x3 x4 x5 x7 x8 x9) (ix4 0 6 d e)
    = Gates.stateC (kAt x1 6) (vAt x0 6) (cAt x7 6) (i 6) (f 6) (k0_pay41 x9 (ix2 0 ⟨(6 : Fin 8).val, by omega⟩)) d e :=
  (canon_before _ _ _ _ 1 (show (6 : ℕ) < 7 by omega)).trans <|
  (canon_at (S := S1x8x64x128) (size := ![1, 1, 64, 128]) _ _ _ _ (ix4 0 0 d e) fun b => by
    fin_cases b
    · rfl
    · rfl
    · exact (Nat.zero_add _).symm
    · exact (Nat.zero_add _).symm).trans ((endC6 _ d e).trans (updC6 x0 x1 x7 x8 x9 P d e))

theorem stores15_6 (d : Fin 64) : View.canon (stores15 x0 x1 x3 x4 x5 x7 x8 x9) (ix3 0 6 d)
    = Gates.stateN (kAt x1 6) (nAt x8 6) (i 6) (f 6) (k0_pay41 x9 (ix2 0 ⟨(6 : Fin 8).val, by omega⟩)) d :=
  (canon_before _ _ _ _ 1 (show (6 : ℕ) < 7 by omega)).trans <|
  (canon_at (S := S1x8x64) (size := ![1, 1, 64]) _ _ _ _ (ix3 0 0 d) fun b => by
    fin_cases b
    · rfl
    · rfl
    · exact (Nat.zero_add _).symm).trans ((endN6 _ d).trans (updN6 x0 x1 x7 x8 x9 P d))

include hi hm in
theorem mixed_6 (t : Fin 8) (e : Fin 128) : View.canon (mixed x0 x1 x2 x3 x4 x5 x7 x8 x9) (ix2 ⟨t.val, by omega⟩ ⟨128 * 6 + e.val, by omega⟩)
    = mixAt x0 x1 x2 x7 x8 (k0_pay41 x9) i f 6 t e :=
  (canon_before _ _ _ _ 1 (show 128 * 6 + e.val < 896 by omega)).trans <|
  (canon_at (S := S128x1024) (size := ![128, 128]) _ _ _ _ (ix2 ⟨t.val, by omega⟩ e) fun b => by
    fin_cases b
    · exact (Nat.zero_add _).symm
    · rfl).trans (mix6_at x0 x1 x2 x7 x8 x9 P hi hm t e)

theorem stores14_7 (d : Fin 64) (e : Fin 128) : View.canon (stores14 x0 x1 x3 x4 x5 x7 x8 x9) (ix4 0 7 d e)
    = Gates.stateC (kAt x1 7) (vAt x0 7) (cAt x7 7) (i 7) (f 7) (k0_pay41 x9 (ix2 0 ⟨(7 : Fin 8).val, by omega⟩)) d e :=

  (canon_at (S := S1x8x64x128) (size := ![1, 1, 64, 128]) _ _ _ _ (ix4 0 0 d e) fun b => by
    fin_cases b
    · rfl
    · rfl
    · exact (Nat.zero_add _).symm
    · exact (Nat.zero_add _).symm).trans ((endC7 _ d e).trans (updC7 x0 x1 x7 x8 x9 P d e))

theorem stores15_7 (d : Fin 64) : View.canon (stores15 x0 x1 x3 x4 x5 x7 x8 x9) (ix3 0 7 d)
    = Gates.stateN (kAt x1 7) (nAt x8 7) (i 7) (f 7) (k0_pay41 x9 (ix2 0 ⟨(7 : Fin 8).val, by omega⟩)) d :=

  (canon_at (S := S1x8x64) (size := ![1, 1, 64]) _ _ _ _ (ix3 0 0 d) fun b => by
    fin_cases b
    · rfl
    · rfl
    · exact (Nat.zero_add _).symm).trans ((endN7 _ d).trans (updN7 x0 x1 x7 x8 x9 P d))

include hi hm in
theorem mixed_7 (t : Fin 8) (e : Fin 128) : View.canon (mixed x0 x1 x2 x3 x4 x5 x7 x8 x9) (ix2 ⟨t.val, by omega⟩ ⟨128 * 7 + e.val, by omega⟩)
    = mixAt x0 x1 x2 x7 x8 (k0_pay41 x9) i f 7 t e :=

  (canon_at (S := S128x1024) (size := ![128, 128]) _ _ _ _ (ix2 ⟨t.val, by omega⟩ e) fun b => by
    fin_cases b
    · exact (Nat.zero_add _).symm
    · rfl).trans (mix7_at x0 x1 x2 x7 x8 x9 P hi hm t e)

/-- The three families of stores, at a head. -/
theorem stores14_at (h : Fin 8) (d : Fin 64) (e : Fin 128) : View.canon (stores14 x0 x1 x3 x4 x5 x7 x8 x9) (ix4 0 h d e)
    = Gates.stateC (kAt x1 h) (vAt x0 h) (cAt x7 h) (i h) (f h) (k0_pay41 x9 (ix2 0 ⟨(h : Fin 8).val, by omega⟩)) d e :=
  match h with
  | ⟨0, _⟩ => stores14_0 x0 x1 x7 x8 x9 P d e
  | ⟨1, _⟩ => stores14_1 x0 x1 x7 x8 x9 P d e
  | ⟨2, _⟩ => stores14_2 x0 x1 x7 x8 x9 P d e
  | ⟨3, _⟩ => stores14_3 x0 x1 x7 x8 x9 P d e
  | ⟨4, _⟩ => stores14_4 x0 x1 x7 x8 x9 P d e
  | ⟨5, _⟩ => stores14_5 x0 x1 x7 x8 x9 P d e
  | ⟨6, _⟩ => stores14_6 x0 x1 x7 x8 x9 P d e
  | ⟨7, _⟩ => stores14_7 x0 x1 x7 x8 x9 P d e

theorem stores15_at (h : Fin 8) (d : Fin 64) : View.canon (stores15 x0 x1 x3 x4 x5 x7 x8 x9) (ix3 0 h d)
    = Gates.stateN (kAt x1 h) (nAt x8 h) (i h) (f h) (k0_pay41 x9 (ix2 0 ⟨(h : Fin 8).val, by omega⟩)) d :=
  match h with
  | ⟨0, _⟩ => stores15_0 x0 x1 x7 x8 x9 P d
  | ⟨1, _⟩ => stores15_1 x0 x1 x7 x8 x9 P d
  | ⟨2, _⟩ => stores15_2 x0 x1 x7 x8 x9 P d
  | ⟨3, _⟩ => stores15_3 x0 x1 x7 x8 x9 P d
  | ⟨4, _⟩ => stores15_4 x0 x1 x7 x8 x9 P d
  | ⟨5, _⟩ => stores15_5 x0 x1 x7 x8 x9 P d
  | ⟨6, _⟩ => stores15_6 x0 x1 x7 x8 x9 P d
  | ⟨7, _⟩ => stores15_7 x0 x1 x7 x8 x9 P d

include hi hm in
theorem mixed_at (h t : Fin 8) (e : Fin 128) :
    View.canon (mixed x0 x1 x2 x3 x4 x5 x7 x8 x9) (ix2 ⟨t.val, by omega⟩ ⟨128 * h.val + e.val, by omega⟩)
      = mixAt x0 x1 x2 x7 x8 (k0_pay41 x9) i f h t e :=
  match h with
  | ⟨0, _⟩ => mixed_0 x0 x1 x2 x7 x8 x9 P hi hm t e
  | ⟨1, _⟩ => mixed_1 x0 x1 x2 x7 x8 x9 P hi hm t e
  | ⟨2, _⟩ => mixed_2 x0 x1 x2 x7 x8 x9 P hi hm t e
  | ⟨3, _⟩ => mixed_3 x0 x1 x2 x7 x8 x9 P hi hm t e
  | ⟨4, _⟩ => mixed_4 x0 x1 x2 x7 x8 x9 P hi hm t e
  | ⟨5, _⟩ => mixed_5 x0 x1 x2 x7 x8 x9 P hi hm t e
  | ⟨6, _⟩ => mixed_6 x0 x1 x2 x7 x8 x9 P hi hm t e
  | ⟨7, _⟩ => mixed_7 x0 x1 x2 x7 x8 x9 P hi hm t e

include hi hm in
theorem rows_at (w : View sig .tc .vmem S128x1024 .bf16) (h t : Fin 8) (e : Fin 128) :
    rows x0 x1 x2 x3 x4 x5 x7 x8 x9 w (ix2 ⟨t.val, by omega⟩ ⟨128 * h.val + e.val, by omega⟩) = mixAt x0 x1 x2 x7 x8 (k0_pay41 x9) i f h t e := by
  rw [rows, View.readCov_eq_canon', ← mixed_at x0 x1 x2 x7 x8 x9 P hi hm h t e]
  refine congrArg _ (funext fun b => Fin.ext ?_)
  fin_cases b
  · show 0 + 1 * t.val = t.val; omega
  · show 0 + 1 * (128 * h.val + e.val) = 128 * h.val + e.val; omega

end

section
variable (c : Dev nD) (i : grid0.Coords) (arg2 : Memref sig .tc .vmem S8x1536 .f32) (harg2 : arg2.IsWhole) (arg3 : Memref sig .tc .vmem S512x128 .bf16) (harg3 : arg3.IsWhole) (arg4 : Memref sig .tc .vmem S8x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x16x128 .f32) (harg7 : arg7.IsWhole) (arg8 : Memref sig .tc .vmem S8x1024 .f32) (harg8 : arg8.IsWhole) (arg9 : Memref sig .tc .vmem S1x8x64x128 .f32) (harg9 : arg9.IsWhole) (arg10 : Memref sig .tc .vmem S1x8x64 .f32) (harg10 : arg10.IsWhole) (arg11 : Memref sig .tc .vmem S1x1x128 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S8x1024 .f32) (harg15 : arg15.IsWhole) (arg16 : Memref sig .tc .vmem S1x8x64x128 .f32) (harg16 : arg16.IsWhole) (arg17 : Memref sig .tc .vmem S1x8x64 .f32) (harg17 : arg17.IsWhole) (arg18 : Memref sig .tc .vmem S1x1x128 .f32) (harg18 : arg18.IsWhole) (arg19 : Memref sig .tc .vmem S8x64x256 .f32) (harg19 : arg19.IsWhole) (arg20 : Memref sig .tc .vmem S1x128 .f32) (harg20 : arg20.IsWhole) (arg21 : Memref sig .tc .vmem S128x1024 .bf16) (harg21 : arg21.IsWhole) (hc0 : cond0_0 i) (hc1 : cond0_1 i)
    (x0 : Vec Ideal S8x1536 .f32) (x1 : Vec Ideal S512x128 .bf16) (x2 : Vec Ideal S8x1024 .f32) (x3 : Vec Ideal S128x128 .f32) (x4 : Vec Ideal S128x128 .f32) (x5 : Vec Ideal S1x16x128 .f32) (x6 : Vec Ideal S8x1024 .f32) (x7 : Vec Ideal S1x8x64x128 .f32) (x8 : Vec Ideal S1x8x64 .f32) (x9 : Vec Ideal S1x1x128 .f32) (x10 : Vec Ideal S1024x1024 .bf16) (x11 : Vec Ideal S1x1024 .f32) (x12 : Vec Ideal S1x1024 .f32)

/-- What the four output windows hold after a grid point, at an index. -/
theorem out13_at (t : Fin 8) (j : Fin 1024) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 (ix2 t j)
    = Gates.layerNorm (pre (rows x0 x1 x2 x3 x4 x5 x7 x8 x9 arg21.view) x10 x6 t) (fun k => x11 (ix2 0 k)) (fun k => x12 (ix2 0 k)) j := by
  rw [out0_A_13, View.read_writes_junk_eq_canon, run13]
  refine Eq.trans ?_ (rows_apply (rows x0 x1 x2 x3 x4 x5 x7 x8 x9 arg21.view) x10 x6 x11 x12 t j)
  exact congrFun (View.canon_cons_unit_lit _ _ _ (by decide)) _

theorem out14_eq : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 = View.canon (stores14 x0 x1 x3 x4 x5 x7 x8 x9) := by
  rw [out0_A_14, View.read_writes_junk_eq_canon, run14]

theorem out15_eq : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 = View.canon (stores15 x0 x1 x3 x4 x5 x7 x8 x9) := by
  rw [out0_A_15, View.read_writes_junk_eq_canon, run15]

theorem out16_at (l : Fin 128) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 (ix3 0 0 l)
    = k0_pay120 (F := Ideal) (k0_pay45 x4) (Heads.maximaEnd x3 x4 (k0_pay41 x9)) (ix2 0 l) := by
  rw [out0_A_16, View.read_writes_junk_eq_canon, run16]
  refine Eq.trans ?_ (pay4_apply _ l)
  exact congrFun (View.canon_cons_unit_lit _ _ _ (by decide)) _

end

end Cert.Stores
end
-- ==== Proof.Reference.lean ====
/- The reference's four results at an index, in the words of `Gates`. -/
module

public import proofs.«01_k».proof.Proof.Gates
public import proofs.«01_k».proof.Proof.Gen.ReferenceIdeal.Read
public import Idealize.ShloMosaic.Lib.Pointwise

@[expose] public section

set_option maxRecDepth 16384

noncomputable section

namespace Cert.Reference

open Cert.ReferenceIdeal Cert.ReferenceIdeal.Gen Cert.ReferenceIdeal.Read Idealize.ShloMosaic Cert.Gates

/-- A left fold of additions is the sum. -/
theorem foldl_add_eq_sum {n : ℕ} (g : Fin n → EReal) : (List.finRange n).foldl (fun r k => r + g k) 0 = ∑ k, g k := by
  have h : ∀ (l : List (Fin n)) (r : EReal), l.foldl (fun r k => r + g k) r = r + (l.map g).sum := by
    intro l
    induction l with
    | nil => intro r; simp
    | cons a l ih => intro r; rw [List.foldl_cons, ih, List.map_cons, List.sum_cons, add_assoc]
  rw [h, zero_add, Fin.sum_univ_def]

/-- The single-precision pattern of minus infinity. -/
theorem bits_bot : Ideal.ofBits .f32 0xFF800000#32 = ⊥ := by
  simp [Ideal.ofBits, Ideal.ieee]

variable (x0 x1 : FVec Ideal S32x8x8x64 .f32) (x2 : FVec Ideal S32x8x8x128 .f32) (x3 : FVec Ideal S32x8x1024 .f32)
  (x4 x5 : FVec Ideal S32x8x8 .f32) (x6 : FVec Ideal S32x8x1024 .f32) (x7 : FVec Ideal S1x32x8x64x128 .f32)
  (x8 : FVec Ideal S1x32x8x64 .f32) (x9 : FVec Ideal S1x32x8 .f32) (x10 : FVec Ideal S1x1024x1024 .f32)
  (x11 x12 : FVec Ideal S2x2x1024 .f32)

/-- The gates of a head of a sequence, token by token. -/
def gateOf (x : FVec Ideal S32x8x8 .f32) (b : Fin 32) (h s : Fin 8) : EReal := x (ix3 b s h)

/-- A window of 8 ending at each place of the last axis, padded below, sums what is up to that place. -/
theorem window_eq (x : S32x8x8.Idx → EReal) (b : Fin 32) (h t : Fin 8) :
    Ideal.hostReduceWindowAdd ![1, 1, 8] ![1, 1, 1] ![0, 0, 7] ![0, 0, 0] reduceWindows_S32x8x8_S32x8x8_w1s1p0_0_w1s1p0_0_w8s1p7_0 x 0 (ix3 b h t)
      = cum (fun s => x (ix3 b h s)) t := by
  unfold Ideal.hostReduceWindowAdd Host.reduceWindow
  simp only []
  rw [foldl_add_eq_sum]
  refine (Equiv.sum_comp (Shape.rowMajor (⟨3, ![1, 1, 8]⟩ : Shape)) _).symm.trans ?_
  simp only [Equiv.symm_apply_apply]
  rw [sum_idx3]
  simp only [Fin.sum_univ_one]
  have hc : ∀ c : Fin 8, (if hin : ∀ a : Fin 3,
      ![0, 0, 7] a ≤ (ix3 b h t a).val * ![1, 1, 1] a + (ix3 (n0 := 1) (n1 := 1) 0 0 c a).val ∧
        (ix3 b h t a).val * ![1, 1, 1] a + (ix3 (n0 := 1) (n1 := 1) 0 0 c a).val - ![0, 0, 7] a < ![32, 8, 8] a then
      x (fun a => ⟨(ix3 b h t a).val * ![1, 1, 1] a + (ix3 (n0 := 1) (n1 := 1) 0 0 c a).val - ![0, 0, 7] a, (hin a).2⟩) else 0)
      = if hc : 7 ≤ t.val + c.val then x (ix3 b h ⟨t.val + c.val - 7, by omega⟩) else 0 := fun c => by
    by_cases hc : 7 ≤ t.val + c.val
    · rw [dif_pos hc, dif_pos]
      · congr 1
        funext a
        match a with
        | ⟨0, _⟩ => exact Fin.ext (by show b.val * 1 + 0 - 0 = b.val; omega)
        | ⟨1, _⟩ => exact Fin.ext (by show h.val * 1 + 0 - 0 = h.val; omega)
        | ⟨2, _⟩ => exact Fin.ext (by show t.val * 1 + c.val - 7 = t.val + c.val - 7; omega)
      · intro a
        match a with
        | ⟨0, _⟩ => show 0 ≤ b.val * 1 + 0 ∧ b.val * 1 + 0 - 0 < 32; omega
        | ⟨1, _⟩ => show 0 ≤ h.val * 1 + 0 ∧ h.val * 1 + 0 - 0 < 8; omega
        | ⟨2, _⟩ => show 7 ≤ t.val * 1 + c.val ∧ t.val * 1 + c.val - 7 < 8; omega
    · rw [dif_neg hc, dif_neg]
      intro hh
      have h2 : 7 ≤ t.val * 1 + c.val := (hh 2).1
      omega
  refine (Finset.sum_congr rfl fun c _ => hc c).trans ?_
  unfold cum
  fin_cases t <;> simp [Fin.sum_univ_eight, Fin.le_def]

/-- The running sum of the forget gates. -/
theorem cum_eq (b : Fin 32) (h t : Fin 8) : val_main_v10 (F := Ideal) x5 (ix3 b h t) = cum (gateOf x5 b h) t := by
  have hv : ∀ s : Fin 8, val_main_v7 (F := Ideal) x5 (ix3 b h s) = gateOf x5 b h s := fun s => by
    pointwise [val_main_v7, gateOf]
  have h0 : (val_main_call1_call0_v0 (F := Ideal)) (Shape.Idx.first h_S_) = 0 := by
    pointwise [val_main_call1_call0_v0, val_main_call1_call0_cst]
  show Ideal.hostReduceWindowAdd ![1, 1, 8] ![1, 1, 1] ![0, 0, 7] ![0, 0, 0] reduceWindows_S32x8x8_S32x8x8_w1s1p0_0_w1s1p0_0_w8s1p7_0
    (val_main_v7 (F := Ideal) x5) ((val_main_call1_call0_v0 (F := Ideal)) (Shape.Idx.first h_S_)) (ix3 b h t) = _
  rw [h0, window_eq]
  simp only [hv]

theorem m_eq (b : Fin 32) (h : Fin 8) : val_main_v2 (F := Ideal) x9 (ix2 b h) = x9 (ix3 0 b h) := by
  pointwise [val_main_v2]

theorem tril_apply : ∀ t s : Fin 8, val_main_v9 (F := Ideal) (ix2 t s) = BitVec.ofBool (decide (s ≤ t)) := by
  have h : ∀ t s : Fin 8, IntOp.cmpi .sge (IntOp.addi (BitVec.ofNat 32 t.val) 0#32) (BitVec.ofNat 32 s.val) = BitVec.ofBool (decide (s ≤ t)) := by
    decide +kernel
  intro t s
  pointwise [val_main_v9, val_main_v8, val_main_c, val_main_call0_v4, val_main_call0_v2, val_main_call0_v0, val_main_call0_v1, val_main_call0_c,
    val_main_call0_v3, val_main_call0_v5, val_main_call0_c_0, h]
  split_ifs with hs <;> simp [hs]

theorem dmat_at (b : Fin 32) (h t s : Fin 8) :
    val_main_v19 (F := Ideal) x4 x5 (ix4 b h t s) = dmat (gateOf x4 b h) (gateOf x5 b h) t s := by
  pointwise [val_main_v19, val_main_call2_v1, val_main_call2_v2, val_main_call2_v0, val_main_cst, val_main_v18, val_main_v15, val_main_v17, val_main_v16,
    val_main_v13, val_main_v14, val_main_v11, val_main_v12, val_main_v6, cum_eq, tril_apply, dmat, gateOf]
  split_ifs
  · rfl
  · exact bits_bot

theorem stab_at (b : Fin 32) (h t : Fin 8) :
    val_main_v24 (F := Ideal) x4 x5 x9 (ix3 b h t) = stab (gateOf x4 b h) (gateOf x5 b h) (x9 (ix3 0 b h)) t := by
  pointwise [val_main_v24, val_main_v23, val_main_v22, val_main_v21, val_main_v20, val_main_cst_0, m_eq, cum_eq, dmat_at, stab]
  rw [bits_bot]
  rfl

theorem weight_at (b : Fin 32) (h t s : Fin 8) :
    val_main_v28 (F := Ideal) x4 x5 x9 (ix4 b h t s)
      = Ideal.exp (dmat (gateOf x4 b h) (gateOf x5 b h) t s - stab (gateOf x4 b h) (gateOf x5 b h) (x9 (ix3 0 b h)) t) := by
  pointwise [val_main_v28, val_main_v27, val_main_v26, val_main_v25, dmat_at, stab_at]

theorem carry_at (b : Fin 32) (h t : Fin 8) :
    val_main_v30 (F := Ideal) x4 x5 x9 (ix3 b h t) = carry (gateOf x4 b h) (gateOf x5 b h) (x9 (ix3 0 b h)) t := by
  pointwise [val_main_v30, val_main_v29, val_main_v22, val_main_v21, val_main_v20, m_eq, cum_eq, stab_at, carry]

/-- A head's queries or keys, its values and its states, of one sequence. -/
def qOf (x : FVec Ideal S32x8x8x64 .f32) (b : Fin 32) (h s : Fin 8) (d : Fin 64) : EReal := x (ix4 b s h d)
def vOf (x : FVec Ideal S32x8x8x128 .f32) (b : Fin 32) (h s : Fin 8) (e : Fin 128) : EReal := x (ix4 b s h e)
def cOf (x : FVec Ideal S1x32x8x64x128 .f32) (b : Fin 32) (h : Fin 8) (d : Fin 64) (e : Fin 128) : EReal := x (ix5 0 b h d e)
def nOf (x : FVec Ideal S1x32x8x64 .f32) (b : Fin 32) (h : Fin 8) (d : Fin 64) : EReal := x (ix4 0 b h d)
def mOf (x : FVec Ideal S1x32x8 .f32) (b : Fin 32) (h : Fin 8) : EReal := x (ix3 0 b h)

theorem score_at (b : Fin 32) (h t s : Fin 8) :
    val_main_v32 (F := Ideal) x0 x1 x4 x5 x9 (ix4 b h t s)
      = score (qOf x0 b h) (qOf x1 b h) (gateOf x4 b h) (gateOf x5 b h) (mOf x9 b h) t s := by
  pointwise [val_main_v32, val_main_v31, val_main_v3, val_main_v4, weight_at, score, qOf, mOf]

theorem num_at (b : Fin 32) (h t : Fin 8) (e : Fin 128) :
    val_main_v38 (F := Ideal) x0 x1 x2 x4 x5 x7 x9 (ix4 b h t e)
      = num (qOf x0 b h) (qOf x1 b h) (vOf x2 b h) (cOf x7 b h) (gateOf x4 b h) (gateOf x5 b h) (mOf x9 b h) t e := by
  pointwise [val_main_v38, val_main_v33, val_main_v37, val_main_v36, val_main_v35, val_main_v34, val_main_v5, val_main_v3, val_main_v0, score_at, carry_at,
    num, vOf, cOf, qOf, mOf]

theorem den_at (b : Fin 32) (h t : Fin 8) :
    val_main_v42 (F := Ideal) x0 x1 x4 x5 x8 x9 (ix3 b h t)
      = den (qOf x0 b h) (qOf x1 b h) (nOf x8 b h) (gateOf x4 b h) (gateOf x5 b h) (mOf x9 b h) t := by
  pointwise [val_main_v42, val_main_v39, val_main_v41, val_main_v40, val_main_v3, val_main_v1, val_main_cst_1, score_at, carry_at,
    den, nOf, qOf, mOf]

/-- The head's output before its gate. -/
theorem hid_at (b : Fin 32) (h t : Fin 8) (e : Fin 128) :
    val_main_v49 (F := Ideal) x0 x1 x2 x4 x5 x7 x8 x9 (ix4 b h t e)
      = hid (qOf x0 b h) (qOf x1 b h) (vOf x2 b h) (cOf x7 b h) (nOf x8 b h) (gateOf x4 b h) (gateOf x5 b h) (mOf x9 b h) t e := by
  pointwise [val_main_v49, val_main_v48, val_main_v47, val_main_v46, val_main_v45, val_main_v44, val_main_v43, num_at, den_at, stab_at, hid, mOf]
  rfl

theorem stabEnd_at (b : Fin 32) (h : Fin 8) :
    val_main_v58 (F := Ideal) x4 x5 x9 (ix2 b h) = stabEnd (gateOf x4 b h) (gateOf x5 b h) (mOf x9 b h) := by
  pointwise [val_main_v58, val_main_v57, val_main_v56, val_main_v55, val_main_v54, val_main_v53, val_main_v52, val_main_v51, val_main_v50, val_main_v6,
    val_main_cst_2, m_eq, cum_eq, stabEnd, mOf, gateOf]
  rw [bits_bot]
  rfl

theorem keep_at (b : Fin 32) (h s : Fin 8) :
    val_main_v62 (F := Ideal) x4 x5 x9 (ix3 b h s) = keep (gateOf x4 b h) (gateOf x5 b h) (mOf x9 b h) s := by
  pointwise [val_main_v62, val_main_v61, val_main_v60, val_main_v59, val_main_v53, val_main_v52, val_main_v51, val_main_v50, val_main_v6,
    stabEnd_at, cum_eq, keep, gateOf]

theorem keepState_at (b : Fin 32) (h : Fin 8) :
    val_main_v64 (F := Ideal) x4 x5 x9 (ix2 b h) = keepState (gateOf x4 b h) (gateOf x5 b h) (mOf x9 b h) := by
  pointwise [val_main_v64, val_main_v63, val_main_v56, val_main_v55, val_main_v54, m_eq, stabEnd_at, cum_eq, keepState, mOf]

/-- The matrix states after the chunk. -/
theorem stateC_at (b : Fin 32) (h : Fin 8) (d : Fin 64) (e : Fin 128) :
    val_main_v72 (F := Ideal) x1 x2 x4 x5 x7 x9 (ix4 b h d e)
      = stateC (qOf x1 b h) (vOf x2 b h) (cOf x7 b h) (gateOf x4 b h) (gateOf x5 b h) (mOf x9 b h) d e := by
  pointwise [val_main_v72, val_main_v71, val_main_v70, val_main_v69, val_main_v68, val_main_v67, val_main_v66, val_main_v65, val_main_v5, val_main_v4,
    val_main_v0, keep_at, keepState_at, stateC, vOf, cOf, qOf]

/-- The normalisers after the chunk. -/
theorem stateN_at (b : Fin 32) (h : Fin 8) (d : Fin 64) :
    val_main_v77 (F := Ideal) x1 x4 x5 x8 x9 (ix3 b h d)
      = stateN (qOf x1 b h) (nOf x8 b h) (gateOf x4 b h) (gateOf x5 b h) (mOf x9 b h) d := by
  pointwise [val_main_v77, val_main_v76, val_main_v75, val_main_v74, val_main_v73, val_main_v4, val_main_v1, keep_at, keepState_at, stateN, nOf, qOf]

theorem sitofp_zero : FloatOps.sitofp (F := Ideal) .f32 0#32 = 0 := by
  show (((0#32 : BitVec 32).toInt : ℝ) : EReal) = 0
  simp

/-- The running maxima after the chunk; past the eight heads the lanes hold zero. -/
theorem stabEnd_pad (b : Fin 32) (l : Fin 128) :
    val_main_v122 (F := Ideal) x4 x5 x9 (ix3 b 0 l)
      = if hl : l.val < 8 then stabEnd (gateOf x4 b ⟨l, hl⟩) (gateOf x5 b ⟨l, hl⟩) (mOf x9 b ⟨l, hl⟩) else 0 := by
  pointwise [val_main_v122, val_main_v121, val_main_call3_v0, val_main_c_11, stabEnd_at]
  split_ifs
  · rfl
  · exact sitofp_zero

/-- The mixer's gated output before the projection. -/
theorem mix_at (b : Fin 32) (t : Fin 8) (h : Fin 8) (e : Fin 128) :
    val_main_v86 (F := Ideal) x0 x1 x2 x3 x4 x5 x7 x8 x9 (ix3 b t ⟨128 * h + e, by omega⟩)
      = gate (x3 (ix3 b t ⟨128 * h + e, by omega⟩))
        * hid (qOf x0 b h) (qOf x1 b h) (vOf x2 b h) (cOf x7 b h) (nOf x8 b h) (gateOf x4 b h) (gateOf x5 b h) (mOf x9 b h) t e := by
  have h1 : ∀ j : Fin 1024, val_main_v85 (F := Ideal) x0 x1 x2 x4 x5 x7 x8 x9 (ix3 b t j)
      = val_main_v49 (F := Ideal) x0 x1 x2 x4 x5 x7 x8 x9 (ix4 b ⟨j.val / 128, by omega⟩ t ⟨j.val % 128, by omega⟩) := by
    intro j
    pointwise [val_main_v85, val_main_v84]
  pointwise [val_main_v86, val_main_v83, val_main_v82, val_main_v81, val_main_v80, val_main_v79, val_main_v78, val_main_cst_3, val_main_cst_4, gate, h1]
  rw [show (⟨(128 * h.val + e.val) / 128, by omega⟩ : Fin 8) = h from Fin.ext (by simp only []; omega),
    show (⟨(128 * h.val + e.val) % 128, by omega⟩ : Fin 128) = e from Fin.ext (by simp only []; omega), hid_at]

/-- The row that the layer norm is taken of. -/
def pre (b : Fin 32) (t : Fin 8) (j : Fin 1024) : EReal :=
  Ideal.ofBits .f32 0x3FB504F3#32 * x6 (ix3 b t j)
    + ∑ k : Fin 1024, val_main_v86 (F := Ideal) x0 x1 x2 x3 x4 x5 x7 x8 x9 (ix3 b t k) * x10 (ix3 0 k j)

theorem pre_at (b : Fin 32) (t : Fin 8) (j : Fin 1024) :
    val_main_v91 (F := Ideal) x0 x1 x2 x3 x4 x5 x6 x7 x8 x9 x10 (ix3 b t j) = pre x0 x1 x2 x3 x4 x5 x6 x7 x8 x9 x10 b t j := by
  pointwise [val_main_v91, val_main_v90, val_main_v89, val_main_v88, val_main_v87, val_main_cst_5, pre]

theorem out_at (b : Fin 32) (t : Fin 8) (j : Fin 1024) :
    val_main_v119 (F := Ideal) x0 x1 x2 x3 x4 x5 x6 x7 x8 x9 x10 x11 x12 (ix3 b t j)
      = layerNorm (pre x0 x1 x2 x3 x4 x5 x6 x7 x8 x9 x10 b t) (fun k => x11 (ix3 0 0 k)) (fun k => x12 (ix3 0 0 k)) j := by
  pointwise [val_main_v119, val_main_v118, val_main_v117, val_main_v116, val_main_v115, val_main_v114, val_main_v113, val_main_v112, val_main_v111,
    val_main_v110, val_main_v109, val_main_v108, val_main_v107, val_main_v106, val_main_v105, val_main_v104, val_main_v103, val_main_v102, val_main_v101,
    val_main_v100, val_main_v99, val_main_v98, val_main_v97, val_main_v96, val_main_v95, val_main_v94, val_main_v93, val_main_v92, val_main_cst_6,
    val_main_cst_7, val_main_cst_8, val_main_cst_9, val_main_cst_10, pre_at, layerNorm]

/-- The first result at a row of the batch. -/
theorem result_at (r : Fin 256) (j : Fin 1024) :
    val_main_v120 (F := Ideal) x0 x1 x2 x3 x4 x5 x6 x7 x8 x9 x10 x11 x12 (ix2 r j)
      = layerNorm (pre x0 x1 x2 x3 x4 x5 x6 x7 x8 x9 x10 ⟨r / 8, by omega⟩ ⟨r % 8, by omega⟩) (fun k => x11 (ix3 0 0 k)) (fun k => x12 (ix3 0 0 k)) j := by
  pointwise [val_main_v120]
  exact out_at ..

end Cert.Reference

end
-- ==== Proof.Blocks.lean ====
module

public import proofs.«01_k».proof.Proof.Gen.KernelIdeal.Value
public import proofs.«01_k».proof.Proof.Host
public import proofs.«01_k».proof.Proof.Stores
public import proofs.«01_k».proof.Proof.Reference
public import Idealize.ShloMosaic.Lib.Pointwise
public import Idealize.ShloMosaic.Lib.Pipeline.ValueKit

@[expose] public section

set_option maxRecDepth 16384

noncomputable section

namespace Cert.Blocks

open Cert.KernelIdeal Cert.KernelIdeal.Gen Idealize.ShloMosaic Idealize.ShloMosaic.TcCoe Idealize.SL.Sem

open Cert.Host

/-! The host's arrays at an index. -/

theorem sitofp_zero : (FloatOps.sitofp FTy.f32 0#32 : Ideal .f32) = (0 : EReal) := by
  change (((0#32).toInt : ℝ) : EReal) = 0
  simp

theorem sitofp_zero' : (FloatOps.sitofp FTy.bf16 0#32 : Ideal .bf16) = (0 : EReal) := by
  change (((0#32).toInt : ℝ) : EReal) = 0
  simp

/-- The lane's number is below eight, as the host computes it. -/
theorem below : ∀ l : Fin 128, IntOp.cmpi CmpIPredicate.slt (BitVec.ofNat 32 l.val) 8#32 = if l.val < 8 then 1#1 else 0#1 := by
  decide +kernel

theorem minusInf : Ideal.ofBits FTy.f32 4286578688#32 = (⊥ : EReal) := Heads.bits_bot

theorem lanes_at (x : (⟨S32x8x8, .f32⟩ : BufTy).Contents (Elt Ideal)) (b : Fin 32) (s : Fin 8) (l : Fin 128) :
    lanes x (ix3 b s l) = if h : l.val < 8 then x (ix3 b s ⟨l.val, h⟩) else (0 : EReal) := by
  pointwise [lanes]
  by_cases hl : l.val < 8
  · rw [dif_pos ⟨by omega, hl⟩, dif_pos hl]
  · rw [dif_neg (fun h => hl h.2), dif_neg hl, sitofp_zero]

theorem inputGate_at (x : (⟨S32x8x8, .f32⟩ : BufTy).Contents (Elt Ideal)) (b : Fin 32) (s l : Fin 128) (hl : l.val < 8) :
    inputGate x (ix3 b s l) = if h : s.val < 8 then x (ix3 b ⟨s.val, h⟩ ⟨l.val, hl⟩) else (⊥ : EReal) := by
  pointwise [inputGate]
  rw [below, if_pos hl]
  by_cases hs : s.val < 8
  · simp only [hs, dite_true, lanes_at]
    rw [dif_pos hl]; rfl
  · simp only [hs, dite_false]
    rw [minusInf]; rfl

theorem inputGate_pad (x : (⟨S32x8x8, .f32⟩ : BufTy).Contents (Elt Ideal)) (b : Fin 32) (s l : Fin 128) (hl : ¬ l.val < 8) :
    inputGate x (ix3 b s l) = (0 : EReal) := by
  pointwise [inputGate]
  rw [below, if_neg hl]
  rfl

theorem forgetGate_at (x : (⟨S32x8x8, .f32⟩ : BufTy).Contents (Elt Ideal)) (b : Fin 32) (s l : Fin 128) :
    forgetGate x (ix3 b s l) = if h : s.val < 8 ∧ l.val < 8 then x (ix3 b ⟨s.val, h.1⟩ ⟨l.val, h.2⟩) else (0 : EReal) := by
  pointwise [forgetGate]
  by_cases hs : s.val < 8
  · simp only [hs, dite_true, true_and, lanes_at]
  · simp only [hs, dite_false, false_and]

theorem gateRows_i (x y : (⟨S32x8x8, .f32⟩ : BufTy).Contents (Elt Ideal)) (b : Fin 32) (h : Fin 8) (s : Fin 128) :
    gateRows x y (ix3 b ⟨h.val, by omega⟩ s) = inputGate x (ix3 b s ⟨h.val, by omega⟩) := by
  pointwise [gateRows, turned]

theorem gateRows_f (x y : (⟨S32x8x8, .f32⟩ : BufTy).Contents (Elt Ideal)) (b : Fin 32) (h : Fin 8) (s : Fin 128) :
    gateRows x y (ix3 b ⟨8 + h.val, by omega⟩ s) = forgetGate y (ix3 b s ⟨h.val, by omega⟩) := by
  pointwise [gateRows, turned]

theorem queryValue_q (q : (⟨S32x8x8x64, .f32⟩ : BufTy).Contents (Elt Ideal)) (v : (⟨S32x8x8x128, .f32⟩ : BufTy).Contents (Elt Ideal))
    (b : Fin 32) (s h : Fin 8) (d : Fin 64) :
    queryValue q v (ix2 ⟨8 * b.val + s.val, by omega⟩ ⟨64 * h.val + d.val, by omega⟩) = q (ix4 b s h d) := by
  pointwise [queryValue]
  rw [dif_pos (by omega)]

theorem queryValue_v (q : (⟨S32x8x8x64, .f32⟩ : BufTy).Contents (Elt Ideal)) (v : (⟨S32x8x8x128, .f32⟩ : BufTy).Contents (Elt Ideal))
    (b : Fin 32) (s h : Fin 8) (e : Fin 128) :
    queryValue q v (ix2 ⟨8 * b.val + s.val, by omega⟩ ⟨512 + (128 * h.val + e.val), by omega⟩) = v (ix4 b s h e) := by
  pointwise [queryValue]

theorem keys_at (k : (⟨S32x8x8x64, .f32⟩ : BufTy).Contents (Elt Ideal)) (b : Fin 32) (h : Fin 8) (d : Fin 64) (s : Fin 128) :
    keys k (ix2 ⟨64 * h.val + d.val, by omega⟩ ⟨128 * b.val + s.val, by omega⟩) =
      if hs : s.val < 8 then k (ix4 b ⟨s.val, hs⟩ h d) else (0 : EReal) := by
  pointwise [keys]
  by_cases hs : s.val < 8
  · rw [dif_pos ⟨by omega, hs⟩, dif_pos hs]
    congr 2 <;> exact Fin.ext (by simp only []; omega)
  · rw [dif_neg (fun h => hs h.2), dif_neg hs, sitofp_zero']

theorem stabilisers_at (x : (⟨S1x32x8, .f32⟩ : BufTy).Contents (Elt Ideal)) (b : Fin 32) (l : Fin 128) :
    stabilisers x (ix3 b 0 l) = if h : l.val < 8 then x (ix3 0 b ⟨l.val, h⟩) else (0 : EReal) := by
  pointwise [stabilisers]
  rw [sitofp_zero]

theorem firstRow_at (x : (⟨S2x2x1024, .f32⟩ : BufTy).Contents (Elt Ideal)) (j : Fin 1024) :
    firstRow x (ix2 0 j) = x (ix3 0 0 j) := by
  pointwise [firstRow]
theorem flat_at (x : (⟨S32x8x1024, .f32⟩ : BufTy).Contents (Elt Ideal)) (b : Fin 32) (s : Fin 8) (j : Fin 1024) :
    shapeCast S256x1024 x shapeCasts_S32x8x1024_S256x1024 (ix2 ⟨8 * b.val + s.val, by omega⟩ j) = x (ix3 b s j) := by
  pointwise

theorem drop5_at (x : (⟨S1x32x8x64x128, .f32⟩ : BufTy).Contents (Elt Ideal)) (b : Fin 32) (h : Fin 8) (d : Fin 64) (e : Fin 128) :
    shapeCast S32x8x64x128 x shapeCasts_S1x32x8x64x128_S32x8x64x128 (ix4 b h d e) = x (ix5 0 b h d e) := by
  pointwise

theorem drop4_at (x : (⟨S1x32x8x64, .f32⟩ : BufTy).Contents (Elt Ideal)) (b : Fin 32) (h : Fin 8) (d : Fin 64) :
    shapeCast S32x8x64 x shapeCasts_S1x32x8x64_S32x8x64 (ix3 b h d) = x (ix4 0 b h d) := by
  pointwise

theorem drop3_at (x : (⟨S1x1024x1024, .f32⟩ : BufTy).Contents (Elt Ideal)) (k j : Fin 1024) :
    shapeCast S1024x1024 x shapeCasts_S1x1024x1024_S1024x1024 (ix2 k j) = x (ix3 0 k j) := by
  pointwise

theorem gate_flat (x : (⟨S32x128x128, .f32⟩ : BufTy).Contents (Elt Ideal)) (b : Fin 32) (s l : Fin 128) :
    shapeCast S4096x128 x shapeCasts_S32x128x128_S4096x128 (ix2 ⟨128 * b.val + s.val, by omega⟩ l) = x (ix3 b s l) := by
  pointwise

variable (m : (ℓ : Loc nD τ sig) → Buf (Elt Ideal) ℓ) (c : Dev nD) (t : Fin 32)

/-! Where each window's block lies in its array. -/

theorem at0 : ∀ t : Fin grid0.N, win0_0.index t = ![t.val, 0] := by decide +kernel
theorem at1 : ∀ t : Fin grid0.N, win0_1.index t = ![0, t.val] := by decide +kernel
theorem at2 : ∀ t : Fin grid0.N, win0_2.index t = ![t.val, 0] := by decide +kernel
theorem at3 : ∀ t : Fin grid0.N, win0_3.index t = ![t.val, 0] := by decide +kernel
theorem at4 : ∀ t : Fin grid0.N, win0_4.index t = ![t.val, 0] := by decide +kernel
theorem at5 : ∀ t : Fin grid0.N, win0_5.index t = ![t.val, 0, 0] := by decide +kernel
theorem at6 : ∀ t : Fin grid0.N, win0_6.index t = ![t.val, 0] := by decide +kernel
theorem at7 : ∀ t : Fin grid0.N, win0_7.index t = ![t.val, 0, 0, 0] := by decide +kernel
theorem at8 : ∀ t : Fin grid0.N, win0_8.index t = ![t.val, 0, 0] := by decide +kernel
theorem at9 : ∀ t : Fin grid0.N, win0_9.index t = ![t.val, 0, 0] := by decide +kernel
theorem at10 : ∀ t : Fin grid0.N, win0_10.index t = ![0, 0] := by decide +kernel
theorem at11 : ∀ t : Fin grid0.N, win0_11.index t = ![0, 0] := by decide +kernel
theorem at12 : ∀ t : Fin grid0.N, win0_12.index t = ![0, 0] := by decide +kernel

/-! Each window's block at an index, as a function of the program's arguments. -/

theorem q_at (h s : Fin 8) (d : Fin 64) : Pieces.qAt (iblk m c 0 t) h s d = Reference.qOf (m ((c : Thread nD τ).loc main_arg0)) t h s d := by
  refine Eq.trans ?_ ((congrFun (entry_v37 m c) _).trans (queryValue_q _ _ t s h d))
  rw [Pieces.qAt]
  blk_ext [iblk, at0 t]

theorem k_at (h s : Fin 8) (d : Fin 64) : Pieces.kAt (iblk m c 1 t) h s d = Reference.qOf (m ((c : Thread nD τ).loc main_arg1)) t h s d := by
  refine Eq.trans ?_ ((congrFun (entry_v36 m c) _).trans ((keys_at _ t h d ⟨s.val, by omega⟩).trans (dif_pos s.isLt)))
  rw [Pieces.kAt]
  blk_ext [iblk, at1 t]

theorem v_at (h s : Fin 8) (e : Fin 128) : Pieces.vAt (iblk m c 0 t) h s e = Reference.vOf (m ((c : Thread nD τ).loc main_arg2)) t h s e := by
  refine Eq.trans ?_ ((congrFun (entry_v37 m c) _).trans (queryValue_v _ _ t s h e))
  rw [Pieces.vAt]
  blk_ext [iblk, at0 t]

theorem o_at (s : Fin 8) (j : Fin 1024) : iblk m c 2 t (ix2 s j) = m ((c : Thread nD τ).loc main_arg3) (ix3 t s j) := by
  trans V m c main_v12 (ix2 ⟨8 * t.val + s.val, by omega⟩ j)
  · blk_ext [iblk, at2 t]
  · exact (congrFun (entry_v12 m c) _).trans (flat_at _ t s j)

theorem i_at (s l : Fin 128) : iblk m c 3 t (ix2 s l) = inputGate (m ((c : Thread nD τ).loc main_arg4)) (ix3 t s l) := by
  trans V m c main_v38 (ix2 ⟨128 * t.val + s.val, by omega⟩ l)
  · blk_ext [iblk, at3 t]
  · exact (congrFun (entry_v38 m c) _).trans (gate_flat _ t s l)

theorem f_at (s l : Fin 128) : iblk m c 4 t (ix2 s l) = forgetGate (m ((c : Thread nD τ).loc main_arg5)) (ix3 t s l) := by
  trans V m c main_v39 (ix2 ⟨128 * t.val + s.val, by omega⟩ l)
  · blk_ext [iblk, at4 t]
  · exact (congrFun (entry_v39 m c) _).trans (gate_flat _ t s l)

theorem rows_at (r : Fin 16) (s : Fin 128) : iblk m c 5 t (ix3 0 r s) = gateRows (m ((c : Thread nD τ).loc main_arg4)) (m ((c : Thread nD τ).loc main_arg5)) (ix3 t r s) := by
  trans V m c main_v30 (ix3 t r s)
  · blk_ext [iblk, at5 t]
  · rw [entry_v30]

theorem x_at (s : Fin 8) (j : Fin 1024) : iblk m c 6 t (ix2 s j) = m ((c : Thread nD τ).loc main_arg6) (ix3 t s j) := by
  trans V m c main_v4 (ix2 ⟨8 * t.val + s.val, by omega⟩ j)
  · blk_ext [iblk, at6 t]
  · exact (congrFun (entry_v4 m c) _).trans (flat_at _ t s j)

theorem c_at (h : Fin 8) (d : Fin 64) (e : Fin 128) : Pieces.cAt (iblk m c 7 t) h d e = Reference.cOf (m ((c : Thread nD τ).loc main_arg7)) t h d e := by
  trans V m c main_v40 (ix4 t h d e)
  · rw [Pieces.cAt]; blk_ext [iblk, at7 t]
  · exact (congrFun (entry_v40 m c) _).trans (drop5_at _ t h d e)

theorem n_at (h : Fin 8) (d : Fin 64) : Pieces.nAt (iblk m c 8 t) h d = Reference.nOf (m ((c : Thread nD τ).loc main_arg8)) t h d := by
  trans V m c main_v41 (ix3 t h d)
  · rw [Pieces.nAt]; blk_ext [iblk, at8 t]
  · exact (congrFun (entry_v41 m c) _).trans (drop4_at _ t h d)

theorem m_at (l : Fin 128) : k0_pay41 (F := Ideal) (iblk m c 9 t) (ix2 0 l) = if h : l.val < 8 then Reference.mOf (m ((c : Thread nD τ).loc main_arg9)) t ⟨l.val, h⟩ else (0 : EReal) := by
  refine Eq.trans ?_ ((congrFun (entry_v33 m c) _).trans (stabilisers_at _ t l))
  trans iblk m c 9 t (ix3 0 0 l)
  · pointwise [k0_pay41]
  · blk_ext [iblk, at9 t]

theorem w_at (k j : Fin 1024) : iblk m c 10 t (ix2 k j) = m ((c : Thread nD τ).loc main_arg10) (ix3 0 k j) := by
  trans V m c main_v1 (ix2 k j)
  · blk_ext [iblk, at10 t]
  · exact (congrFun (entry_v1 m c) _).trans (drop3_at _ k j)

theorem g_at (j : Fin 1024) : iblk m c 11 t (ix2 0 j) = m ((c : Thread nD τ).loc main_arg11) (ix3 0 0 j) := by
  refine Eq.trans ?_ ((congrFun (entry_v43 m c) _).trans (firstRow_at _ j))
  blk_ext [iblk, at11 t]

theorem b_at (j : Fin 1024) : iblk m c 12 t (ix2 0 j) = m ((c : Thread nD τ).loc main_arg12) (ix3 0 0 j) := by
  refine Eq.trans ?_ ((congrFun (entry_v45 m c) _).trans (firstRow_at _ j))
  blk_ext [iblk, at12 t]

/-- The gates' blocks are the arguments' gates, padded. -/
theorem padded (hf : ∀ b s h, Gates.Real? (m ((c : Thread nD τ).loc main_arg5) (ix3 b s h))) :
    Heads.Padded (iblk m c 3 t) (iblk m c 4 t) (iblk m c 5 t) (Reference.gateOf (m ((c : Thread nD τ).loc main_arg4)) t) (Reference.gateOf (m ((c : Thread nD τ).loc main_arg5)) t) where
  gi_eq s h := (i_at m c t s _).trans (inputGate_at _ t s _ h.isLt)
  gf_eq s h := by
    refine ((f_at m c t s _).trans (forgetGate_at _ t s _)).trans ?_
    by_cases hs : s.val < 8
    · rw [dif_pos ⟨hs, h.isLt⟩, dif_pos hs]; rfl
    · rw [dif_neg (fun h => hs h.1), dif_neg hs]
  gf_real s := by
    obtain ⟨s, l, rfl⟩ : ∃ a b, s = ix2 a b := ⟨s 0, s 1, (ix2_eta s).symm⟩
    rw [f_at, forgetGate_at]
    split
    · exact hf _ _ _
    · exact ⟨0, rfl⟩
  gt_i h s := (rows_at m c t _ s).trans ((gateRows_i _ _ t h s).trans (i_at m c t s _).symm)
  gt_f h s := (rows_at m c t _ s).trans ((gateRows_f _ _ t h s).trans (f_at m c t s _).symm)

end Cert.Blocks
-- ==== Proof.Values.lean ====
module

public import proofs.«01_k».proof.Proof.Blocks
public import Idealize.ShloMosaic.Lib.Pointwise
public import Idealize.ShloMosaic.Lib.Pipeline.ValueKit

@[expose] public section

set_option maxRecDepth 16384

noncomputable section

namespace Cert.Values

open Cert.KernelIdeal Cert.KernelIdeal.Gen Idealize.ShloMosaic Idealize.ShloMosaic.TcCoe Idealize.SL.Sem

open Cert.Blocks

variable (m : (ℓ : Loc nD τ sig) → Buf (Elt Ideal) ℓ) (c : Dev nD)

theorem at13 : ∀ t : Fin grid0.N, win0_13.index t = ![t.val, 0] := by decide +kernel
theorem at14 : ∀ t : Fin grid0.N, win0_14.index t = ![t.val, 0, 0, 0] := by decide +kernel
theorem at15 : ∀ t : Fin grid0.N, win0_15.index t = ![t.val, 0, 0] := by decide +kernel
theorem at16 : ∀ t : Fin grid0.N, win0_16.index t = ![t.val, 0, 0] := by decide +kernel

/-- What a step leaves in the block of the output. -/
theorem outs13 (t : Fin cfg0.grid.N) : (outsAt0 m c t).1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  rw [outsAt0]

/-- What a step leaves in the block of the matrix states. -/
theorem outs14 (t : Fin cfg0.grid.N) : (outsAt0 m c t).2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  rw [outsAt0]

/-- What a step leaves in the block of the normaliser states. -/
theorem outs15 (t : Fin cfg0.grid.N) : (outsAt0 m c t).2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  rw [outsAt0]

/-- What a step leaves in the block of the stabilisers. -/
theorem outs16 (t : Fin cfg0.grid.N) : (outsAt0 m c t).2.2.2 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  rw [outsAt0]

variable (hf : ∀ b s h, Gates.Real? ((m ((c : Thread nD τ).loc main_arg5)) (ix3 b s h))) (hi : ∀ b h s, Reference.gateOf (m ((c : Thread nD τ).loc main_arg4)) b h s < ⊤)
  (hm : ∀ b h, Reference.mOf (m ((c : Thread nD τ).loc main_arg9)) b h < ⊤)
include hf hi hm

theorem below (t : Fin 32) (h : Fin 8) : k0_pay41 (F := Ideal) (iblk m c 9 t) (ix2 0 ⟨h.val, by omega⟩) < (⊤ : EReal) := by
  exact ((m_at m c t _).trans (dif_pos h.isLt)).trans_lt (hm t h)

/-- The kernel's rows before the projection are the reference's. -/
theorem mix_eq (t : Fin 32) (w : View sig .tc .vmem S128x1024 .bf16) (s : Fin 8) (k : Fin 1024) :
    Stores.rows (iblk m c 0 t) (iblk m c 1 t) (iblk m c 2 t) (iblk m c 3 t) (iblk m c 4 t) (iblk m c 5 t) (iblk m c 7 t) (iblk m c 8 t) (iblk m c 9 t) w (ix2 ⟨s.val, by omega⟩ k)
      = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (ix3 t s k) := by
  obtain ⟨h, e, rfl⟩ : ∃ (h : Fin 8) (e : Fin 128), k = ⟨128 * h.val + e.val, by omega⟩ :=
    ⟨⟨k.val / 128, by omega⟩, ⟨k.val % 128, by omega⟩, Fin.ext (by simp only []; omega)⟩
  refine (Stores.rows_at (iblk m c 0 t) (iblk m c 1 t) (iblk m c 2 t) (iblk m c 7 t) (iblk m c 8 t) (iblk m c 9 t) (padded m c t hf) (fun h s => hi t h s) (below m c hf hi hm t) w h s e).trans ?_
  refine Eq.trans ?_ (Reference.mix_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) t s h e).symm
  rw [Pieces.mixAt, o_at, m_at, dif_pos h.isLt,
    show Pieces.qAt (iblk m c 0 t) h = _ from funext fun s => funext fun d => q_at m c t h s d,
    show Pieces.kAt (iblk m c 1 t) h = _ from funext fun s => funext fun d => k_at m c t h s d,
    show Pieces.vAt (iblk m c 0 t) h = _ from funext fun s => funext fun e => v_at m c t h s e,
    show Pieces.cAt (iblk m c 7 t) h = _ from funext fun d => funext fun e => c_at m c t h d e,
    show Pieces.nAt (iblk m c 8 t) h = _ from funext fun d => n_at m c t h d]

/-- The row a kernel's step normalises is the reference's. -/
theorem pre_eq (t : Fin 32) (w : View sig .tc .vmem S128x1024 .bf16) (s : Fin 8) :
    Pieces.pre (Stores.rows (iblk m c 0 t) (iblk m c 1 t) (iblk m c 2 t) (iblk m c 3 t) (iblk m c 4 t) (iblk m c 5 t) (iblk m c 7 t) (iblk m c 8 t) (iblk m c 9 t) w) (iblk m c 10 t) (iblk m c 6 t) s
      = Reference.pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) t s := by
  funext j
  rw [Pieces.pre, Reference.pre, x_at]
  congr 1
  refine Finset.sum_congr rfl fun k _ => ?_
  rw [mix_eq m c hf hi hm, w_at]

/-- One step's row of the layer's output. -/
theorem y_point (t : Fin 32) (s : Fin 8) (j : Fin 1024) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 s j)
      = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 ⟨8 * t.val + s.val, by omega⟩ j) := by
  refine (Stores.out13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) s j).trans ?_
  rw [Reference.result_at, pre_eq m c hf hi hm,
    show (⟨(8 * t.val + s.val) / 8, by omega⟩ : Fin 32) = t from Fin.ext (by simp only []; omega),
    show (⟨(8 * t.val + s.val) % 8, by omega⟩ : Fin 8) = s from Fin.ext (by simp only []; omega),
    show (fun k => (iblk m c 11 t) (ix2 0 k)) = _ from funext fun k => g_at m c t k,
    show (fun k => (iblk m c 12 t) (ix2 0 k)) = _ from funext fun k => b_at m c t k]

/-- One step's matrix states. -/
theorem stateC_point (t : Fin 32) (h : Fin 8) (d : Fin 64) (e : Fin 128) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 h d e) = Cert.ReferenceIdeal.Read.val_main_v72 (F := Ideal) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9)) (ix4 t h d e) := by
  refine (congrFun (Stores.out14_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) _).trans ?_
  refine (Stores.stores14_at (iblk m c 0 t) (iblk m c 1 t) (iblk m c 7 t) (iblk m c 8 t) (iblk m c 9 t) (padded m c t hf) h d e).trans ?_
  refine Eq.trans ?_ (Reference.stateC_at (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9)) t h d e).symm
  rw [m_at, dif_pos h.isLt,
    show Pieces.kAt (iblk m c 1 t) h = _ from funext fun s => funext fun d => k_at m c t h s d,
    show Pieces.vAt (iblk m c 0 t) h = _ from funext fun s => funext fun e => v_at m c t h s e,
    show Pieces.cAt (iblk m c 7 t) h = _ from funext fun d => funext fun e => c_at m c t h d e]

/-- One step's normaliser states. -/
theorem stateN_point (t : Fin 32) (h : Fin 8) (d : Fin 64) :
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 h d) = Cert.ReferenceIdeal.Read.val_main_v77 (F := Ideal) (m ((c : Thread nD τ).loc main_arg1)) (m ((c : Thread nD τ).loc main_arg4)) (m ((c : Thread nD τ).loc main_arg5)) (m ((c : Thread nD τ).loc main_arg8)) (m ((c : Thread nD τ).loc main_arg9)) (ix3 t h d) := by
  refine (congrFun (Stores.out15_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) _).trans ?_
  refine (Stores.stores15_at (iblk m c 0 t) (iblk m c 1 t) (iblk m c 7 t) (iblk m c 8 t) (iblk m c 9 t) (padded m c t hf) h d).trans ?_
  refine Eq.trans ?_ (Reference.stateN_at (m ((c : Thread nD τ).loc main_arg1)) (m ((c : Thread nD τ).loc main_arg4)) (m ((c : Thread nD τ).loc main_arg5)) (m ((c : Thread nD τ).loc main_arg8)) (m ((c : Thread nD τ).loc main_arg9)) t h d).symm
  rw [m_at, dif_pos h.isLt,
    show Pieces.kAt (iblk m c 1 t) h = _ from funext fun s => funext fun d => k_at m c t h s d,
    show Pieces.nAt (iblk m c 8 t) h = _ from funext fun d => n_at m c t h d]

/-- One step's stabilisers, padded to 128 lanes by zeros. -/
theorem stabEnd_point (t : Fin 32) (l : Fin 128) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 0 l) = Cert.ReferenceIdeal.Read.val_main_v122 (F := Ideal) (m ((c : Thread nD τ).loc main_arg4)) (m ((c : Thread nD τ).loc main_arg5)) (m ((c : Thread nD τ).loc main_arg9)) (ix3 t 0 l) := by
  refine (Stores.out16_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) l).trans ?_
  refine Eq.trans ?_ (Reference.stabEnd_pad (m ((c : Thread nD τ).loc main_arg4)) (m ((c : Thread nD τ).loc main_arg5)) (m ((c : Thread nD τ).loc main_arg9)) t l).symm
  by_cases hl : l.val < 8
  · rw [dif_pos hl]
    refine (Heads.stabEnd_eq' (k0_pay41 (iblk m c 9 t)) (padded m c t hf) ⟨l.val, hl⟩).trans ?_
    rw [m_at, dif_pos hl]
  · rw [dif_neg hl]
    exact Pieces.stabEnd_pad _ _ _ l (padded m c t hf).gf_real (fun s => (i_at m c t s l).trans (inputGate_pad _ t s l hl))
      (fun s => (f_at m c t s l).trans ((forgetGate_at _ t s l).trans (dif_neg fun h => hl h.2)))
      ((m_at m c t l).trans (dif_neg hl))

/-- The layer's output, as the kernel leaves it. -/
theorem y_value : (dats m 0 c).arrAt 13 cfg0.N = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t _ y => ?_
  blk_simp
  rw [after0_13, outs13 m c t]
  obtain ⟨s, j, rfl⟩ : ∃ (a : Fin 8) (b : Fin 1024), y = ix2 a b := ⟨y 0, y 1, (ix2_eta y).symm⟩
  have ht : t.val < 32 := t.isLt
  have he : (win0_13.blk t).view.emb (ix2 s j) = (ix2 (n0 := 256) (n1 := 1024) ⟨8 * t.val + s.val, by omega⟩ j) := by blk_ext [at13 t]
  rw [he]
  exact y_point m c hf hi hm t s j

/-- The matrix states after the chunk, as the kernel leaves them. -/
theorem stateC_value : (dats m 0 c).arrAt 14 cfg0.N = Cert.ReferenceIdeal.Read.val_main_v72 (F := Ideal) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9)) := by
  refine (dats m 0 c).arrAt_eq_of_covers 14 _ (by decide +kernel) fun t _ y => ?_
  blk_simp
  rw [after0_14, outs14 m c t]
  obtain ⟨h, d, e, rfl⟩ : ∃ (h : Fin 8) (d : Fin 64) (e : Fin 128), y = ix4 0 h d e := ⟨y 1, y 2, y 3, by
    refine (ix4_eta y).symm.trans ?_; rw [Fin.fin_one_eq_zero (y 0)]⟩
  have he : (win0_14.blk t).view.emb (ix4 0 h d e) = (ix4 (n0 := 32) (n1 := 8) (n2 := 64) (n3 := 128) t h d e) := by blk_ext [at14 t]
  rw [he]
  exact stateC_point m c hf hi hm t h d e

/-- The normaliser states after the chunk, as the kernel leaves them. -/
theorem stateN_value : (dats m 0 c).arrAt 15 cfg0.N = Cert.ReferenceIdeal.Read.val_main_v77 (F := Ideal) (m ((c : Thread nD τ).loc main_arg1)) (m ((c : Thread nD τ).loc main_arg4)) (m ((c : Thread nD τ).loc main_arg5)) (m ((c : Thread nD τ).loc main_arg8)) (m ((c : Thread nD τ).loc main_arg9)) := by
  refine (dats m 0 c).arrAt_eq_of_covers 15 _ (by decide +kernel) fun t _ y => ?_
  blk_simp
  rw [after0_15, outs15 m c t]
  obtain ⟨h, d, rfl⟩ : ∃ (h : Fin 8) (d : Fin 64), y = ix3 0 h d := ⟨y 1, y 2, by
    refine (ix3_eta y).symm.trans ?_; rw [Fin.fin_one_eq_zero (y 0)]⟩
  have he : (win0_15.blk t).view.emb (ix3 0 h d) = (ix3 (n0 := 32) (n1 := 8) (n2 := 64) t h d) := by blk_ext [at15 t]
  rw [he]
  exact stateN_point m c hf hi hm t h d

/-- The stabilisers after the chunk, padded to 128 lanes by zeros, as the kernel leaves them. -/
theorem stabEnd_value : (dats m 0 c).arrAt 16 cfg0.N = Cert.ReferenceIdeal.Read.val_main_v122 (F := Ideal) (m ((c : Thread nD τ).loc main_arg4)) (m ((c : Thread nD τ).loc main_arg5)) (m ((c : Thread nD τ).loc main_arg9)) := by
  refine (dats m 0 c).arrAt_eq_of_covers 16 _ (by decide +kernel) fun t _ y => ?_
  blk_simp
  rw [after0_16, outs16 m c t]
  obtain ⟨l, rfl⟩ : ∃ l : Fin 128, y = ix3 0 0 l := ⟨y 2, by
    refine (ix3_eta y).symm.trans ?_; rw [Fin.fin_one_eq_zero (y 0), Fin.fin_one_eq_zero (y 1)]⟩
  have he : (win0_16.blk t).view.emb (ix3 0 0 l) = (ix3 (n0 := 32) (n1 := 1) (n2 := 128) t 0 l) := by blk_ext [at16 t]
  rw [he]
  exact stabEnd_point m c hf hi hm t l

end Cert.Values
-- ==== Proof.Mixer.lean ====
module

public import proofs.«01_k».proof.Defs
public import proofs.«01_k».proof.Proof.Gen.Pre_gates_tame
public import proofs.«01_k».proof.Proof.Values

@[expose] public section

set_option maxRecDepth 16384

noncomputable section

namespace Cert.Mixer

open Idealize.ShloMosaic Idealize.ShloMosaic.TcCoe Idealize.SL.Sem

/-! ## What the precondition says -/

section
open Cert.Pre_gates_tame Cert.Pre_gates_tame.Gen

variable (x0 x1 : FVec Ideal S32x8x8x64 .f32) (x2 : FVec Ideal S32x8x8x128 .f32) (x3 : FVec Ideal S32x8x1024 .f32)
  (x4 x5 : FVec Ideal S32x8x8 .f32) (x6 : FVec Ideal S32x8x1024 .f32) (x7 : FVec Ideal S1x32x8x64x128 .f32)
  (x8 : FVec Ideal S1x32x8x64 .f32) (x9 : FVec Ideal S1x32x8 .f32) (x10 : FVec Ideal S1x1024x1024 .f32) (x11 x12 : FVec Ideal S2x2x1024 .f32)

theorem all_ones : ∀ a b c : Bool, IntOp.andi (IntOp.andi (BitVec.ofBool a) (BitVec.ofBool b)) (BitVec.ofBool c) = 1#1 → a = true ∧ b = true ∧ c = true := by
  decide

/-- The single-precision pattern of infinity. -/
theorem bits_top : Ideal.ofBits .f32 0x7F800000#32 = ⊤ := by
  simp [Ideal.ofBits, Ideal.ieee]

/-- The precondition holds: the forget gates are real numbers, the input gates and the stabilisers below infinity. -/
theorem tame (b : Fin 32) (s h : Fin 8) (hp : Cert.Pre_gates_tame.fn (F := Ideal) x0 x1 x2 x3 x4 x5 x6 x7 x8 x9 x10 x11 x12 (ix3 b s h) = 1#1) :
    Gates.Real? (x5 (ix3 b s h)) ∧ (x4 (ix3 b s h) : EReal) < ⊤ ∧ (x9 (ix3 0 b h) : EReal) < ⊤ := by
  have e : Cert.Pre_gates_tame.fn (F := Ideal) x0 x1 x2 x3 x4 x5 x6 x7 x8 x9 x10 x11 x12 (ix3 b s h)
      = IntOp.andi (IntOp.andi (BitVec.ofBool (decide ((FloatOps.absf (x5 (ix3 b s h)) : EReal) < Ideal.ofBits .f32 0x7F800000#32)))
          (BitVec.ofBool (decide ((x4 (ix3 b s h) : EReal) < Ideal.ofBits .f32 0x7F800000#32))))
        (BitVec.ofBool (decide ((x9 (ix3 0 b h) : EReal) < Ideal.ofBits .f32 0x7F800000#32))) := by
    pointwise [Cert.Pre_gates_tame.fn]
  obtain ⟨h1, h2, h3⟩ := all_ones _ _ _ (e.symm.trans hp)
  rw [bits_top] at h1 h2 h3
  exact ⟨Gates.Real?.of_abs_lt (of_decide_eq_true h1), of_decide_eq_true h2, of_decide_eq_true h3⟩

end

/-! ## The two programs -/

/-- The reference's run leaves its arguments and its semaphores as it found them. -/
theorem quiescent_ReferenceIdeal : quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Where the gates are tame, the kernel's four results are the reference's. -/
theorem algebraic : algebraic_KernelIdeal_ReferenceIdeal_pre_gates_tame := by
  intro m ρ m' ρ' hp hagree
  have hf : ∀ (c : Dev Cert.KernelIdeal.nD) b s h, Gates.Real? ((m ((c.tc : Thread Cert.KernelIdeal.nD Cert.KernelIdeal.τ).loc Cert.KernelIdeal.main_arg5)) (ix3 b s h)) := fun c b s h =>
    (tame _ _ _ _ _ _ _ _ _ _ _ _ _ b s h (congrFun (hp c) _)).1
  have hi : ∀ (c : Dev Cert.KernelIdeal.nD) b h s, Reference.gateOf (m ((c.tc : Thread Cert.KernelIdeal.nD Cert.KernelIdeal.τ).loc Cert.KernelIdeal.main_arg4)) b h s < ⊤ := fun c b h s =>
    (tame _ _ _ _ _ _ _ _ _ _ _ _ _ b s h (congrFun (hp c) _)).2.1
  have hm : ∀ (c : Dev Cert.KernelIdeal.nD) b h, Reference.mOf (m ((c.tc : Thread Cert.KernelIdeal.nD Cert.KernelIdeal.τ).loc Cert.KernelIdeal.main_arg9)) b h < ⊤ := fun c b h =>
    (tame _ _ _ _ _ _ _ _ _ _ _ _ _ b 0 h (congrFun (hp c) _)).2.2
  refine ⟨fun c => Cert.ReferenceIdeal.Read.val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v72 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)),
    fun c => Cert.ReferenceIdeal.Read.val_main_v77 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v122 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)), ?_, ?_⟩
  · refine (θ_run Cert.KernelIdeal.defs _ _).mono (fun _ h c => ⟨?_, ?_, ?_, ?_, (h c).2.2.2.2⟩) (Cert.KernelIdeal.Value.run_blocks (F := Ideal) m ρ)
    · exact (h c).1.trans (Values.y_value m c (hf c) (hi c) (hm c))
    · exact (h c).2.1.trans (Values.stateC_value m c (hf c) (hi c) (hm c))
    · exact (h c).2.2.1.trans (Values.stateN_value m c (hf c) (hi c) (hm c))
    · exact (h c).2.2.2.1.trans (Values.stabEnd_value m c (hf c) (hi c) (hm c))
  · refine (θ_run Cert.ReferenceIdeal.defs _ _).mono (fun _ h c => ⟨?_, ?_, ?_, ?_, (h c).2.2.2.2⟩) (Cert.ReferenceIdeal.Value.run (F := Ideal) m' ρ')
    all_goals obtain ⟨e0, e1, e2, e3, e4, e5, e6, e7, e8, e9, e10, e11, e12⟩ := hagree c
    · refine ((h c).1.trans (Cert.ReferenceIdeal.Read.val_main_v120_eq (StableHlo.launchContents m' c))).trans ?_
      change Cert.ReferenceIdeal.Read.val_main_v120 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
      rw [e0, e1, e2, e3, e4, e5, e6, e7, e8, e9, e10, e11, e12]
    · refine ((h c).2.1.trans (Cert.ReferenceIdeal.Read.val_main_v72_eq (StableHlo.launchContents m' c))).trans ?_
      change Cert.ReferenceIdeal.Read.val_main_v72 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg9)) = _
      rw [e1, e2, e4, e5, e7, e9]
    · refine ((h c).2.2.1.trans (Cert.ReferenceIdeal.Read.val_main_v77_eq (StableHlo.launchContents m' c))).trans ?_
      change Cert.ReferenceIdeal.Read.val_main_v77 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      rw [e1, e4, e5, e8, e9]
    · refine ((h c).2.2.2.1.trans (Cert.ReferenceIdeal.Read.val_main_v122_eq (StableHlo.launchContents m' c))).trans ?_
      change Cert.ReferenceIdeal.Read.val_main_v122 (F := Ideal) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg9)) = _
      rw [e4, e5, e9]

end Cert.Mixer
-- ==== Proof.FeedForward.lean ====
module

public import proofs.«01_k».proof.Defs
public import proofs.«01_k».proof.Proof.Gates
public import proofs.«01_k».proof.Proof.Gen.MlpIdeal.Value
public import proofs.«01_k».proof.Proof.Gen.MlpReferenceIdeal.Run
public import proofs.«01_k».proof.Proof.Gen.MlpReferenceIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.FeedForward

open Idealize.ShloMosaic Idealize.ShloMosaic.TcCoe Idealize.SL.Sem

/-! ## The layer over rows of extended reals -/

/-- A hidden unit: the squared rectifier of a row times a column of the first weights. -/
def unit (x : Fin 1024 → EReal) (w : Fin 1024 → EReal) : EReal :=
  max (∑ k, x k * w k) (Ideal.ofBits .f32 0x00000000#32) * max (∑ k, x k * w k) (Ideal.ofBits .f32 0x00000000#32)

/-- What the layer norm sees: the scaled row plus the hidden units times a column of the second weights. -/
def pre (x : Fin 1024 → EReal) (up : Fin 1024 → Fin 4096 → EReal) (down : Fin 4096 → Fin 1024 → EReal) (j : Fin 1024) : EReal :=
  Ideal.ofBits .f32 0x3FB504F3#32 * x j + ∑ f, unit x (fun k => up k f) * down f j

/-- A sum over 4096 units in two halves. -/
theorem sum_halves (g : Fin 4096 → EReal) :
    ∑ f : Fin 4096, g f = (∑ f : Fin 2048, g ⟨f.val, by omega⟩) + ∑ f : Fin 2048, g ⟨2048 + f.val, by omega⟩ :=
  Fin.sum_univ_add (a := 2048) (b := 2048) g

/-! ## The reference -/

section Reference

open Cert.MlpReferenceIdeal Cert.MlpReferenceIdeal.Read

variable (x0 : (⟨S8x2048x1024, .f32⟩ : BufTy).Contents (Elt Ideal)) (x1 : (⟨S2x1024x4096, .f32⟩ : BufTy).Contents (Elt Ideal))
  (x2 : (⟨S2x4096x1024, .f32⟩ : BufTy).Contents (Elt Ideal)) (x3 x4 : (⟨S2x2x1024, .f32⟩ : BufTy).Contents (Elt Ideal))

/-- The reference's residual sum. -/
theorem pre_at (b : Fin 8) (t : Fin 2048) (j : Fin 1024) :
    val_main_v10 (F := Ideal) x0 x1 x2 (ix3 b t j)
      = pre (fun k => x0 (ix3 b t k)) (fun k f => x1 (ix3 1 k f)) (fun f k => x2 (ix3 1 f k)) j := by
  pointwise [val_main_v10, val_main_v9, val_main_v8, val_main_v7, val_main_v6, val_main_v5, val_main_v4, val_main_v3, val_main_v2, val_main_v1,
    val_main_v0, val_main_cst, val_main_call0_v0, val_main_call0_cst, pre, unit]

/-- The reference's result before its rows are joined. -/
theorem norm_at (b : Fin 8) (t : Fin 2048) (j : Fin 1024) :
    val_main_v38 (F := Ideal) x0 x1 x2 x3 x4 (ix3 b t j)
      = Gates.layerNorm (pre (fun k => x0 (ix3 b t k)) (fun k f => x1 (ix3 1 k f)) (fun f k => x2 (ix3 1 f k)))
          (fun k => x3 (ix3 1 1 k)) (fun k => x4 (ix3 1 1 k)) j := by
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_cst_0, val_main_cst_1,
    val_main_cst_2, val_main_cst_3, val_main_cst_4, pre_at, Gates.layerNorm]

/-- The reference's result. -/
theorem result_at (r : Fin 16384) (j : Fin 1024) :
    val_main_v39 (F := Ideal) x0 x1 x2 x3 x4 (ix2 r j)
      = Gates.layerNorm (pre (fun k => x0 (ix3 ⟨r / 2048, by omega⟩ ⟨r % 2048, by omega⟩ k)) (fun k f => x1 (ix3 1 k f)) (fun f k => x2 (ix3 1 f k)))
          (fun k => x3 (ix3 1 1 k)) (fun k => x4 (ix3 1 1 k)) j := by
  pointwise [val_main_v39]
  exact norm_at ..

end Reference
/-! ## The kernel's arithmetic -/

section Arithmetic

open Cert.MlpIdeal Cert.MlpIdeal.Gen

/-- The accumulator after a step: half of the hidden units times their rows of the second weights, added to what it held. -/
theorem step_at (x : Vec Ideal S1024x1024 .bf16) (up : Vec Ideal S1024x2048 .bf16) (a : Vec Ideal S1024x1024 .f32) (dn : Vec Ideal S2048x1024 .bf16)
    (r j : Fin 1024) :
    k0_pay3 (F := Ideal) x up a dn (ix2 r j)
      = a (ix2 r j) + ∑ f : Fin 2048, unit (fun k => x (ix2 r k)) (fun k => up (ix2 k f)) * dn (ix2 f j) := by
  pointwise [k0_pay3, unit]

theorem narrow_at (x : Vec Ideal S1024x1024 .f32) (r j : Fin 1024) : k0_pay1 (F := Ideal) x (ix2 r j) = x (ix2 r j) := by
  pointwise [k0_pay1]

theorem zero_at (r j : Fin 1024) : k0_pay2 (F := Ideal) (ix2 r j) = (0 : EReal) := by
  pointwise [k0_pay2]

theorem norm_of (x a : Vec Ideal S1024x1024 .f32) (g b : Vec Ideal S1x1024 .f32) (r j : Fin 1024) :
    k0_pay4 (F := Ideal) x a g b (ix2 r j)
      = Gates.layerNorm (fun k => Ideal.ofBits .f32 0x3FB504F3#32 * x (ix2 r k) + a (ix2 r k)) (fun k => g (ix2 0 k)) (fun k => b (ix2 0 k)) j := by
  unfold Gates.layerNorm
  pointwise [k0_pay4]

/-- Both steps of a row block and the layer norm: the layer's row, when the two halves of the weights are the weights. -/
theorem rows_at (x x' : Vec Ideal S1024x1024 .f32) (up up' : Vec Ideal S1024x2048 .bf16) (dn dn' : Vec Ideal S2048x1024 .bf16) (g b : Vec Ideal S1x1024 .f32)
    (xr : Fin 1024 → Fin 1024 → EReal) (w : Fin 1024 → Fin 4096 → EReal) (v : Fin 4096 → Fin 1024 → EReal)
    (hx : ∀ r k, x (ix2 r k) = xr r k) (hx' : ∀ r k, x' (ix2 r k) = xr r k)
    (hu : ∀ k (f : Fin 2048), up (ix2 k f) = w k ⟨f.val, by omega⟩) (hu' : ∀ k (f : Fin 2048), up' (ix2 k f) = w k ⟨2048 + f.val, by omega⟩)
    (hd : ∀ (f : Fin 2048) k, dn (ix2 f k) = v ⟨f.val, by omega⟩ k) (hd' : ∀ (f : Fin 2048) k, dn' (ix2 f k) = v ⟨2048 + f.val, by omega⟩ k)
    (r j : Fin 1024) :
    k0_pay4 (F := Ideal) x' (k0_pay3 (k0_pay1 x) up' (k0_pay3 (k0_pay1 x) up (k0_pay2 (F := Ideal)) dn) dn') g b (ix2 r j)
      = Gates.layerNorm (pre (xr r) w v) (fun k => g (ix2 0 k)) (fun k => b (ix2 0 k)) j := by
  rw [norm_of]
  refine congrArg (fun p => Gates.layerNorm p _ _ j) (funext fun k => ?_)
  rw [step_at, step_at, zero_at, zero_add, pre, sum_halves]
  simp only [narrow_at, hx, hx', hu, hu', hd, hd']

end Arithmetic
section Stores

open Cert.MlpIdeal Cert.MlpIdeal.Gen

/-- The first step of a row block leaves the first half of the sum in the accumulator. -/
theorem sout0_A_0_eq (c : Dev nD) (i : grid0.Coords) (arg2 : Memref sig .tc .vmem S1024x1024 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i)
    (x0 : Vec Ideal S1024x1024 .f32) (x1 : Vec Ideal S1024x2048 .bf16) (x2 : Vec Ideal S2048x1024 .bf16) (x3 : Vec Ideal S1x1024 .f32) (x4 : Vec Ideal S1x1024 .f32) :
    sout0_A_0 (F := Ideal) c i arg2 harg2 arg3 harg3 arg4 harg4 arg5 harg5 arg6 harg6 arg7 harg7 arg8 harg8 arg9 harg9 hc0 hc1 x0 x1 x2 x3 x4 = k0_pay3 (k0_pay1 x0) x1 (k0_pay2 (F := Ideal)) x2 := by
  frame_out

/-- The first step of a row block leaves the rows in the narrow scratch. -/
theorem sout0_A_1_eq (c : Dev nD) (i : grid0.Coords) (arg2 : Memref sig .tc .vmem S1024x1024 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i)
    (x0 : Vec Ideal S1024x1024 .f32) (x1 : Vec Ideal S1024x2048 .bf16) (x2 : Vec Ideal S2048x1024 .bf16) (x3 : Vec Ideal S1x1024 .f32) (x4 : Vec Ideal S1x1024 .f32) :
    sout0_A_1 (F := Ideal) c i arg2 harg2 arg3 harg3 arg4 harg4 arg5 harg5 arg6 harg6 arg7 harg7 arg8 harg8 arg9 harg9 hc0 hc1 x0 x1 x2 x3 x4 = k0_pay1 x0 := by
  frame_out

/-- The second step adds the other half and takes the layer norm. -/
theorem out0_B_5_eq (c : Dev nD) (i : grid0.Coords) (arg2 : Memref sig .tc .vmem S1024x1024 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i)
    (x0 : Vec Ideal S1024x1024 .f32) (x1 : Vec Ideal S1024x2048 .bf16) (x2 : Vec Ideal S2048x1024 .bf16) (x3 : Vec Ideal S1x1024 .f32) (x4 : Vec Ideal S1x1024 .f32) (xs0 : Vec Ideal S1024x1024 .f32) (xs1 : Vec Ideal S1024x1024 .bf16) :
    out0_B_5 (F := Ideal) c i arg2 harg2 arg3 harg3 arg4 harg4 arg5 harg5 arg6 harg6 arg7 harg7 arg8 harg8 arg9 harg9 hc0 hc1 x0 x1 x2 x3 x4 xs0 xs1 = k0_pay4 x0 (k0_pay3 xs1 x1 xs0 x2) x3 x4 := by
  frame_out

end Stores

/-! ## The host's arrays and the blocks of a step -/

section Blocks

open Cert.MlpIdeal Cert.MlpIdeal.Gen

theorem rows_shape (x : (⟨S8x2048x1024, .f32⟩ : BufTy).Contents (Elt Ideal)) (r : Fin 16384) (j : Fin 1024) :
    shapeCast S16384x1024 x shapeCasts_S8x2048x1024_S16384x1024 (ix2 r j) = x (ix3 ⟨r / 2048, by omega⟩ ⟨r % 2048, by omega⟩ j) := by
  pointwise

/-- The second layer's matrix, as the host cuts it out. -/
def second1 (x : (⟨S2x1024x4096, .f32⟩ : BufTy).Contents (Elt Ideal)) : (⟨S1024x4096, .bf16⟩ : BufTy).Contents (Elt Ideal) :=
  shapeCast S1024x4096 (extractStridedSlice S1x1024x4096 ![1, 0, 0] (truncf (F := Ideal) .bf16 x bitsLt_bf16_f32) slices_S2x1024x4096_S1x1024x4096_1_0_0)
    shapeCasts_S1x1024x4096_S1024x4096

def second2 (x : (⟨S2x4096x1024, .f32⟩ : BufTy).Contents (Elt Ideal)) : (⟨S4096x1024, .bf16⟩ : BufTy).Contents (Elt Ideal) :=
  shapeCast S4096x1024 (extractStridedSlice S1x4096x1024 ![1, 0, 0] (truncf (F := Ideal) .bf16 x bitsLt_bf16_f32) slices_S2x4096x1024_S1x4096x1024_1_0_0)
    shapeCasts_S1x4096x1024_S4096x1024

def last (x : (⟨S2x2x1024, .f32⟩ : BufTy).Contents (Elt Ideal)) : (⟨S1x1024, .f32⟩ : BufTy).Contents (Elt Ideal) :=
  shapeCast S1x1024 (extractStridedSlice S1x1x1x1024 ![1, 1, 0, 0] (shapeCast S2x2x1x1024 x shapeCasts_S2x2x1024_S2x2x1x1024)
    slices_S2x2x1x1024_S1x1x1x1024_1_1_0_0) shapeCasts_S1x1x1x1024_S1x1024

theorem second1_at (x : (⟨S2x1024x4096, .f32⟩ : BufTy).Contents (Elt Ideal)) (k : Fin 1024) (f : Fin 4096) : second1 x (ix2 k f) = x (ix3 1 k f) := by
  pointwise [second1]

theorem second2_at (x : (⟨S2x4096x1024, .f32⟩ : BufTy).Contents (Elt Ideal)) (f : Fin 4096) (k : Fin 1024) : second2 x (ix2 f k) = x (ix3 1 f k) := by
  pointwise [second2]

theorem last_at (x : (⟨S2x2x1024, .f32⟩ : BufTy).Contents (Elt Ideal)) (k : Fin 1024) : last x (ix2 0 k) = x (ix3 1 1 k) := by
  pointwise [last]

variable (m : (ℓ : Loc nD τ sig) → Buf (Elt Ideal) ℓ) (c : Dev nD)

theorem entry_x : V m c main_v4 = shapeCast S16384x1024 (m ((c : Thread nD τ).loc main_arg0)) shapeCasts_S8x2048x1024_S16384x1024 := by
  simp only [V, hostOps0]
  after_results_simp
  rfl
theorem entry_up : V m c main_v6 = second1 (m ((c : Thread nD τ).loc main_arg1)) := by
  simp only [V, hostOps0]
  after_results_simp
  rfl
theorem entry_down : V m c main_v8 = second2 (m ((c : Thread nD τ).loc main_arg2)) := by
  simp only [V, hostOps0]
  after_results_simp
  rfl
theorem entry_g : V m c main_v10 = last (m ((c : Thread nD τ).loc main_arg3)) := by
  simp only [V, hostOps0]
  after_results_simp
  rfl
theorem entry_b : V m c main_v12 = last (m ((c : Thread nD τ).loc main_arg4)) := by
  simp only [V, hostOps0]
  after_results_simp
  rfl

theorem at0 : ∀ t : Fin grid0.N, win0_0.index t = ![t.val / 2, 0] := by decide +kernel
theorem at1 : ∀ t : Fin grid0.N, win0_1.index t = ![0, t.val % 2] := by decide +kernel
theorem at2 : ∀ t : Fin grid0.N, win0_2.index t = ![t.val % 2, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![t.val / 2, 0] := by decide +kernel

theorem x_at (t : Fin 32) (r k : Fin 1024) :
    iblk m c 0 t (ix2 r k) = m ((c : Thread nD τ).loc main_arg0) (ix3 (n0 := 8) (n1 := 2048) ⟨(1024 * (t.val / 2) + r.val) / 2048, by omega⟩ ⟨(1024 * (t.val / 2) + r.val) % 2048, by omega⟩ k) := by
  have e : iblk m c 0 t (ix2 r k) = V m c main_v4 (ix2 (n0 := 16384) (n1 := 1024) ⟨1024 * (t.val / 2) + r.val, by omega⟩ k) := by blk_ext [iblk, at0 t]
  exact e.trans ((congrFun (entry_x m c) _).trans (rows_shape _ _ _))

theorem up_at (t : Fin 32) (k : Fin 1024) (f : Fin 2048) :
    iblk m c 1 t (ix2 k f) = m ((c : Thread nD τ).loc main_arg1) (ix3 (n0 := 2) (n1 := 1024) (n2 := 4096) 1 k ⟨2048 * (t.val % 2) + f.val, by omega⟩) := by
  have e : iblk m c 1 t (ix2 k f) = V m c main_v6 (ix2 (n0 := 1024) (n1 := 4096) k ⟨2048 * (t.val % 2) + f.val, by omega⟩) := by blk_ext [iblk, at1 t]
  exact e.trans ((congrFun (entry_up m c) _).trans (second1_at _ _ _))

theorem down_at (t : Fin 32) (f : Fin 2048) (k : Fin 1024) :
    iblk m c 2 t (ix2 f k) = m ((c : Thread nD τ).loc main_arg2) (ix3 (n0 := 2) (n1 := 4096) (n2 := 1024) 1 ⟨2048 * (t.val % 2) + f.val, by omega⟩ k) := by
  have e : iblk m c 2 t (ix2 f k) = V m c main_v8 (ix2 (n0 := 4096) (n1 := 1024) ⟨2048 * (t.val % 2) + f.val, by omega⟩ k) := by blk_ext [iblk, at2 t]
  exact e.trans ((congrFun (entry_down m c) _).trans (second2_at _ _ _))

theorem g_at (t : Fin 32) (k : Fin 1024) : iblk m c 3 t (ix2 0 k) = m ((c : Thread nD τ).loc main_arg3) (ix3 (n0 := 2) (n1 := 2) (n2 := 1024) 1 1 k) := by
  have e : iblk m c 3 t (ix2 0 k) = V m c main_v10 (ix2 (n0 := 1) (n1 := 1024) 0 k) := by blk_ext [iblk, at3 t]
  exact e.trans ((congrFun (entry_g m c) _).trans (last_at _ _))

theorem b_at (t : Fin 32) (k : Fin 1024) : iblk m c 4 t (ix2 0 k) = m ((c : Thread nD τ).loc main_arg4) (ix3 (n0 := 2) (n1 := 2) (n2 := 1024) 1 1 k) := by
  have e : iblk m c 4 t (ix2 0 k) = V m c main_v12 (ix2 (n0 := 1) (n1 := 1024) 0 k) := by blk_ext [iblk, at4 t]
  exact e.trans ((congrFun (entry_b m c) _).trans (last_at _ _))

/-- The output block after the second step of a row block, in terms of the two steps' blocks. -/
theorem block_eq (t : Fin cfg0.N) (h1 : t.val % 2 = 1) :
    (outsAt0 m c t.val t.isLt).1
      = k0_pay4 (F := Ideal) (iblk m c 0 t) (k0_pay3 (k0_pay1 (iblk m c 0 (⟨t.val - 1, Nat.lt_of_le_of_lt (Nat.sub_le _ _) t.isLt⟩ : Fin cfg0.N))) (iblk m c 1 t)
          (k0_pay3 (k0_pay1 (iblk m c 0 (⟨t.val - 1, Nat.lt_of_le_of_lt (Nat.sub_le _ _) t.isLt⟩ : Fin cfg0.N))) (iblk m c 1 (⟨t.val - 1, Nat.lt_of_le_of_lt (Nat.sub_le _ _) t.isLt⟩ : Fin cfg0.N))
            (k0_pay2 (F := Ideal)) (iblk m c 2 (⟨t.val - 1, Nat.lt_of_le_of_lt (Nat.sub_le _ _) t.isLt⟩ : Fin cfg0.N))) (iblk m c 2 t)) (iblk m c 3 t) (iblk m c 4 t) := by
  have hp := outsAt0_A m c (⟨t.val - 1, Nat.lt_of_le_of_lt (Nat.sub_le _ _) t.isLt⟩ : Fin cfg0.N) (show (t.val - 1) % 2 = 0 by omega) (show ¬(t.val - 1) % 2 = 1 by omega)
  rw [outsAt0_B m c t (by omega) h1]
  dsimp only at hp ⊢
  rw [out0_B_5_eq, hp]
  dsimp only
  rw [sout0_A_0_eq, sout0_A_1_eq]

/-- One row block of the result. -/
theorem point (t : Fin 32) (h1 : t.val % 2 = 1) (r j : Fin 1024) :
    k0_pay4 (F := Ideal) (iblk m c 0 t) (k0_pay3 (k0_pay1 (iblk m c 0 (⟨t.val - 1, Nat.lt_of_le_of_lt (Nat.sub_le _ _) t.isLt⟩ : Fin cfg0.N))) (iblk m c 1 t)
          (k0_pay3 (k0_pay1 (iblk m c 0 (⟨t.val - 1, Nat.lt_of_le_of_lt (Nat.sub_le _ _) t.isLt⟩ : Fin cfg0.N))) (iblk m c 1 (⟨t.val - 1, Nat.lt_of_le_of_lt (Nat.sub_le _ _) t.isLt⟩ : Fin cfg0.N))
            (k0_pay2 (F := Ideal)) (iblk m c 2 (⟨t.val - 1, Nat.lt_of_le_of_lt (Nat.sub_le _ _) t.isLt⟩ : Fin cfg0.N))) (iblk m c 2 t)) (iblk m c 3 t) (iblk m c 4 t) (ix2 r j)
      = Cert.MlpReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (ix2 (n0 := 16384) (n1 := 1024) ⟨1024 * (t.val / 2) + r.val, by omega⟩ j) := by
  have hq : (t.val - 1) / 2 = t.val / 2 := by omega
  have hr : (t.val - 1) % 2 = 0 := by omega
  refine (rows_at _ _ _ _ _ _ _ _
    (fun r k => m ((c : Thread nD τ).loc main_arg0) (ix3 (n0 := 8) (n1 := 2048) ⟨(1024 * (t.val / 2) + r.val) / 2048, by omega⟩ ⟨(1024 * (t.val / 2) + r.val) % 2048, by omega⟩ k))
    (fun k f => m ((c : Thread nD τ).loc main_arg1) (ix3 (n0 := 2) (n1 := 1024) (n2 := 4096) 1 k f))
    (fun f k => m ((c : Thread nD τ).loc main_arg2) (ix3 (n0 := 2) (n1 := 4096) (n2 := 1024) 1 f k))
    (fun r k => (x_at m c ⟨t.val - 1, by omega⟩ r k).trans (by simp only [hq]))
    (fun r k => x_at m c t r k)
    (fun k f => (up_at m c ⟨t.val - 1, by omega⟩ k f).trans (by simp only [hr, Nat.mul_zero, Nat.zero_add]))
    (fun k f => (up_at m c t k f).trans (by simp only [h1, Nat.mul_one]))
    (fun f k => (down_at m c ⟨t.val - 1, by omega⟩ f k).trans (by simp only [hr, Nat.mul_zero, Nat.zero_add]))
    (fun f k => (down_at m c t f k).trans (by simp only [h1, Nat.mul_one])) r j).trans ?_
  rw [result_at, show (fun k => (iblk m c 3 t) (ix2 0 k)) = _ from funext fun k => g_at m c t k,
    show (fun k => (iblk m c 4 t) (ix2 0 k)) = _ from funext fun k => b_at m c t k]

/-- The layer's output, as the kernel leaves it. -/
theorem value : (dats m 0 c).arrAt 5 cfg0.N
    = Cert.MlpReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h1 : t.val % 2 = 1 := (flush0_5 t).mp hf
  have ht : t.val < 32 := t.isLt
  blk_simp
  rw [after0_5, block_eq m c t h1]
  obtain ⟨r, j, rfl⟩ : ∃ (a : Fin 1024) (b : Fin 1024), y = ix2 a b := ⟨y 0, y 1, (ix2_eta y).symm⟩
  have he : (win0_5.blk t).view.emb (ix2 r j) = (ix2 (n0 := 16384) (n1 := 1024) ⟨1024 * (t.val / 2) + r.val, by omega⟩ j) := by blk_ext [at5 t]
  rw [he]
  exact point m c ⟨t.val, ht⟩ h1 r j

end Blocks

/-- The reference's run leaves its arguments and its semaphores as it found them. -/
theorem quiescent : quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

/-- The kernel's result is the reference's. -/
theorem algebraic : algebraic_MlpIdeal_MlpReferenceIdeal := by
  intro m ρ m' ρ' _ hagree
  refine ⟨fun c => Cert.MlpReferenceIdeal.Read.val_main_v39 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)), ?_, ?_⟩
  · exact (θ_run Cert.MlpIdeal.defs _ _).mono (fun _ h c => ⟨(h c).1.trans (value m c), (h c).2⟩) (Cert.MlpIdeal.Value.run_blocks (F := Ideal) m ρ)
  · refine (θ_run Cert.MlpReferenceIdeal.defs _ _).mono (fun _ h c => ⟨?_, (h c).2⟩) (Cert.MlpReferenceIdeal.Value.run (F := Ideal) m' ρ')
    obtain ⟨e0, e1, e2, e3, e4⟩ := hagree c
    refine ((h c).1.trans (Cert.MlpReferenceIdeal.Read.val_main_v39_eq m' c)).trans ?_
    change Cert.MlpReferenceIdeal.Read.val_main_v39 (F := Ideal) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) = _
    rw [e0, e1, e2, e3, e4]

end Cert.FeedForward

end
-- ==== Proof.SharedKeys.lean ====
module

public import proofs.«01_k».proof.Defs
public import proofs.«01_k».proof.Proof.Gen.QkvIdeal.Value
public import proofs.«01_k».proof.Proof.Gen.QkvReferenceIdeal.Run
public import proofs.«01_k».proof.Proof.Gen.QkvReferenceIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.SharedKeys

open Idealize.ShloMosaic Idealize.ShloMosaic.TcCoe Idealize.SL.Sem

/-- A sum of products of a row and a column depends on their numbers only. -/
theorem dot_congr {a c p : ℕ} (x : (⟨2, ![a, c]⟩ : Shape).Idx → EReal) (w : (⟨2, ![c, p]⟩ : Shape).Idx → EReal) {r r' : Fin a} {j j' : Fin p}
    (hr : r.val = r'.val) (hj : j.val = j'.val) : (∑ k : Fin c, x (ix2 r k) * w (ix2 k j)) = ∑ k : Fin c, x (ix2 r' k) * w (ix2 k j') := by
  rw [Fin.ext hr, Fin.ext hj]

section Stores

open Cert.QkvIdeal Cert.QkvIdeal.Gen

variable (x0 : Vec Ideal S512x1024 .f32) (x1 : Vec Ideal S1024x1024 .bf16) (x2 : Vec Ideal S1024x2048 .bf16)

/-- A step's queries: rows times the columns of the query weights. -/
theorem q_at (r : Fin 512) (j : Fin 1024) : out0_3 (F := Ideal) x0 x1 x2 (ix2 r j) = ∑ k : Fin 1024, x0 (ix2 r k) * x1 (ix2 k j) := by
  unfold_out out0_3
  canon_tiles x h
  all_goals
    have e0 : r.val = _ := h0
    have e1 : j.val = _ := h1
    open_payloads
    pointwise
    exact dot_congr x0 _ (by show (x 0).val = _; omega) (by simp only []; omega)

/-- A step's keys: rows times the first 1024 columns of the shared weights. -/
theorem k_at (r : Fin 512) (j : Fin 1024) :
    out0_4 (F := Ideal) x0 x1 x2 (ix2 r j) = ∑ k : Fin 1024, x0 (ix2 r k) * x2 (ix2 k ⟨j.val, Nat.lt_of_lt_of_le j.isLt (Nat.le_of_ble_eq_true rfl)⟩) := by
  unfold_out out0_4
  canon_tiles x h
  all_goals
    have e0 : r.val = _ := h0
    have e1 : j.val = _ := h1
    open_payloads
    pointwise
    exact dot_congr x0 _ (by show (x 0).val = _; omega) (by simp only []; omega)

/-- A step's values: rows times the last 1024 columns of the shared weights. -/
theorem v_at (r : Fin 512) (j : Fin 1024) :
    out0_5 (F := Ideal) x0 x1 x2 (ix2 r j) = ∑ k : Fin 1024, x0 (ix2 r k) * x2 (ix2 k ⟨1024 + j.val, by omega⟩) := by
  unfold_out out0_5
  canon_tiles x h
  all_goals
    have e0 : r.val = _ := h0
    have e1 : j.val = _ := h1
    open_payloads
    pointwise
    exact dot_congr x0 _ (by show (x 0).val = _; omega) (by simp only []; omega)

/-- The values once more, narrow. -/
theorem vb_at (r : Fin 512) (j : Fin 1024) :
    out0_7 (F := Ideal) x0 x1 x2 (ix2 r j) = ∑ k : Fin 1024, x0 (ix2 r k) * x2 (ix2 k ⟨1024 + j.val, by omega⟩) := by
  unfold_out out0_7
  canon_tiles x h
  all_goals
    have e0 : r.val = _ := h0
    have e1 : j.val = _ := h1
    open_payloads
    pointwise
    exact dot_congr x0 _ (by show (x 0).val = _; omega) (by simp only []; omega)

/-- The keys once more, by head and block, tokens last. -/
theorem kt_at (e : Fin 8) (b : Fin 2) (d : Fin 128) (s : Fin 256) :
    out0_6 (F := Ideal) x0 x1 x2 (ix4 e b d s) = ∑ k : Fin 1024, x0 (ix2 ⟨256 * b.val + s.val, by omega⟩ k) * x2 (ix2 k ⟨128 * e.val + d.val, by omega⟩) := by
  unfold_out out0_6
  canon_tiles x h
  all_goals
    have e0 : e.val = _ := h0
    have e1 : b.val = _ := h1
    have e2 : d.val = _ := h2
    have e3 : s.val = _ := h3
    open_payloads
    pointwise
    exact dot_congr x0 _ (by simp only []; omega) (by simp only []; omega)

/-- The mean key of a block of 256 tokens. -/
theorem mean_at (b : Fin 2) (j : Fin 1024) :
    out0_8 (F := Ideal) x0 x1 x2 (ix3 b 0 j)
      = Ideal.div (∑ s : Fin 256, ∑ k : Fin 1024, x0 (ix2 ⟨256 * b.val + s.val, by omega⟩ k) * x2 (ix2 k ⟨j.val, Nat.lt_of_lt_of_le j.isLt (Nat.le_of_ble_eq_true rfl)⟩))
          (Ideal.ofBits .f32 0x43800000#32) := by
  unfold_out out0_8
  canon_tiles x h
  all_goals
    have e0 : b.val = _ := h0
    have e2 : j.val = _ := h2
    open_payloads
    pointwise
    refine congrArg (Ideal.div · _) (Finset.sum_congr rfl fun s _ => ?_)
    exact dot_congr x0 _ (by simp only []; omega) (by simp only []; omega)

end Stores

section Reference

open Cert.QkvReferenceIdeal Cert.QkvReferenceIdeal.Read

variable (x0 : (⟨S8x2048x1024, .f32⟩ : BufTy).Contents (Elt Ideal)) (x1 : (⟨S1x1024x1024, .f32⟩ : BufTy).Contents (Elt Ideal))
  (x2 : (⟨S1024x2048, .f32⟩ : BufTy).Contents (Elt Ideal))

/-- The reference's queries. -/
theorem ref_q_at (r : Fin 16384) (j : Fin 1024) :
    val_main_v15 (F := Ideal) x0 x1 (ix2 r j) = ∑ k : Fin 1024, x0 (ix3 ⟨r.val / 2048, by omega⟩ ⟨r.val % 2048, by omega⟩ k) * x1 (ix3 0 k j) := by
  pointwise [val_main_v15, val_main_v14, val_main_v7, val_main_v6, val_main_v5]

/-- The reference's keys. -/
theorem ref_k_at (r : Fin 16384) (j : Fin 1024) :
    val_main_v16 (F := Ideal) x0 x2 (ix2 r j)
      = ∑ k : Fin 1024, x0 (ix3 ⟨r.val / 2048, by omega⟩ ⟨r.val % 2048, by omega⟩ k) * x2 (ix2 k ⟨j.val, Nat.lt_of_lt_of_le j.isLt (Nat.le_of_ble_eq_true rfl)⟩) := by
  pointwise [val_main_v16, val_main_v2, val_main_v1, val_main_v0]

/-- The reference's values. -/
theorem ref_v_at (r : Fin 16384) (j : Fin 1024) :
    val_main_v17 (F := Ideal) x0 x2 (ix2 r j) = ∑ k : Fin 1024, x0 (ix3 ⟨r.val / 2048, by omega⟩ ⟨r.val % 2048, by omega⟩ k) * x2 (ix2 k ⟨1024 + j.val, by omega⟩) := by
  pointwise [val_main_v17, val_main_v4, val_main_v3, val_main_v0]

theorem ref_vb_at (r : Fin 16384) (j : Fin 1024) :
    val_main_v20 (F := Ideal) x0 x2 (ix2 r j) = ∑ k : Fin 1024, x0 (ix3 ⟨r.val / 2048, by omega⟩ ⟨r.val % 2048, by omega⟩ k) * x2 (ix2 k ⟨1024 + j.val, by omega⟩) := by
  pointwise [val_main_v20, val_main_v19, val_main_v4, val_main_v3, val_main_v0]

/-- The reference's keys by head and block, tokens last. -/
theorem ref_kt_at (h : Fin 8) (b : Fin 64) (d : Fin 128) (s : Fin 256) :
    val_main_v18 (F := Ideal) x0 x2 (ix4 h b d s)
      = ∑ k : Fin 1024, x0 (ix3 ⟨b.val / 8, by omega⟩ ⟨b.val % 8 * 256 + s.val, by omega⟩ k) * x2 (ix2 k ⟨h.val * 128 + d.val, by omega⟩) := by
  pointwise [val_main_v18, val_main_v13, val_main_v12, val_main_v8, val_main_v2, val_main_v1, val_main_v0]

/-- The reference's mean keys. -/
theorem ref_mean_at (b : Fin 64) (j : Fin 1024) :
    val_main_v21 (F := Ideal) x0 x2 (ix3 b 0 j)
      = Ideal.div (∑ s : Fin 256, ∑ k : Fin 1024, x0 (ix3 ⟨b.val / 8, by omega⟩ ⟨b.val % 8 * 256 + s.val, by omega⟩ k) * x2 (ix2 k ⟨j.val, Nat.lt_of_lt_of_le j.isLt (Nat.le_of_ble_eq_true rfl)⟩))
          (Ideal.ofBits .f32 0x43800000#32) := by
  pointwise [val_main_v21, val_main_v11, val_main_v10, val_main_v9, val_main_v8, val_main_v2, val_main_v1, val_main_v0, val_main_cst, val_main_cst_0]

end Reference

/-! ## The host's arrays, a step's blocks, and the arrays the kernel leaves -/

section Values

open Cert.QkvIdeal Cert.QkvIdeal.Gen

theorem rows_shape (x : (⟨S8x2048x1024, .f32⟩ : BufTy).Contents (Elt Ideal)) (r : Fin 16384) (j : Fin 1024) :
    shapeCast S16384x1024 x shapeCasts_S8x2048x1024_S16384x1024 (ix2 r j) = x (ix3 ⟨r.val / 2048, by omega⟩ ⟨r.val % 2048, by omega⟩ j) := by
  pointwise

/-- The query weights, as the host hands them over. -/
def queryWeights (x : (⟨S1x1024x1024, .f32⟩ : BufTy).Contents (Elt Ideal)) : (⟨S1024x1024, .bf16⟩ : BufTy).Contents (Elt Ideal) :=
  truncf (F := Ideal) .bf16 (shapeCast S1024x1024 x shapeCasts_S1x1024x1024_S1024x1024) bitsLt_bf16_f32

theorem queryWeights_at (x : (⟨S1x1024x1024, .f32⟩ : BufTy).Contents (Elt Ideal)) (k j : Fin 1024) : queryWeights x (ix2 k j) = x (ix3 0 k j) := by
  pointwise [queryWeights]

variable (m : (ℓ : Loc nD τ sig) → Buf (Elt Ideal) ℓ) (c : Dev nD)

theorem entry_x : V m c main_v3 = shapeCast S16384x1024 (m ((c : Thread nD τ).loc main_arg0)) shapeCasts_S8x2048x1024_S16384x1024 := by
  simp only [V, hostOps0]
  after_results_simp
  rfl

theorem entry_q : V m c main_v1 = queryWeights (m ((c : Thread nD τ).loc main_arg1)) := by
  simp only [V, hostOps0]
  after_results_simp
  rfl

theorem entry_kv : V m c main_v2 = (truncf (F := Ideal) .bf16 ((m ((c : Thread nD τ).loc main_arg2)) : (⟨S1024x2048, .f32⟩ : BufTy).Contents (Elt Ideal)) bitsLt_bf16_f32 : (⟨S1024x2048, .bf16⟩ : BufTy).Contents (Elt Ideal)) := by
  simp only [V, hostOps0]
  after_results_simp

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![t.val, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![0, t.val, 0, 0] := by decide +kernel
theorem at7 : ∀ t : Fin grid0.N, win0_7.index t = ![t.val, 0] := by decide +kernel
theorem at8 : ∀ t : Fin grid0.N, win0_8.index t = ![t.val, 0, 0] := by decide +kernel

/-- A step's rows, whose batch and position are given. -/
theorem x_at (t : Fin 32) (r : Fin 512) (k : Fin 1024) (b : Fin 8) (s : Fin 2048) (hb : b.val = (512 * t.val + r.val) / 2048) (hs : s.val = (512 * t.val + r.val) % 2048) :
    iblk m c 0 t (ix2 r k) = m ((c : Thread nD τ).loc main_arg0) (ix3 (n0 := 8) (n1 := 2048) (n2 := 1024) b s k) := by
  obtain ⟨b, hb'⟩ := b
  obtain ⟨s, hs'⟩ := s
  subst hb hs
  have e : iblk m c 0 t (ix2 r k) = V m c main_v3 (ix2 (n0 := 16384) (n1 := 1024) ⟨512 * t.val + r.val, by omega⟩ k) := by blk_ext [iblk, at0 t]
  refine e.trans ((congrFun (entry_x m c) _).trans ((rows_shape _ _ _).trans ?_))
  rfl

theorem wq_at (t : Fin 32) (k j : Fin 1024) : iblk m c 1 t (ix2 k j) = m ((c : Thread nD τ).loc main_arg1) (ix3 (n0 := 1) (n1 := 1024) (n2 := 1024) 0 k j) := by
  have e : iblk m c 1 t (ix2 k j) = V m c main_v1 (ix2 (n0 := 1024) (n1 := 1024) k j) := by blk_ext [iblk, at1 t]
  exact e.trans ((congrFun (entry_q m c) _).trans (queryWeights_at _ _ _))

theorem wkv_at (t : Fin 32) (k : Fin 1024) (j : Fin 2048) : iblk m c 2 t (ix2 k j) = m ((c : Thread nD τ).loc main_arg2) (ix2 (n0 := 1024) (n1 := 2048) k j) := by
  have e : iblk m c 2 t (ix2 k j) = V m c main_v2 (ix2 (n0 := 1024) (n1 := 2048) k j) := by blk_ext [iblk, at2 t]
  exact e.trans (congrFun (entry_kv m c) _)

/-- The queries, as the kernel leaves them. -/
theorem q_point (t : Fin 32) (r : Fin 512) (j : Fin 1024) :
    out0_3 (F := Ideal) (iblk m c 0 t) (iblk m c 1 t) (iblk m c 2 t) (ix2 r j)
      = Cert.QkvReferenceIdeal.Read.val_main_v15 (F := Ideal) (m ((c : Thread nD τ).loc main_arg0)) (m ((c : Thread nD τ).loc main_arg1)) (ix2 (n0 := 16384) (n1 := 1024) ⟨512 * t.val + r.val, by omega⟩ j) := by
  refine (q_at (iblk m c 0 t) (iblk m c 1 t) (iblk m c 2 t) r j).trans (Eq.trans ?_ (ref_q_at _ _ _ _).symm)
  refine Finset.sum_congr rfl fun k _ => ?_
  rw [x_at m c t r k ⟨(512 * t.val + r.val) / 2048, by omega⟩ ⟨(512 * t.val + r.val) % 2048, by omega⟩ rfl rfl, wq_at m c t]

/-- The queries, as the kernel leaves them. -/
theorem q_value : (dats m 0 c).arrAt 3 cfg0.N = Cert.QkvReferenceIdeal.Read.val_main_v15 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  obtain ⟨r, j, rfl⟩ : ∃ (a : Fin 512) (b : Fin 1024), y = ix2 a b := ⟨y 0, y 1, (ix2_eta y).symm⟩
  have ht : t.val < 32 := t.isLt
  have he : (win0_3.blk t).view.emb (ix2 r j) = (ix2 (n0 := 16384) (n1 := 1024) ⟨512 * t.val + r.val, by omega⟩ j) := by blk_ext [at3 t]
  rw [he]
  exact q_point m c t r j

/-- The keys, as the kernel leaves them. -/
theorem k_point (t : Fin 32) (r : Fin 512) (j : Fin 1024) :
    out0_4 (F := Ideal) (iblk m c 0 t) (iblk m c 1 t) (iblk m c 2 t) (ix2 r j)
      = Cert.QkvReferenceIdeal.Read.val_main_v16 (F := Ideal) (m ((c : Thread nD τ).loc main_arg0)) (m ((c : Thread nD τ).loc main_arg2)) (ix2 (n0 := 16384) (n1 := 1024) ⟨512 * t.val + r.val, by omega⟩ j) := by
  refine (k_at (iblk m c 0 t) (iblk m c 1 t) (iblk m c 2 t) r j).trans (Eq.trans ?_ (ref_k_at _ _ _ _).symm)
  refine Finset.sum_congr rfl fun k _ => ?_
  rw [x_at m c t r k ⟨(512 * t.val + r.val) / 2048, by omega⟩ ⟨(512 * t.val + r.val) % 2048, by omega⟩ rfl rfl, wkv_at m c t]

/-- The keys, as the kernel leaves them. -/
theorem k_value : (dats m 0 c).arrAt 4 cfg0.N = Cert.QkvReferenceIdeal.Read.val_main_v16 (F := Ideal) (m ((c : Thread nD τ).loc main_arg0)) (m ((c : Thread nD τ).loc main_arg2)) := by
  refine (dats m 0 c).arrAt_eq_of_covers 4 _ (by decide +kernel) fun t _ y => ?_
  blk_simp
  rw [after0_4]
  obtain ⟨r, j, rfl⟩ : ∃ (a : Fin 512) (b : Fin 1024), y = ix2 a b := ⟨y 0, y 1, (ix2_eta y).symm⟩
  have ht : t.val < 32 := t.isLt
  have he : (win0_4.blk t).view.emb (ix2 r j) = (ix2 (n0 := 16384) (n1 := 1024) ⟨512 * t.val + r.val, by omega⟩ j) := by blk_ext [at4 t]
  rw [he]
  exact k_point m c t r j

/-- The values, as the kernel leaves them. -/
theorem v_point (t : Fin 32) (r : Fin 512) (j : Fin 1024) :
    out0_5 (F := Ideal) (iblk m c 0 t) (iblk m c 1 t) (iblk m c 2 t) (ix2 r j)
      = Cert.QkvReferenceIdeal.Read.val_main_v17 (F := Ideal) (m ((c : Thread nD τ).loc main_arg0)) (m ((c : Thread nD τ).loc main_arg2)) (ix2 (n0 := 16384) (n1 := 1024) ⟨512 * t.val + r.val, by omega⟩ j) := by
  refine (v_at (iblk m c 0 t) (iblk m c 1 t) (iblk m c 2 t) r j).trans (Eq.trans ?_ (ref_v_at _ _ _ _).symm)
  refine Finset.sum_congr rfl fun k _ => ?_
  rw [x_at m c t r k ⟨(512 * t.val + r.val) / 2048, by omega⟩ ⟨(512 * t.val + r.val) % 2048, by omega⟩ rfl rfl, wkv_at m c t]

/-- The values, as the kernel leaves them. -/
theorem v_value : (dats m 0 c).arrAt 5 cfg0.N = Cert.QkvReferenceIdeal.Read.val_main_v17 (F := Ideal) (m ((c : Thread nD τ).loc main_arg0)) (m ((c : Thread nD τ).loc main_arg2)) := by
  refine (dats m 0 c).arrAt_eq_of_covers 5 _ (by decide +kernel) fun t _ y => ?_
  blk_simp
  rw [after0_5]
  obtain ⟨r, j, rfl⟩ : ∃ (a : Fin 512) (b : Fin 1024), y = ix2 a b := ⟨y 0, y 1, (ix2_eta y).symm⟩
  have ht : t.val < 32 := t.isLt
  have he : (win0_5.blk t).view.emb (ix2 r j) = (ix2 (n0 := 16384) (n1 := 1024) ⟨512 * t.val + r.val, by omega⟩ j) := by blk_ext [at5 t]
  rw [he]
  exact v_point m c t r j

/-- The narrow values, as the kernel leaves them. -/
theorem vb_point (t : Fin 32) (r : Fin 512) (j : Fin 1024) :
    out0_7 (F := Ideal) (iblk m c 0 t) (iblk m c 1 t) (iblk m c 2 t) (ix2 r j)
      = Cert.QkvReferenceIdeal.Read.val_main_v20 (F := Ideal) (m ((c : Thread nD τ).loc main_arg0)) (m ((c : Thread nD τ).loc main_arg2)) (ix2 (n0 := 16384) (n1 := 1024) ⟨512 * t.val + r.val, by omega⟩ j) := by
  refine (vb_at (iblk m c 0 t) (iblk m c 1 t) (iblk m c 2 t) r j).trans (Eq.trans ?_ (ref_vb_at _ _ _ _).symm)
  refine Finset.sum_congr rfl fun k _ => ?_
  rw [x_at m c t r k ⟨(512 * t.val + r.val) / 2048, by omega⟩ ⟨(512 * t.val + r.val) % 2048, by omega⟩ rfl rfl, wkv_at m c t]

/-- The narrow values, as the kernel leaves them. -/
theorem vb_value : (dats m 0 c).arrAt 7 cfg0.N = Cert.QkvReferenceIdeal.Read.val_main_v20 (F := Ideal) (m ((c : Thread nD τ).loc main_arg0)) (m ((c : Thread nD τ).loc main_arg2)) := by
  refine (dats m 0 c).arrAt_eq_of_covers 7 _ (by decide +kernel) fun t _ y => ?_
  blk_simp
  rw [after0_7]
  obtain ⟨r, j, rfl⟩ : ∃ (a : Fin 512) (b : Fin 1024), y = ix2 a b := ⟨y 0, y 1, (ix2_eta y).symm⟩
  have ht : t.val < 32 := t.isLt
  have he : (win0_7.blk t).view.emb (ix2 r j) = (ix2 (n0 := 16384) (n1 := 1024) ⟨512 * t.val + r.val, by omega⟩ j) := by blk_ext [at7 t]
  rw [he]
  exact vb_point m c t r j

/-- The keys by head and block, as the kernel leaves them. -/
theorem kt_point (t : Fin 32) (h : Fin 8) (b : Fin 2) (d : Fin 128) (s : Fin 256) :
    out0_6 (F := Ideal) (iblk m c 0 t) (iblk m c 1 t) (iblk m c 2 t) (ix4 h b d s)
      = Cert.QkvReferenceIdeal.Read.val_main_v18 (F := Ideal) (m ((c : Thread nD τ).loc main_arg0)) (m ((c : Thread nD τ).loc main_arg2)) (ix4 (n0 := 8) (n1 := 64) (n2 := 128) (n3 := 256) h ⟨2 * t.val + b.val, by omega⟩ d s) := by
  refine (kt_at (iblk m c 0 t) (iblk m c 1 t) (iblk m c 2 t) h b d s).trans (Eq.trans ?_ (ref_kt_at _ _ h ⟨2 * t.val + b.val, by omega⟩ d s).symm)
  refine Finset.sum_congr rfl fun k _ => ?_
  rw [x_at m c t ⟨256 * b.val + s.val, by omega⟩ k ⟨(2 * t.val + b.val) / 8, by omega⟩ ⟨(2 * t.val + b.val) % 8 * 256 + s.val, by omega⟩
    (by simp only []; omega) (by simp only []; omega), wkv_at m c t]
  simp only [Nat.mul_comm 128]

/-- The keys by head and block, as the kernel leaves them. -/
theorem kt_value : (dats m 0 c).arrAt 6 cfg0.N = Cert.QkvReferenceIdeal.Read.val_main_v18 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  obtain ⟨h, b, d, s, rfl⟩ : ∃ (h : Fin 8) (b : Fin 2) (d : Fin 128) (s : Fin 256), y = ix4 h b d s := ⟨y 0, y 1, y 2, y 3, (ix4_eta y).symm⟩
  have ht : t.val < 32 := t.isLt
  have he : (win0_6.blk t).view.emb (ix4 h b d s) = (ix4 (n0 := 8) (n1 := 64) (n2 := 128) (n3 := 256) h ⟨2 * t.val + b.val, by omega⟩ d s) := by blk_ext [at6 t]
  rw [he]
  exact kt_point m c t h b d s

/-- The mean keys, as the kernel leaves them. -/
theorem mean_point (t : Fin 32) (b : Fin 2) (j : Fin 1024) :
    out0_8 (F := Ideal) (iblk m c 0 t) (iblk m c 1 t) (iblk m c 2 t) (ix3 b 0 j)
      = Cert.QkvReferenceIdeal.Read.val_main_v21 (F := Ideal) (m ((c : Thread nD τ).loc main_arg0)) (m ((c : Thread nD τ).loc main_arg2)) (ix3 (n0 := 64) (n1 := 1) (n2 := 1024) ⟨2 * t.val + b.val, by omega⟩ 0 j) := by
  refine (mean_at (iblk m c 0 t) (iblk m c 1 t) (iblk m c 2 t) b j).trans (Eq.trans ?_ (ref_mean_at _ _ ⟨2 * t.val + b.val, by omega⟩ j).symm)
  refine congrArg (Ideal.div · _) (Finset.sum_congr rfl fun s _ => Finset.sum_congr rfl fun k _ => ?_)
  rw [x_at m c t ⟨256 * b.val + s.val, by omega⟩ k ⟨(2 * t.val + b.val) / 8, by omega⟩ ⟨(2 * t.val + b.val) % 8 * 256 + s.val, by omega⟩
    (by simp only []; omega) (by simp only []; omega), wkv_at m c t]

/-- The mean keys, as the kernel leaves them. -/
theorem mean_value : (dats m 0 c).arrAt 8 cfg0.N = Cert.QkvReferenceIdeal.Read.val_main_v21 (F := Ideal) (m ((c : Thread nD τ).loc main_arg0)) (m ((c : Thread nD τ).loc main_arg2)) := by
  refine (dats m 0 c).arrAt_eq_of_covers 8 _ (by decide +kernel) fun t _ y => ?_
  blk_simp
  rw [after0_8]
  obtain ⟨b, j, rfl⟩ : ∃ (b : Fin 2) (j : Fin 1024), y = ix3 b 0 j := ⟨y 0, y 2, by
    refine (ix3_eta y).symm.trans ?_; rw [Fin.fin_one_eq_zero (y 1)]⟩
  have ht : t.val < 32 := t.isLt
  have he : (win0_8.blk t).view.emb (ix3 b 0 j) = (ix3 (n0 := 64) (n1 := 1) (n2 := 1024) ⟨2 * t.val + b.val, by omega⟩ 0 j) := by blk_ext [at8 t]
  rw [he]
  exact mean_point m c t b j

end Values

/-- The reference's run leaves its arguments and its semaphores as it found them. -/
theorem quiescent : quiescent_QkvReferenceIdeal := fun m ρ _ =>
  (θ_run Cert.QkvReferenceIdeal.defs _ _).mono (fun r h => ⟨fun c => (h c).2.2.2.2.2.2, sem_eq_zero_of_no_sems (by decide) r.2⟩)
    (Cert.QkvReferenceIdeal.Value.run (F := Ideal) m ρ)

/-- The kernel's six results are the reference's. -/
theorem algebraic : algebraic_QkvIdeal_QkvReferenceIdeal := by
  intro m ρ m' ρ' _ hagree
  refine ⟨fun c => Cert.QkvReferenceIdeal.Read.val_main_v15 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)),
    fun c => Cert.QkvReferenceIdeal.Read.val_main_v16 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg2)),
    fun c => Cert.QkvReferenceIdeal.Read.val_main_v17 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg2)),
    fun c => Cert.QkvReferenceIdeal.Read.val_main_v18 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg2)),
    fun c => Cert.QkvReferenceIdeal.Read.val_main_v20 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg2)),
    fun c => Cert.QkvReferenceIdeal.Read.val_main_v21 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg2)), ?_, ?_⟩
  · exact (θ_run Cert.QkvIdeal.defs _ _).mono (fun _ h c => ⟨(h c).1.trans (q_value m c), (h c).2.1.trans (k_value m c), (h c).2.2.1.trans (v_value m c), (h c).2.2.2.1.trans (kt_value m c), (h c).2.2.2.2.1.trans (vb_value m c), (h c).2.2.2.2.2.1.trans (mean_value m c), (h c).2.2.2.2.2.2⟩)
      (Cert.QkvIdeal.Value.run_blocks (F := Ideal) m ρ)
  · refine (θ_run Cert.QkvReferenceIdeal.defs _ _).mono (fun _ h c => ⟨?_, ?_, ?_, ?_, ?_, ?_, (h c).2.2.2.2.2.2⟩) (Cert.QkvReferenceIdeal.Value.run (F := Ideal) m' ρ')
    all_goals obtain ⟨e0, e1, e2⟩ := hagree c
    · refine ((h c).1.trans (Cert.QkvReferenceIdeal.Read.val_main_v15_eq _ _)).trans ?_
      rw [e0, e1]
    · refine ((h c).2.1.trans (Cert.QkvReferenceIdeal.Read.val_main_v16_eq _ _)).trans ?_
      rw [e0, e2]
    · refine ((h c).2.2.1.trans (Cert.QkvReferenceIdeal.Read.val_main_v17_eq _ _)).trans ?_
      rw [e0, e2]
    · refine ((h c).2.2.2.1.trans (Cert.QkvReferenceIdeal.Read.val_main_v18_eq _ _)).trans ?_
      rw [e0, e2]
    · refine ((h c).2.2.2.2.1.trans (Cert.QkvReferenceIdeal.Read.val_main_v20_eq _ _)).trans ?_
      rw [e0, e2]
    · refine ((h c).2.2.2.2.2.1.trans (Cert.QkvReferenceIdeal.Read.val_main_v21_eq _ _)).trans ?_
      rw [e0, e2]

end Cert.SharedKeys

end
-- ==== Proof.FirstFeedForward.lean ====
module

public import proofs.«01_k».proof.Defs
public import proofs.«01_k».proof.Proof.FeedForward
public import proofs.«01_k».proof.Proof.Gen.FirstMlpIdeal.Value
public import proofs.«01_k».proof.Proof.Gen.FirstMlpReferenceIdeal.Run
public import proofs.«01_k».proof.Proof.Gen.FirstMlpReferenceIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.FirstFeedForward

open Idealize.ShloMosaic Idealize.ShloMosaic.TcCoe Idealize.SL.Sem

open FeedForward (unit pre sum_halves)

/-! ## The reference -/

section Reference

open Cert.FirstMlpReferenceIdeal Cert.FirstMlpReferenceIdeal.Read

variable (x0 : (⟨S8x2048x1024, .f32⟩ : BufTy).Contents (Elt Ideal)) (x1 : (⟨S2x1024x4096, .f32⟩ : BufTy).Contents (Elt Ideal))
  (x2 : (⟨S2x4096x1024, .f32⟩ : BufTy).Contents (Elt Ideal)) (x3 x4 : (⟨S2x2x1024, .f32⟩ : BufTy).Contents (Elt Ideal))

/-- The reference's residual sum. -/
theorem pre_at (b : Fin 8) (t : Fin 2048) (j : Fin 1024) :
    val_main_v10 (F := Ideal) x0 x1 x2 (ix3 b t j)
      = pre (fun k => x0 (ix3 b t k)) (fun k f => x1 (ix3 0 k f)) (fun f k => x2 (ix3 0 f k)) j := by
  pointwise [val_main_v10, val_main_v9, val_main_v8, val_main_v7, val_main_v6, val_main_v5, val_main_v4, val_main_v3, val_main_v2, val_main_v1,
    val_main_v0, val_main_cst, val_main_call0_v0, val_main_call0_cst, pre, unit]

/-- The reference's result before its rows are joined. -/
theorem norm_at (b : Fin 8) (t : Fin 2048) (j : Fin 1024) :
    val_main_v38 (F := Ideal) x0 x1 x2 x3 x4 (ix3 b t j)
      = Gates.layerNorm (pre (fun k => x0 (ix3 b t k)) (fun k f => x1 (ix3 0 k f)) (fun f k => x2 (ix3 0 f k)))
          (fun k => x3 (ix3 0 1 k)) (fun k => x4 (ix3 0 1 k)) j := by
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_cst_0, val_main_cst_1,
    val_main_cst_2, val_main_cst_3, val_main_cst_4, pre_at, Gates.layerNorm]

/-- The reference's result. -/
theorem result_at (r : Fin 16384) (j : Fin 1024) :
    val_main_v39 (F := Ideal) x0 x1 x2 x3 x4 (ix2 r j)
      = Gates.layerNorm (pre (fun k => x0 (ix3 ⟨r / 2048, by omega⟩ ⟨r % 2048, by omega⟩ k)) (fun k f => x1 (ix3 0 k f)) (fun f k => x2 (ix3 0 f k)))
          (fun k => x3 (ix3 0 1 k)) (fun k => x4 (ix3 0 1 k)) j := by
  pointwise [val_main_v39]
  exact norm_at ..

end Reference
/-! ## The kernel's arithmetic -/

section Arithmetic

open Cert.FirstMlpIdeal Cert.FirstMlpIdeal.Gen

/-- The accumulator after a step: half of the hidden units times their rows of the second weights, added to what it held. -/
theorem step_at (x : Vec Ideal S1024x1024 .bf16) (up : Vec Ideal S1024x2048 .bf16) (a : Vec Ideal S1024x1024 .f32) (dn : Vec Ideal S2048x1024 .bf16)
    (r j : Fin 1024) :
    k0_pay3 (F := Ideal) x up a dn (ix2 r j)
      = a (ix2 r j) + ∑ f : Fin 2048, unit (fun k => x (ix2 r k)) (fun k => up (ix2 k f)) * dn (ix2 f j) := by
  pointwise [k0_pay3, unit]

theorem narrow_at (x : Vec Ideal S1024x1024 .f32) (r j : Fin 1024) : k0_pay1 (F := Ideal) x (ix2 r j) = x (ix2 r j) := by
  pointwise [k0_pay1]

theorem zero_at (r j : Fin 1024) : k0_pay2 (F := Ideal) (ix2 r j) = (0 : EReal) := by
  pointwise [k0_pay2]

theorem norm_of (x a : Vec Ideal S1024x1024 .f32) (g b : Vec Ideal S1x1024 .f32) (r j : Fin 1024) :
    k0_pay4 (F := Ideal) x a g b (ix2 r j)
      = Gates.layerNorm (fun k => Ideal.ofBits .f32 0x3FB504F3#32 * x (ix2 r k) + a (ix2 r k)) (fun k => g (ix2 0 k)) (fun k => b (ix2 0 k)) j := by
  unfold Gates.layerNorm
  pointwise [k0_pay4]

/-- Both steps of a row block and the layer norm: the layer's row, when the two halves of the weights are the weights. -/
theorem rows_at (x x' : Vec Ideal S1024x1024 .f32) (up up' : Vec Ideal S1024x2048 .bf16) (dn dn' : Vec Ideal S2048x1024 .bf16) (g b : Vec Ideal S1x1024 .f32)
    (xr : Fin 1024 → Fin 1024 → EReal) (w : Fin 1024 → Fin 4096 → EReal) (v : Fin 4096 → Fin 1024 → EReal)
    (hx : ∀ r k, x (ix2 r k) = xr r k) (hx' : ∀ r k, x' (ix2 r k) = xr r k)
    (hu : ∀ k (f : Fin 2048), up (ix2 k f) = w k ⟨f.val, by omega⟩) (hu' : ∀ k (f : Fin 2048), up' (ix2 k f) = w k ⟨2048 + f.val, by omega⟩)
    (hd : ∀ (f : Fin 2048) k, dn (ix2 f k) = v ⟨f.val, by omega⟩ k) (hd' : ∀ (f : Fin 2048) k, dn' (ix2 f k) = v ⟨2048 + f.val, by omega⟩ k)
    (r j : Fin 1024) :
    k0_pay4 (F := Ideal) x' (k0_pay3 (k0_pay1 x) up' (k0_pay3 (k0_pay1 x) up (k0_pay2 (F := Ideal)) dn) dn') g b (ix2 r j)
      = Gates.layerNorm (pre (xr r) w v) (fun k => g (ix2 0 k)) (fun k => b (ix2 0 k)) j := by
  rw [norm_of]
  refine congrArg (fun p => Gates.layerNorm p _ _ j) (funext fun k => ?_)
  rw [step_at, step_at, zero_at, zero_add, pre, sum_halves]
  simp only [narrow_at, hx, hx', hu, hu', hd, hd']

end Arithmetic
section Stores

open Cert.FirstMlpIdeal Cert.FirstMlpIdeal.Gen

/-- The first step of a row block leaves the first half of the sum in the accumulator. -/
theorem sout0_A_0_eq (c : Dev nD) (i : grid0.Coords) (arg2 : Memref sig .tc .vmem S1024x1024 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i)
    (x0 : Vec Ideal S1024x1024 .f32) (x1 : Vec Ideal S1024x2048 .bf16) (x2 : Vec Ideal S2048x1024 .bf16) (x3 : Vec Ideal S1x1024 .f32) (x4 : Vec Ideal S1x1024 .f32) :
    sout0_A_0 (F := Ideal) c i arg2 harg2 arg3 harg3 arg4 harg4 arg5 harg5 arg6 harg6 arg7 harg7 arg8 harg8 arg9 harg9 hc0 hc1 x0 x1 x2 x3 x4 = k0_pay3 (k0_pay1 x0) x1 (k0_pay2 (F := Ideal)) x2 := by
  frame_out

/-- The first step of a row block leaves the rows in the narrow scratch. -/
theorem sout0_A_1_eq (c : Dev nD) (i : grid0.Coords) (arg2 : Memref sig .tc .vmem S1024x1024 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i)
    (x0 : Vec Ideal S1024x1024 .f32) (x1 : Vec Ideal S1024x2048 .bf16) (x2 : Vec Ideal S2048x1024 .bf16) (x3 : Vec Ideal S1x1024 .f32) (x4 : Vec Ideal S1x1024 .f32) :
    sout0_A_1 (F := Ideal) c i arg2 harg2 arg3 harg3 arg4 harg4 arg5 harg5 arg6 harg6 arg7 harg7 arg8 harg8 arg9 harg9 hc0 hc1 x0 x1 x2 x3 x4 = k0_pay1 x0 := by
  frame_out

/-- The second step adds the other half and takes the layer norm. -/
theorem out0_B_5_eq (c : Dev nD) (i : grid0.Coords) (arg2 : Memref sig .tc .vmem S1024x1024 .f32) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i)
    (x0 : Vec Ideal S1024x1024 .f32) (x1 : Vec Ideal S1024x2048 .bf16) (x2 : Vec Ideal S2048x1024 .bf16) (x3 : Vec Ideal S1x1024 .f32) (x4 : Vec Ideal S1x1024 .f32) (xs0 : Vec Ideal S1024x1024 .f32) (xs1 : Vec Ideal S1024x1024 .bf16) :
    out0_B_5 (F := Ideal) c i arg2 harg2 arg3 harg3 arg4 harg4 arg5 harg5 arg6 harg6 arg7 harg7 arg8 harg8 arg9 harg9 hc0 hc1 x0 x1 x2 x3 x4 xs0 xs1 = k0_pay4 x0 (k0_pay3 xs1 x1 xs0 x2) x3 x4 := by
  frame_out

end Stores

/-! ## The host's arrays and the blocks of a step -/

section Blocks

open Cert.FirstMlpIdeal Cert.FirstMlpIdeal.Gen

theorem rows_shape (x : (⟨S8x2048x1024, .f32⟩ : BufTy).Contents (Elt Ideal)) (r : Fin 16384) (j : Fin 1024) :
    shapeCast S16384x1024 x shapeCasts_S8x2048x1024_S16384x1024 (ix2 r j) = x (ix3 ⟨r / 2048, by omega⟩ ⟨r % 2048, by omega⟩ j) := by
  pointwise

/-- The first layer's matrix, as the host cuts it out. -/
def first1 (x : (⟨S2x1024x4096, .f32⟩ : BufTy).Contents (Elt Ideal)) : (⟨S1024x4096, .bf16⟩ : BufTy).Contents (Elt Ideal) :=
  shapeCast S1024x4096 (extractStridedSlice S1x1024x4096 ![0, 0, 0] (truncf (F := Ideal) .bf16 x bitsLt_bf16_f32) slices_S2x1024x4096_S1x1024x4096_0_0_0)
    shapeCasts_S1x1024x4096_S1024x4096

def first2 (x : (⟨S2x4096x1024, .f32⟩ : BufTy).Contents (Elt Ideal)) : (⟨S4096x1024, .bf16⟩ : BufTy).Contents (Elt Ideal) :=
  shapeCast S4096x1024 (extractStridedSlice S1x4096x1024 ![0, 0, 0] (truncf (F := Ideal) .bf16 x bitsLt_bf16_f32) slices_S2x4096x1024_S1x4096x1024_0_0_0)
    shapeCasts_S1x4096x1024_S4096x1024

def last (x : (⟨S2x2x1024, .f32⟩ : BufTy).Contents (Elt Ideal)) : (⟨S1x1024, .f32⟩ : BufTy).Contents (Elt Ideal) :=
  shapeCast S1x1024 (extractStridedSlice S1x1x1x1024 ![0, 1, 0, 0] (shapeCast S2x2x1x1024 x shapeCasts_S2x2x1024_S2x2x1x1024)
    slices_S2x2x1x1024_S1x1x1x1024_0_1_0_0) shapeCasts_S1x1x1x1024_S1x1024

theorem first1_at (x : (⟨S2x1024x4096, .f32⟩ : BufTy).Contents (Elt Ideal)) (k : Fin 1024) (f : Fin 4096) : first1 x (ix2 k f) = x (ix3 0 k f) := by
  pointwise [first1]

theorem first2_at (x : (⟨S2x4096x1024, .f32⟩ : BufTy).Contents (Elt Ideal)) (f : Fin 4096) (k : Fin 1024) : first2 x (ix2 f k) = x (ix3 0 f k) := by
  pointwise [first2]

theorem last_at (x : (⟨S2x2x1024, .f32⟩ : BufTy).Contents (Elt Ideal)) (k : Fin 1024) : last x (ix2 0 k) = x (ix3 0 1 k) := by
  pointwise [last]

variable (m : (ℓ : Loc nD τ sig) → Buf (Elt Ideal) ℓ) (c : Dev nD)

theorem entry_x : V m c main_v4 = shapeCast S16384x1024 (m ((c : Thread nD τ).loc main_arg0)) shapeCasts_S8x2048x1024_S16384x1024 := by
  simp only [V, hostOps0]
  after_results_simp
  rfl
theorem entry_up : V m c main_v6 = first1 (m ((c : Thread nD τ).loc main_arg1)) := by
  simp only [V, hostOps0]
  after_results_simp
  rfl
theorem entry_down : V m c main_v8 = first2 (m ((c : Thread nD τ).loc main_arg2)) := by
  simp only [V, hostOps0]
  after_results_simp
  rfl
theorem entry_g : V m c main_v10 = last (m ((c : Thread nD τ).loc main_arg3)) := by
  simp only [V, hostOps0]
  after_results_simp
  rfl
theorem entry_b : V m c main_v12 = last (m ((c : Thread nD τ).loc main_arg4)) := by
  simp only [V, hostOps0]
  after_results_simp
  rfl

theorem at0 : ∀ t : Fin grid0.N, win0_0.index t = ![t.val / 2, 0] := by decide +kernel
theorem at1 : ∀ t : Fin grid0.N, win0_1.index t = ![0, t.val % 2] := by decide +kernel
theorem at2 : ∀ t : Fin grid0.N, win0_2.index t = ![t.val % 2, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![t.val / 2, 0] := by decide +kernel

theorem x_at (t : Fin 32) (r k : Fin 1024) :
    iblk m c 0 t (ix2 r k) = m ((c : Thread nD τ).loc main_arg0) (ix3 (n0 := 8) (n1 := 2048) ⟨(1024 * (t.val / 2) + r.val) / 2048, by omega⟩ ⟨(1024 * (t.val / 2) + r.val) % 2048, by omega⟩ k) := by
  have e : iblk m c 0 t (ix2 r k) = V m c main_v4 (ix2 (n0 := 16384) (n1 := 1024) ⟨1024 * (t.val / 2) + r.val, by omega⟩ k) := by blk_ext [iblk, at0 t]
  exact e.trans ((congrFun (entry_x m c) _).trans (rows_shape _ _ _))

theorem up_at (t : Fin 32) (k : Fin 1024) (f : Fin 2048) :
    iblk m c 1 t (ix2 k f) = m ((c : Thread nD τ).loc main_arg1) (ix3 (n0 := 2) (n1 := 1024) (n2 := 4096) 0 k ⟨2048 * (t.val % 2) + f.val, by omega⟩) := by
  have e : iblk m c 1 t (ix2 k f) = V m c main_v6 (ix2 (n0 := 1024) (n1 := 4096) k ⟨2048 * (t.val % 2) + f.val, by omega⟩) := by blk_ext [iblk, at1 t]
  exact e.trans ((congrFun (entry_up m c) _).trans (first1_at _ _ _))

theorem down_at (t : Fin 32) (f : Fin 2048) (k : Fin 1024) :
    iblk m c 2 t (ix2 f k) = m ((c : Thread nD τ).loc main_arg2) (ix3 (n0 := 2) (n1 := 4096) (n2 := 1024) 0 ⟨2048 * (t.val % 2) + f.val, by omega⟩ k) := by
  have e : iblk m c 2 t (ix2 f k) = V m c main_v8 (ix2 (n0 := 4096) (n1 := 1024) ⟨2048 * (t.val % 2) + f.val, by omega⟩ k) := by blk_ext [iblk, at2 t]
  exact e.trans ((congrFun (entry_down m c) _).trans (first2_at _ _ _))

theorem g_at (t : Fin 32) (k : Fin 1024) : iblk m c 3 t (ix2 0 k) = m ((c : Thread nD τ).loc main_arg3) (ix3 (n0 := 2) (n1 := 2) (n2 := 1024) 0 1 k) := by
  have e : iblk m c 3 t (ix2 0 k) = V m c main_v10 (ix2 (n0 := 1) (n1 := 1024) 0 k) := by blk_ext [iblk, at3 t]
  exact e.trans ((congrFun (entry_g m c) _).trans (last_at _ _))

theorem b_at (t : Fin 32) (k : Fin 1024) : iblk m c 4 t (ix2 0 k) = m ((c : Thread nD τ).loc main_arg4) (ix3 (n0 := 2) (n1 := 2) (n2 := 1024) 0 1 k) := by
  have e : iblk m c 4 t (ix2 0 k) = V m c main_v12 (ix2 (n0 := 1) (n1 := 1024) 0 k) := by blk_ext [iblk, at4 t]
  exact e.trans ((congrFun (entry_b m c) _).trans (last_at _ _))

/-- The output block after the second step of a row block, in terms of the two steps' blocks. -/
theorem block_eq (t : Fin cfg0.N) (h1 : t.val % 2 = 1) :
    (outsAt0 m c t.val t.isLt).1
      = k0_pay4 (F := Ideal) (iblk m c 0 t) (k0_pay3 (k0_pay1 (iblk m c 0 (⟨t.val - 1, Nat.lt_of_le_of_lt (Nat.sub_le _ _) t.isLt⟩ : Fin cfg0.N))) (iblk m c 1 t)
          (k0_pay3 (k0_pay1 (iblk m c 0 (⟨t.val - 1, Nat.lt_of_le_of_lt (Nat.sub_le _ _) t.isLt⟩ : Fin cfg0.N))) (iblk m c 1 (⟨t.val - 1, Nat.lt_of_le_of_lt (Nat.sub_le _ _) t.isLt⟩ : Fin cfg0.N))
            (k0_pay2 (F := Ideal)) (iblk m c 2 (⟨t.val - 1, Nat.lt_of_le_of_lt (Nat.sub_le _ _) t.isLt⟩ : Fin cfg0.N))) (iblk m c 2 t)) (iblk m c 3 t) (iblk m c 4 t) := by
  have hp := outsAt0_A m c (⟨t.val - 1, Nat.lt_of_le_of_lt (Nat.sub_le _ _) t.isLt⟩ : Fin cfg0.N) (show (t.val - 1) % 2 = 0 by omega) (show ¬(t.val - 1) % 2 = 1 by omega)
  rw [outsAt0_B m c t (by omega) h1]
  dsimp only at hp ⊢
  rw [out0_B_5_eq, hp]
  dsimp only
  rw [sout0_A_0_eq, sout0_A_1_eq]

/-- One row block of the result. -/
theorem point (t : Fin 32) (h1 : t.val % 2 = 1) (r j : Fin 1024) :
    k0_pay4 (F := Ideal) (iblk m c 0 t) (k0_pay3 (k0_pay1 (iblk m c 0 (⟨t.val - 1, Nat.lt_of_le_of_lt (Nat.sub_le _ _) t.isLt⟩ : Fin cfg0.N))) (iblk m c 1 t)
          (k0_pay3 (k0_pay1 (iblk m c 0 (⟨t.val - 1, Nat.lt_of_le_of_lt (Nat.sub_le _ _) t.isLt⟩ : Fin cfg0.N))) (iblk m c 1 (⟨t.val - 1, Nat.lt_of_le_of_lt (Nat.sub_le _ _) t.isLt⟩ : Fin cfg0.N))
            (k0_pay2 (F := Ideal)) (iblk m c 2 (⟨t.val - 1, Nat.lt_of_le_of_lt (Nat.sub_le _ _) t.isLt⟩ : Fin cfg0.N))) (iblk m c 2 t)) (iblk m c 3 t) (iblk m c 4 t) (ix2 r j)
      = Cert.FirstMlpReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (ix2 (n0 := 16384) (n1 := 1024) ⟨1024 * (t.val / 2) + r.val, by omega⟩ j) := by
  have hq : (t.val - 1) / 2 = t.val / 2 := by omega
  have hr : (t.val - 1) % 2 = 0 := by omega
  refine (rows_at _ _ _ _ _ _ _ _
    (fun r k => m ((c : Thread nD τ).loc main_arg0) (ix3 (n0 := 8) (n1 := 2048) ⟨(1024 * (t.val / 2) + r.val) / 2048, by omega⟩ ⟨(1024 * (t.val / 2) + r.val) % 2048, by omega⟩ k))
    (fun k f => m ((c : Thread nD τ).loc main_arg1) (ix3 (n0 := 2) (n1 := 1024) (n2 := 4096) 0 k f))
    (fun f k => m ((c : Thread nD τ).loc main_arg2) (ix3 (n0 := 2) (n1 := 4096) (n2 := 1024) 0 f k))
    (fun r k => (x_at m c ⟨t.val - 1, by omega⟩ r k).trans (by simp only [hq]))
    (fun r k => x_at m c t r k)
    (fun k f => (up_at m c ⟨t.val - 1, by omega⟩ k f).trans (by simp only [hr, Nat.mul_zero, Nat.zero_add]))
    (fun k f => (up_at m c t k f).trans (by simp only [h1, Nat.mul_one]))
    (fun f k => (down_at m c ⟨t.val - 1, by omega⟩ f k).trans (by simp only [hr, Nat.mul_zero, Nat.zero_add]))
    (fun f k => (down_at m c t f k).trans (by simp only [h1, Nat.mul_one])) r j).trans ?_
  rw [result_at, show (fun k => (iblk m c 3 t) (ix2 0 k)) = _ from funext fun k => g_at m c t k,
    show (fun k => (iblk m c 4 t) (ix2 0 k)) = _ from funext fun k => b_at m c t k]

/-- The layer's output, as the kernel leaves it. -/
theorem value : (dats m 0 c).arrAt 5 cfg0.N
    = Cert.FirstMlpReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h1 : t.val % 2 = 1 := (flush0_5 t).mp hf
  have ht : t.val < 32 := t.isLt
  blk_simp
  rw [after0_5, block_eq m c t h1]
  obtain ⟨r, j, rfl⟩ : ∃ (a : Fin 1024) (b : Fin 1024), y = ix2 a b := ⟨y 0, y 1, (ix2_eta y).symm⟩
  have he : (win0_5.blk t).view.emb (ix2 r j) = (ix2 (n0 := 16384) (n1 := 1024) ⟨1024 * (t.val / 2) + r.val, by omega⟩ j) := by blk_ext [at5 t]
  rw [he]
  exact point m c ⟨t.val, ht⟩ h1 r j

end Blocks

/-- The reference's run leaves its arguments and its semaphores as it found them. -/
theorem quiescent : quiescent_FirstMlpReferenceIdeal := fun m ρ _ =>
  (θ_run Cert.FirstMlpReferenceIdeal.defs _ _).mono (fun r h => ⟨fun c => (h c).2, sem_eq_zero_of_no_sems (by decide) r.2⟩)
    (Cert.FirstMlpReferenceIdeal.Value.run (F := Ideal) m ρ)

/-- The kernel's result is the reference's. -/
theorem algebraic : algebraic_FirstMlpIdeal_FirstMlpReferenceIdeal := by
  intro m ρ m' ρ' _ hagree
  refine ⟨fun c => Cert.FirstMlpReferenceIdeal.Read.val_main_v39 (F := Ideal) (m ((c.tc : Thread Cert.FirstMlpIdeal.nD Cert.FirstMlpIdeal.τ).loc Cert.FirstMlpIdeal.main_arg0)) (m ((c.tc : Thread Cert.FirstMlpIdeal.nD Cert.FirstMlpIdeal.τ).loc Cert.FirstMlpIdeal.main_arg1)) (m ((c.tc : Thread Cert.FirstMlpIdeal.nD Cert.FirstMlpIdeal.τ).loc Cert.FirstMlpIdeal.main_arg2)) (m ((c.tc : Thread Cert.FirstMlpIdeal.nD Cert.FirstMlpIdeal.τ).loc Cert.FirstMlpIdeal.main_arg3)) (m ((c.tc : Thread Cert.FirstMlpIdeal.nD Cert.FirstMlpIdeal.τ).loc Cert.FirstMlpIdeal.main_arg4)), ?_, ?_⟩
  · exact (θ_run Cert.FirstMlpIdeal.defs _ _).mono (fun _ h c => ⟨(h c).1.trans (value m c), (h c).2⟩) (Cert.FirstMlpIdeal.Value.run_blocks (F := Ideal) m ρ)
  · refine (θ_run Cert.FirstMlpReferenceIdeal.defs _ _).mono (fun _ h c => ⟨?_, (h c).2⟩) (Cert.FirstMlpReferenceIdeal.Value.run (F := Ideal) m' ρ')
    obtain ⟨e0, e1, e2, e3, e4⟩ := hagree c
    refine ((h c).1.trans (Cert.FirstMlpReferenceIdeal.Read.val_main_v39_eq m' c)).trans ?_
    change Cert.FirstMlpReferenceIdeal.Read.val_main_v39 (F := Ideal) (m' ((c.tc : Thread Cert.FirstMlpReferenceIdeal.nD Cert.FirstMlpReferenceIdeal.τ).loc Cert.FirstMlpReferenceIdeal.main_arg0)) (m' ((c.tc : Thread Cert.FirstMlpReferenceIdeal.nD Cert.FirstMlpReferenceIdeal.τ).loc Cert.FirstMlpReferenceIdeal.main_arg1)) (m' ((c.tc : Thread Cert.FirstMlpReferenceIdeal.nD Cert.FirstMlpReferenceIdeal.τ).loc Cert.FirstMlpReferenceIdeal.main_arg2)) (m' ((c.tc : Thread Cert.FirstMlpReferenceIdeal.nD Cert.FirstMlpReferenceIdeal.τ).loc Cert.FirstMlpReferenceIdeal.main_arg3)) (m' ((c.tc : Thread Cert.FirstMlpReferenceIdeal.nD Cert.FirstMlpReferenceIdeal.τ).loc Cert.FirstMlpReferenceIdeal.main_arg4)) = _
    rw [e0, e1, e2, e3, e4]

end Cert.FirstFeedForward

end
-- ==== Proof.SampleFeedForward.lean ====
module

public import proofs.«01_k».proof.Defs
public import proofs.«01_k».proof.Proof.FeedForward
public import proofs.«01_k».proof.Proof.Gen.SampleMlpIdeal.Value
public import proofs.«01_k».proof.Proof.Gen.SampleMlpReferenceIdeal.Run
public import proofs.«01_k».proof.Proof.Gen.SampleMlpReferenceIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.SampleFeedForward

open Idealize.ShloMosaic Idealize.ShloMosaic.TcCoe Idealize.SL.Sem
open FeedForward (unit pre)

/-! ## The reference -/

section Reference

open Cert.SampleMlpReferenceIdeal Cert.SampleMlpReferenceIdeal.Read

variable (x0 : (⟨S32x8x1024, .f32⟩ : BufTy).Contents (Elt Ideal)) (x1 : (⟨S2x1024x4096, .f32⟩ : BufTy).Contents (Elt Ideal))
  (x2 : (⟨S2x4096x1024, .f32⟩ : BufTy).Contents (Elt Ideal)) (x3 x4 : (⟨S2x2x1024, .f32⟩ : BufTy).Contents (Elt Ideal))

/-- The reference's residual sum. -/
theorem pre_at (b : Fin 32) (t : Fin 8) (j : Fin 1024) :
    val_main_v10 (F := Ideal) x0 x1 x2 (ix3 b t j)
      = pre (fun k => x0 (ix3 b t k)) (fun k f => x1 (ix3 1 k f)) (fun f k => x2 (ix3 1 f k)) j := by
  pointwise [val_main_v10, val_main_v9, val_main_v8, val_main_v7, val_main_v6, val_main_v5, val_main_v4, val_main_v3, val_main_v2, val_main_v1,
    val_main_v0, val_main_cst, val_main_call0_v0, val_main_call0_cst, pre, unit]

/-- The reference's result before its rows are joined. -/
theorem norm_at (b : Fin 32) (t : Fin 8) (j : Fin 1024) :
    val_main_v38 (F := Ideal) x0 x1 x2 x3 x4 (ix3 b t j)
      = Gates.layerNorm (pre (fun k => x0 (ix3 b t k)) (fun k f => x1 (ix3 1 k f)) (fun f k => x2 (ix3 1 f k)))
          (fun k => x3 (ix3 1 1 k)) (fun k => x4 (ix3 1 1 k)) j := by
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_cst_0, val_main_cst_1,
    val_main_cst_2, val_main_cst_3, val_main_cst_4, pre_at, Gates.layerNorm]

/-- The reference's result. -/
theorem result_at (r : Fin 256) (j : Fin 1024) :
    val_main_v39 (F := Ideal) x0 x1 x2 x3 x4 (ix2 r j)
      = Gates.layerNorm (pre (fun k => x0 (ix3 ⟨r / 8, by omega⟩ ⟨r % 8, by omega⟩ k)) (fun k f => x1 (ix3 1 k f)) (fun f k => x2 (ix3 1 f k)))
          (fun k => x3 (ix3 1 1 k)) (fun k => x4 (ix3 1 1 k)) j := by
  pointwise [val_main_v39]
  exact norm_at ..

end Reference
/-! ## The kernel's arithmetic -/

section Arithmetic

open Cert.SampleMlpIdeal Cert.SampleMlpIdeal.Gen

/-- The accumulator after a step: a part of the hidden units times their rows of the second weights, added to what it held. -/
theorem step_at (x : Vec Ideal S256x1024 .bf16) (up : Vec Ideal S1024x512 .bf16) (a : Vec Ideal S256x1024 .f32) (dn : Vec Ideal S512x1024 .bf16)
    (r : Fin 256) (j : Fin 1024) :
    k0_pay3 (F := Ideal) x up a dn (ix2 r j)
      = a (ix2 r j) + ∑ f : Fin 512, unit (fun k => x (ix2 r k)) (fun k => up (ix2 k f)) * dn (ix2 f j) := by
  pointwise [k0_pay3, unit]

theorem narrow_at (x : Vec Ideal S256x1024 .f32) (r : Fin 256) (j : Fin 1024) : k0_pay1 (F := Ideal) x (ix2 r j) = x (ix2 r j) := by
  pointwise [k0_pay1]

theorem zero_at (r : Fin 256) (j : Fin 1024) : k0_pay2 (F := Ideal) (ix2 r j) = (0 : EReal) := by
  pointwise [k0_pay2]

theorem norm_of (x a : Vec Ideal S256x1024 .f32) (g b : Vec Ideal S1x1024 .f32) (r : Fin 256) (j : Fin 1024) :
    k0_pay4 (F := Ideal) x a g b (ix2 r j)
      = Gates.layerNorm (fun k => Ideal.ofBits .f32 0x3FB504F3#32 * x (ix2 r k) + a (ix2 r k)) (fun k => g (ix2 0 k)) (fun k => b (ix2 0 k)) j := by
  unfold Gates.layerNorm
  pointwise [k0_pay4]

end Arithmetic

section Stores

open Cert.SampleMlpIdeal Cert.SampleMlpIdeal.Gen

/-- The first step leaves the first part of the sum in the accumulator. -/
theorem sout0_A_0_eq (c : Dev nD) (i : grid0.Coords) (arg2 : Memref sig .tc .vmem S256x1024 .f32) (harg2 : arg2.IsWhole) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (hc0 : cond0_0 i) (hc1 : ¬cond0_1 i)
    (x0 : Vec Ideal S256x1024 .f32) (x1 : Vec Ideal S1024x512 .bf16) (x2 : Vec Ideal S512x1024 .bf16) (x3 : Vec Ideal S1x1024 .f32) (x4 : Vec Ideal S1x1024 .f32) :
    sout0_A_0 (F := Ideal) c i arg2 harg2 arg3 harg3 arg4 harg4 arg5 harg5 arg6 harg6 arg7 harg7 arg8 harg8 arg9 harg9 hc0 hc1 x0 x1 x2 x3 x4 = k0_pay3 (k0_pay1 x0) x1 (k0_pay2 (F := Ideal)) x2 := by
  frame_out

/-- The first step leaves the rows in the narrow scratch. -/
theorem sout0_A_1_eq (c : Dev nD) (i : grid0.Coords) (arg2 : Memref sig .tc .vmem S256x1024 .f32) (harg2 : arg2.IsWhole) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (hc0 : cond0_0 i) (hc1 : ¬cond0_1 i)
    (x0 : Vec Ideal S256x1024 .f32) (x1 : Vec Ideal S1024x512 .bf16) (x2 : Vec Ideal S512x1024 .bf16) (x3 : Vec Ideal S1x1024 .f32) (x4 : Vec Ideal S1x1024 .f32) :
    sout0_A_1 (F := Ideal) c i arg2 harg2 arg3 harg3 arg4 harg4 arg5 harg5 arg6 harg6 arg7 harg7 arg8 harg8 arg9 harg9 hc0 hc1 x0 x1 x2 x3 x4 = k0_pay1 x0 := by
  frame_out

/-- A later step adds its part. -/
theorem sout0_B_0_eq (c : Dev nD) (i : grid0.Coords) (arg2 : Memref sig .tc .vmem S256x1024 .f32) (harg2 : arg2.IsWhole) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (hc0 : ¬cond0_0 i) (hc1 : ¬cond0_1 i)
    (x0 : Vec Ideal S256x1024 .f32) (x1 : Vec Ideal S1024x512 .bf16) (x2 : Vec Ideal S512x1024 .bf16) (x3 : Vec Ideal S1x1024 .f32) (x4 : Vec Ideal S1x1024 .f32) (xs0 : Vec Ideal S256x1024 .f32) (xs1 : Vec Ideal S256x1024 .bf16) :
    sout0_B_0 (F := Ideal) c i arg2 harg2 arg3 harg3 arg4 harg4 arg5 harg5 arg6 harg6 arg7 harg7 arg8 harg8 arg9 harg9 hc0 hc1 x0 x1 x2 x3 x4 xs0 xs1 = k0_pay3 xs1 x1 xs0 x2 := by
  frame_out

/-- The last step adds its part and takes the layer norm. -/
theorem out0_C_5_eq (c : Dev nD) (i : grid0.Coords) (arg2 : Memref sig .tc .vmem S256x1024 .f32) (harg2 : arg2.IsWhole) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (hc0 : ¬cond0_0 i) (hc1 : cond0_1 i)
    (x0 : Vec Ideal S256x1024 .f32) (x1 : Vec Ideal S1024x512 .bf16) (x2 : Vec Ideal S512x1024 .bf16) (x3 : Vec Ideal S1x1024 .f32) (x4 : Vec Ideal S1x1024 .f32) (xs0 : Vec Ideal S256x1024 .f32) (xs1 : Vec Ideal S256x1024 .bf16) :
    out0_C_5 (F := Ideal) c i arg2 harg2 arg3 harg3 arg4 harg4 arg5 harg5 arg6 harg6 arg7 harg7 arg8 harg8 arg9 harg9 hc0 hc1 x0 x1 x2 x3 x4 xs0 xs1 = k0_pay4 x0 (k0_pay3 xs1 x1 xs0 x2) x3 x4 := by
  frame_out

end Stores

/-! ## The host's arrays and the blocks of a step -/

section Blocks

open Cert.SampleMlpIdeal Cert.SampleMlpIdeal.Gen

theorem rows_shape (x : (⟨S32x8x1024, .f32⟩ : BufTy).Contents (Elt Ideal)) (r : Fin 256) (j : Fin 1024) :
    shapeCast S256x1024 x shapeCasts_S32x8x1024_S256x1024 (ix2 r j) = x (ix3 ⟨r / 8, by omega⟩ ⟨r % 8, by omega⟩ j) := by
  pointwise

/-- The second layer's matrix, as the host cuts it out. -/
def second1 (x : (⟨S2x1024x4096, .f32⟩ : BufTy).Contents (Elt Ideal)) : (⟨S1024x4096, .bf16⟩ : BufTy).Contents (Elt Ideal) :=
  shapeCast S1024x4096 (extractStridedSlice S1x1024x4096 ![1, 0, 0] (truncf (F := Ideal) .bf16 x bitsLt_bf16_f32) slices_S2x1024x4096_S1x1024x4096_1_0_0)
    shapeCasts_S1x1024x4096_S1024x4096

def second2 (x : (⟨S2x4096x1024, .f32⟩ : BufTy).Contents (Elt Ideal)) : (⟨S4096x1024, .bf16⟩ : BufTy).Contents (Elt Ideal) :=
  shapeCast S4096x1024 (extractStridedSlice S1x4096x1024 ![1, 0, 0] (truncf (F := Ideal) .bf16 x bitsLt_bf16_f32) slices_S2x4096x1024_S1x4096x1024_1_0_0)
    shapeCasts_S1x4096x1024_S4096x1024

def last (x : (⟨S2x2x1024, .f32⟩ : BufTy).Contents (Elt Ideal)) : (⟨S1x1024, .f32⟩ : BufTy).Contents (Elt Ideal) :=
  shapeCast S1x1024 (extractStridedSlice S1x1x1x1024 ![1, 1, 0, 0] (shapeCast S2x2x1x1024 x shapeCasts_S2x2x1024_S2x2x1x1024)
    slices_S2x2x1x1024_S1x1x1x1024_1_1_0_0) shapeCasts_S1x1x1x1024_S1x1024

theorem second1_at (x : (⟨S2x1024x4096, .f32⟩ : BufTy).Contents (Elt Ideal)) (k : Fin 1024) (f : Fin 4096) : second1 x (ix2 k f) = x (ix3 1 k f) := by
  pointwise [second1]

theorem second2_at (x : (⟨S2x4096x1024, .f32⟩ : BufTy).Contents (Elt Ideal)) (f : Fin 4096) (k : Fin 1024) : second2 x (ix2 f k) = x (ix3 1 f k) := by
  pointwise [second2]

theorem last_at (x : (⟨S2x2x1024, .f32⟩ : BufTy).Contents (Elt Ideal)) (k : Fin 1024) : last x (ix2 0 k) = x (ix3 1 1 k) := by
  pointwise [last]

variable (m : (ℓ : Loc nD τ sig) → Buf (Elt Ideal) ℓ) (c : Dev nD)

theorem entry_x : V m c main_v4 = shapeCast S256x1024 (m ((c : Thread nD τ).loc main_arg0)) shapeCasts_S32x8x1024_S256x1024 := by
  simp only [V, hostOps0]
  after_results_simp
  rfl
theorem entry_up : V m c main_v6 = second1 (m ((c : Thread nD τ).loc main_arg1)) := by
  simp only [V, hostOps0]
  after_results_simp
  rfl
theorem entry_down : V m c main_v8 = second2 (m ((c : Thread nD τ).loc main_arg2)) := by
  simp only [V, hostOps0]
  after_results_simp
  rfl
theorem entry_g : V m c main_v10 = last (m ((c : Thread nD τ).loc main_arg3)) := by
  simp only [V, hostOps0]
  after_results_simp
  rfl
theorem entry_b : V m c main_v12 = last (m ((c : Thread nD τ).loc main_arg4)) := by
  simp only [V, hostOps0]
  after_results_simp
  rfl

theorem at0 : ∀ t : Fin grid0.N, win0_0.index t = ![0, 0] := by decide +kernel
theorem at1 : ∀ t : Fin grid0.N, win0_1.index t = ![0, t.val] := by decide +kernel
theorem at2 : ∀ t : Fin grid0.N, win0_2.index t = ![t.val, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel

/-- The hidden unit of a running number. -/
def col (i : ℕ) : Fin 4096 := ⟨i % 4096, Nat.mod_lt _ (Nat.le_of_ble_eq_true rfl)⟩

/-- A row of the layer's input. -/
def row (r : Fin 256) (k : Fin 1024) : EReal :=
  m ((c : Thread nD τ).loc main_arg0) (ix3 (n0 := 32) (n1 := 8) (n2 := 1024) ⟨r.val / 8, by omega⟩ ⟨r.val % 8, by omega⟩ k)

/-- What a hidden unit adds to the result. -/
def term (r : Fin 256) (j : Fin 1024) (i : ℕ) : EReal :=
  unit (row m c r) (fun k => m ((c : Thread nD τ).loc main_arg1) (ix3 (n0 := 2) (n1 := 1024) (n2 := 4096) 1 k (col i))) * m ((c : Thread nD τ).loc main_arg2) (ix3 (n0 := 2) (n1 := 4096) (n2 := 1024) 1 (col i) j)

theorem x_at (t : Fin 8) (r : Fin 256) (k : Fin 1024) : iblk m c 0 t (ix2 r k) = row m c r k := by
  have e : iblk m c 0 t (ix2 r k) = V m c main_v4 (ix2 (n0 := 256) (n1 := 1024) r k) := by blk_ext [iblk, at0 t]
  exact e.trans ((congrFun (entry_x m c) _).trans (rows_shape _ _ _))

theorem up_at (t : Fin 8) (k : Fin 1024) (f : Fin 512) :
    iblk m c 1 t (ix2 k f) = m ((c : Thread nD τ).loc main_arg1) (ix3 (n0 := 2) (n1 := 1024) (n2 := 4096) 1 k (col (512 * t.val + f.val))) := by
  have ec : col (512 * t.val + f.val) = ⟨512 * t.val + f.val, by omega⟩ := Fin.ext (Nat.mod_eq_of_lt (by omega))
  have e : iblk m c 1 t (ix2 k f) = V m c main_v6 (ix2 (n0 := 1024) (n1 := 4096) k ⟨512 * t.val + f.val, by omega⟩) := by blk_ext [iblk, at1 t]
  rw [ec]
  exact e.trans ((congrFun (entry_up m c) _).trans (second1_at _ _ _))

theorem down_at (t : Fin 8) (f : Fin 512) (k : Fin 1024) :
    iblk m c 2 t (ix2 f k) = m ((c : Thread nD τ).loc main_arg2) (ix3 (n0 := 2) (n1 := 4096) (n2 := 1024) 1 (col (512 * t.val + f.val)) k) := by
  have ec : col (512 * t.val + f.val) = ⟨512 * t.val + f.val, by omega⟩ := Fin.ext (Nat.mod_eq_of_lt (by omega))
  have e : iblk m c 2 t (ix2 f k) = V m c main_v8 (ix2 (n0 := 4096) (n1 := 1024) ⟨512 * t.val + f.val, by omega⟩ k) := by blk_ext [iblk, at2 t]
  rw [ec]
  exact e.trans ((congrFun (entry_down m c) _).trans (second2_at _ _ _))

theorem g_at (t : Fin 8) (k : Fin 1024) : iblk m c 3 t (ix2 0 k) = m ((c : Thread nD τ).loc main_arg3) (ix3 (n0 := 2) (n1 := 2) (n2 := 1024) 1 1 k) := by
  have e : iblk m c 3 t (ix2 0 k) = V m c main_v10 (ix2 (n0 := 1) (n1 := 1024) 0 k) := by blk_ext [iblk, at3 t]
  exact e.trans ((congrFun (entry_g m c) _).trans (last_at _ _))

theorem b_at (t : Fin 8) (k : Fin 1024) : iblk m c 4 t (ix2 0 k) = m ((c : Thread nD τ).loc main_arg4) (ix3 (n0 := 2) (n1 := 2) (n2 := 1024) 1 1 k) := by
  have e : iblk m c 4 t (ix2 0 k) = V m c main_v12 (ix2 (n0 := 1) (n1 := 1024) 0 k) := by blk_ext [iblk, at4 t]
  exact e.trans ((congrFun (entry_b m c) _).trans (last_at _ _))

/-- A step's addition to the accumulator, given the rows in the narrow scratch. -/
theorem part_at (t : Fin 8) (x : Vec Ideal S256x1024 .bf16) (a : Vec Ideal S256x1024 .f32) (hx : ∀ r k, x (ix2 r k) = row m c r k) (r : Fin 256) (j : Fin 1024) :
    k0_pay3 (F := Ideal) x (iblk m c 1 t) a (iblk m c 2 t) (ix2 r j) = a (ix2 r j) + ∑ f : Fin 512, term m c r j (512 * t.val + f.val) := by
  refine (step_at x (iblk m c 1 t) a (iblk m c 2 t) r j).trans (congrArg (a (ix2 r j) + ·) (Finset.sum_congr rfl fun f _ => ?_))
  rw [down_at m c t f j, show (fun k => x (ix2 r k)) = row m c r from funext fun k => hx r k,
    show (fun k => (iblk m c 1 t) (ix2 k f)) = _ from funext fun k => up_at m c t k f]
  rfl

/-- A sum over consecutive groups of 512. -/
theorem sum_groups (g : ℕ → EReal) : ∀ n : ℕ, ∑ i ∈ Finset.range (512 * n), g i = ∑ s ∈ Finset.range n, ∑ f : Fin 512, g (512 * s + f.val)
  | 0 => rfl
  | n + 1 => by
    rw [Nat.mul_succ, Finset.sum_range_add, sum_groups g n, Finset.sum_range_succ (fun s => ∑ f : Fin 512, g (512 * s + f.val)) n]
    exact congrArg (fun z => (∑ s ∈ Finset.range n, ∑ f : Fin 512, g (512 * s + f.val)) + z) (Finset.sum_range (n := 512) fun k => g (512 * n + k))

/-- The scratch after a step before the last: the sum so far, and the rows. -/
theorem held (n : ℕ) (h7 : n < 7) (hn : n < cfg0.N) :
    (∀ r j, (outsAt0 m c n hn).2.1 (ix2 r j) = ∑ s ∈ Finset.range (n + 1), ∑ f : Fin 512, term m c r j (512 * s + f.val))
      ∧ ∀ r k, (outsAt0 m c n hn).2.2 (ix2 r k) = row m c r k := by
  induction n with
  | zero =>
    have hp := outsAt0_A m c ⟨0, hn⟩ (show 0 % 8 = 0 from rfl) (show ¬0 % 8 = 7 by decide)
    dsimp only at hp
    rw [hp]
    dsimp only
    rw [sout0_A_0_eq, sout0_A_1_eq]
    have hx : ∀ r k, k0_pay1 (F := Ideal) (iblk m c 0 ⟨0, hn⟩) (ix2 r k) = row m c r k := fun r k => (narrow_at _ _ _).trans (x_at m c 0 r k)
    refine ⟨fun r j => ?_, hx⟩
    refine (part_at m c 0 _ _ hx r j).trans ?_
    rw [zero_at, zero_add, Finset.sum_range_one]
    rfl
  | succ n ih =>
    obtain ⟨ha, hx⟩ := ih (by omega) (Nat.lt_of_succ_lt hn)
    have hp := outsAt0_B m c ⟨n + 1, hn⟩ (show ¬(n + 1) % 8 = 0 by omega) (show ¬(n + 1) % 8 = 7 by omega)
    dsimp only [Nat.add_sub_cancel] at hp
    rw [hp]
    dsimp only
    rw [sout0_B_0_eq]
    refine ⟨fun r j => ?_, hx⟩
    refine (part_at m c ⟨n + 1, by omega⟩ _ _ hx r j).trans ?_
    rw [Finset.sum_range_succ, ← ha r j]
    rfl

/-- The result of the last step. -/
theorem point (n : ℕ) (hn : n < cfg0.N) (h7 : n = 7) (r : Fin 256) (j : Fin 1024) :
    (outsAt0 m c n hn).1 (ix2 r j)
      = Cert.SampleMlpReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (n0 := 256) (n1 := 1024) r j) := by
  subst h7
  have hp := outsAt0_C m c ⟨7, hn⟩ (show ¬7 % 8 = 0 by decide) (show 7 % 8 = 7 from rfl)
  dsimp only at hp
  rw [hp]
  dsimp only
  rw [out0_C_5_eq]
  obtain ⟨ha, hx⟩ := held m c 6 (by decide) (Nat.lt_of_succ_lt hn)
  refine (norm_of _ _ _ _ r j).trans ?_
  rw [result_at, show (fun k => (iblk m c 3 ⟨7, hn⟩) (ix2 0 k)) = _ from funext fun k => g_at m c 7 k,
    show (fun k => (iblk m c 4 ⟨7, hn⟩) (ix2 0 k)) = _ from funext fun k => b_at m c 7 k]
  refine congrArg (fun p => Gates.layerNorm p _ _ j) (funext fun k => ?_)
  refine congrArg₂ (· + ·) (congrArg (_ * ·) (x_at m c 7 r k)) ?_
  refine (part_at m c 7 (outsAt0 m c 6 (Nat.lt_of_succ_lt hn)).2.2 (outsAt0 m c 6 (Nat.lt_of_succ_lt hn)).2.1 hx r k).trans ?_
  rw [ha r k]
  refine (Finset.sum_range_succ (fun s => ∑ f : Fin 512, term m c r k (512 * s + f.val)) 7).symm.trans ?_
  refine (sum_groups (term m c r k) 8).symm.trans ?_
  refine (Finset.sum_range (n := 4096) (term m c r k)).trans (Finset.sum_congr rfl fun f _ => ?_)
  have ec : col f.val = f := Fin.ext (Nat.mod_eq_of_lt f.isLt)
  unfold term
  rw [ec]
  rfl

/-- The layer's output, as the kernel leaves it. -/
theorem value : (dats m 0 c).arrAt 5 cfg0.N
    = Cert.SampleMlpReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h1 : t.val % 8 = 7 := (flush0_5 t).mp hf
  have ht : t.val < 8 := t.isLt
  blk_simp
  rw [after0_5]
  obtain ⟨r, j, rfl⟩ : ∃ (a : Fin 256) (b : Fin 1024), y = ix2 a b := ⟨y 0, y 1, (ix2_eta y).symm⟩
  have he : (win0_5.blk t).view.emb (ix2 r j) = (ix2 (n0 := 256) (n1 := 1024) r j) := by blk_ext [at5 t]
  rw [he]
  exact point m c t.val t.isLt (by omega) r j

end Blocks

/-- The reference's run leaves its arguments and its semaphores as it found them. -/
theorem quiescent : quiescent_SampleMlpReferenceIdeal := fun m ρ _ =>
  (θ_run Cert.SampleMlpReferenceIdeal.defs _ _).mono (fun r h => ⟨fun c => (h c).2, sem_eq_zero_of_no_sems (by decide) r.2⟩)
    (Cert.SampleMlpReferenceIdeal.Value.run (F := Ideal) m ρ)

/-- The kernel's result is the reference's. -/
theorem algebraic : algebraic_SampleMlpIdeal_SampleMlpReferenceIdeal := by
  intro m ρ m' ρ' _ hagree
  refine ⟨fun c => Cert.SampleMlpReferenceIdeal.Read.val_main_v39 (F := Ideal) (m ((c.tc : Thread Cert.SampleMlpIdeal.nD Cert.SampleMlpIdeal.τ).loc Cert.SampleMlpIdeal.main_arg0)) (m ((c.tc : Thread Cert.SampleMlpIdeal.nD Cert.SampleMlpIdeal.τ).loc Cert.SampleMlpIdeal.main_arg1)) (m ((c.tc : Thread Cert.SampleMlpIdeal.nD Cert.SampleMlpIdeal.τ).loc Cert.SampleMlpIdeal.main_arg2)) (m ((c.tc : Thread Cert.SampleMlpIdeal.nD Cert.SampleMlpIdeal.τ).loc Cert.SampleMlpIdeal.main_arg3)) (m ((c.tc : Thread Cert.SampleMlpIdeal.nD Cert.SampleMlpIdeal.τ).loc Cert.SampleMlpIdeal.main_arg4)), ?_, ?_⟩
  · exact (θ_run Cert.SampleMlpIdeal.defs _ _).mono (fun _ h c => ⟨(h c).1.trans (value m c), (h c).2⟩) (Cert.SampleMlpIdeal.Value.run_blocks (F := Ideal) m ρ)
  · refine (θ_run Cert.SampleMlpReferenceIdeal.defs _ _).mono (fun _ h c => ⟨?_, (h c).2⟩) (Cert.SampleMlpReferenceIdeal.Value.run (F := Ideal) m' ρ')
    obtain ⟨e0, e1, e2, e3, e4⟩ := hagree c
    refine ((h c).1.trans (Cert.SampleMlpReferenceIdeal.Read.val_main_v39_eq m' c)).trans ?_
    change Cert.SampleMlpReferenceIdeal.Read.val_main_v39 (F := Ideal) (m' ((c.tc : Thread Cert.SampleMlpReferenceIdeal.nD Cert.SampleMlpReferenceIdeal.τ).loc Cert.SampleMlpReferenceIdeal.main_arg0)) (m' ((c.tc : Thread Cert.SampleMlpReferenceIdeal.nD Cert.SampleMlpReferenceIdeal.τ).loc Cert.SampleMlpReferenceIdeal.main_arg1)) (m' ((c.tc : Thread Cert.SampleMlpReferenceIdeal.nD Cert.SampleMlpReferenceIdeal.τ).loc Cert.SampleMlpReferenceIdeal.main_arg2)) (m' ((c.tc : Thread Cert.SampleMlpReferenceIdeal.nD Cert.SampleMlpReferenceIdeal.τ).loc Cert.SampleMlpReferenceIdeal.main_arg3)) (m' ((c.tc : Thread Cert.SampleMlpReferenceIdeal.nD Cert.SampleMlpReferenceIdeal.τ).loc Cert.SampleMlpReferenceIdeal.main_arg4)) = _
    rw [e0, e1, e2, e3, e4]

end Cert.SampleFeedForward

end
-- ==== Proof.SampleKeys.lean ====
module

public import proofs.«01_k».proof.Defs
public import proofs.«01_k».proof.Proof.SharedKeys
public import proofs.«01_k».proof.Proof.Gen.SampleQkvIdeal.Value
public import proofs.«01_k».proof.Proof.Gen.SampleQkvReferenceIdeal.Run
public import proofs.«01_k».proof.Proof.Gen.SampleQkvReferenceIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.SampleKeys

open Idealize.ShloMosaic Idealize.ShloMosaic.TcCoe Idealize.SL.Sem
open SharedKeys (dot_congr)

section Stores

open Cert.SampleQkvIdeal Cert.SampleQkvIdeal.Gen

variable (x0 : Vec Ideal S256x1024 .f32) (x1 : Vec Ideal S1024x1024 .bf16) (x2 : Vec Ideal S1024x2048 .bf16)

/-- A step's queries: rows times the columns of the query weights. -/
theorem q_at (r : Fin 256) (j : Fin 1024) : out0_3 (F := Ideal) x0 x1 x2 (ix2 r j) = ∑ k : Fin 1024, x0 (ix2 r k) * x1 (ix2 k j) := by
  unfold_out out0_3
  canon_tiles x h
  all_goals
    have e0 : r.val = _ := h0
    have e1 : j.val = _ := h1
    open_payloads
    pointwise
    exact dot_congr x0 _ (by show (x 0).val = _; omega) (by simp only []; omega)

/-- A step's keys: rows times the first 1024 columns of the shared weights. -/
theorem k_at (r : Fin 256) (j : Fin 1024) :
    out0_4 (F := Ideal) x0 x1 x2 (ix2 r j) = ∑ k : Fin 1024, x0 (ix2 r k) * x2 (ix2 k ⟨j.val, Nat.lt_of_lt_of_le j.isLt (Nat.le_of_ble_eq_true rfl)⟩) := by
  unfold_out out0_4
  canon_tiles x h
  all_goals
    have e0 : r.val = _ := h0
    have e1 : j.val = _ := h1
    open_payloads
    pointwise
    exact dot_congr x0 _ (by show (x 0).val = _; omega) (by simp only []; omega)

/-- A step's values: rows times the last 1024 columns of the shared weights. -/
theorem v_at (r : Fin 256) (j : Fin 1024) :
    out0_5 (F := Ideal) x0 x1 x2 (ix2 r j) = ∑ k : Fin 1024, x0 (ix2 r k) * x2 (ix2 k ⟨1024 + j.val, by omega⟩) := by
  unfold_out out0_5
  canon_tiles x h
  all_goals
    have e0 : r.val = _ := h0
    have e1 : j.val = _ := h1
    open_payloads
    pointwise
    exact dot_congr x0 _ (by show (x 0).val = _; omega) (by simp only []; omega)

end Stores

section Reference

open Cert.SampleQkvReferenceIdeal Cert.SampleQkvReferenceIdeal.Read

variable (x0 : (⟨S32x8x1024, .f32⟩ : BufTy).Contents (Elt Ideal)) (x1 : (⟨S1x1024x1024, .f32⟩ : BufTy).Contents (Elt Ideal))
  (x2 : (⟨S1024x2048, .f32⟩ : BufTy).Contents (Elt Ideal))

/-- The reference's queries. -/
theorem ref_q_at (r : Fin 256) (j : Fin 1024) :
    val_main_v4 (F := Ideal) x0 x1 (ix2 r j) = ∑ k : Fin 1024, x0 (ix3 ⟨r.val / 8, by omega⟩ ⟨r.val % 8, by omega⟩ k) * x1 (ix3 0 k j) := by
  pointwise [val_main_v4, val_main_v3, val_main_v2, val_main_v1]

/-- The reference's keys. -/
theorem ref_k_at (r : Fin 256) (j : Fin 1024) :
    val_main_v6 (F := Ideal) x0 x2 (ix2 r j)
      = ∑ k : Fin 1024, x0 (ix3 ⟨r.val / 8, by omega⟩ ⟨r.val % 8, by omega⟩ k) * x2 (ix2 k ⟨j.val, Nat.lt_of_lt_of_le j.isLt (Nat.le_of_ble_eq_true rfl)⟩) := by
  pointwise [val_main_v6, val_main_v5, val_main_v0]

/-- The reference's values. -/
theorem ref_v_at (r : Fin 256) (j : Fin 1024) :
    val_main_v8 (F := Ideal) x0 x2 (ix2 r j) = ∑ k : Fin 1024, x0 (ix3 ⟨r.val / 8, by omega⟩ ⟨r.val % 8, by omega⟩ k) * x2 (ix2 k ⟨1024 + j.val, by omega⟩) := by
  pointwise [val_main_v8, val_main_v7, val_main_v0]

end Reference

/-! ## The host's arrays, a step's blocks, and the arrays the kernel leaves -/

section Values

open Cert.SampleQkvIdeal Cert.SampleQkvIdeal.Gen

theorem rows_shape (x : (⟨S32x8x1024, .f32⟩ : BufTy).Contents (Elt Ideal)) (r : Fin 256) (j : Fin 1024) :
    shapeCast S256x1024 x shapeCasts_S32x8x1024_S256x1024 (ix2 r j) = x (ix3 ⟨r.val / 8, by omega⟩ ⟨r.val % 8, by omega⟩ j) := by
  pointwise

/-- The query weights, as the host hands them over. -/
def queryWeights (x : (⟨S1x1024x1024, .f32⟩ : BufTy).Contents (Elt Ideal)) : (⟨S1024x1024, .bf16⟩ : BufTy).Contents (Elt Ideal) :=
  truncf (F := Ideal) .bf16 (shapeCast S1024x1024 x shapeCasts_S1x1024x1024_S1024x1024) bitsLt_bf16_f32

theorem queryWeights_at (x : (⟨S1x1024x1024, .f32⟩ : BufTy).Contents (Elt Ideal)) (k j : Fin 1024) : queryWeights x (ix2 k j) = x (ix3 0 k j) := by
  pointwise [queryWeights]

variable (m : (ℓ : Loc nD τ sig) → Buf (Elt Ideal) ℓ) (c : Dev nD)

theorem entry_x : V m c main_v3 = shapeCast S256x1024 (m ((c : Thread nD τ).loc main_arg0)) shapeCasts_S32x8x1024_S256x1024 := by
  simp only [V, hostOps0]
  after_results_simp
  rfl

theorem entry_q : V m c main_v1 = queryWeights (m ((c : Thread nD τ).loc main_arg1)) := by
  simp only [V, hostOps0]
  after_results_simp
  rfl

theorem entry_kv : V m c main_v2 = (truncf (F := Ideal) .bf16 ((m ((c : Thread nD τ).loc main_arg2)) : (⟨S1024x2048, .f32⟩ : BufTy).Contents (Elt Ideal)) bitsLt_bf16_f32 : (⟨S1024x2048, .bf16⟩ : BufTy).Contents (Elt Ideal)) := by
  simp only [V, hostOps0]
  after_results_simp

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel

/-- A step's rows, whose batch and position are given. -/
theorem x_at (t : Fin 1) (r : Fin 256) (k : Fin 1024) (b : Fin 32) (s : Fin 8) (hb : b.val = (r.val) / 8) (hs : s.val = (r.val) % 8) :
    iblk m c 0 t (ix2 r k) = m ((c : Thread nD τ).loc main_arg0) (ix3 (n0 := 32) (n1 := 8) (n2 := 1024) b s k) := by
  obtain ⟨b, hb'⟩ := b
  obtain ⟨s, hs'⟩ := s
  subst hb hs
  have e : iblk m c 0 t (ix2 r k) = V m c main_v3 (ix2 (n0 := 256) (n1 := 1024) r k) := by blk_ext [iblk, at0 t]
  refine e.trans ((congrFun (entry_x m c) _).trans ((rows_shape _ _ _).trans ?_))
  rfl

theorem wq_at (t : Fin 1) (k j : Fin 1024) : iblk m c 1 t (ix2 k j) = m ((c : Thread nD τ).loc main_arg1) (ix3 (n0 := 1) (n1 := 1024) (n2 := 1024) 0 k j) := by
  have e : iblk m c 1 t (ix2 k j) = V m c main_v1 (ix2 (n0 := 1024) (n1 := 1024) k j) := by blk_ext [iblk, at1 t]
  exact e.trans ((congrFun (entry_q m c) _).trans (queryWeights_at _ _ _))

theorem wkv_at (t : Fin 1) (k : Fin 1024) (j : Fin 2048) : iblk m c 2 t (ix2 k j) = m ((c : Thread nD τ).loc main_arg2) (ix2 (n0 := 1024) (n1 := 2048) k j) := by
  have e : iblk m c 2 t (ix2 k j) = V m c main_v2 (ix2 (n0 := 1024) (n1 := 2048) k j) := by blk_ext [iblk, at2 t]
  exact e.trans (congrFun (entry_kv m c) _)

/-- The queries, as the kernel leaves them. -/
theorem q_point (t : Fin 1) (r : Fin 256) (j : Fin 1024) :
    out0_3 (F := Ideal) (iblk m c 0 t) (iblk m c 1 t) (iblk m c 2 t) (ix2 r j)
      = Cert.SampleQkvReferenceIdeal.Read.val_main_v4 (F := Ideal) (m ((c : Thread nD τ).loc main_arg0)) (m ((c : Thread nD τ).loc main_arg1)) (ix2 (n0 := 256) (n1 := 1024) r j) := by
  refine (q_at (iblk m c 0 t) (iblk m c 1 t) (iblk m c 2 t) r j).trans (Eq.trans ?_ (ref_q_at _ _ _ _).symm)
  refine Finset.sum_congr rfl fun k _ => ?_
  rw [x_at m c t r k ⟨(r.val) / 8, by omega⟩ ⟨(r.val) % 8, by omega⟩ rfl rfl, wq_at m c t]

/-- The queries, as the kernel leaves them. -/
theorem q_value : (dats m 0 c).arrAt 3 cfg0.N = Cert.SampleQkvReferenceIdeal.Read.val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  obtain ⟨r, j, rfl⟩ : ∃ (a : Fin 256) (b : Fin 1024), y = ix2 a b := ⟨y 0, y 1, (ix2_eta y).symm⟩
  have ht : t.val < 1 := t.isLt
  have he : (win0_3.blk t).view.emb (ix2 r j) = (ix2 (n0 := 256) (n1 := 1024) r j) := by blk_ext [at3 t]
  rw [he]
  exact q_point m c t r j

/-- The keys, as the kernel leaves them. -/
theorem k_point (t : Fin 1) (r : Fin 256) (j : Fin 1024) :
    out0_4 (F := Ideal) (iblk m c 0 t) (iblk m c 1 t) (iblk m c 2 t) (ix2 r j)
      = Cert.SampleQkvReferenceIdeal.Read.val_main_v6 (F := Ideal) (m ((c : Thread nD τ).loc main_arg0)) (m ((c : Thread nD τ).loc main_arg2)) (ix2 (n0 := 256) (n1 := 1024) r j) := by
  refine (k_at (iblk m c 0 t) (iblk m c 1 t) (iblk m c 2 t) r j).trans (Eq.trans ?_ (ref_k_at _ _ _ _).symm)
  refine Finset.sum_congr rfl fun k _ => ?_
  rw [x_at m c t r k ⟨(r.val) / 8, by omega⟩ ⟨(r.val) % 8, by omega⟩ rfl rfl, wkv_at m c t]

/-- The keys, as the kernel leaves them. -/
theorem k_value : (dats m 0 c).arrAt 4 cfg0.N = Cert.SampleQkvReferenceIdeal.Read.val_main_v6 (F := Ideal) (m ((c : Thread nD τ).loc main_arg0)) (m ((c : Thread nD τ).loc main_arg2)) := by
  refine (dats m 0 c).arrAt_eq_of_covers 4 _ (by decide +kernel) fun t _ y => ?_
  blk_simp
  rw [after0_4]
  obtain ⟨r, j, rfl⟩ : ∃ (a : Fin 256) (b : Fin 1024), y = ix2 a b := ⟨y 0, y 1, (ix2_eta y).symm⟩
  have ht : t.val < 1 := t.isLt
  have he : (win0_4.blk t).view.emb (ix2 r j) = (ix2 (n0 := 256) (n1 := 1024) r j) := by blk_ext [at4 t]
  rw [he]
  exact k_point m c t r j

/-- The values, as the kernel leaves them. -/
theorem v_point (t : Fin 1) (r : Fin 256) (j : Fin 1024) :
    out0_5 (F := Ideal) (iblk m c 0 t) (iblk m c 1 t) (iblk m c 2 t) (ix2 r j)
      = Cert.SampleQkvReferenceIdeal.Read.val_main_v8 (F := Ideal) (m ((c : Thread nD τ).loc main_arg0)) (m ((c : Thread nD τ).loc main_arg2)) (ix2 (n0 := 256) (n1 := 1024) r j) := by
  refine (v_at (iblk m c 0 t) (iblk m c 1 t) (iblk m c 2 t) r j).trans (Eq.trans ?_ (ref_v_at _ _ _ _).symm)
  refine Finset.sum_congr rfl fun k _ => ?_
  rw [x_at m c t r k ⟨(r.val) / 8, by omega⟩ ⟨(r.val) % 8, by omega⟩ rfl rfl, wkv_at m c t]

/-- The values, as the kernel leaves them. -/
theorem v_value : (dats m 0 c).arrAt 5 cfg0.N = Cert.SampleQkvReferenceIdeal.Read.val_main_v8 (F := Ideal) (m ((c : Thread nD τ).loc main_arg0)) (m ((c : Thread nD τ).loc main_arg2)) := by
  refine (dats m 0 c).arrAt_eq_of_covers 5 _ (by decide +kernel) fun t _ y => ?_
  blk_simp
  rw [after0_5]
  obtain ⟨r, j, rfl⟩ : ∃ (a : Fin 256) (b : Fin 1024), y = ix2 a b := ⟨y 0, y 1, (ix2_eta y).symm⟩
  have ht : t.val < 1 := t.isLt
  have he : (win0_5.blk t).view.emb (ix2 r j) = (ix2 (n0 := 256) (n1 := 1024) r j) := by blk_ext [at5 t]
  rw [he]
  exact v_point m c t r j

end Values

/-- The reference's run leaves its arguments and its semaphores as it found them. -/
theorem quiescent : quiescent_SampleQkvReferenceIdeal := fun m ρ _ =>
  (θ_run Cert.SampleQkvReferenceIdeal.defs _ _).mono (fun r h => ⟨fun c => (h c).2.2.2, sem_eq_zero_of_no_sems (by decide) r.2⟩)
    (Cert.SampleQkvReferenceIdeal.Value.run (F := Ideal) m ρ)

/-- The kernel's three results are the reference's. -/
theorem algebraic : algebraic_SampleQkvIdeal_SampleQkvReferenceIdeal := by
  intro m ρ m' ρ' _ hagree
  refine ⟨fun c => Cert.SampleQkvReferenceIdeal.Read.val_main_v4 (F := Ideal) (m ((c.tc : Thread Cert.SampleQkvIdeal.nD Cert.SampleQkvIdeal.τ).loc Cert.SampleQkvIdeal.main_arg0)) (m ((c.tc : Thread Cert.SampleQkvIdeal.nD Cert.SampleQkvIdeal.τ).loc Cert.SampleQkvIdeal.main_arg1)),
    fun c => Cert.SampleQkvReferenceIdeal.Read.val_main_v6 (F := Ideal) (m ((c.tc : Thread Cert.SampleQkvIdeal.nD Cert.SampleQkvIdeal.τ).loc Cert.SampleQkvIdeal.main_arg0)) (m ((c.tc : Thread Cert.SampleQkvIdeal.nD Cert.SampleQkvIdeal.τ).loc Cert.SampleQkvIdeal.main_arg2)),
    fun c => Cert.SampleQkvReferenceIdeal.Read.val_main_v8 (F := Ideal) (m ((c.tc : Thread Cert.SampleQkvIdeal.nD Cert.SampleQkvIdeal.τ).loc Cert.SampleQkvIdeal.main_arg0)) (m ((c.tc : Thread Cert.SampleQkvIdeal.nD Cert.SampleQkvIdeal.τ).loc Cert.SampleQkvIdeal.main_arg2)), ?_, ?_⟩
  · exact (θ_run Cert.SampleQkvIdeal.defs _ _).mono (fun _ h c => ⟨(h c).1.trans (q_value m c), (h c).2.1.trans (k_value m c), (h c).2.2.1.trans (v_value m c), (h c).2.2.2.2.2.2⟩)
      (Cert.SampleQkvIdeal.Value.run_blocks (F := Ideal) m ρ)
  · refine (θ_run Cert.SampleQkvReferenceIdeal.defs _ _).mono (fun _ h c => ⟨?_, ?_, ?_, (h c).2.2.2⟩) (Cert.SampleQkvReferenceIdeal.Value.run (F := Ideal) m' ρ')
    all_goals obtain ⟨e0, e1, e2⟩ := hagree c
    · refine ((h c).1.trans (Cert.SampleQkvReferenceIdeal.Read.val_main_v4_eq _ _)).trans ?_
      rw [e0, e1]
    · refine ((h c).2.1.trans (Cert.SampleQkvReferenceIdeal.Read.val_main_v6_eq _ _)).trans ?_
      rw [e0, e2]
    · refine ((h c).2.2.1.trans (Cert.SampleQkvReferenceIdeal.Read.val_main_v8_eq _ _)).trans ?_
      rw [e0, e2]

end Cert.SampleKeys

end
-- ==== Proof.Projections.lean ====
module

public import proofs.«01_k».proof.Defs
public import proofs.«01_k».proof.Proof.Gates
public import proofs.«01_k».proof.Proof.SharedKeys
public import proofs.«01_k».proof.Proof.Gen.Pre_gate_inputs_finite
public import proofs.«01_k».proof.Proof.Gen.ProjIdeal.Value
public import proofs.«01_k».proof.Proof.Gen.ProjReferenceIdeal.Run
public import proofs.«01_k».proof.Proof.Gen.ProjReferenceIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.Projections

open Idealize.ShloMosaic Idealize.ShloMosaic.TcCoe Idealize.SL.Sem
open SharedKeys (dot_congr)

/-- The logarithm of the sigmoid, as the kernel forms it. -/
def logSigmoid (x : EReal) : EReal := min x 0 - Ideal.log1p (Ideal.exp (0 - max x (-x)))

section Stores

open Cert.ProjIdeal Cert.ProjIdeal.Gen

variable (x0 : Vec Ideal S1024x1024 .f32) (x1 : Vec Ideal S1024x3088 .bf16) (x2 : Vec Ideal S1024x128 .f32) (x3 : Vec Ideal S1x128 .f32)

/-- A step's queries beside its values. -/
theorem qv_at (r : Fin 1024) (j : Fin 1536) :
    out0_4 (F := Ideal) x0 x1 x2 x3 (ix2 r j)
      = ∑ k : Fin 1024, x0 (ix2 r k) * x1 (ix2 k ⟨if j.val < 512 then j.val else 512 + j.val, by split_ifs <;> omega⟩) := by
  unfold_out out0_4
  canon_tiles x h
  all_goals
    have e0 : r.val = _ := h0
    have e1 : j.val = _ := h1
    open_payloads
    pointwise
    exact dot_congr x0 _ (by show (x 0).val = _; omega) (by simp only []; split_ifs <;> omega)

/-- A step's keys, tokens last. -/
theorem kt_at (j : Fin 512) (r : Fin 1024) :
    out0_5 (F := Ideal) x0 x1 x2 x3 (ix2 j r)
      = (∑ k : Fin 1024, x0 (ix2 r k) * x1 (ix2 k ⟨512 + j.val, by omega⟩)) * Ideal.ofBits .f32 0x3E000000#32 := by
  unfold_out out0_5
  canon_tiles x h
  all_goals
    have e0 : j.val = _ := h0
    have e1 : r.val = _ := h1
    open_payloads
    pointwise
    refine congrArg (· * _) ?_
    exact dot_congr x0 _ (by show (x 1).val = _; omega) (by simp only []; omega)

/-- A step's output gates. -/
theorem o_at (r : Fin 1024) (j : Fin 1024) :
    out0_6 (F := Ideal) x0 x1 x2 x3 (ix2 r j) = ∑ k : Fin 1024, x0 (ix2 r k) * x1 (ix2 k ⟨2048 + j.val, by omega⟩) := by
  unfold_out out0_6
  canon_tiles x h
  all_goals
    have e0 : r.val = _ := h0
    have e1 : j.val = _ := h1
    open_payloads
    pointwise
    exact dot_congr x0 _ (by show (x 0).val = _; omega) (by simp only []; omega)

end Stores

section Gate

open Cert.ProjIdeal Cert.ProjIdeal.Gen

variable (x0 : Vec Ideal S1024x1024 .f32) (x1 : Vec Ideal S1024x3088 .bf16) (x2 : Vec Ideal S1024x128 .f32) (x3 : Vec Ideal S1x128 .f32)

/-- A gate before its nonlinearity. -/
def gate (r : Fin 1024) (l : Fin 128) : EReal := (∑ k : Fin 1024, x0 (ix2 r k) * x2 (ix2 k l)) + x3 (ix2 0 l)

/-- The kernel splits rows and weights in a narrow part and a rest, and the rest is zero. -/
theorem pay13_at (hx : ∀ r k, Gates.Real? (x0 (ix2 r k))) (hw : ∀ k l, Gates.Real? (x2 (ix2 k l))) (r : Fin 1024) (l : Fin 128) :
    k0_pay13 (F := Ideal) (k0_pay5 x0) (k0_pay6 x0) x2 x3 (ix2 r l) = gate x0 x2 x3 r l := by
  have e : k0_pay13 (F := Ideal) (k0_pay5 x0) (k0_pay6 x0) x2 x3 (ix2 r l)
      = ((∑ k : Fin 1024, x0 (ix2 r k) * x2 (ix2 k l)) + (∑ k : Fin 1024, (x0 (ix2 r k) - x0 (ix2 r k)) * x2 (ix2 k l)))
        + (∑ k : Fin 1024, x0 (ix2 r k) * (x2 (ix2 k l) - x2 (ix2 k l))) + x3 (ix2 0 l) := by
    pointwise [k0_pay13, k0_pay5, k0_pay6]
  rw [e]
  have z1 : (∑ k : Fin 1024, (x0 (ix2 r k) - x0 (ix2 r k)) * x2 (ix2 k l)) = 0 :=
    Finset.sum_eq_zero fun k _ => by rw [(hx r k).sub_self, zero_mul]
  have z2 : (∑ k : Fin 1024, x0 (ix2 r k) * (x2 (ix2 k l) - x2 (ix2 k l))) = 0 :=
    Finset.sum_eq_zero fun k _ => by rw [(hw k l).sub_self, mul_zero]
  rw [z1, z2, add_zero, add_zero]
  rfl

theorem lane_lt8 : ∀ l : Fin 128, IntOp.cmpi .slt (BitVec.ofNat 32 l.val) 8#32 = BitVec.ofBool (decide (l.val < 8)) := by decide

theorem lane_lt16 : ∀ l : Fin 128, IntOp.cmpi .slt (BitVec.ofNat 32 l.val) 16#32 = BitVec.ofBool (decide (l.val < 16)) := by decide

theorem select_ofBool (p : Prop) [Decidable p] (a b : EReal) : Scalar.select (BitVec.ofBool (decide p)) a b = if p then a else b := by
  by_cases h : p <;> simp [h, Scalar.select]

theorem pay14_at (v1 : FVec Ideal S1024x1024 .f32) (v2 : FVec Ideal S1024x1024 .bf16) (r : Fin 1024) (l : Fin 128) :
    k0_pay14 (F := Ideal) v1 v2 x2 x3 (ix2 r l) = logSigmoid (k0_pay13 (F := Ideal) v1 v2 x2 x3 (ix2 r l)) := by
  pointwise [k0_pay14, logSigmoid]
  rfl

theorem pay15_at (v1 : FVec Ideal S1024x1024 .f32) (v2 : FVec Ideal S1024x1024 .bf16) (r : Fin 1024) (l : Fin 128) :
    k0_pay15 (F := Ideal) v1 v2 x2 x3 (ix2 r l) = if l.val < 8 then k0_pay13 (F := Ideal) v1 v2 x2 x3 (ix2 r l) else 0 := by
  pointwise [k0_pay15]
  rw [lane_lt8 l, select_ofBool]

theorem pay16_at (v60 : FVec Ideal S1024x128 .f32) (r : Fin 1024) (l : Fin 128) :
    k0_pay16 (F := Ideal) (iota .tc S1024x128 32 [1] iota_S1024x128_d1_w32) v60 (ix2 r l)
      = if h : l.val < 8 then v60 (ix2 r ⟨8 + l.val, by omega⟩) else 0 := by
  pointwise [k0_pay16]
  rw [lane_lt8 l, select_ofBool]
  by_cases h : l.val < 8
  · rw [if_pos h, dif_pos h]
    exact congrArg (fun q : Fin 128 => v60 (ix2 r q)) (Fin.ext (by simp only []; omega))
  · rw [if_neg h, dif_neg h]

theorem pay17_at (v51 v60 : FVec Ideal S1024x128 .f32) (l : Fin 128) (r : Fin 1024) :
    k0_pay17 (F := Ideal) v51 (iota .tc S1024x128 32 [1] iota_S1024x128_d1_w32) v60 (ix2 l r)
      = if l.val < 8 then v51 (ix2 r l) else if l.val < 16 then v60 (ix2 r l) else 0 := by
  pointwise [k0_pay17]
  rw [lane_lt8 l, lane_lt16 l, select_ofBool, select_ofBool]

theorem ld_rows : View.ld x0 r0_0 = x0 := View.ld_unit_zero (by decide) _ x0
theorem ld_gates : View.ld x2 r0_13 = x2 := View.ld_unit_zero (by decide) _ x2
theorem ld_bias : View.ld x3 r0_14 = x3 := View.ld_unit_zero (by decide) _ x3

theorem ix2_congr {a b : ℕ} {i i' : Fin a} {j j' : Fin b} (hi : i.val = i'.val) (hj : j.val = j'.val) : ix2 i j = ix2 i' j' := by
  rw [Fin.ext hi, Fin.ext hj]

/-- A step's input gates, padded with zeros. -/
theorem gi_at (hx : ∀ r k, Gates.Real? (x0 (ix2 r k))) (hw : ∀ k l, Gates.Real? (x2 (ix2 k l))) (r : Fin 1024) (l : Fin 128) :
    out0_7 (F := Ideal) x0 x1 x2 x3 (ix2 r l) = if l.val < 8 then gate x0 x2 x3 r l else 0 := by
  rw [← pay13_at x0 x2 x3 hx hw, ← pay15_at]
  unfold_out out0_7
  canon_tiles x h
  all_goals
    have e0 : r.val = _ := h0
    have e1 : l.val = _ := h1
    rw [ld_rows, ld_gates, ld_bias]
    exact congrArg _ (funext fun a => by match a with | ⟨0, _⟩ => exact Fin.ext h0.symm | ⟨1, _⟩ => exact Fin.ext h1.symm)

/-- A step's logarithms of the forget gates, padded with zeros. -/
theorem gf_at (hx : ∀ r k, Gates.Real? (x0 (ix2 r k))) (hw : ∀ k l, Gates.Real? (x2 (ix2 k l))) (r : Fin 1024) (l : Fin 128) :
    out0_8 (F := Ideal) x0 x1 x2 x3 (ix2 r l) = if h : l.val < 8 then logSigmoid (gate x0 x2 x3 r ⟨8 + l.val, by omega⟩) else 0 := by
  simp only [← pay13_at x0 x2 x3 hx hw, ← pay14_at, ← pay16_at]
  unfold_out out0_8
  canon_tiles x h
  all_goals
    have e0 : r.val = _ := h0
    have e1 : l.val = _ := h1
    rw [ld_rows, ld_gates, ld_bias]
    exact congrArg _ (funext fun a => by match a with | ⟨0, _⟩ => exact Fin.ext h0.symm | ⟨1, _⟩ => exact Fin.ext h1.symm)

/-- A step's gates by chunks, tokens last. -/
theorem gt_at (hx : ∀ r k, Gates.Real? (x0 (ix2 r k))) (hw : ∀ k l, Gates.Real? (x2 (ix2 k l))) (c : Fin 8) (l : Fin 16) (s : Fin 128) :
    out0_9 (F := Ideal) x0 x1 x2 x3 (ix3 c l s)
      = if l.val < 8 then gate x0 x2 x3 ⟨128 * c.val + s.val, by omega⟩ ⟨l.val, by omega⟩
        else logSigmoid (gate x0 x2 x3 ⟨128 * c.val + s.val, by omega⟩ ⟨l.val, by omega⟩) := by
  have e : k0_pay17 (F := Ideal) (k0_pay13 (k0_pay5 x0) (k0_pay6 x0) x2 x3) (iota .tc S1024x128 32 [1] iota_S1024x128_d1_w32)
        (k0_pay14 (k0_pay5 x0) (k0_pay6 x0) x2 x3) (ix2 ⟨l.val, by omega⟩ ⟨128 * c.val + s.val, by omega⟩)
      = if l.val < 8 then gate x0 x2 x3 ⟨128 * c.val + s.val, by omega⟩ ⟨l.val, by omega⟩
        else logSigmoid (gate x0 x2 x3 ⟨128 * c.val + s.val, by omega⟩ ⟨l.val, by omega⟩) := by
    rw [pay17_at, pay14_at, pay13_at x0 x2 x3 hx hw]
    rw [if_pos (show ((⟨l.val, by omega⟩ : Fin 128)).val < 16 from l.isLt)]
  rw [← e]
  unfold_out out0_9
  canon_tiles x h
  all_goals
    have e0 : c.val = _ := h0
    have e1 : l.val = _ := h1
    have e2 : s.val = _ := h2
    rw [ld_rows, ld_gates, ld_bias]
    generalize k0_pay13 (F := Ideal) (k0_pay5 x0) (k0_pay6 x0) x2 x3 = u
    generalize k0_pay14 (F := Ideal) (k0_pay5 x0) (k0_pay6 x0) x2 x3 = w
    simp only [k0_pay1, k0_pay2, k0_pay3, k0_pay4, k0_pay18, k0_pay19, k0_pay20, k0_pay21, k0_pay22]
    generalize k0_pay17 (F := Ideal) u (iota .tc S1024x128 32 [1] iota_S1024x128_d1_w32) w = v
    pointwise
    exact congrArg v (ix2_congr (by simp only []; omega) (by simp only []; omega))

end Gate

section LogSigmoid

theorem exp_nonneg (x : EReal) : 0 ≤ Ideal.exp x := by
  induction x with
  | bot => exact le_refl _
  | coe r => exact EReal.coe_nonneg.mpr (Real.exp_pos r).le
  | top => exact le_top

theorem log1p_ne_bot (x : EReal) (hx : 0 ≤ x) : Ideal.log1p x ≠ ⊥ := by
  induction x with
  | bot => simp at hx
  | top =>
    unfold Ideal.log1p
    rw [show (1 : EReal) + ⊤ = ⊤ from EReal.add_top_of_ne_bot (EReal.coe_ne_bot 1)]
    show (⊤ : EReal) ≠ ⊥
    simp
  | coe r =>
    have hr : 0 ≤ r := EReal.coe_nonneg.mp hx
    unfold Ideal.log1p
    rw [show (1 : EReal) + (r : EReal) = ((1 + r : ℝ) : EReal) by rw [EReal.coe_add]; rfl]
    show (if 1 + r ≤ 0 then (⊥ : EReal) else (Real.log (1 + r) : EReal)) ≠ ⊥
    rw [if_neg (by linarith)]
    exact EReal.coe_ne_bot _

theorem sitofp_zero : (FloatOps.sitofp FTy.f32 0#32 : Ideal .f32) = (0 : EReal) := by
  show (((0#32 : BitVec 32).toInt : ℝ) : EReal) = 0
  simp

/-- The reference's way to write the logarithm of the sigmoid is the kernel's. -/
theorem logSigmoid_eq (x : EReal) : -(max (-x) 0 + Ideal.log1p (Ideal.exp (-(max (-x) (- -x))))) = logSigmoid x := by
  have hm : max (-x) 0 ≠ ⊥ := fun h => absurd ((le_max_right (-x) 0).trans h.le) (by simp)
  have hl := log1p_ne_bot _ (exp_nonneg (-(max (-x) (- -x))))
  rw [EReal.neg_add (Or.inl hm) (Or.inr hl)]
  unfold logSigmoid
  rw [neg_neg, zero_sub, max_comm x (-x)]
  refine congrArg (· - _) ?_
  rcases le_total x 0 with h | h
  · rw [min_eq_left h, max_eq_left (by simpa using EReal.neg_le_neg_iff.mpr h), neg_neg]
  · rw [min_eq_right h, max_eq_right (by simpa using EReal.neg_le_neg_iff.mpr h), neg_zero]

end LogSigmoid

section Reference

open Cert.ProjReferenceIdeal Cert.ProjReferenceIdeal.Read

variable (x0 : (⟨S8x2048x1024, .f32⟩ : BufTy).Contents (Elt Ideal)) (x1 : (⟨S1x1024x3088, .f32⟩ : BufTy).Contents (Elt Ideal))
  (x2 : (⟨S1x16, .f32⟩ : BufTy).Contents (Elt Ideal))

/-- A product of the projection. -/
def proj (r : Fin 16384) (j : Fin 3088) : EReal :=
  ∑ k : Fin 1024, x0 (ix3 ⟨r.val / 2048, by omega⟩ ⟨r.val % 2048, by omega⟩ k) * x1 (ix3 0 k j)

theorem proj_at (r : Fin 16384) (j : Fin 3088) : val_main_v2 (F := Ideal) x0 x1 (ix2 r j) = proj x0 x1 r j := by
  pointwise [val_main_v2, val_main_v0, val_main_v1, proj]

theorem ref_qv_at (r : Fin 16384) (j : Fin 1536) :
    val_main_v20 (F := Ideal) x0 x1 (ix2 r j) = proj x0 x1 r ⟨if j.val < 512 then j.val else 512 + j.val, by split_ifs <;> omega⟩ := by
  rw [← proj_at]
  pointwise [val_main_v20, val_main_v19, val_main_v3, val_main_v5]
  by_cases h : j.val < 512
  · simp only [dif_pos h, if_pos h]
  · simp only [dif_neg h, if_neg h, show 1024 + (j.val - 512) = 512 + j.val by omega]

theorem ref_kt_at (j : Fin 512) (r : Fin 16384) :
    val_main_v22 (F := Ideal) x0 x1 (ix2 j r) = proj x0 x1 r ⟨512 + j.val, by omega⟩ * Ideal.ofBits .f32 0x3E000000#32 := by
  rw [← proj_at]
  pointwise [val_main_v22, val_main_v21, val_main_v9, val_main_v4, val_main_v8, val_main_cst]

theorem ref_o_at (r : Fin 16384) (j : Fin 1024) : val_main_v6 (F := Ideal) x0 x1 (ix2 r j) = proj x0 x1 r ⟨2048 + j.val, by omega⟩ := by
  rw [← proj_at]
  pointwise [val_main_v6]

/-- A gate before its nonlinearity. -/
def refGate (r : Fin 16384) (l : Fin 16) : EReal := proj x0 x1 r ⟨3072 + l.val, by omega⟩ + x2 (ix2 0 l)

theorem ref_gate_at (r : Fin 16384) (l : Fin 16) : val_main_v13 (F := Ideal) x0 x1 x2 (ix2 r l) = refGate x0 x1 x2 r l := by
  unfold refGate
  rw [← proj_at]
  pointwise [val_main_v13, val_main_v7, val_main_v12, val_main_v11, val_main_v10]

theorem ref_input_at (r : Fin 16384) (l : Fin 8) : val_main_v14 (F := Ideal) x0 x1 x2 (ix2 r l) = refGate x0 x1 x2 r ⟨l.val, by omega⟩ := by
  rw [← ref_gate_at]
  pointwise [val_main_v14]

theorem ref_forget_at (r : Fin 16384) (l : Fin 8) :
    val_main_v16 (F := Ideal) x0 x1 x2 (ix2 r l) = logSigmoid (refGate x0 x1 x2 r ⟨8 + l.val, by omega⟩) := by
  rw [← ref_gate_at, ← logSigmoid_eq]
  pointwise [val_main_v16, val_main_call0_v1, val_main_call0_call0_v4, val_main_call0_call0_v6, val_main_call0_call0_v11, val_main_call0_call0_v1,
    val_main_call0_call0_v10, val_main_call0_call0_v9, val_main_call0_call0_v8, val_main_call0_call0_v7, val_main_call0_call0_v3, val_main_call0_v0,
    val_main_call0_call0_v0, val_main_call0_call0_v2, val_main_call0_call0_v5, val_main_call0_call0_cst, val_main_v15]
  rw [if_neg (fun h => h rfl)]
  rfl

theorem ref_gi_at (r : Fin 16384) (l : Fin 128) :
    val_main_v23 (F := Ideal) x0 x1 x2 (ix2 r l) = if h : l.val < 8 then refGate x0 x1 x2 r ⟨l.val, by omega⟩ else 0 := by
  pointwise [val_main_v23, val_main_call1_v0, val_main_c]
  by_cases h : l.val < 8
  · rw [dif_pos h, dif_pos h, ref_input_at]
  · rw [dif_neg h, dif_neg h, sitofp_zero]

theorem ref_gf_at (r : Fin 16384) (l : Fin 128) :
    val_main_v24 (F := Ideal) x0 x1 x2 (ix2 r l) = if h : l.val < 8 then logSigmoid (refGate x0 x1 x2 r ⟨8 + l.val, by omega⟩) else 0 := by
  pointwise [val_main_v24, val_main_call2_v0, val_main_c_0]
  by_cases h : l.val < 8
  · rw [dif_pos h, dif_pos h, ref_forget_at]
  · rw [dif_neg h, dif_neg h, sitofp_zero]

theorem ref_gt_at (c : Fin 128) (l : Fin 16) (s : Fin 128) :
    val_main_v25 (F := Ideal) x0 x1 x2 (ix3 c l s)
      = if l.val < 8 then refGate x0 x1 x2 ⟨128 * c.val + s.val, by omega⟩ l
        else logSigmoid (refGate x0 x1 x2 ⟨128 * c.val + s.val, by omega⟩ l) := by
  pointwise [val_main_v25, val_main_v18, val_main_v17]
  by_cases h : l.val < 8
  · rw [dif_pos h, if_pos h, ref_input_at]
    simp only [Nat.mul_comm 128]
  · rw [dif_neg h, if_neg h, ref_forget_at]
    simp only [Nat.mul_comm 128, show 8 + (l.val - 8) = l.val by omega]

end Reference

section Values

open Cert.ProjIdeal Cert.ProjIdeal.Gen

theorem rows_shape (x : (⟨S8x2048x1024, .f32⟩ : BufTy).Contents (Elt Ideal)) (r : Fin 16384) (j : Fin 1024) :
    shapeCast S16384x1024 x shapeCasts_S8x2048x1024_S16384x1024 (ix2 r j) = x (ix3 ⟨r.val / 2048, by omega⟩ ⟨r.val % 2048, by omega⟩ j) := by
  pointwise

/-- The projection weights, as the host hands them over. -/
def weights (x : (⟨S1x1024x3088, .f32⟩ : BufTy).Contents (Elt Ideal)) : (⟨S1024x3088, .bf16⟩ : BufTy).Contents (Elt Ideal) :=
  truncf (F := Ideal) .bf16 (shapeCast S1024x3088 x shapeCasts_S1x1024x3088_S1024x3088) bitsLt_bf16_f32

theorem weights_at (x : (⟨S1x1024x3088, .f32⟩ : BufTy).Contents (Elt Ideal)) (k : Fin 1024) (j : Fin 3088) : weights x (ix2 k j) = x (ix3 0 k j) := by
  pointwise [weights]

/-- The columns of the gates, padded to 128. -/
def gateWeights (x : (⟨S1x1024x3088, .f32⟩ : BufTy).Contents (Elt Ideal)) : (⟨S1024x128, .f32⟩ : BufTy).Contents (Elt Ideal) :=
  pad S1024x128 ![0, 0] ![0, 112] ![0, 0]
    (shapeCast S1024x16 (extractStridedSlice S1x1024x16 ![0, 0, 3072] x slices_S1x1024x3088_S1x1024x16_0_0_3072) shapeCasts_S1x1024x16_S1024x16)
    (sitofp (F := Ideal) .f32 (constantI S_ 32 0#32)) pads_S1024x16_S1024x128_000_01120 h_S_

theorem gateWeights_at (x : (⟨S1x1024x3088, .f32⟩ : BufTy).Contents (Elt Ideal)) (k : Fin 1024) (l : Fin 128) :
    gateWeights x (ix2 k l) = if h : l.val < 16 then x (ix3 0 k ⟨3072 + l.val, by omega⟩) else 0 := by
  pointwise [gateWeights]
  by_cases h : l.val < 16
  · rw [dif_pos h, dif_pos h]
  · rw [dif_neg h, dif_neg h, sitofp_zero]

/-- The biases of the gates, padded to 128. -/
def gateBias (x : (⟨S1x16, .f32⟩ : BufTy).Contents (Elt Ideal)) : (⟨S1x128, .f32⟩ : BufTy).Contents (Elt Ideal) :=
  shapeCast S1x128 (pad S128 ![0] ![112] ![0] (shapeCast S16 x shapeCasts_S1x16_S16) (sitofp (F := Ideal) .f32 (constantI S_ 32 0#32)) pads_S16_S128_01120 h_S_)
    shapeCasts_S128_S1x128

theorem gateBias_at (x : (⟨S1x16, .f32⟩ : BufTy).Contents (Elt Ideal)) (l : Fin 128) :
    gateBias x (ix2 0 l) = if h : l.val < 16 then x (ix2 0 ⟨l.val, h⟩) else 0 := by
  pointwise [gateBias]
  by_cases h : l.val < 16
  · rw [dif_pos h, dif_pos h]
  · rw [dif_neg h, dif_neg h, sitofp_zero]

variable (m : (ℓ : Loc nD τ sig) → Buf (Elt Ideal) ℓ) (c : Dev nD)

theorem entry_x : V m c main_v8 = shapeCast S16384x1024 (m ((c : Thread nD τ).loc main_arg0)) shapeCasts_S8x2048x1024_S16384x1024 := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem entry_w : V m c main_v1 = weights (m ((c : Thread nD τ).loc main_arg1)) := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem entry_g : V m c main_v4 = gateWeights (m ((c : Thread nD τ).loc main_arg1)) := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem entry_b : V m c main_v7 = gateBias (m ((c : Thread nD τ).loc main_arg2)) := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![t.val, 0] := by decide +kernel
theorem at5 : ∀ t : Fin grid0.N, win0_5.index t = ![0, t.val] := by decide +kernel
theorem at6 : ∀ t : Fin grid0.N, win0_6.index t = ![t.val, 0] := by decide +kernel
theorem at7 : ∀ t : Fin grid0.N, win0_7.index t = ![t.val, 0] := by decide +kernel
theorem at8 : ∀ t : Fin grid0.N, win0_8.index t = ![t.val, 0] := by decide +kernel
theorem at9 : ∀ t : Fin grid0.N, win0_9.index t = ![t.val, 0, 0] := by decide +kernel

/-- A step's rows. -/
theorem x_at (t : Fin 16) (r : Fin 1024) (k : Fin 1024) :
    iblk m c 0 t (ix2 r k) = m ((c : Thread nD τ).loc main_arg0)
      (ix3 (n0 := 8) (n1 := 2048) (n2 := 1024) ⟨(1024 * t.val + r.val) / 2048, by omega⟩ ⟨(1024 * t.val + r.val) % 2048, by omega⟩ k) := by
  have e : iblk m c 0 t (ix2 r k) = V m c main_v8 (ix2 (n0 := 16384) (n1 := 1024) ⟨1024 * t.val + r.val, by omega⟩ k) := by blk_ext [iblk, at0 t]
  exact e.trans ((congrFun (entry_x m c) _).trans (rows_shape _ _ _))

theorem w_at (t : Fin 16) (k : Fin 1024) (j : Fin 3088) : iblk m c 1 t (ix2 k j) = m ((c : Thread nD τ).loc main_arg1) (ix3 (n0 := 1) (n1 := 1024) (n2 := 3088) 0 k j) := by
  have e : iblk m c 1 t (ix2 k j) = V m c main_v1 (ix2 (n0 := 1024) (n1 := 3088) k j) := by blk_ext [iblk, at1 t]
  exact e.trans ((congrFun (entry_w m c) _).trans (weights_at _ _ _))

theorem g_at (t : Fin 16) (k : Fin 1024) (l : Fin 128) : iblk m c 2 t (ix2 k l)
    = if h : l.val < 16 then m ((c : Thread nD τ).loc main_arg1) (ix3 (n0 := 1) (n1 := 1024) (n2 := 3088) 0 k ⟨3072 + l.val, by omega⟩) else (0 : EReal) := by
  have e : iblk m c 2 t (ix2 k l) = V m c main_v4 (ix2 (n0 := 1024) (n1 := 128) k l) := by blk_ext [iblk, at2 t]
  exact e.trans ((congrFun (entry_g m c) _).trans (gateWeights_at _ _ _))

theorem b_at (t : Fin 16) (l : Fin 128) : iblk m c 3 t (ix2 0 l)
    = if h : l.val < 16 then m ((c : Thread nD τ).loc main_arg2) (ix2 (n0 := 1) (n1 := 16) 0 ⟨l.val, h⟩) else (0 : EReal) := by
  have e : iblk m c 3 t (ix2 0 l) = V m c main_v7 (ix2 (n0 := 1) (n1 := 128) 0 l) := by blk_ext [iblk, at3 t]
  exact e.trans ((congrFun (entry_b m c) _).trans (gateBias_at _ _))

/-- A product of a step. -/
def dotRow (x : Vec Ideal S1024x1024 .f32) (w : Vec Ideal S1024x3088 .bf16) (r : Fin 1024) (j : Fin 3088) : EReal :=
  ∑ k : Fin 1024, x (ix2 r k) * w (ix2 k j)

/-- A product of a step is the reference's. -/
theorem proj_block (t : Fin 16) (r : Fin 1024) (j : Fin 3088) : dotRow (iblk m c 0 t) (iblk m c 1 t) r j
    = proj (m ((c : Thread nD τ).loc main_arg0)) (m ((c : Thread nD τ).loc main_arg1)) ⟨1024 * t.val + r.val, by omega⟩ j :=
  Finset.sum_congr rfl fun k _ => congrArg₂ (fun a b : EReal => a * b) (x_at m c t r k) (w_at m c t k j)

/-- A gate of a step is the reference's. -/
theorem gate_block (t : Fin 16) (r : Fin 1024) (l : Fin 128) (h : l.val < 16) :
    gate (iblk m c 0 t) (iblk m c 2 t) (iblk m c 3 t) r l
      = refGate (m ((c : Thread nD τ).loc main_arg0)) (m ((c : Thread nD τ).loc main_arg1)) (m ((c : Thread nD τ).loc main_arg2)) ⟨1024 * t.val + r.val, by omega⟩ ⟨l.val, h⟩ := by
  unfold gate refGate proj
  rw [b_at m c t l, dif_pos h]
  refine congrArg (· + _) (Finset.sum_congr rfl fun k _ => ?_)
  rw [x_at m c t, g_at m c t, dif_pos h]

theorem rows_real (hx : ∀ b s k, Gates.Real? (m ((c : Thread nD τ).loc main_arg0) (ix3 (n0 := 8) (n1 := 2048) (n2 := 1024) b s k))) (t : Fin 16) (r k : Fin 1024) :
    Gates.Real? (iblk m c 0 t (ix2 r k)) := by
  rw [x_at m c t]; exact hx _ _ _

theorem gates_real (hw : ∀ k (l : Fin 16), Gates.Real? (m ((c : Thread nD τ).loc main_arg1) (ix3 (n0 := 1) (n1 := 1024) (n2 := 3088) 0 k ⟨3072 + l.val, by omega⟩))) (t : Fin 16)
    (k : Fin 1024) (l : Fin 128) : Gates.Real? (iblk m c 2 t (ix2 k l)) := by
  rw [g_at m c t]
  split_ifs with h
  · exact hw k ⟨l.val, h⟩
  · exact Gates.Real?.zero

/-- The queries beside the values, as the kernel leaves them. -/
theorem qv_value : (dats m 0 c).arrAt 4 cfg0.N = Cert.ProjReferenceIdeal.Read.val_main_v20 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  obtain ⟨r, j, rfl⟩ : ∃ (a : Fin 1024) (b : Fin 1536), y = ix2 a b := ⟨y 0, y 1, (ix2_eta y).symm⟩
  have ht : t.val < 16 := t.isLt
  have he : (win0_4.blk t).view.emb (ix2 r j) = (ix2 (n0 := 16384) (n1 := 1536) ⟨1024 * t.val + r.val, by omega⟩ j) := by blk_ext [at4 t]
  rw [he]
  exact (qv_at _ _ _ _ r j).trans ((proj_block m c t r _).trans (ref_qv_at _ _ _ _).symm)

/-- The keys, as the kernel leaves them. -/
theorem kt_value : (dats m 0 c).arrAt 5 cfg0.N = Cert.ProjReferenceIdeal.Read.val_main_v22 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  obtain ⟨j, r, rfl⟩ : ∃ (a : Fin 512) (b : Fin 1024), y = ix2 a b := ⟨y 0, y 1, (ix2_eta y).symm⟩
  have ht : t.val < 16 := t.isLt
  have he : (win0_5.blk t).view.emb (ix2 j r) = (ix2 (n0 := 512) (n1 := 16384) j ⟨1024 * t.val + r.val, by omega⟩) := by blk_ext [at5 t]
  rw [he]
  exact (kt_at _ _ _ _ j r).trans ((congrArg (· * _) (proj_block m c t r _)).trans (ref_kt_at _ _ _ _).symm)

/-- The output gates, as the kernel leaves them. -/
theorem o_value : (dats m 0 c).arrAt 6 cfg0.N = Cert.ProjReferenceIdeal.Read.val_main_v6 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  obtain ⟨r, j, rfl⟩ : ∃ (a : Fin 1024) (b : Fin 1024), y = ix2 a b := ⟨y 0, y 1, (ix2_eta y).symm⟩
  have ht : t.val < 16 := t.isLt
  have he : (win0_6.blk t).view.emb (ix2 r j) = (ix2 (n0 := 16384) (n1 := 1024) ⟨1024 * t.val + r.val, by omega⟩ j) := by blk_ext [at6 t]
  rw [he]
  exact (o_at _ _ _ _ r j).trans ((proj_block m c t r _).trans (ref_o_at _ _ _ _).symm)

variable (hx : ∀ b s k, Gates.Real? (m ((c : Thread nD τ).loc main_arg0) (ix3 (n0 := 8) (n1 := 2048) (n2 := 1024) b s k)))
  (hw : ∀ k (l : Fin 16), Gates.Real? (m ((c : Thread nD τ).loc main_arg1) (ix3 (n0 := 1) (n1 := 1024) (n2 := 3088) 0 k ⟨3072 + l.val, by omega⟩)))

include hx hw

theorem gi_point (t : Fin 16) (r : Fin 1024) (l : Fin 128) :
    out0_7 (F := Ideal) (iblk m c 0 t) (iblk m c 1 t) (iblk m c 2 t) (iblk m c 3 t) (ix2 r l)
      = Cert.ProjReferenceIdeal.Read.val_main_v23 (F := Ideal) (m ((c : Thread nD τ).loc main_arg0)) (m ((c : Thread nD τ).loc main_arg1)) (m ((c : Thread nD τ).loc main_arg2))
        (ix2 (n0 := 16384) (n1 := 128) ⟨1024 * t.val + r.val, by omega⟩ l) := by
  refine (gi_at _ _ _ _ (rows_real m c hx t) (gates_real m c hw t) r l).trans (Eq.trans ?_ (ref_gi_at _ _ _ _ _).symm)
  by_cases h : l.val < 8
  · rw [if_pos h, dif_pos h, gate_block m c t r l (by omega)]
  · rw [if_neg h, dif_neg h]

/-- The input gates, as the kernel leaves them. -/
theorem gi_value : (dats m 0 c).arrAt 7 cfg0.N = Cert.ProjReferenceIdeal.Read.val_main_v23 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  obtain ⟨r, j, rfl⟩ : ∃ (a : Fin 1024) (b : Fin 128), y = ix2 a b := ⟨y 0, y 1, (ix2_eta y).symm⟩
  have ht : t.val < 16 := t.isLt
  have he : (win0_7.blk t).view.emb (ix2 r j) = (ix2 (n0 := 16384) (n1 := 128) ⟨1024 * t.val + r.val, by omega⟩ j) := by blk_ext [at7 t]
  rw [he]
  exact gi_point m c hx hw t r j

theorem gf_point (t : Fin 16) (r : Fin 1024) (l : Fin 128) :
    out0_8 (F := Ideal) (iblk m c 0 t) (iblk m c 1 t) (iblk m c 2 t) (iblk m c 3 t) (ix2 r l)
      = Cert.ProjReferenceIdeal.Read.val_main_v24 (F := Ideal) (m ((c : Thread nD τ).loc main_arg0)) (m ((c : Thread nD τ).loc main_arg1)) (m ((c : Thread nD τ).loc main_arg2))
        (ix2 (n0 := 16384) (n1 := 128) ⟨1024 * t.val + r.val, by omega⟩ l) := by
  refine (gf_at _ _ _ _ (rows_real m c hx t) (gates_real m c hw t) r l).trans (Eq.trans ?_ (ref_gf_at _ _ _ _ _).symm)
  by_cases h : l.val < 8
  · rw [dif_pos h, dif_pos h, gate_block m c t r ⟨8 + l.val, by omega⟩ (by simp only []; omega)]
  · rw [dif_neg h, dif_neg h]

/-- The logarithms of the forget gates, as the kernel leaves them. -/
theorem gf_value : (dats m 0 c).arrAt 8 cfg0.N = Cert.ProjReferenceIdeal.Read.val_main_v24 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  obtain ⟨r, j, rfl⟩ : ∃ (a : Fin 1024) (b : Fin 128), y = ix2 a b := ⟨y 0, y 1, (ix2_eta y).symm⟩
  have ht : t.val < 16 := t.isLt
  have he : (win0_8.blk t).view.emb (ix2 r j) = (ix2 (n0 := 16384) (n1 := 128) ⟨1024 * t.val + r.val, by omega⟩ j) := by blk_ext [at8 t]
  rw [he]
  exact gf_point m c hx hw t r j

theorem gt_point (t : Fin 16) (a : Fin 8) (l : Fin 16) (s : Fin 128) :
    out0_9 (F := Ideal) (iblk m c 0 t) (iblk m c 1 t) (iblk m c 2 t) (iblk m c 3 t) (ix3 a l s)
      = Cert.ProjReferenceIdeal.Read.val_main_v25 (F := Ideal) (m ((c : Thread nD τ).loc main_arg0)) (m ((c : Thread nD τ).loc main_arg1)) (m ((c : Thread nD τ).loc main_arg2))
        (ix3 (n0 := 128) (n1 := 16) (n2 := 128) ⟨8 * t.val + a.val, by omega⟩ l s) := by
  refine (gt_at _ _ _ _ (rows_real m c hx t) (gates_real m c hw t) a l s).trans (Eq.trans ?_ (ref_gt_at _ _ _ _ _ _).symm)
  rw [gate_block m c t ⟨128 * a.val + s.val, by omega⟩ ⟨l.val, by omega⟩ l.isLt]
  simp only [show 1024 * t.val + (128 * a.val + s.val) = 128 * (8 * t.val + a.val) + s.val by omega]

/-- Both gates by chunks, as the kernel leaves them. -/
theorem gt_value : (dats m 0 c).arrAt 9 cfg0.N = Cert.ProjReferenceIdeal.Read.val_main_v25 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  obtain ⟨a, l, s, rfl⟩ : ∃ (a : Fin 8) (l : Fin 16) (s : Fin 128), y = ix3 a l s := ⟨y 0, y 1, y 2, (ix3_eta y).symm⟩
  have ht : t.val < 16 := t.isLt
  have he : (win0_9.blk t).view.emb (ix3 a l s) = (ix3 (n0 := 128) (n1 := 16) (n2 := 128) ⟨8 * t.val + a.val, by omega⟩ l s) := by blk_ext [at9 t]
  rw [he]
  exact gt_point m c hx hw t a l s

end Values

/-! ## What the precondition says -/

section Precondition

variable (x0 : FVec Ideal Cert.Pre_gate_inputs_finite.S8x2048x1024 .f32) (x1 : FVec Ideal Cert.Pre_gate_inputs_finite.S1x1024x3088 .f32) (x2 : FVec Ideal Cert.Pre_gate_inputs_finite.S1x16 .f32)

theorem both_ones : ∀ a b : Bool, IntOp.andi (BitVec.ofBool a) (BitVec.ofBool b) = 1#1 → a = true ∧ b = true := by decide

/-- The single-precision pattern of infinity. -/
theorem bits_top : Ideal.ofBits .f32 0x7F800000#32 = ⊤ := by
  simp [Ideal.ofBits, Ideal.ieee]

/-- The precondition holds: the rows and the weights of the gates are real numbers. -/
theorem finite (b : Fin 8) (s : Fin 2048) (k : Fin 1024) (l : Fin 16)
    (hp : Cert.Pre_gate_inputs_finite.fn (F := Ideal) x0 x1 x2 (ix4 b s k l) = 1#1) :
    Gates.Real? (x0 (ix3 b s k)) ∧ Gates.Real? (x1 (ix3 0 k ⟨3072 + l.val, by omega⟩)) := by
  have e : Cert.Pre_gate_inputs_finite.fn (F := Ideal) x0 x1 x2 (ix4 b s k l)
      = IntOp.andi (BitVec.ofBool (decide ((FloatOps.absf (x0 (ix3 b s k)) : EReal) < Ideal.ofBits .f32 0x7F800000#32)))
          (BitVec.ofBool (decide ((FloatOps.absf (x1 (ix3 0 k ⟨3072 + l.val, by omega⟩)) : EReal) < Ideal.ofBits .f32 0x7F800000#32))) := by
    pointwise [Cert.Pre_gate_inputs_finite.fn]
  obtain ⟨h1, h2⟩ := both_ones _ _ (e.symm.trans hp)
  rw [bits_top] at h1 h2
  exact ⟨Gates.Real?.of_abs_lt (of_decide_eq_true h1), Gates.Real?.of_abs_lt (of_decide_eq_true h2)⟩

end Precondition

/-! ## The two programs -/

/-- The reference's run leaves its arguments and its semaphores as it found them. -/
theorem quiescent : quiescent_ProjReferenceIdeal := fun m ρ _ =>
  (θ_run Cert.ProjReferenceIdeal.defs _ _).mono (fun r h => ⟨fun c => (h c).2.2.2.2.2.2, sem_eq_zero_of_no_sems (by decide) r.2⟩)
    (Cert.ProjReferenceIdeal.Value.run (F := Ideal) m ρ)

/-- Where the inputs of the gates are finite, the kernel's six results are the reference's. -/
theorem algebraic : algebraic_ProjIdeal_ProjReferenceIdeal_pre_gate_inputs_finite := by
  intro m ρ m' ρ' hp hagree
  have hx : ∀ (c : Dev Cert.ProjIdeal.nD) b s k, Gates.Real? (m ((c.tc : Thread Cert.ProjIdeal.nD Cert.ProjIdeal.τ).loc Cert.ProjIdeal.main_arg0) (ix3 (n0 := 8) (n1 := 2048) (n2 := 1024) b s k)) := fun c b s k =>
    (finite _ _ _ b s k 0 (congrFun (hp c) _)).1
  have hw : ∀ (c : Dev Cert.ProjIdeal.nD) k (l : Fin 16), Gates.Real? (m ((c.tc : Thread Cert.ProjIdeal.nD Cert.ProjIdeal.τ).loc Cert.ProjIdeal.main_arg1) (ix3 (n0 := 1) (n1 := 1024) (n2 := 3088) 0 k ⟨3072 + l.val, by omega⟩)) := fun c k l =>
    (finite _ _ _ 0 0 k l (congrFun (hp c) _)).2
  refine ⟨fun c => Cert.ProjReferenceIdeal.Read.val_main_v20 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)),
    fun c => Cert.ProjReferenceIdeal.Read.val_main_v22 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)),
    fun c => Cert.ProjReferenceIdeal.Read.val_main_v6 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)),
    fun c => Cert.ProjReferenceIdeal.Read.val_main_v23 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => Cert.ProjReferenceIdeal.Read.val_main_v24 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => Cert.ProjReferenceIdeal.Read.val_main_v25 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), ?_, ?_⟩
  · refine (θ_run Cert.ProjIdeal.defs _ _).mono (fun _ h c => ⟨?_, ?_, ?_, ?_, ?_, ?_, (h c).2.2.2.2.2.2⟩) (Cert.ProjIdeal.Value.run_blocks (F := Ideal) m ρ)
    · exact (h c).1.trans (qv_value m c)
    · exact (h c).2.1.trans (kt_value m c)
    · exact (h c).2.2.1.trans (o_value m c)
    · exact (h c).2.2.2.1.trans (gi_value m c (hx c) (hw c))
    · exact (h c).2.2.2.2.1.trans (gf_value m c (hx c) (hw c))
    · exact (h c).2.2.2.2.2.1.trans (gt_value m c (hx c) (hw c))
  · refine (θ_run Cert.ProjReferenceIdeal.defs _ _).mono (fun _ h c => ⟨?_, ?_, ?_, ?_, ?_, ?_, (h c).2.2.2.2.2.2⟩) (Cert.ProjReferenceIdeal.Value.run (F := Ideal) m' ρ')
    all_goals obtain ⟨e0, e1, e2⟩ := hagree c
    · refine ((h c).1.trans (Cert.ProjReferenceIdeal.Read.val_main_v20_eq _ _)).trans ?_
      rw [e0, e1]
    · refine ((h c).2.1.trans (Cert.ProjReferenceIdeal.Read.val_main_v22_eq _ _)).trans ?_
      rw [e0, e1]
    · refine ((h c).2.2.1.trans (Cert.ProjReferenceIdeal.Read.val_main_v6_eq _ _)).trans ?_
      rw [e0, e1]
    · refine ((h c).2.2.2.1.trans (Cert.ProjReferenceIdeal.Read.val_main_v23_eq _ _ _)).trans ?_
      rw [e0, e1, e2]
    · refine ((h c).2.2.2.2.1.trans (Cert.ProjReferenceIdeal.Read.val_main_v24_eq _ _ _)).trans ?_
      rw [e0, e1, e2]
    · refine ((h c).2.2.2.2.2.1.trans (Cert.ProjReferenceIdeal.Read.val_main_v25_eq m' c)).trans ?_
      rw [e0, e1, e2]

end Cert.Projections

end
-- ==== Proof.AttentionOutput.lean ====
module

public import proofs.«01_k».proof.Defs
public import proofs.«01_k».proof.Proof.Gates
public import proofs.«01_k».proof.Proof.Gen.OutLnIdeal.Value
public import proofs.«01_k».proof.Proof.Gen.OutLnReferenceIdeal.Run
public import proofs.«01_k».proof.Proof.Gen.OutLnReferenceIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.AttentionOutput

open Idealize.ShloMosaic Idealize.ShloMosaic.TcCoe Idealize.SL.Sem

/-- What the layer norm sees: the scaled row of the residual plus the attention's row times a column of the weights. -/
def pre (a x : Fin 1024 → EReal) (w : Fin 1024 → Fin 1024 → EReal) (j : Fin 1024) : EReal :=
  Ideal.ofBits .f32 0x3FB504F3#32 * x j + ∑ k, a k * w k j

/-! ## The reference -/

section Reference

open Cert.OutLnReferenceIdeal Cert.OutLnReferenceIdeal.Read

variable (x0 : (⟨S256x1024, .f32⟩ : BufTy).Contents (Elt Ideal)) (x1 : (⟨S32x8x1024, .f32⟩ : BufTy).Contents (Elt Ideal))
  (x2 : (⟨S1x1024x1024, .f32⟩ : BufTy).Contents (Elt Ideal)) (x3 x4 : (⟨S2x2x1024, .f32⟩ : BufTy).Contents (Elt Ideal))

/-- The attention's rows by sequence and position. -/
theorem split_at (b : Fin 32) (t : Fin 8) (k : Fin 1024) :
    val_main_v2 (F := Ideal) x0 (ix3 b t k) = x0 (ix2 ⟨b.val * 8 + t.val, by omega⟩ k) := by
  pointwise [val_main_v2]

/-- The reference's residual sum. -/
theorem pre_at (b : Fin 32) (t : Fin 8) (j : Fin 1024) :
    val_main_v5 (F := Ideal) x0 x1 x2 (ix3 b t j)
      = pre (fun k => x0 (ix2 ⟨b.val * 8 + t.val, by omega⟩ k)) (fun k => x1 (ix3 b t k)) (fun k j => x2 (ix3 0 k j)) j := by
  pointwise [val_main_v5, val_main_v4, val_main_v3, val_main_v1, val_main_v0, val_main_cst, pre, split_at]

/-- The reference's result before its rows are joined. -/
theorem norm_at (b : Fin 32) (t : Fin 8) (j : Fin 1024) :
    val_main_v33 (F := Ideal) x0 x1 x2 x3 x4 (ix3 b t j)
      = Gates.layerNorm (pre (fun k => x0 (ix2 ⟨b.val * 8 + t.val, by omega⟩ k)) (fun k => x1 (ix3 b t k)) (fun k j => x2 (ix3 0 k j)))
          (fun k => x3 (ix3 1 0 k)) (fun k => x4 (ix3 1 0 k)) j := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_0, val_main_cst_1,
    val_main_cst_2, val_main_cst_3, val_main_cst_4, pre_at, Gates.layerNorm]

/-- The reference's result. -/
theorem result_at (r : Fin 256) (j : Fin 1024) :
    val_main_v34 (F := Ideal) x0 x1 x2 x3 x4 (ix2 r j)
      = Gates.layerNorm (pre (fun k => x0 (ix2 r k)) (fun k => x1 (ix3 ⟨r / 8, by omega⟩ ⟨r % 8, by omega⟩ k)) (fun k j => x2 (ix3 0 k j)))
          (fun k => x3 (ix3 1 0 k)) (fun k => x4 (ix3 1 0 k)) j := by
  have h : val_main_v34 (F := Ideal) x0 x1 x2 x3 x4 (ix2 r j) = val_main_v33 (F := Ideal) x0 x1 x2 x3 x4 (ix3 ⟨r / 8, by omega⟩ ⟨r % 8, by omega⟩ j) := by
    pointwise [val_main_v34]
  refine h.trans ((norm_at ..).trans ?_)
  have e : (⟨r.val / 8 * 8 + r.val % 8, by omega⟩ : Fin 256) = r := Fin.ext (Nat.div_add_mod' r.val 8)
  dsimp only
  rw [e]

end Reference

/-! ## The kernel's arithmetic -/

section Arithmetic

open Cert.OutLnIdeal Cert.OutLnIdeal.Gen

theorem norm_of (a : Vec Ideal S256x1024 .f32) (w : Vec Ideal S1024x1024 .bf16) (x : Vec Ideal S256x1024 .f32) (g b : Vec Ideal S1x1024 .f32) (r : Fin 256) (j : Fin 1024) :
    k0_pay1 (F := Ideal) a w x g b (ix2 r j)
      = Gates.layerNorm (pre (fun k => a (ix2 r k)) (fun k => x (ix2 r k)) (fun k j => w (ix2 k j))) (fun k => g (ix2 0 k)) (fun k => b (ix2 0 k)) j := by
  unfold Gates.layerNorm
  pointwise [k0_pay1, pre]

/-- The one store fills the block. -/
theorem out_eq (a : Vec Ideal S256x1024 .f32) (w : Vec Ideal S1024x1024 .bf16) (x : Vec Ideal S256x1024 .f32) (g b : Vec Ideal S1x1024 .f32) :
    out0_5 (F := Ideal) a w x g b = k0_pay1 a w x g b := by
  frame_out

end Arithmetic

/-! ## The host's arrays and the blocks of the step -/

section Blocks

open Cert.OutLnIdeal Cert.OutLnIdeal.Gen

theorem rows_shape (x : (⟨S32x8x1024, .f32⟩ : BufTy).Contents (Elt Ideal)) (r : Fin 256) (j : Fin 1024) :
    shapeCast S256x1024 x shapeCasts_S32x8x1024_S256x1024 (ix2 r j) = x (ix3 ⟨r / 8, by omega⟩ ⟨r % 8, by omega⟩ j) := by
  pointwise

/-- The output weights, as the host prepares them. -/
def weights (x : (⟨S1x1024x1024, .f32⟩ : BufTy).Contents (Elt Ideal)) : (⟨S1024x1024, .bf16⟩ : BufTy).Contents (Elt Ideal) :=
  truncf (F := Ideal) .bf16 (shapeCast S1024x1024 x shapeCasts_S1x1024x1024_S1024x1024) bitsLt_bf16_f32

/-- A row of the norm's parameters, as the host cuts it out. -/
def last (x : (⟨S2x2x1024, .f32⟩ : BufTy).Contents (Elt Ideal)) : (⟨S1x1024, .f32⟩ : BufTy).Contents (Elt Ideal) :=
  shapeCast S1x1024 (extractStridedSlice S1x1x1x1024 ![1, 0, 0, 0] (shapeCast S2x2x1x1024 x shapeCasts_S2x2x1024_S2x2x1x1024)
    slices_S2x2x1x1024_S1x1x1x1024_1_0_0_0) shapeCasts_S1x1x1x1024_S1x1024

theorem weights_at (x : (⟨S1x1024x1024, .f32⟩ : BufTy).Contents (Elt Ideal)) (k j : Fin 1024) : weights x (ix2 k j) = x (ix3 0 k j) := by
  pointwise [weights]

theorem last_at (x : (⟨S2x2x1024, .f32⟩ : BufTy).Contents (Elt Ideal)) (k : Fin 1024) : last x (ix2 0 k) = x (ix3 1 0 k) := by
  pointwise [last]

variable (m : (ℓ : Loc nD τ sig) → Buf (Elt Ideal) ℓ) (c : Dev nD)

theorem entry_a : V m c main_arg0 = m ((c : Thread nD τ).loc main_arg0) := by
  simp only [V, hostOps0]
  after_results_simp
theorem entry_w : V m c main_v1 = weights (m ((c : Thread nD τ).loc main_arg2)) := by
  simp only [V, hostOps0]
  after_results_simp
  rfl
theorem entry_x : V m c main_v4 = shapeCast S256x1024 (m ((c : Thread nD τ).loc main_arg1)) shapeCasts_S32x8x1024_S256x1024 := by
  simp only [V, hostOps0]
  after_results_simp
  rfl
theorem entry_g : V m c main_v6 = last (m ((c : Thread nD τ).loc main_arg3)) := by
  simp only [V, hostOps0]
  after_results_simp
  rfl
theorem entry_b : V m c main_v8 = last (m ((c : Thread nD τ).loc main_arg4)) := by
  simp only [V, hostOps0]
  after_results_simp
  rfl

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel

theorem a_at (t : Fin 1) (r : Fin 256) (k : Fin 1024) : iblk m c 0 t (ix2 r k) = m ((c : Thread nD τ).loc main_arg0) (ix2 (n0 := 256) (n1 := 1024) r k) := by
  have e : iblk m c 0 t (ix2 r k) = V m c main_arg0 (ix2 (n0 := 256) (n1 := 1024) r k) := by blk_ext [iblk, at0 t]
  exact e.trans (congrFun (entry_a m c) _)

theorem w_at (t : Fin 1) (k j : Fin 1024) : iblk m c 1 t (ix2 k j) = m ((c : Thread nD τ).loc main_arg2) (ix3 (n0 := 1) (n1 := 1024) (n2 := 1024) 0 k j) := by
  have e : iblk m c 1 t (ix2 k j) = V m c main_v1 (ix2 (n0 := 1024) (n1 := 1024) k j) := by blk_ext [iblk, at1 t]
  exact e.trans ((congrFun (entry_w m c) _).trans (weights_at _ _ _))

theorem x_at (t : Fin 1) (r : Fin 256) (k : Fin 1024) :
    iblk m c 2 t (ix2 r k) = m ((c : Thread nD τ).loc main_arg1) (ix3 (n0 := 32) (n1 := 8) (n2 := 1024) ⟨r.val / 8, by omega⟩ ⟨r.val % 8, by omega⟩ k) := by
  have e : iblk m c 2 t (ix2 r k) = V m c main_v4 (ix2 (n0 := 256) (n1 := 1024) r k) := by blk_ext [iblk, at2 t]
  exact e.trans ((congrFun (entry_x m c) _).trans (rows_shape _ _ _))

theorem g_at (t : Fin 1) (k : Fin 1024) : iblk m c 3 t (ix2 0 k) = m ((c : Thread nD τ).loc main_arg3) (ix3 (n0 := 2) (n1 := 2) (n2 := 1024) 1 0 k) := by
  have e : iblk m c 3 t (ix2 0 k) = V m c main_v6 (ix2 (n0 := 1) (n1 := 1024) 0 k) := by blk_ext [iblk, at3 t]
  exact e.trans ((congrFun (entry_g m c) _).trans (last_at _ _))

theorem b_at (t : Fin 1) (k : Fin 1024) : iblk m c 4 t (ix2 0 k) = m ((c : Thread nD τ).loc main_arg4) (ix3 (n0 := 2) (n1 := 2) (n2 := 1024) 1 0 k) := by
  have e : iblk m c 4 t (ix2 0 k) = V m c main_v8 (ix2 (n0 := 1) (n1 := 1024) 0 k) := by blk_ext [iblk, at4 t]
  exact e.trans ((congrFun (entry_b m c) _).trans (last_at _ _))

/-- An entry of the block the step leaves. -/
theorem point (t : Fin 1) (r : Fin 256) (j : Fin 1024) :
    k0_pay1 (F := Ideal) (iblk m c 0 t) (iblk m c 1 t) (iblk m c 2 t) (iblk m c 3 t) (iblk m c 4 t) (ix2 r j)
      = Cert.OutLnReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (n0 := 256) (n1 := 1024) r j) := by
  refine (norm_of (iblk m c 0 t) (iblk m c 1 t) (iblk m c 2 t) (iblk m c 3 t) (iblk m c 4 t) r j).trans ?_
  rw [result_at, show (fun k => (iblk m c 3 t) (ix2 0 k)) = _ from funext fun k => g_at m c t k,
    show (fun k => (iblk m c 4 t) (ix2 0 k)) = _ from funext fun k => b_at m c t k,
    show (fun k => (iblk m c 0 t) (ix2 r k)) = _ from funext fun k => a_at m c t r k,
    show (fun k => (iblk m c 2 t) (ix2 r k)) = _ from funext fun k => x_at m c t r k,
    show (fun k j => (iblk m c 1 t) (ix2 k j)) = _ from funext fun k => funext fun j => w_at m c t k j]

/-- The rows, as the kernel leaves them. -/
theorem value : (dats m 0 c).arrAt 5 cfg0.N
    = Cert.OutLnReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, out_eq]
  obtain ⟨r, j, rfl⟩ : ∃ (a : Fin 256) (b : Fin 1024), y = ix2 a b := ⟨y 0, y 1, (ix2_eta y).symm⟩
  have he : (win0_5.blk t).view.emb (ix2 r j) = (ix2 (n0 := 256) (n1 := 1024) r j) := by blk_ext [at5 t]
  rw [he]
  exact point m c t r j

end Blocks

/-- The reference's run leaves its arguments and its semaphores as it found them. -/
theorem quiescent : quiescent_OutLnReferenceIdeal := fun m ρ _ =>
  (θ_run Cert.OutLnReferenceIdeal.defs _ _).mono (fun r h => ⟨fun c => (h c).2, sem_eq_zero_of_no_sems (by decide) r.2⟩)
    (Cert.OutLnReferenceIdeal.Value.run (F := Ideal) m ρ)

/-- The kernel's result is the reference's. -/
theorem algebraic : algebraic_OutLnIdeal_OutLnReferenceIdeal := by
  intro m ρ m' ρ' _ hagree
  refine ⟨fun c => Cert.OutLnReferenceIdeal.Read.val_main_v34 (F := Ideal) (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (m ((c.tc : Thread Cert.OutLnIdeal.nD Cert.OutLnIdeal.τ).loc Cert.OutLnIdeal.main_arg2)) (m ((c.tc : Thread Cert.OutLnIdeal.nD Cert.OutLnIdeal.τ).loc Cert.OutLnIdeal.main_arg3)) (m ((c.tc : Thread Cert.OutLnIdeal.nD Cert.OutLnIdeal.τ).loc Cert.OutLnIdeal.main_arg4)), ?_, ?_⟩
  · exact (θ_run Cert.OutLnIdeal.defs _ _).mono (fun _ h c => ⟨(h c).1.trans (value m c), (h c).2⟩) (Cert.OutLnIdeal.Value.run_blocks (F := Ideal) m ρ)
  · refine (θ_run Cert.OutLnReferenceIdeal.defs _ _).mono (fun _ h c => ⟨?_, (h c).2⟩) (Cert.OutLnReferenceIdeal.Value.run (F := Ideal) m' ρ')
    obtain ⟨e0, e1, e2, e3, e4⟩ := hagree c
    refine ((h c).1.trans (Cert.OutLnReferenceIdeal.Read.val_main_v34_eq m' c)).trans ?_
    change Cert.OutLnReferenceIdeal.Read.val_main_v34 (F := Ideal) (m' ((c.tc : Thread Cert.OutLnReferenceIdeal.nD Cert.OutLnReferenceIdeal.τ).loc Cert.OutLnReferenceIdeal.main_arg0)) (m' ((c.tc : Thread Cert.OutLnReferenceIdeal.nD Cert.OutLnReferenceIdeal.τ).loc Cert.OutLnReferenceIdeal.main_arg1)) (m' ((c.tc : Thread Cert.OutLnReferenceIdeal.nD Cert.OutLnReferenceIdeal.τ).loc Cert.OutLnReferenceIdeal.main_arg2)) (m' ((c.tc : Thread Cert.OutLnReferenceIdeal.nD Cert.OutLnReferenceIdeal.τ).loc Cert.OutLnReferenceIdeal.main_arg3)) (m' ((c.tc : Thread Cert.OutLnReferenceIdeal.nD Cert.OutLnReferenceIdeal.τ).loc Cert.OutLnReferenceIdeal.main_arg4)) = _
    rw [e0, e1, e2, e3, e4]

end Cert.AttentionOutput

end
-- ==== Proof.FirstSampleFeedForward.lean ====
module

public import proofs.«01_k».proof.Defs
public import proofs.«01_k».proof.Proof.FeedForward
public import proofs.«01_k».proof.Proof.Gen.FirstSampleMlpIdeal.Value
public import proofs.«01_k».proof.Proof.Gen.FirstSampleMlpReferenceIdeal.Run
public import proofs.«01_k».proof.Proof.Gen.FirstSampleMlpReferenceIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.FirstSampleFeedForward

open Idealize.ShloMosaic Idealize.ShloMosaic.TcCoe Idealize.SL.Sem
open FeedForward (unit pre)

/-! ## The reference -/

section Reference

open Cert.FirstSampleMlpReferenceIdeal Cert.FirstSampleMlpReferenceIdeal.Read

variable (x0 : (⟨S32x8x1024, .f32⟩ : BufTy).Contents (Elt Ideal)) (x1 : (⟨S2x1024x4096, .f32⟩ : BufTy).Contents (Elt Ideal))
  (x2 : (⟨S2x4096x1024, .f32⟩ : BufTy).Contents (Elt Ideal)) (x3 x4 : (⟨S2x2x1024, .f32⟩ : BufTy).Contents (Elt Ideal))

/-- The reference's residual sum. -/
theorem pre_at (b : Fin 32) (t : Fin 8) (j : Fin 1024) :
    val_main_v10 (F := Ideal) x0 x1 x2 (ix3 b t j)
      = pre (fun k => x0 (ix3 b t k)) (fun k f => x1 (ix3 0 k f)) (fun f k => x2 (ix3 0 f k)) j := by
  pointwise [val_main_v10, val_main_v9, val_main_v8, val_main_v7, val_main_v6, val_main_v5, val_main_v4, val_main_v3, val_main_v2, val_main_v1,
    val_main_v0, val_main_cst, val_main_call0_v0, val_main_call0_cst, pre, unit]

/-- The reference's result before its rows are joined. -/
theorem norm_at (b : Fin 32) (t : Fin 8) (j : Fin 1024) :
    val_main_v38 (F := Ideal) x0 x1 x2 x3 x4 (ix3 b t j)
      = Gates.layerNorm (pre (fun k => x0 (ix3 b t k)) (fun k f => x1 (ix3 0 k f)) (fun f k => x2 (ix3 0 f k)))
          (fun k => x3 (ix3 0 1 k)) (fun k => x4 (ix3 0 1 k)) j := by
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_cst_0, val_main_cst_1,
    val_main_cst_2, val_main_cst_3, val_main_cst_4, pre_at, Gates.layerNorm]

/-- The reference's result. -/
theorem result_at (r : Fin 256) (j : Fin 1024) :
    val_main_v39 (F := Ideal) x0 x1 x2 x3 x4 (ix2 r j)
      = Gates.layerNorm (pre (fun k => x0 (ix3 ⟨r / 8, by omega⟩ ⟨r % 8, by omega⟩ k)) (fun k f => x1 (ix3 0 k f)) (fun f k => x2 (ix3 0 f k)))
          (fun k => x3 (ix3 0 1 k)) (fun k => x4 (ix3 0 1 k)) j := by
  pointwise [val_main_v39]
  exact norm_at ..

end Reference
/-! ## The kernel's arithmetic -/

section Arithmetic

open Cert.FirstSampleMlpIdeal Cert.FirstSampleMlpIdeal.Gen

/-- The accumulator after a step: a part of the hidden units times their rows of the second weights, added to what it held. -/
theorem step_at (x : Vec Ideal S256x1024 .bf16) (up : Vec Ideal S1024x512 .bf16) (a : Vec Ideal S256x1024 .f32) (dn : Vec Ideal S512x1024 .bf16)
    (r : Fin 256) (j : Fin 1024) :
    k0_pay3 (F := Ideal) x up a dn (ix2 r j)
      = a (ix2 r j) + ∑ f : Fin 512, unit (fun k => x (ix2 r k)) (fun k => up (ix2 k f)) * dn (ix2 f j) := by
  pointwise [k0_pay3, unit]

theorem narrow_at (x : Vec Ideal S256x1024 .f32) (r : Fin 256) (j : Fin 1024) : k0_pay1 (F := Ideal) x (ix2 r j) = x (ix2 r j) := by
  pointwise [k0_pay1]

theorem zero_at (r : Fin 256) (j : Fin 1024) : k0_pay2 (F := Ideal) (ix2 r j) = (0 : EReal) := by
  pointwise [k0_pay2]

theorem norm_of (x a : Vec Ideal S256x1024 .f32) (g b : Vec Ideal S1x1024 .f32) (r : Fin 256) (j : Fin 1024) :
    k0_pay4 (F := Ideal) x a g b (ix2 r j)
      = Gates.layerNorm (fun k => Ideal.ofBits .f32 0x3FB504F3#32 * x (ix2 r k) + a (ix2 r k)) (fun k => g (ix2 0 k)) (fun k => b (ix2 0 k)) j := by
  unfold Gates.layerNorm
  pointwise [k0_pay4]

end Arithmetic

section Stores

open Cert.FirstSampleMlpIdeal Cert.FirstSampleMlpIdeal.Gen

/-- The first step leaves the first part of the sum in the accumulator. -/
theorem sout0_A_0_eq (c : Dev nD) (i : grid0.Coords) (arg2 : Memref sig .tc .vmem S256x1024 .f32) (harg2 : arg2.IsWhole) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (hc0 : cond0_0 i) (hc1 : ¬cond0_1 i)
    (x0 : Vec Ideal S256x1024 .f32) (x1 : Vec Ideal S1024x512 .bf16) (x2 : Vec Ideal S512x1024 .bf16) (x3 : Vec Ideal S1x1024 .f32) (x4 : Vec Ideal S1x1024 .f32) :
    sout0_A_0 (F := Ideal) c i arg2 harg2 arg3 harg3 arg4 harg4 arg5 harg5 arg6 harg6 arg7 harg7 arg8 harg8 arg9 harg9 hc0 hc1 x0 x1 x2 x3 x4 = k0_pay3 (k0_pay1 x0) x1 (k0_pay2 (F := Ideal)) x2 := by
  frame_out

/-- The first step leaves the rows in the narrow scratch. -/
theorem sout0_A_1_eq (c : Dev nD) (i : grid0.Coords) (arg2 : Memref sig .tc .vmem S256x1024 .f32) (harg2 : arg2.IsWhole) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (hc0 : cond0_0 i) (hc1 : ¬cond0_1 i)
    (x0 : Vec Ideal S256x1024 .f32) (x1 : Vec Ideal S1024x512 .bf16) (x2 : Vec Ideal S512x1024 .bf16) (x3 : Vec Ideal S1x1024 .f32) (x4 : Vec Ideal S1x1024 .f32) :
    sout0_A_1 (F := Ideal) c i arg2 harg2 arg3 harg3 arg4 harg4 arg5 harg5 arg6 harg6 arg7 harg7 arg8 harg8 arg9 harg9 hc0 hc1 x0 x1 x2 x3 x4 = k0_pay1 x0 := by
  frame_out

/-- A later step adds its part. -/
theorem sout0_B_0_eq (c : Dev nD) (i : grid0.Coords) (arg2 : Memref sig .tc .vmem S256x1024 .f32) (harg2 : arg2.IsWhole) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (hc0 : ¬cond0_0 i) (hc1 : ¬cond0_1 i)
    (x0 : Vec Ideal S256x1024 .f32) (x1 : Vec Ideal S1024x512 .bf16) (x2 : Vec Ideal S512x1024 .bf16) (x3 : Vec Ideal S1x1024 .f32) (x4 : Vec Ideal S1x1024 .f32) (xs0 : Vec Ideal S256x1024 .f32) (xs1 : Vec Ideal S256x1024 .bf16) :
    sout0_B_0 (F := Ideal) c i arg2 harg2 arg3 harg3 arg4 harg4 arg5 harg5 arg6 harg6 arg7 harg7 arg8 harg8 arg9 harg9 hc0 hc1 x0 x1 x2 x3 x4 xs0 xs1 = k0_pay3 xs1 x1 xs0 x2 := by
  frame_out

/-- The last step adds its part and takes the layer norm. -/
theorem out0_C_5_eq (c : Dev nD) (i : grid0.Coords) (arg2 : Memref sig .tc .vmem S256x1024 .f32) (harg2 : arg2.IsWhole) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (hc0 : ¬cond0_0 i) (hc1 : cond0_1 i)
    (x0 : Vec Ideal S256x1024 .f32) (x1 : Vec Ideal S1024x512 .bf16) (x2 : Vec Ideal S512x1024 .bf16) (x3 : Vec Ideal S1x1024 .f32) (x4 : Vec Ideal S1x1024 .f32) (xs0 : Vec Ideal S256x1024 .f32) (xs1 : Vec Ideal S256x1024 .bf16) :
    out0_C_5 (F := Ideal) c i arg2 harg2 arg3 harg3 arg4 harg4 arg5 harg5 arg6 harg6 arg7 harg7 arg8 harg8 arg9 harg9 hc0 hc1 x0 x1 x2 x3 x4 xs0 xs1 = k0_pay4 x0 (k0_pay3 xs1 x1 xs0 x2) x3 x4 := by
  frame_out

end Stores

/-! ## The host's arrays and the blocks of a step -/

section Blocks

open Cert.FirstSampleMlpIdeal Cert.FirstSampleMlpIdeal.Gen

theorem rows_shape (x : (⟨S32x8x1024, .f32⟩ : BufTy).Contents (Elt Ideal)) (r : Fin 256) (j : Fin 1024) :
    shapeCast S256x1024 x shapeCasts_S32x8x1024_S256x1024 (ix2 r j) = x (ix3 ⟨r / 8, by omega⟩ ⟨r % 8, by omega⟩ j) := by
  pointwise

/-- The first layer's matrix, as the host cuts it out. -/
def first1 (x : (⟨S2x1024x4096, .f32⟩ : BufTy).Contents (Elt Ideal)) : (⟨S1024x4096, .bf16⟩ : BufTy).Contents (Elt Ideal) :=
  shapeCast S1024x4096 (extractStridedSlice S1x1024x4096 ![0, 0, 0] (truncf (F := Ideal) .bf16 x bitsLt_bf16_f32) slices_S2x1024x4096_S1x1024x4096_0_0_0)
    shapeCasts_S1x1024x4096_S1024x4096

def first2 (x : (⟨S2x4096x1024, .f32⟩ : BufTy).Contents (Elt Ideal)) : (⟨S4096x1024, .bf16⟩ : BufTy).Contents (Elt Ideal) :=
  shapeCast S4096x1024 (extractStridedSlice S1x4096x1024 ![0, 0, 0] (truncf (F := Ideal) .bf16 x bitsLt_bf16_f32) slices_S2x4096x1024_S1x4096x1024_0_0_0)
    shapeCasts_S1x4096x1024_S4096x1024

def last (x : (⟨S2x2x1024, .f32⟩ : BufTy).Contents (Elt Ideal)) : (⟨S1x1024, .f32⟩ : BufTy).Contents (Elt Ideal) :=
  shapeCast S1x1024 (extractStridedSlice S1x1x1x1024 ![0, 1, 0, 0] (shapeCast S2x2x1x1024 x shapeCasts_S2x2x1024_S2x2x1x1024)
    slices_S2x2x1x1024_S1x1x1x1024_0_1_0_0) shapeCasts_S1x1x1x1024_S1x1024

theorem first1_at (x : (⟨S2x1024x4096, .f32⟩ : BufTy).Contents (Elt Ideal)) (k : Fin 1024) (f : Fin 4096) : first1 x (ix2 k f) = x (ix3 0 k f) := by
  pointwise [first1]

theorem first2_at (x : (⟨S2x4096x1024, .f32⟩ : BufTy).Contents (Elt Ideal)) (f : Fin 4096) (k : Fin 1024) : first2 x (ix2 f k) = x (ix3 0 f k) := by
  pointwise [first2]

theorem last_at (x : (⟨S2x2x1024, .f32⟩ : BufTy).Contents (Elt Ideal)) (k : Fin 1024) : last x (ix2 0 k) = x (ix3 0 1 k) := by
  pointwise [last]

variable (m : (ℓ : Loc nD τ sig) → Buf (Elt Ideal) ℓ) (c : Dev nD)

theorem entry_x : V m c main_v4 = shapeCast S256x1024 (m ((c : Thread nD τ).loc main_arg0)) shapeCasts_S32x8x1024_S256x1024 := by
  simp only [V, hostOps0]
  after_results_simp
  rfl
theorem entry_up : V m c main_v6 = first1 (m ((c : Thread nD τ).loc main_arg1)) := by
  simp only [V, hostOps0]
  after_results_simp
  rfl
theorem entry_down : V m c main_v8 = first2 (m ((c : Thread nD τ).loc main_arg2)) := by
  simp only [V, hostOps0]
  after_results_simp
  rfl
theorem entry_g : V m c main_v10 = last (m ((c : Thread nD τ).loc main_arg3)) := by
  simp only [V, hostOps0]
  after_results_simp
  rfl
theorem entry_b : V m c main_v12 = last (m ((c : Thread nD τ).loc main_arg4)) := by
  simp only [V, hostOps0]
  after_results_simp
  rfl

theorem at0 : ∀ t : Fin grid0.N, win0_0.index t = ![0, 0] := by decide +kernel
theorem at1 : ∀ t : Fin grid0.N, win0_1.index t = ![0, t.val] := by decide +kernel
theorem at2 : ∀ t : Fin grid0.N, win0_2.index t = ![t.val, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel

/-- The hidden unit of a running number. -/
def col (i : ℕ) : Fin 4096 := ⟨i % 4096, Nat.mod_lt _ (Nat.le_of_ble_eq_true rfl)⟩

/-- A row of the layer's input. -/
def row (r : Fin 256) (k : Fin 1024) : EReal :=
  m ((c : Thread nD τ).loc main_arg0) (ix3 (n0 := 32) (n1 := 8) (n2 := 1024) ⟨r.val / 8, by omega⟩ ⟨r.val % 8, by omega⟩ k)

/-- What a hidden unit adds to the result. -/
def term (r : Fin 256) (j : Fin 1024) (i : ℕ) : EReal :=
  unit (row m c r) (fun k => m ((c : Thread nD τ).loc main_arg1) (ix3 (n0 := 2) (n1 := 1024) (n2 := 4096) 0 k (col i))) * m ((c : Thread nD τ).loc main_arg2) (ix3 (n0 := 2) (n1 := 4096) (n2 := 1024) 0 (col i) j)

theorem x_at (t : Fin 8) (r : Fin 256) (k : Fin 1024) : iblk m c 0 t (ix2 r k) = row m c r k := by
  have e : iblk m c 0 t (ix2 r k) = V m c main_v4 (ix2 (n0 := 256) (n1 := 1024) r k) := by blk_ext [iblk, at0 t]
  exact e.trans ((congrFun (entry_x m c) _).trans (rows_shape _ _ _))

theorem up_at (t : Fin 8) (k : Fin 1024) (f : Fin 512) :
    iblk m c 1 t (ix2 k f) = m ((c : Thread nD τ).loc main_arg1) (ix3 (n0 := 2) (n1 := 1024) (n2 := 4096) 0 k (col (512 * t.val + f.val))) := by
  have ec : col (512 * t.val + f.val) = ⟨512 * t.val + f.val, by omega⟩ := Fin.ext (Nat.mod_eq_of_lt (by omega))
  have e : iblk m c 1 t (ix2 k f) = V m c main_v6 (ix2 (n0 := 1024) (n1 := 4096) k ⟨512 * t.val + f.val, by omega⟩) := by blk_ext [iblk, at1 t]
  rw [ec]
  exact e.trans ((congrFun (entry_up m c) _).trans (first1_at _ _ _))

theorem down_at (t : Fin 8) (f : Fin 512) (k : Fin 1024) :
    iblk m c 2 t (ix2 f k) = m ((c : Thread nD τ).loc main_arg2) (ix3 (n0 := 2) (n1 := 4096) (n2 := 1024) 0 (col (512 * t.val + f.val)) k) := by
  have ec : col (512 * t.val + f.val) = ⟨512 * t.val + f.val, by omega⟩ := Fin.ext (Nat.mod_eq_of_lt (by omega))
  have e : iblk m c 2 t (ix2 f k) = V m c main_v8 (ix2 (n0 := 4096) (n1 := 1024) ⟨512 * t.val + f.val, by omega⟩ k) := by blk_ext [iblk, at2 t]
  rw [ec]
  exact e.trans ((congrFun (entry_down m c) _).trans (first2_at _ _ _))

theorem g_at (t : Fin 8) (k : Fin 1024) : iblk m c 3 t (ix2 0 k) = m ((c : Thread nD τ).loc main_arg3) (ix3 (n0 := 2) (n1 := 2) (n2 := 1024) 0 1 k) := by
  have e : iblk m c 3 t (ix2 0 k) = V m c main_v10 (ix2 (n0 := 1) (n1 := 1024) 0 k) := by blk_ext [iblk, at3 t]
  exact e.trans ((congrFun (entry_g m c) _).trans (last_at _ _))

theorem b_at (t : Fin 8) (k : Fin 1024) : iblk m c 4 t (ix2 0 k) = m ((c : Thread nD τ).loc main_arg4) (ix3 (n0 := 2) (n1 := 2) (n2 := 1024) 0 1 k) := by
  have e : iblk m c 4 t (ix2 0 k) = V m c main_v12 (ix2 (n0 := 1) (n1 := 1024) 0 k) := by blk_ext [iblk, at4 t]
  exact e.trans ((congrFun (entry_b m c) _).trans (last_at _ _))

/-- A step's addition to the accumulator, given the rows in the narrow scratch. -/
theorem part_at (t : Fin 8) (x : Vec Ideal S256x1024 .bf16) (a : Vec Ideal S256x1024 .f32) (hx : ∀ r k, x (ix2 r k) = row m c r k) (r : Fin 256) (j : Fin 1024) :
    k0_pay3 (F := Ideal) x (iblk m c 1 t) a (iblk m c 2 t) (ix2 r j) = a (ix2 r j) + ∑ f : Fin 512, term m c r j (512 * t.val + f.val) := by
  refine (step_at x (iblk m c 1 t) a (iblk m c 2 t) r j).trans (congrArg (a (ix2 r j) + ·) (Finset.sum_congr rfl fun f _ => ?_))
  rw [down_at m c t f j, show (fun k => x (ix2 r k)) = row m c r from funext fun k => hx r k,
    show (fun k => (iblk m c 1 t) (ix2 k f)) = _ from funext fun k => up_at m c t k f]
  rfl

/-- A sum over consecutive groups of 512. -/
theorem sum_groups (g : ℕ → EReal) : ∀ n : ℕ, ∑ i ∈ Finset.range (512 * n), g i = ∑ s ∈ Finset.range n, ∑ f : Fin 512, g (512 * s + f.val)
  | 0 => rfl
  | n + 1 => by
    rw [Nat.mul_succ, Finset.sum_range_add, sum_groups g n, Finset.sum_range_succ (fun s => ∑ f : Fin 512, g (512 * s + f.val)) n]
    exact congrArg (fun z => (∑ s ∈ Finset.range n, ∑ f : Fin 512, g (512 * s + f.val)) + z) (Finset.sum_range (n := 512) fun k => g (512 * n + k))

/-- The scratch after a step before the last: the sum so far, and the rows. -/
theorem held (n : ℕ) (h7 : n < 7) (hn : n < cfg0.N) :
    (∀ r j, (outsAt0 m c n hn).2.1 (ix2 r j) = ∑ s ∈ Finset.range (n + 1), ∑ f : Fin 512, term m c r j (512 * s + f.val))
      ∧ ∀ r k, (outsAt0 m c n hn).2.2 (ix2 r k) = row m c r k := by
  induction n with
  | zero =>
    have hp := outsAt0_A m c ⟨0, hn⟩ (show 0 % 8 = 0 from rfl) (show ¬0 % 8 = 7 by decide)
    dsimp only at hp
    rw [hp]
    dsimp only
    rw [sout0_A_0_eq, sout0_A_1_eq]
    have hx : ∀ r k, k0_pay1 (F := Ideal) (iblk m c 0 ⟨0, hn⟩) (ix2 r k) = row m c r k := fun r k => (narrow_at _ _ _).trans (x_at m c 0 r k)
    refine ⟨fun r j => ?_, hx⟩
    refine (part_at m c 0 _ _ hx r j).trans ?_
    rw [zero_at, zero_add, Finset.sum_range_one]
    rfl
  | succ n ih =>
    obtain ⟨ha, hx⟩ := ih (by omega) (Nat.lt_of_succ_lt hn)
    have hp := outsAt0_B m c ⟨n + 1, hn⟩ (show ¬(n + 1) % 8 = 0 by omega) (show ¬(n + 1) % 8 = 7 by omega)
    dsimp only [Nat.add_sub_cancel] at hp
    rw [hp]
    dsimp only
    rw [sout0_B_0_eq]
    refine ⟨fun r j => ?_, hx⟩
    refine (part_at m c ⟨n + 1, by omega⟩ _ _ hx r j).trans ?_
    rw [Finset.sum_range_succ, ← ha r j]
    rfl

/-- The result of the last step. -/
theorem point (n : ℕ) (hn : n < cfg0.N) (h7 : n = 7) (r : Fin 256) (j : Fin 1024) :
    (outsAt0 m c n hn).1 (ix2 r j)
      = Cert.FirstSampleMlpReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (n0 := 256) (n1 := 1024) r j) := by
  subst h7
  have hp := outsAt0_C m c ⟨7, hn⟩ (show ¬7 % 8 = 0 by decide) (show 7 % 8 = 7 from rfl)
  dsimp only at hp
  rw [hp]
  dsimp only
  rw [out0_C_5_eq]
  obtain ⟨ha, hx⟩ := held m c 6 (by decide) (Nat.lt_of_succ_lt hn)
  refine (norm_of _ _ _ _ r j).trans ?_
  rw [result_at, show (fun k => (iblk m c 3 ⟨7, hn⟩) (ix2 0 k)) = _ from funext fun k => g_at m c 7 k,
    show (fun k => (iblk m c 4 ⟨7, hn⟩) (ix2 0 k)) = _ from funext fun k => b_at m c 7 k]
  refine congrArg (fun p => Gates.layerNorm p _ _ j) (funext fun k => ?_)
  refine congrArg₂ (· + ·) (congrArg (_ * ·) (x_at m c 7 r k)) ?_
  refine (part_at m c 7 (outsAt0 m c 6 (Nat.lt_of_succ_lt hn)).2.2 (outsAt0 m c 6 (Nat.lt_of_succ_lt hn)).2.1 hx r k).trans ?_
  rw [ha r k]
  refine (Finset.sum_range_succ (fun s => ∑ f : Fin 512, term m c r k (512 * s + f.val)) 7).symm.trans ?_
  refine (sum_groups (term m c r k) 8).symm.trans ?_
  refine (Finset.sum_range (n := 4096) (term m c r k)).trans (Finset.sum_congr rfl fun f _ => ?_)
  have ec : col f.val = f := Fin.ext (Nat.mod_eq_of_lt f.isLt)
  unfold term
  rw [ec]
  rfl

/-- The layer's output, as the kernel leaves it. -/
theorem value : (dats m 0 c).arrAt 5 cfg0.N
    = Cert.FirstSampleMlpReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h1 : t.val % 8 = 7 := (flush0_5 t).mp hf
  have ht : t.val < 8 := t.isLt
  blk_simp
  rw [after0_5]
  obtain ⟨r, j, rfl⟩ : ∃ (a : Fin 256) (b : Fin 1024), y = ix2 a b := ⟨y 0, y 1, (ix2_eta y).symm⟩
  have he : (win0_5.blk t).view.emb (ix2 r j) = (ix2 (n0 := 256) (n1 := 1024) r j) := by blk_ext [at5 t]
  rw [he]
  exact point m c t.val t.isLt (by omega) r j

end Blocks

/-- The reference's run leaves its arguments and its semaphores as it found them. -/
theorem quiescent : quiescent_FirstSampleMlpReferenceIdeal := fun m ρ _ =>
  (θ_run Cert.FirstSampleMlpReferenceIdeal.defs _ _).mono (fun r h => ⟨fun c => (h c).2, sem_eq_zero_of_no_sems (by decide) r.2⟩)
    (Cert.FirstSampleMlpReferenceIdeal.Value.run (F := Ideal) m ρ)

/-- The kernel's result is the reference's. -/
theorem algebraic : algebraic_FirstSampleMlpIdeal_FirstSampleMlpReferenceIdeal := by
  intro m ρ m' ρ' _ hagree
  refine ⟨fun c => Cert.FirstSampleMlpReferenceIdeal.Read.val_main_v39 (F := Ideal) (m ((c.tc : Thread Cert.FirstSampleMlpIdeal.nD Cert.FirstSampleMlpIdeal.τ).loc Cert.FirstSampleMlpIdeal.main_arg0)) (m ((c.tc : Thread Cert.FirstSampleMlpIdeal.nD Cert.FirstSampleMlpIdeal.τ).loc Cert.FirstSampleMlpIdeal.main_arg1)) (m ((c.tc : Thread Cert.FirstSampleMlpIdeal.nD Cert.FirstSampleMlpIdeal.τ).loc Cert.FirstSampleMlpIdeal.main_arg2)) (m ((c.tc : Thread Cert.FirstSampleMlpIdeal.nD Cert.FirstSampleMlpIdeal.τ).loc Cert.FirstSampleMlpIdeal.main_arg3)) (m ((c.tc : Thread Cert.FirstSampleMlpIdeal.nD Cert.FirstSampleMlpIdeal.τ).loc Cert.FirstSampleMlpIdeal.main_arg4)), ?_, ?_⟩
  · exact (θ_run Cert.FirstSampleMlpIdeal.defs _ _).mono (fun _ h c => ⟨(h c).1.trans (value m c), (h c).2⟩) (Cert.FirstSampleMlpIdeal.Value.run_blocks (F := Ideal) m ρ)
  · refine (θ_run Cert.FirstSampleMlpReferenceIdeal.defs _ _).mono (fun _ h c => ⟨?_, (h c).2⟩) (Cert.FirstSampleMlpReferenceIdeal.Value.run (F := Ideal) m' ρ')
    obtain ⟨e0, e1, e2, e3, e4⟩ := hagree c
    refine ((h c).1.trans (Cert.FirstSampleMlpReferenceIdeal.Read.val_main_v39_eq m' c)).trans ?_
    change Cert.FirstSampleMlpReferenceIdeal.Read.val_main_v39 (F := Ideal) (m' ((c.tc : Thread Cert.FirstSampleMlpReferenceIdeal.nD Cert.FirstSampleMlpReferenceIdeal.τ).loc Cert.FirstSampleMlpReferenceIdeal.main_arg0)) (m' ((c.tc : Thread Cert.FirstSampleMlpReferenceIdeal.nD Cert.FirstSampleMlpReferenceIdeal.τ).loc Cert.FirstSampleMlpReferenceIdeal.main_arg1)) (m' ((c.tc : Thread Cert.FirstSampleMlpReferenceIdeal.nD Cert.FirstSampleMlpReferenceIdeal.τ).loc Cert.FirstSampleMlpReferenceIdeal.main_arg2)) (m' ((c.tc : Thread Cert.FirstSampleMlpReferenceIdeal.nD Cert.FirstSampleMlpReferenceIdeal.τ).loc Cert.FirstSampleMlpReferenceIdeal.main_arg3)) (m' ((c.tc : Thread Cert.FirstSampleMlpReferenceIdeal.nD Cert.FirstSampleMlpReferenceIdeal.τ).loc Cert.FirstSampleMlpReferenceIdeal.main_arg4)) = _
    rw [e0, e1, e2, e3, e4]

end Cert.FirstSampleFeedForward

end
-- ==== Proof.SampleProjections.lean ====
module

public import proofs.«01_k».proof.Defs
public import proofs.«01_k».proof.Proof.Projections
public import proofs.«01_k».proof.Proof.Gen.Pre_sample_gate_inputs_finite
public import proofs.«01_k».proof.Proof.Gen.SampleProjIdeal.Value
public import proofs.«01_k».proof.Proof.Gen.SampleProjReferenceIdeal.Run
public import proofs.«01_k».proof.Proof.Gen.SampleProjReferenceIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.SampleProjections

open Idealize.ShloMosaic Idealize.ShloMosaic.TcCoe Idealize.SL.Sem
open SharedKeys (dot_congr)
open Projections (logSigmoid lane_lt8 select_ofBool sitofp_zero logSigmoid_eq both_ones bits_top)

section Stores

open Cert.SampleProjIdeal Cert.SampleProjIdeal.Gen

variable (x0 : Vec Ideal S256x1024 .f32) (x1 : Vec Ideal S1024x3088 .bf16) (x2 : Vec Ideal S1024x128 .f32) (x3 : Vec Ideal S1x128 .f32)

/-- A step's queries beside its values. -/
theorem qv_at (r : Fin 256) (j : Fin 1536) :
    out0_4 (F := Ideal) x0 x1 x2 x3 (ix2 r j)
      = ∑ k : Fin 1024, x0 (ix2 r k) * x1 (ix2 k ⟨if j.val < 512 then j.val else 512 + j.val, by split_ifs <;> omega⟩) := by
  unfold_out out0_4
  canon_tiles x h
  all_goals
    have e0 : r.val = _ := h0
    have e1 : j.val = _ := h1
    open_payloads
    pointwise
    exact dot_congr x0 _ (by show (x 0).val = _; omega) (by simp only []; split_ifs <;> omega)

/-- A step's keys, tokens last. -/
theorem kt_at (j : Fin 512) (r : Fin 256) :
    out0_5 (F := Ideal) x0 x1 x2 x3 (ix2 j r)
      = (∑ k : Fin 1024, x0 (ix2 r k) * x1 (ix2 k ⟨512 + j.val, by omega⟩)) * Ideal.ofBits .f32 0x3E000000#32 := by
  unfold_out out0_5
  canon_tiles x h
  all_goals
    have e0 : j.val = _ := h0
    have e1 : r.val = _ := h1
    open_payloads
    pointwise
    refine congrArg (· * _) ?_
    exact dot_congr x0 _ (by show (x 1).val = _; omega) (by simp only []; omega)

/-- A step's output gates. -/
theorem o_at (r : Fin 256) (j : Fin 1024) :
    out0_6 (F := Ideal) x0 x1 x2 x3 (ix2 r j) = ∑ k : Fin 1024, x0 (ix2 r k) * x1 (ix2 k ⟨2048 + j.val, by omega⟩) := by
  unfold_out out0_6
  canon_tiles x h
  all_goals
    have e0 : r.val = _ := h0
    have e1 : j.val = _ := h1
    open_payloads
    pointwise
    exact dot_congr x0 _ (by show (x 0).val = _; omega) (by simp only []; omega)

end Stores
section Gate

open Cert.SampleProjIdeal Cert.SampleProjIdeal.Gen

variable (x0 : Vec Ideal S256x1024 .f32) (x1 : Vec Ideal S1024x3088 .bf16) (x2 : Vec Ideal S1024x128 .f32) (x3 : Vec Ideal S1x128 .f32)

/-- A gate before its nonlinearity. -/
def gate (r : Fin 256) (l : Fin 128) : EReal := (∑ k : Fin 1024, x0 (ix2 r k) * x2 (ix2 k l)) + x3 (ix2 0 l)

/-- The kernel splits rows and weights in a narrow part and a rest, and the rest is zero. -/
theorem pay13_at (hx : ∀ r k, Gates.Real? (x0 (ix2 r k))) (hw : ∀ k l, Gates.Real? (x2 (ix2 k l))) (r : Fin 256) (l : Fin 128) :
    k0_pay13 (F := Ideal) (k0_pay5 x0) (k0_pay6 x0) x2 x3 (ix2 r l) = gate x0 x2 x3 r l := by
  have e : k0_pay13 (F := Ideal) (k0_pay5 x0) (k0_pay6 x0) x2 x3 (ix2 r l)
      = ((∑ k : Fin 1024, x0 (ix2 r k) * x2 (ix2 k l)) + (∑ k : Fin 1024, (x0 (ix2 r k) - x0 (ix2 r k)) * x2 (ix2 k l)))
        + (∑ k : Fin 1024, x0 (ix2 r k) * (x2 (ix2 k l) - x2 (ix2 k l))) + x3 (ix2 0 l) := by
    pointwise [k0_pay13, k0_pay5, k0_pay6]
  rw [e]
  have z1 : (∑ k : Fin 1024, (x0 (ix2 r k) - x0 (ix2 r k)) * x2 (ix2 k l)) = 0 :=
    Finset.sum_eq_zero fun k _ => by rw [(hx r k).sub_self, zero_mul]
  have z2 : (∑ k : Fin 1024, x0 (ix2 r k) * (x2 (ix2 k l) - x2 (ix2 k l))) = 0 :=
    Finset.sum_eq_zero fun k _ => by rw [(hw k l).sub_self, mul_zero]
  rw [z1, z2, add_zero, add_zero]
  rfl

theorem pay14_at (v1 : FVec Ideal S256x1024 .f32) (v2 : FVec Ideal S256x1024 .bf16) (r : Fin 256) (l : Fin 128) :
    k0_pay14 (F := Ideal) v1 v2 x2 x3 (ix2 r l) = logSigmoid (k0_pay13 (F := Ideal) v1 v2 x2 x3 (ix2 r l)) := by
  pointwise [k0_pay14, logSigmoid]
  rfl

theorem pay15_at (v1 : FVec Ideal S256x1024 .f32) (v2 : FVec Ideal S256x1024 .bf16) (r : Fin 256) (l : Fin 128) :
    k0_pay15 (F := Ideal) v1 v2 x2 x3 (ix2 r l) = if l.val < 8 then k0_pay13 (F := Ideal) v1 v2 x2 x3 (ix2 r l) else 0 := by
  pointwise [k0_pay15]
  rw [lane_lt8 l, select_ofBool]

theorem padded_at (v60 : FVec Ideal S256x128 .f32) (r : Fin 256) (l : Fin 128) :
    k0_pay1 (F := Ideal) (iota .tc S256x128 32 [1] iota_S256x128_d1_w32) v60 (ix2 r l)
      = if h : l.val < 8 then v60 (ix2 r ⟨8 + l.val, by omega⟩) else 0 := by
  pointwise [k0_pay1]
  rw [lane_lt8 l, select_ofBool]
  by_cases h : l.val < 8
  · rw [if_pos h, dif_pos h]
    exact congrArg (fun q : Fin 128 => v60 (ix2 r q)) (Fin.ext (by simp only []; omega))
  · rw [if_neg h, dif_neg h]

theorem ld_rows : View.ld x0 r0_0 = x0 := View.ld_unit_zero (by decide) _ x0
theorem ld_gates : View.ld x2 r0_13 = x2 := View.ld_unit_zero (by decide) _ x2
theorem ld_bias : View.ld x3 r0_14 = x3 := View.ld_unit_zero (by decide) _ x3

/-- A step's input gates, padded with zeros. -/
theorem gi_at (hx : ∀ r k, Gates.Real? (x0 (ix2 r k))) (hw : ∀ k l, Gates.Real? (x2 (ix2 k l))) (r : Fin 256) (l : Fin 128) :
    out0_7 (F := Ideal) x0 x1 x2 x3 (ix2 r l) = if l.val < 8 then gate x0 x2 x3 r l else 0 := by
  rw [← pay13_at x0 x2 x3 hx hw, ← pay15_at]
  unfold_out out0_7
  canon_tiles x h
  all_goals
    have e0 : r.val = _ := h0
    have e1 : l.val = _ := h1
    rw [ld_rows, ld_gates, ld_bias]
    exact congrArg _ (funext fun a => by match a with | ⟨0, _⟩ => exact Fin.ext h0.symm | ⟨1, _⟩ => exact Fin.ext h1.symm)

/-- A step's logarithms of the forget gates, padded with zeros. -/
theorem gf_at (hx : ∀ r k, Gates.Real? (x0 (ix2 r k))) (hw : ∀ k l, Gates.Real? (x2 (ix2 k l))) (r : Fin 256) (l : Fin 128) :
    out0_8 (F := Ideal) x0 x1 x2 x3 (ix2 r l) = if h : l.val < 8 then logSigmoid (gate x0 x2 x3 r ⟨8 + l.val, by omega⟩) else 0 := by
  simp only [← pay13_at x0 x2 x3 hx hw, ← pay14_at, ← padded_at]
  unfold_out out0_8
  canon_tiles x h
  all_goals
    have e0 : r.val = _ := h0
    have e1 : l.val = _ := h1
    rw [ld_rows, ld_gates, ld_bias]
    exact congrArg _ (funext fun a => by match a with | ⟨0, _⟩ => exact Fin.ext h0.symm | ⟨1, _⟩ => exact Fin.ext h1.symm)

end Gate
section Reference

open Cert.SampleProjReferenceIdeal Cert.SampleProjReferenceIdeal.Read

variable (x0 : (⟨S32x8x1024, .f32⟩ : BufTy).Contents (Elt Ideal)) (x1 : (⟨S1x1024x3088, .f32⟩ : BufTy).Contents (Elt Ideal))
  (x2 : (⟨S1x16, .f32⟩ : BufTy).Contents (Elt Ideal))

/-- A product of the projection. -/
def proj (r : Fin 256) (j : Fin 3088) : EReal :=
  ∑ k : Fin 1024, x0 (ix3 ⟨r.val / 8, by omega⟩ ⟨r.val % 8, by omega⟩ k) * x1 (ix3 0 k j)

theorem proj_at (r : Fin 256) (j : Fin 3088) : val_main_v2 (F := Ideal) x0 x1 (ix2 r j) = proj x0 x1 r j := by
  pointwise [val_main_v2, val_main_v0, val_main_v1, proj]

theorem ref_qv_at (r : Fin 256) (j : Fin 1536) :
    val_main_v18 (F := Ideal) x0 x1 (ix2 r j) = proj x0 x1 r ⟨if j.val < 512 then j.val else 512 + j.val, by split_ifs <;> omega⟩ := by
  rw [← proj_at]
  pointwise [val_main_v18, val_main_v17, val_main_v3, val_main_v5]
  by_cases h : j.val < 512
  · simp only [dif_pos h, if_pos h]
  · simp only [dif_neg h, if_neg h, show 1024 + (j.val - 512) = 512 + j.val by omega]

theorem ref_kt_at (j : Fin 512) (r : Fin 256) :
    val_main_v20 (F := Ideal) x0 x1 (ix2 j r) = proj x0 x1 r ⟨512 + j.val, by omega⟩ * Ideal.ofBits .f32 0x3E000000#32 := by
  rw [← proj_at]
  pointwise [val_main_v20, val_main_v19, val_main_v9, val_main_v4, val_main_v8, val_main_cst]

theorem ref_o_at (r : Fin 256) (j : Fin 1024) : val_main_v6 (F := Ideal) x0 x1 (ix2 r j) = proj x0 x1 r ⟨2048 + j.val, by omega⟩ := by
  rw [← proj_at]
  pointwise [val_main_v6]

/-- A gate before its nonlinearity. -/
def refGate (r : Fin 256) (l : Fin 16) : EReal := proj x0 x1 r ⟨3072 + l.val, by omega⟩ + x2 (ix2 0 l)

theorem ref_gate_at (r : Fin 256) (l : Fin 16) : val_main_v13 (F := Ideal) x0 x1 x2 (ix2 r l) = refGate x0 x1 x2 r l := by
  unfold refGate
  rw [← proj_at]
  pointwise [val_main_v13, val_main_v7, val_main_v12, val_main_v11, val_main_v10]

theorem ref_input_at (r : Fin 256) (l : Fin 8) : val_main_v14 (F := Ideal) x0 x1 x2 (ix2 r l) = refGate x0 x1 x2 r ⟨l.val, by omega⟩ := by
  rw [← ref_gate_at]
  pointwise [val_main_v14]

theorem ref_forget_at (r : Fin 256) (l : Fin 8) :
    val_main_v16 (F := Ideal) x0 x1 x2 (ix2 r l) = logSigmoid (refGate x0 x1 x2 r ⟨8 + l.val, by omega⟩) := by
  rw [← ref_gate_at, ← logSigmoid_eq]
  pointwise [val_main_v16, val_main_call0_v1, val_main_call0_call0_v4, val_main_call0_call0_v6, val_main_call0_call0_v11, val_main_call0_call0_v1,
    val_main_call0_call0_v10, val_main_call0_call0_v9, val_main_call0_call0_v8, val_main_call0_call0_v7, val_main_call0_call0_v3, val_main_call0_v0,
    val_main_call0_call0_v0, val_main_call0_call0_v2, val_main_call0_call0_v5, val_main_call0_call0_cst, val_main_v15]
  rw [if_neg (fun h => h rfl)]
  rfl

theorem ref_gi_at (r : Fin 256) (l : Fin 128) :
    val_main_v21 (F := Ideal) x0 x1 x2 (ix2 r l) = if h : l.val < 8 then refGate x0 x1 x2 r ⟨l.val, by omega⟩ else 0 := by
  pointwise [val_main_v21, val_main_call1_v0, val_main_c]
  by_cases h : l.val < 8
  · rw [dif_pos h, dif_pos h, ref_input_at]
  · rw [dif_neg h, dif_neg h, sitofp_zero]

theorem ref_gf_at (r : Fin 256) (l : Fin 128) :
    val_main_v22 (F := Ideal) x0 x1 x2 (ix2 r l) = if h : l.val < 8 then logSigmoid (refGate x0 x1 x2 r ⟨8 + l.val, by omega⟩) else 0 := by
  pointwise [val_main_v22, val_main_call2_v0, val_main_c_0]
  by_cases h : l.val < 8
  · rw [dif_pos h, dif_pos h, ref_forget_at]
  · rw [dif_neg h, dif_neg h, sitofp_zero]

end Reference
section Values

open Cert.SampleProjIdeal Cert.SampleProjIdeal.Gen

theorem rows_shape (x : (⟨S32x8x1024, .f32⟩ : BufTy).Contents (Elt Ideal)) (r : Fin 256) (j : Fin 1024) :
    shapeCast S256x1024 x shapeCasts_S32x8x1024_S256x1024 (ix2 r j) = x (ix3 ⟨r.val / 8, by omega⟩ ⟨r.val % 8, by omega⟩ j) := by
  pointwise

/-- The projection weights, as the host hands them over. -/
def weights (x : (⟨S1x1024x3088, .f32⟩ : BufTy).Contents (Elt Ideal)) : (⟨S1024x3088, .bf16⟩ : BufTy).Contents (Elt Ideal) :=
  truncf (F := Ideal) .bf16 (shapeCast S1024x3088 x shapeCasts_S1x1024x3088_S1024x3088) bitsLt_bf16_f32

theorem weights_at (x : (⟨S1x1024x3088, .f32⟩ : BufTy).Contents (Elt Ideal)) (k : Fin 1024) (j : Fin 3088) : weights x (ix2 k j) = x (ix3 0 k j) := by
  pointwise [weights]

/-- The columns of the gates, padded to 128. -/
def gateWeights (x : (⟨S1x1024x3088, .f32⟩ : BufTy).Contents (Elt Ideal)) : (⟨S1024x128, .f32⟩ : BufTy).Contents (Elt Ideal) :=
  pad S1024x128 ![0, 0] ![0, 112] ![0, 0]
    (shapeCast S1024x16 (extractStridedSlice S1x1024x16 ![0, 0, 3072] x slices_S1x1024x3088_S1x1024x16_0_0_3072) shapeCasts_S1x1024x16_S1024x16)
    (sitofp (F := Ideal) .f32 (constantI S_ 32 0#32)) pads_S1024x16_S1024x128_000_01120 h_S_

theorem gateWeights_at (x : (⟨S1x1024x3088, .f32⟩ : BufTy).Contents (Elt Ideal)) (k : Fin 1024) (l : Fin 128) :
    gateWeights x (ix2 k l) = if h : l.val < 16 then x (ix3 0 k ⟨3072 + l.val, by omega⟩) else 0 := by
  pointwise [gateWeights]
  by_cases h : l.val < 16
  · rw [dif_pos h, dif_pos h]
  · rw [dif_neg h, dif_neg h, sitofp_zero]

/-- The biases of the gates, padded to 128. -/
def gateBias (x : (⟨S1x16, .f32⟩ : BufTy).Contents (Elt Ideal)) : (⟨S1x128, .f32⟩ : BufTy).Contents (Elt Ideal) :=
  shapeCast S1x128 (pad S128 ![0] ![112] ![0] (shapeCast S16 x shapeCasts_S1x16_S16) (sitofp (F := Ideal) .f32 (constantI S_ 32 0#32)) pads_S16_S128_01120 h_S_)
    shapeCasts_S128_S1x128

theorem gateBias_at (x : (⟨S1x16, .f32⟩ : BufTy).Contents (Elt Ideal)) (l : Fin 128) :
    gateBias x (ix2 0 l) = if h : l.val < 16 then x (ix2 0 ⟨l.val, h⟩) else 0 := by
  pointwise [gateBias]
  by_cases h : l.val < 16
  · rw [dif_pos h, dif_pos h]
  · rw [dif_neg h, dif_neg h, sitofp_zero]

variable (m : (ℓ : Loc nD τ sig) → Buf (Elt Ideal) ℓ) (c : Dev nD)

theorem entry_x : V m c main_v8 = shapeCast S256x1024 (m ((c : Thread nD τ).loc main_arg0)) shapeCasts_S32x8x1024_S256x1024 := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem entry_w : V m c main_v1 = weights (m ((c : Thread nD τ).loc main_arg1)) := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem entry_g : V m c main_v4 = gateWeights (m ((c : Thread nD τ).loc main_arg1)) := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem entry_b : V m c main_v7 = gateBias (m ((c : Thread nD τ).loc main_arg2)) := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![t.val, 0] := by decide +kernel
theorem at5 : ∀ t : Fin grid0.N, win0_5.index t = ![0, t.val] := by decide +kernel
theorem at6 : ∀ t : Fin grid0.N, win0_6.index t = ![t.val, 0] := by decide +kernel
theorem at7 : ∀ t : Fin grid0.N, win0_7.index t = ![t.val, 0] := by decide +kernel
theorem at8 : ∀ t : Fin grid0.N, win0_8.index t = ![t.val, 0] := by decide +kernel

/-- A step's rows. -/
theorem x_at (t : Fin 1) (r : Fin 256) (k : Fin 1024) :
    iblk m c 0 t (ix2 r k) = m ((c : Thread nD τ).loc main_arg0)
      (ix3 (n0 := 32) (n1 := 8) (n2 := 1024) ⟨(256 * t.val + r.val) / 8, by omega⟩ ⟨(256 * t.val + r.val) % 8, by omega⟩ k) := by
  have e : iblk m c 0 t (ix2 r k) = V m c main_v8 (ix2 (n0 := 256) (n1 := 1024) ⟨256 * t.val + r.val, by omega⟩ k) := by blk_ext [iblk, at0 t]
  exact e.trans ((congrFun (entry_x m c) _).trans (rows_shape _ _ _))

theorem w_at (t : Fin 1) (k : Fin 1024) (j : Fin 3088) : iblk m c 1 t (ix2 k j) = m ((c : Thread nD τ).loc main_arg1) (ix3 (n0 := 1) (n1 := 1024) (n2 := 3088) 0 k j) := by
  have e : iblk m c 1 t (ix2 k j) = V m c main_v1 (ix2 (n0 := 1024) (n1 := 3088) k j) := by blk_ext [iblk, at1 t]
  exact e.trans ((congrFun (entry_w m c) _).trans (weights_at _ _ _))

theorem g_at (t : Fin 1) (k : Fin 1024) (l : Fin 128) : iblk m c 2 t (ix2 k l)
    = if h : l.val < 16 then m ((c : Thread nD τ).loc main_arg1) (ix3 (n0 := 1) (n1 := 1024) (n2 := 3088) 0 k ⟨3072 + l.val, by omega⟩) else (0 : EReal) := by
  have e : iblk m c 2 t (ix2 k l) = V m c main_v4 (ix2 (n0 := 1024) (n1 := 128) k l) := by blk_ext [iblk, at2 t]
  exact e.trans ((congrFun (entry_g m c) _).trans (gateWeights_at _ _ _))

theorem b_at (t : Fin 1) (l : Fin 128) : iblk m c 3 t (ix2 0 l)
    = if h : l.val < 16 then m ((c : Thread nD τ).loc main_arg2) (ix2 (n0 := 1) (n1 := 16) 0 ⟨l.val, h⟩) else (0 : EReal) := by
  have e : iblk m c 3 t (ix2 0 l) = V m c main_v7 (ix2 (n0 := 1) (n1 := 128) 0 l) := by blk_ext [iblk, at3 t]
  exact e.trans ((congrFun (entry_b m c) _).trans (gateBias_at _ _))

/-- A product of a step. -/
def dotRow (x : Vec Ideal S256x1024 .f32) (w : Vec Ideal S1024x3088 .bf16) (r : Fin 256) (j : Fin 3088) : EReal :=
  ∑ k : Fin 1024, x (ix2 r k) * w (ix2 k j)

/-- A product of a step is the reference's. -/
theorem proj_block (t : Fin 1) (r : Fin 256) (j : Fin 3088) : dotRow (iblk m c 0 t) (iblk m c 1 t) r j
    = proj (m ((c : Thread nD τ).loc main_arg0)) (m ((c : Thread nD τ).loc main_arg1)) ⟨256 * t.val + r.val, by omega⟩ j :=
  Finset.sum_congr rfl fun k _ => congrArg₂ (fun a b : EReal => a * b) (x_at m c t r k) (w_at m c t k j)

/-- A gate of a step is the reference's. -/
theorem gate_block (t : Fin 1) (r : Fin 256) (l : Fin 128) (h : l.val < 16) :
    gate (iblk m c 0 t) (iblk m c 2 t) (iblk m c 3 t) r l
      = refGate (m ((c : Thread nD τ).loc main_arg0)) (m ((c : Thread nD τ).loc main_arg1)) (m ((c : Thread nD τ).loc main_arg2)) ⟨256 * t.val + r.val, by omega⟩ ⟨l.val, h⟩ := by
  unfold gate refGate proj
  rw [b_at m c t l, dif_pos h]
  refine congrArg (· + _) (Finset.sum_congr rfl fun k _ => ?_)
  rw [x_at m c t, g_at m c t, dif_pos h]

theorem rows_real (hx : ∀ b s k, Gates.Real? (m ((c : Thread nD τ).loc main_arg0) (ix3 (n0 := 32) (n1 := 8) (n2 := 1024) b s k))) (t : Fin 1) (r : Fin 256) (k : Fin 1024) :
    Gates.Real? (iblk m c 0 t (ix2 r k)) := by
  rw [x_at m c t]; exact hx _ _ _

theorem gates_real (hw : ∀ k (l : Fin 16), Gates.Real? (m ((c : Thread nD τ).loc main_arg1) (ix3 (n0 := 1) (n1 := 1024) (n2 := 3088) 0 k ⟨3072 + l.val, by omega⟩))) (t : Fin 1)
    (k : Fin 1024) (l : Fin 128) : Gates.Real? (iblk m c 2 t (ix2 k l)) := by
  rw [g_at m c t]
  split_ifs with h
  · exact hw k ⟨l.val, h⟩
  · exact Gates.Real?.zero

/-- The queries beside the values, as the kernel leaves them. -/
theorem qv_value : (dats m 0 c).arrAt 4 cfg0.N = Cert.SampleProjReferenceIdeal.Read.val_main_v18 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  obtain ⟨r, j, rfl⟩ : ∃ (a : Fin 256) (b : Fin 1536), y = ix2 a b := ⟨y 0, y 1, (ix2_eta y).symm⟩
  have ht : t.val < 1 := t.isLt
  have he : (win0_4.blk t).view.emb (ix2 r j) = (ix2 (n0 := 256) (n1 := 1536) ⟨256 * t.val + r.val, by omega⟩ j) := by blk_ext [at4 t]
  rw [he]
  exact (qv_at _ _ _ _ r j).trans ((proj_block m c t r _).trans (ref_qv_at _ _ _ _).symm)

/-- The keys, as the kernel leaves them. -/
theorem kt_value : (dats m 0 c).arrAt 5 cfg0.N = Cert.SampleProjReferenceIdeal.Read.val_main_v20 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  obtain ⟨j, r, rfl⟩ : ∃ (a : Fin 512) (b : Fin 256), y = ix2 a b := ⟨y 0, y 1, (ix2_eta y).symm⟩
  have ht : t.val < 1 := t.isLt
  have he : (win0_5.blk t).view.emb (ix2 j r) = (ix2 (n0 := 512) (n1 := 256) j ⟨256 * t.val + r.val, by omega⟩) := by blk_ext [at5 t]
  rw [he]
  exact (kt_at _ _ _ _ j r).trans ((congrArg (· * _) (proj_block m c t r _)).trans (ref_kt_at _ _ _ _).symm)

/-- The output gates, as the kernel leaves them. -/
theorem o_value : (dats m 0 c).arrAt 6 cfg0.N = Cert.SampleProjReferenceIdeal.Read.val_main_v6 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  obtain ⟨r, j, rfl⟩ : ∃ (a : Fin 256) (b : Fin 1024), y = ix2 a b := ⟨y 0, y 1, (ix2_eta y).symm⟩
  have ht : t.val < 1 := t.isLt
  have he : (win0_6.blk t).view.emb (ix2 r j) = (ix2 (n0 := 256) (n1 := 1024) ⟨256 * t.val + r.val, by omega⟩ j) := by blk_ext [at6 t]
  rw [he]
  exact (o_at _ _ _ _ r j).trans ((proj_block m c t r _).trans (ref_o_at _ _ _ _).symm)

variable (hx : ∀ b s k, Gates.Real? (m ((c : Thread nD τ).loc main_arg0) (ix3 (n0 := 32) (n1 := 8) (n2 := 1024) b s k)))
  (hw : ∀ k (l : Fin 16), Gates.Real? (m ((c : Thread nD τ).loc main_arg1) (ix3 (n0 := 1) (n1 := 1024) (n2 := 3088) 0 k ⟨3072 + l.val, by omega⟩)))

include hx hw

theorem gi_point (t : Fin 1) (r : Fin 256) (l : Fin 128) :
    out0_7 (F := Ideal) (iblk m c 0 t) (iblk m c 1 t) (iblk m c 2 t) (iblk m c 3 t) (ix2 r l)
      = Cert.SampleProjReferenceIdeal.Read.val_main_v21 (F := Ideal) (m ((c : Thread nD τ).loc main_arg0)) (m ((c : Thread nD τ).loc main_arg1)) (m ((c : Thread nD τ).loc main_arg2))
        (ix2 (n0 := 256) (n1 := 128) ⟨256 * t.val + r.val, by omega⟩ l) := by
  refine (gi_at _ _ _ _ (rows_real m c hx t) (gates_real m c hw t) r l).trans (Eq.trans ?_ (ref_gi_at _ _ _ _ _).symm)
  by_cases h : l.val < 8
  · rw [if_pos h, dif_pos h, gate_block m c t r l (by omega)]
  · rw [if_neg h, dif_neg h]

/-- The input gates, as the kernel leaves them. -/
theorem gi_value : (dats m 0 c).arrAt 7 cfg0.N = Cert.SampleProjReferenceIdeal.Read.val_main_v21 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  obtain ⟨r, j, rfl⟩ : ∃ (a : Fin 256) (b : Fin 128), y = ix2 a b := ⟨y 0, y 1, (ix2_eta y).symm⟩
  have ht : t.val < 1 := t.isLt
  have he : (win0_7.blk t).view.emb (ix2 r j) = (ix2 (n0 := 256) (n1 := 128) ⟨256 * t.val + r.val, by omega⟩ j) := by blk_ext [at7 t]
  rw [he]
  exact gi_point m c hx hw t r j

theorem gf_point (t : Fin 1) (r : Fin 256) (l : Fin 128) :
    out0_8 (F := Ideal) (iblk m c 0 t) (iblk m c 1 t) (iblk m c 2 t) (iblk m c 3 t) (ix2 r l)
      = Cert.SampleProjReferenceIdeal.Read.val_main_v22 (F := Ideal) (m ((c : Thread nD τ).loc main_arg0)) (m ((c : Thread nD τ).loc main_arg1)) (m ((c : Thread nD τ).loc main_arg2))
        (ix2 (n0 := 256) (n1 := 128) ⟨256 * t.val + r.val, by omega⟩ l) := by
  refine (gf_at _ _ _ _ (rows_real m c hx t) (gates_real m c hw t) r l).trans (Eq.trans ?_ (ref_gf_at _ _ _ _ _).symm)
  by_cases h : l.val < 8
  · rw [dif_pos h, dif_pos h, gate_block m c t r ⟨8 + l.val, by omega⟩ (by simp only []; omega)]
  · rw [dif_neg h, dif_neg h]

/-- The logarithms of the forget gates, as the kernel leaves them. -/
theorem gf_value : (dats m 0 c).arrAt 8 cfg0.N = Cert.SampleProjReferenceIdeal.Read.val_main_v22 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  obtain ⟨r, j, rfl⟩ : ∃ (a : Fin 256) (b : Fin 128), y = ix2 a b := ⟨y 0, y 1, (ix2_eta y).symm⟩
  have ht : t.val < 1 := t.isLt
  have he : (win0_8.blk t).view.emb (ix2 r j) = (ix2 (n0 := 256) (n1 := 128) ⟨256 * t.val + r.val, by omega⟩ j) := by blk_ext [at8 t]
  rw [he]
  exact gf_point m c hx hw t r j

end Values

/-! ## What the precondition says -/

section Precondition

variable (x0 : FVec Ideal Cert.Pre_sample_gate_inputs_finite.S32x8x1024 .f32) (x1 : FVec Ideal Cert.Pre_sample_gate_inputs_finite.S1x1024x3088 .f32) (x2 : FVec Ideal Cert.Pre_sample_gate_inputs_finite.S1x16 .f32)

/-- The precondition holds: the rows and the weights of the gates are real numbers. -/
theorem finite (b : Fin 32) (s : Fin 8) (k : Fin 1024) (l : Fin 16)
    (hp : Cert.Pre_sample_gate_inputs_finite.fn (F := Ideal) x0 x1 x2 (ix4 b s k l) = 1#1) :
    Gates.Real? (x0 (ix3 b s k)) ∧ Gates.Real? (x1 (ix3 0 k ⟨3072 + l.val, by omega⟩)) := by
  have e : Cert.Pre_sample_gate_inputs_finite.fn (F := Ideal) x0 x1 x2 (ix4 b s k l)
      = IntOp.andi (BitVec.ofBool (decide ((FloatOps.absf (x0 (ix3 b s k)) : EReal) < Ideal.ofBits .f32 0x7F800000#32)))
          (BitVec.ofBool (decide ((FloatOps.absf (x1 (ix3 0 k ⟨3072 + l.val, by omega⟩)) : EReal) < Ideal.ofBits .f32 0x7F800000#32))) := by
    pointwise [Cert.Pre_sample_gate_inputs_finite.fn]
  obtain ⟨h1, h2⟩ := both_ones _ _ (e.symm.trans hp)
  rw [bits_top] at h1 h2
  exact ⟨Gates.Real?.of_abs_lt (of_decide_eq_true h1), Gates.Real?.of_abs_lt (of_decide_eq_true h2)⟩

end Precondition

/-! ## The two programs -/

/-- The reference's run leaves its arguments and its semaphores as it found them. -/
theorem quiescent : quiescent_SampleProjReferenceIdeal := fun m ρ _ =>
  (θ_run Cert.SampleProjReferenceIdeal.defs _ _).mono (fun r h => ⟨fun c => (h c).2.2.2.2.2, sem_eq_zero_of_no_sems (by decide) r.2⟩)
    (Cert.SampleProjReferenceIdeal.Value.run (F := Ideal) m ρ)

/-- Where the inputs of the gates are finite, the kernel's five results are the reference's. -/
theorem algebraic : algebraic_SampleProjIdeal_SampleProjReferenceIdeal_pre_sample_gate_inputs_finite := by
  intro m ρ m' ρ' hp hagree
  have hx : ∀ (c : Dev Cert.SampleProjIdeal.nD) b s k, Gates.Real? (m ((c.tc : Thread Cert.SampleProjIdeal.nD Cert.SampleProjIdeal.τ).loc Cert.SampleProjIdeal.main_arg0) (ix3 (n0 := 32) (n1 := 8) (n2 := 1024) b s k)) := fun c b s k =>
    (finite _ _ _ b s k 0 (congrFun (hp c) _)).1
  have hw : ∀ (c : Dev Cert.SampleProjIdeal.nD) k (l : Fin 16), Gates.Real? (m ((c.tc : Thread Cert.SampleProjIdeal.nD Cert.SampleProjIdeal.τ).loc Cert.SampleProjIdeal.main_arg1) (ix3 (n0 := 1) (n1 := 1024) (n2 := 3088) 0 k ⟨3072 + l.val, by omega⟩)) := fun c k l =>
    (finite _ _ _ 0 0 k l (congrFun (hp c) _)).2
  refine ⟨fun c => Cert.SampleProjReferenceIdeal.Read.val_main_v18 (F := Ideal) (m ((c.tc : Thread Cert.SampleProjIdeal.nD Cert.SampleProjIdeal.τ).loc Cert.SampleProjIdeal.main_arg0)) (m ((c.tc : Thread Cert.SampleProjIdeal.nD Cert.SampleProjIdeal.τ).loc Cert.SampleProjIdeal.main_arg1)),
    fun c => Cert.SampleProjReferenceIdeal.Read.val_main_v20 (F := Ideal) (m ((c.tc : Thread Cert.SampleProjIdeal.nD Cert.SampleProjIdeal.τ).loc Cert.SampleProjIdeal.main_arg0)) (m ((c.tc : Thread Cert.SampleProjIdeal.nD Cert.SampleProjIdeal.τ).loc Cert.SampleProjIdeal.main_arg1)),
    fun c => Cert.SampleProjReferenceIdeal.Read.val_main_v6 (F := Ideal) (m ((c.tc : Thread Cert.SampleProjIdeal.nD Cert.SampleProjIdeal.τ).loc Cert.SampleProjIdeal.main_arg0)) (m ((c.tc : Thread Cert.SampleProjIdeal.nD Cert.SampleProjIdeal.τ).loc Cert.SampleProjIdeal.main_arg1)),
    fun c => Cert.SampleProjReferenceIdeal.Read.val_main_v21 (F := Ideal) (m ((c.tc : Thread Cert.SampleProjIdeal.nD Cert.SampleProjIdeal.τ).loc Cert.SampleProjIdeal.main_arg0)) (m ((c.tc : Thread Cert.SampleProjIdeal.nD Cert.SampleProjIdeal.τ).loc Cert.SampleProjIdeal.main_arg1)) (m ((c.tc : Thread Cert.SampleProjIdeal.nD Cert.SampleProjIdeal.τ).loc Cert.SampleProjIdeal.main_arg2)),
    fun c => Cert.SampleProjReferenceIdeal.Read.val_main_v22 (F := Ideal) (m ((c.tc : Thread Cert.SampleProjIdeal.nD Cert.SampleProjIdeal.τ).loc Cert.SampleProjIdeal.main_arg0)) (m ((c.tc : Thread Cert.SampleProjIdeal.nD Cert.SampleProjIdeal.τ).loc Cert.SampleProjIdeal.main_arg1)) (m ((c.tc : Thread Cert.SampleProjIdeal.nD Cert.SampleProjIdeal.τ).loc Cert.SampleProjIdeal.main_arg2)), ?_, ?_⟩
  · refine (θ_run Cert.SampleProjIdeal.defs _ _).mono (fun _ h c => ⟨?_, ?_, ?_, ?_, ?_, (h c).2.2.2.2.2.2⟩) (Cert.SampleProjIdeal.Value.run_blocks (F := Ideal) m ρ)
    · exact (h c).1.trans (qv_value m c)
    · exact (h c).2.1.trans (kt_value m c)
    · exact (h c).2.2.1.trans (o_value m c)
    · exact (h c).2.2.2.1.trans (gi_value m c (hx c) (hw c))
    · exact (h c).2.2.2.2.1.trans (gf_value m c (hx c) (hw c))
  · refine (θ_run Cert.SampleProjReferenceIdeal.defs _ _).mono (fun _ h c => ⟨?_, ?_, ?_, ?_, ?_, (h c).2.2.2.2.2⟩) (Cert.SampleProjReferenceIdeal.Value.run (F := Ideal) m' ρ')
    all_goals obtain ⟨e0, e1, e2⟩ := hagree c
    · refine ((h c).1.trans (Cert.SampleProjReferenceIdeal.Read.val_main_v18_eq _ _)).trans ?_
      rw [e0, e1]
    · refine ((h c).2.1.trans (Cert.SampleProjReferenceIdeal.Read.val_main_v20_eq _ _)).trans ?_
      rw [e0, e1]
    · refine ((h c).2.2.1.trans (Cert.SampleProjReferenceIdeal.Read.val_main_v6_eq _ _)).trans ?_
      rw [e0, e1]
    · refine ((h c).2.2.2.1.trans (Cert.SampleProjReferenceIdeal.Read.val_main_v21_eq _ _ _)).trans ?_
      rw [e0, e1, e2]
    · refine ((h c).2.2.2.2.1.trans (Cert.SampleProjReferenceIdeal.Read.val_main_v22_eq _ _ _)).trans ?_
      rw [e0, e1, e2]

end Cert.SampleProjections

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_gates_tame
public import proofs.«01_k».proof.Proof.Gen.KernelIdeal.Value
public import proofs.«01_k».proof.Proof.Gen.ReferenceIdeal.Run
public import proofs.«01_k».proof.Proof.Gen.ReferenceIdeal.Read
public import proofs.«01_k».proof.Proof.Mixer
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpReferenceIdeal
public import proofs.«01_k».proof.Proof.Gen.MlpIdeal.Value
public import proofs.«01_k».proof.Proof.Gen.MlpReferenceIdeal.Run
public import proofs.«01_k».proof.Proof.Gen.MlpReferenceIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvReferenceIdeal
public import proofs.«01_k».proof.Proof.Gen.QkvIdeal.Value
public import proofs.«01_k».proof.Proof.Gen.QkvReferenceIdeal.Run
public import proofs.«01_k».proof.Proof.Gen.QkvReferenceIdeal.Read
public import proofs.«01_k».proof.Proof.FeedForward
public import proofs.«01_k».proof.Proof.SharedKeys
public import proofs.«01_k».proof.Proof.Gen.FirstMlp
public import proofs.«01_k».proof.Proof.Gen.FirstMlp.Frame
public import proofs.«01_k».proof.Proof.Gen.FirstMlpIdeal
public import proofs.«01_k».proof.Proof.Gen.FirstMlpIdeal.Frame
public import proofs.«01_k».proof.Proof.Gen.FirstMlpReferenceIdeal
public import proofs.«01_k».proof.Proof.Gen.FirstMlpIdeal.Value
public import proofs.«01_k».proof.Proof.Gen.FirstMlpReferenceIdeal.Run
public import proofs.«01_k».proof.Proof.Gen.FirstMlpReferenceIdeal.Read
public import proofs.«01_k».proof.Proof.Gen.SampleMlp
public import proofs.«01_k».proof.Proof.Gen.SampleMlp.Frame
public import proofs.«01_k».proof.Proof.Gen.SampleMlpIdeal
public import proofs.«01_k».proof.Proof.Gen.SampleMlpIdeal.Frame
public import proofs.«01_k».proof.Proof.Gen.SampleMlpReferenceIdeal
public import proofs.«01_k».proof.Proof.Gen.SampleMlpIdeal.Value
public import proofs.«01_k».proof.Proof.Gen.SampleMlpReferenceIdeal.Run
public import proofs.«01_k».proof.Proof.Gen.SampleMlpReferenceIdeal.Read
public import proofs.«01_k».proof.Proof.Gen.SampleQkv
public import proofs.«01_k».proof.Proof.Gen.SampleQkv.Frame
public import proofs.«01_k».proof.Proof.Gen.SampleQkvIdeal
public import proofs.«01_k».proof.Proof.Gen.SampleQkvIdeal.Frame
public import proofs.«01_k».proof.Proof.Gen.SampleQkvReferenceIdeal
public import proofs.«01_k».proof.Proof.Gen.SampleQkvIdeal.Value
public import proofs.«01_k».proof.Proof.Gen.SampleQkvReferenceIdeal.Run
public import proofs.«01_k».proof.Proof.Gen.SampleQkvReferenceIdeal.Read
public import proofs.«01_k».proof.Proof.FirstFeedForward
public import proofs.«01_k».proof.Proof.SampleFeedForward
public import proofs.«01_k».proof.Proof.SampleKeys
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjReferenceIdeal
public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.Gen.Pre_gate_inputs_finite
public import proofs.«01_k».proof.Proof.Projections
public import proofs.«01_k».proof.Proof.Gen.OutLn
public import proofs.«01_k».proof.Proof.Gen.OutLn.Frame
public import proofs.«01_k».proof.Proof.Gen.OutLnIdeal
public import proofs.«01_k».proof.Proof.Gen.OutLnIdeal.Frame
public import proofs.«01_k».proof.Proof.Gen.OutLnReferenceIdeal
public import proofs.«01_k».proof.Proof.Gen.OutLnIdeal.Value
public import proofs.«01_k».proof.Proof.Gen.OutLnReferenceIdeal.Run
public import proofs.«01_k».proof.Proof.Gen.OutLnReferenceIdeal.Read
public import proofs.«01_k».proof.Proof.AttentionOutput
public import proofs.«01_k».proof.Proof.Gen.FirstSampleMlp
public import proofs.«01_k».proof.Proof.Gen.FirstSampleMlp.Frame
public import proofs.«01_k».proof.Proof.Gen.FirstSampleMlpIdeal
public import proofs.«01_k».proof.Proof.Gen.FirstSampleMlpIdeal.Frame
public import proofs.«01_k».proof.Proof.Gen.FirstSampleMlpReferenceIdeal
public import proofs.«01_k».proof.Proof.Gen.FirstSampleMlpIdeal.Value
public import proofs.«01_k».proof.Proof.Gen.FirstSampleMlpReferenceIdeal.Run
public import proofs.«01_k».proof.Proof.Gen.FirstSampleMlpReferenceIdeal.Read
public import proofs.«01_k».proof.Proof.FirstSampleFeedForward
public import proofs.«01_k».proof.Proof.Gen.SampleProj
public import proofs.«01_k».proof.Proof.Gen.SampleProj.Frame
public import proofs.«01_k».proof.Proof.Gen.SampleProjIdeal
public import proofs.«01_k».proof.Proof.Gen.SampleProjIdeal.Frame
public import proofs.«01_k».proof.Proof.Gen.SampleProjReferenceIdeal
public import proofs.«01_k».proof.Proof.Gen.SampleProjIdeal.Value
public import proofs.«01_k».proof.Proof.Gen.SampleProjReferenceIdeal.Run
public import proofs.«01_k».proof.Proof.Gen.SampleProjReferenceIdeal.Read
public import proofs.«01_k».proof.Proof.Gen.Pre_sample_gate_inputs_finite
public import proofs.«01_k».proof.Proof.SampleProjections
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.Qkv.Gen.facts, Cert.QkvIdeal.Gen.facts, Cert.QkvReferenceIdeal.Gen.facts,
  Cert.FirstMlp.Gen.facts, Cert.FirstMlpIdeal.Gen.facts, Cert.FirstMlpReferenceIdeal.Gen.facts,
  Cert.SampleQkv.Gen.facts, Cert.SampleQkvIdeal.Gen.facts, Cert.SampleQkvReferenceIdeal.Gen.facts,
  Cert.SampleMlp.Gen.facts, Cert.SampleMlpIdeal.Gen.facts, Cert.SampleMlpReferenceIdeal.Gen.facts,
  Cert.Proj.Gen.facts, Cert.ProjIdeal.Gen.facts, Cert.ProjReferenceIdeal.Gen.facts,
  Cert.OutLn.Gen.facts, Cert.OutLnIdeal.Gen.facts, Cert.OutLnReferenceIdeal.Gen.facts,
  Cert.FirstSampleMlp.Gen.facts, Cert.FirstSampleMlpIdeal.Gen.facts, Cert.FirstSampleMlpReferenceIdeal.Gen.facts,
  Cert.SampleProj.Gen.facts, Cert.SampleProjIdeal.Gen.facts, Cert.SampleProjReferenceIdeal.Gen.facts,
  Cert.Pre_gates_tame.Gen.facts, Cert.Pre_gate_inputs_finite.Gen.facts, Cert.Pre_sample_gate_inputs_finite.Gen.facts,
  fun m ρ _ => Cert.Kernel.Gen.frame m ρ, fun m ρ _ => Cert.KernelIdeal.Gen.frame m ρ, fun m ρ _ => Cert.KernelIdeal.Gen.frame m ρ,
  Mixer.quiescent_ReferenceIdeal, fun m ρ _ => Mixer.quiescent_ReferenceIdeal m ρ trivial,
  fun m ρ _ => Cert.Mlp.Gen.frame m ρ, fun m ρ _ => Cert.MlpIdeal.Gen.frame m ρ, FeedForward.quiescent,
  fun m ρ _ => Cert.Qkv.Gen.frame m ρ, fun m ρ _ => Cert.QkvIdeal.Gen.frame m ρ, SharedKeys.quiescent,
  fun m ρ _ => Cert.FirstMlp.Gen.frame m ρ, fun m ρ _ => Cert.FirstMlpIdeal.Gen.frame m ρ, FirstFeedForward.quiescent,
  fun m ρ _ => Cert.SampleQkv.Gen.frame m ρ, fun m ρ _ => Cert.SampleQkvIdeal.Gen.frame m ρ, SampleKeys.quiescent,
  fun m ρ _ => Cert.SampleMlp.Gen.frame m ρ, fun m ρ _ => Cert.SampleMlpIdeal.Gen.frame m ρ, SampleFeedForward.quiescent,
  fun m ρ _ => Cert.Proj.Gen.frame m ρ, fun m ρ _ => Cert.ProjIdeal.Gen.frame m ρ, fun m ρ _ => Cert.ProjIdeal.Gen.frame m ρ,
  Projections.quiescent, fun m ρ _ => Projections.quiescent m ρ trivial,
  fun m ρ _ => Cert.OutLn.Gen.frame m ρ, fun m ρ _ => Cert.OutLnIdeal.Gen.frame m ρ, AttentionOutput.quiescent,
  fun m ρ _ => Cert.FirstSampleMlp.Gen.frame m ρ, fun m ρ _ => Cert.FirstSampleMlpIdeal.Gen.frame m ρ, FirstSampleFeedForward.quiescent,
  fun m ρ _ => Cert.SampleProj.Gen.frame m ρ, fun m ρ _ => Cert.SampleProjIdeal.Gen.frame m ρ, fun m ρ _ => Cert.SampleProjIdeal.Gen.frame m ρ,
  SampleProjections.quiescent, fun m ρ _ => SampleProjections.quiescent m ρ trivial,
  (trivial : preserves_Kernel_KernelIdeal), Mixer.algebraic,
  (trivial : preserves_Mlp_MlpIdeal), FeedForward.algebraic,
  (trivial : preserves_Qkv_QkvIdeal), SharedKeys.algebraic,
  (trivial : preserves_FirstMlp_FirstMlpIdeal), FirstFeedForward.algebraic,
  (trivial : preserves_SampleQkv_SampleQkvIdeal), SampleKeys.algebraic,
  (trivial : preserves_SampleMlp_SampleMlpIdeal), SampleFeedForward.algebraic,
  (trivial : preserves_Proj_ProjIdeal), Projections.algebraic,
  (trivial : preserves_OutLn_OutLnIdeal), AttentionOutput.algebraic,
  (trivial : preserves_FirstSampleMlp_FirstSampleMlpIdeal), FirstSampleFeedForward.algebraic,
  (trivial : preserves_SampleProj_SampleProjIdeal), SampleProjections.algebraic⟩

end Cert.Proof

end
